-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_GwUp (m : (ℓ : Loc Cert.GwUp.nD Cert.GwUp.τ Cert.GwUp.sig) → Buf (Elt Bits) ℓ) : Prop :=
  True

def Pre_GwUpIdeal (m : (ℓ : Loc Cert.GwUpIdeal.nD Cert.GwUpIdeal.τ Cert.GwUpIdeal.sig) → Buf (Elt Ideal) ℓ) : Prop :=
  True

def Pre_GwUpRIdeal (m : (ℓ : Loc Cert.GwUpRIdeal.nD Cert.GwUpRIdeal.τ Cert.GwUpRIdeal.sig) → Buf (Elt Ideal) ℓ) : Prop :=
  True

def Pre_GwDown (m : (ℓ : Loc Cert.GwDown.nD Cert.GwDown.τ Cert.GwDown.sig) → Buf (Elt Bits) ℓ) : Prop :=
  True

def Pre_GwDownIdeal (m : (ℓ : Loc Cert.GwDownIdeal.nD Cert.GwDownIdeal.τ Cert.GwDownIdeal.sig) → Buf (Elt Ideal) ℓ) : Prop :=
  True

def Pre_GwDownRIdeal (m : (ℓ : Loc Cert.GwDownRIdeal.nD Cert.GwDownRIdeal.τ Cert.GwDownRIdeal.sig) → Buf (Elt Ideal) ℓ) : Prop :=
  True

def Pre_GwOut (m : (ℓ : Loc Cert.GwOut.nD Cert.GwOut.τ Cert.GwOut.sig) → Buf (Elt Bits) ℓ) : Prop :=
  True

def Pre_GwOutIdeal (m : (ℓ : Loc Cert.GwOutIdeal.nD Cert.GwOutIdeal.τ Cert.GwOutIdeal.sig) → Buf (Elt Ideal) ℓ) : Prop :=
  True

def Pre_GwOutRIdeal (m : (ℓ : Loc Cert.GwOutRIdeal.nD Cert.GwOutRIdeal.τ Cert.GwOutRIdeal.sig) → Buf (Elt Ideal) ℓ) : Prop :=
  True

def Pre_GwIn (m : (ℓ : Loc Cert.GwIn.nD Cert.GwIn.τ Cert.GwIn.sig) → Buf (Elt Bits) ℓ) : Prop :=
  True

def Pre_GwInIdeal (m : (ℓ : Loc Cert.GwInIdeal.nD Cert.GwInIdeal.τ Cert.GwInIdeal.sig) → Buf (Elt Ideal) ℓ) : Prop :=
  True

def Pre_GwInRIdeal (m : (ℓ : Loc Cert.GwInRIdeal.nD Cert.GwInRIdeal.τ Cert.GwInRIdeal.sig) → Buf (Elt Ideal) ℓ) : Prop :=
  True

def Pre_BwdMix (m : (ℓ : Loc Cert.BwdMix.nD Cert.BwdMix.τ Cert.BwdMix.sig) → Buf (Elt Bits) ℓ) : Prop :=
  True

def Pre_BwdMixIdeal (m : (ℓ : Loc Cert.BwdMixIdeal.nD Cert.BwdMixIdeal.τ Cert.BwdMixIdeal.sig) → Buf (Elt Ideal) ℓ) : Prop :=
  True

def Pre_BwdMixRIdeal (m : (ℓ : Loc Cert.BwdMixRIdeal.nD Cert.BwdMixRIdeal.τ Cert.BwdMixRIdeal.sig) → Buf (Elt Ideal) ℓ) : Prop :=
  True

def Pre_BwdIn (m : (ℓ : Loc Cert.BwdIn.nD Cert.BwdIn.τ Cert.BwdIn.sig) → Buf (Elt Bits) ℓ) : Prop :=
  True

def Pre_BwdInIdeal (m : (ℓ : Loc Cert.BwdInIdeal.nD Cert.BwdInIdeal.τ Cert.BwdInIdeal.sig) → Buf (Elt Ideal) ℓ) : Prop :=
  True

def Pre_BwdInRIdeal (m : (ℓ : Loc Cert.BwdInRIdeal.nD Cert.BwdInRIdeal.τ Cert.BwdInRIdeal.sig) → Buf (Elt Ideal) ℓ) : Prop :=
  True

def Pre_FwdIn (m : (ℓ : Loc Cert.FwdIn.nD Cert.FwdIn.τ Cert.FwdIn.sig) → Buf (Elt Bits) ℓ) : Prop :=
  True

def Pre_FwdInIdeal (m : (ℓ : Loc Cert.FwdInIdeal.nD Cert.FwdInIdeal.τ Cert.FwdInIdeal.sig) → Buf (Elt Ideal) ℓ) : Prop :=
  True

def Pre_FwdInRIdeal (m : (ℓ : Loc Cert.FwdInRIdeal.nD Cert.FwdInRIdeal.τ Cert.FwdInRIdeal.sig) → Buf (Elt Ideal) ℓ) : Prop :=
  True

def Pre_FwdMix (m : (ℓ : Loc Cert.FwdMix.nD Cert.FwdMix.τ Cert.FwdMix.sig) → Buf (Elt Bits) ℓ) : Prop :=
  True

def Pre_FwdMixIdeal (m : (ℓ : Loc Cert.FwdMixIdeal.nD Cert.FwdMixIdeal.τ Cert.FwdMixIdeal.sig) → Buf (Elt Ideal) ℓ) : Prop :=
  True

def Pre_FwdMixRIdeal (m : (ℓ : Loc Cert.FwdMixRIdeal.nD Cert.FwdMixRIdeal.τ Cert.FwdMixRIdeal.sig) → Buf (Elt Ideal) ℓ) : Prop :=
  True

def Pre_BwdMlp (m : (ℓ : Loc Cert.BwdMlp.nD Cert.BwdMlp.τ Cert.BwdMlp.sig) → Buf (Elt Bits) ℓ) : Prop :=
  True

def Pre_BwdMlpIdeal (m : (ℓ : Loc Cert.BwdMlpIdeal.nD Cert.BwdMlpIdeal.τ Cert.BwdMlpIdeal.sig) → Buf (Elt Ideal) ℓ) : Prop :=
  True

def Pre_BwdMlpRIdeal (m : (ℓ : Loc Cert.BwdMlpRIdeal.nD Cert.BwdMlpRIdeal.τ Cert.BwdMlpRIdeal.sig) → Buf (Elt Ideal) ℓ) : Prop :=
  True

def Pre_FwdMlp (m : (ℓ : Loc Cert.FwdMlp.nD Cert.FwdMlp.τ Cert.FwdMlp.sig) → Buf (Elt Bits) ℓ) : Prop :=
  True

def Pre_FwdMlpIdeal (m : (ℓ : Loc Cert.FwdMlpIdeal.nD Cert.FwdMlpIdeal.τ Cert.FwdMlpIdeal.sig) → Buf (Elt Ideal) ℓ) : Prop :=
  True

def Pre_FwdMlpRIdeal (m : (ℓ : Loc Cert.FwdMlpRIdeal.nD Cert.FwdMlpRIdeal.τ Cert.FwdMlpRIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRIdeal (m : (ℓ : Loc Cert.AdamInRIdeal.nD Cert.AdamInRIdeal.τ Cert.AdamInRIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRIdeal (m : (ℓ : Loc Cert.SumInRIdeal.nD Cert.SumInRIdeal.τ Cert.SumInRIdeal.sig) → Buf (Elt Ideal) ℓ) : Prop :=
  True

def Pre_SumLoss (m : (ℓ : Loc Cert.SumLoss.nD Cert.SumLoss.τ Cert.SumLoss.sig) → Buf (Elt Bits) ℓ) : Prop :=
  True

def Pre_SumLossIdeal (m : (ℓ : Loc Cert.SumLossIdeal.nD Cert.SumLossIdeal.τ Cert.SumLossIdeal.sig) → Buf (Elt Ideal) ℓ) : Prop :=
  True

def Pre_SumLossRIdeal (m : (ℓ : Loc Cert.SumLossRIdeal.nD Cert.SumLossRIdeal.τ Cert.SumLossRIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_GwUp [hGwUp : Cert.GwUp.Facts] : Prop :=
  ∀ (m : (ℓ : Loc Cert.GwUp.nD Cert.GwUp.τ Cert.GwUp.sig) → Buf (Elt Bits) ℓ) (g : Dev Cert.GwUp.nD → PrngReg), Pre_GwUp m →
    θ_run (Cert.GwUp.defs (F := Bits)) (onTc (τ := Cert.GwUp.τ) (Cert.GwUp.main (F := Bits))) ⟨m, fun _ => 0, g⟩ (fun r => (∀ c : Dev Cert.GwUp.nD,
      r.2.mem ((c.tc : Thread Cert.GwUp.nD Cert.GwUp.τ).loc Cert.GwUp.main_arg0) = m ((c.tc : Thread Cert.GwUp.nD Cert.GwUp.τ).loc Cert.GwUp.main_arg0)
      ∧ r.2.mem ((c.tc : Thread Cert.GwUp.nD Cert.GwUp.τ).loc Cert.GwUp.main_arg1) = m ((c.tc : Thread Cert.GwUp.nD Cert.GwUp.τ).loc Cert.GwUp.main_arg1))
      ∧ r.2.sem = fun _ => 0)

def quiescent_GwUpIdeal [hGwUpIdeal : Cert.GwUpIdeal.Facts] : Prop :=
  ∀ (m : (ℓ : Loc Cert.GwUpIdeal.nD Cert.GwUpIdeal.τ Cert.GwUpIdeal.sig) → Buf (Elt Ideal) ℓ) (g : Dev Cert.GwUpIdeal.nD → PrngReg), Pre_GwUpIdeal m →
    θ_run (Cert.GwUpIdeal.defs (F := Ideal)) (onTc (τ := Cert.GwUpIdeal.τ) (Cert.GwUpIdeal.main (F := Ideal))) ⟨m, fun _ => 0, g⟩ (fun r => (∀ c : Dev Cert.GwUpIdeal.nD,
      r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
      ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ r.2.sem = fun _ => 0)

def quiescent_GwUpRIdeal [hGwUpRIdeal : Cert.GwUpRIdeal.Facts] : Prop :=
  ∀ (m : (ℓ : Loc Cert.GwUpRIdeal.nD Cert.GwUpRIdeal.τ Cert.GwUpRIdeal.sig) → Buf (Elt Ideal) ℓ) (g : Dev Cert.GwUpRIdeal.nD → PrngReg), Pre_GwUpRIdeal m →
    θ_run (Cert.GwUpRIdeal.defs (F := Ideal)) (onTc (τ := Cert.GwUpRIdeal.τ) (Cert.GwUpRIdeal.main (F := Ideal))) ⟨m, fun _ => 0, g⟩ (fun r => (∀ c : Dev Cert.GwUpRIdeal.nD,
      r.2.mem ((c.tc : Thread Cert.GwUpRIdeal.nD Cert.GwUpRIdeal.τ).loc Cert.GwUpRIdeal.main_arg0) = m ((c.tc : Thread Cert.GwUpRIdeal.nD Cert.GwUpRIdeal.τ).loc Cert.GwUpRIdeal.main_arg0)
      ∧ r.2.mem ((c.tc : Thread Cert.GwUpRIdeal.nD Cert.GwUpRIdeal.τ).loc Cert.GwUpRIdeal.main_arg1) = m ((c.tc : Thread Cert.GwUpRIdeal.nD Cert.GwUpRIdeal.τ).loc Cert.GwUpRIdeal.main_arg1))
      ∧ r.2.sem = fun _ => 0)

def quiescent_GwDown [hGwDown : Cert.GwDown.Facts] : Prop :=
  ∀ (m : (ℓ : Loc Cert.GwDown.nD Cert.GwDown.τ Cert.GwDown.sig) → Buf (Elt Bits) ℓ) (g : Dev Cert.GwDown.nD → PrngReg), Pre_GwDown m →
    θ_run (Cert.GwDown.defs (F := Bits)) (onTc (τ := Cert.GwDown.τ) (Cert.GwDown.main (F := Bits))) ⟨m, fun _ => 0, g⟩ (fun r => (∀ c : Dev Cert.GwDown.nD,
      r.2.mem ((c.tc : Thread Cert.GwDown.nD Cert.GwDown.τ).loc Cert.GwDown.main_arg0) = m ((c.tc : Thread Cert.GwDown.nD Cert.GwDown.τ).loc Cert.GwDown.main_arg0)
      ∧ r.2.mem ((c.tc : Thread Cert.GwDown.nD Cert.GwDown.τ).loc Cert.GwDown.main_arg1) = m ((c.tc : Thread Cert.GwDown.nD Cert.GwDown.τ).loc Cert.GwDown.main_arg1))
      ∧ r.2.sem = fun _ => 0)

def quiescent_GwDownIdeal [hGwDownIdeal : Cert.GwDownIdeal.Facts] : Prop :=
  ∀ (m : (ℓ : Loc Cert.GwDownIdeal.nD Cert.GwDownIdeal.τ Cert.GwDownIdeal.sig) → Buf (Elt Ideal) ℓ) (g : Dev Cert.GwDownIdeal.nD → PrngReg), Pre_GwDownIdeal m →
    θ_run (Cert.GwDownIdeal.defs (F := Ideal)) (onTc (τ := Cert.GwDownIdeal.τ) (Cert.GwDownIdeal.main (F := Ideal))) ⟨m, fun _ => 0, g⟩ (fun r => (∀ c : Dev Cert.GwDownIdeal.nD,
      r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
      ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ r.2.sem = fun _ => 0)

def quiescent_GwDownRIdeal [hGwDownRIdeal : Cert.GwDownRIdeal.Facts] : Prop :=
  ∀ (m : (ℓ : Loc Cert.GwDownRIdeal.nD Cert.GwDownRIdeal.τ Cert.GwDownRIdeal.sig) → Buf (Elt Ideal) ℓ) (g : Dev Cert.GwDownRIdeal.nD → PrngReg), Pre_GwDownRIdeal m →
    θ_run (Cert.GwDownRIdeal.defs (F := Ideal)) (onTc (τ := Cert.GwDownRIdeal.τ) (Cert.GwDownRIdeal.main (F := Ideal))) ⟨m, fun _ => 0, g⟩ (fun r => (∀ c : Dev Cert.GwDownRIdeal.nD,
      r.2.mem ((c.tc : Thread Cert.GwDownRIdeal.nD Cert.GwDownRIdeal.τ).loc Cert.GwDownRIdeal.main_arg0) = m ((c.tc : Thread Cert.GwDownRIdeal.nD Cert.GwDownRIdeal.τ).loc Cert.GwDownRIdeal.main_arg0)
      ∧ r.2.mem ((c.tc : Thread Cert.GwDownRIdeal.nD Cert.GwDownRIdeal.τ).loc Cert.GwDownRIdeal.main_arg1) = m ((c.tc : Thread Cert.GwDownRIdeal.nD Cert.GwDownRIdeal.τ).loc Cert.GwDownRIdeal.main_arg1))
      ∧ r.2.sem = fun _ => 0)

def quiescent_GwOut [hGwOut : Cert.GwOut.Facts] : Prop :=
  ∀ (m : (ℓ : Loc Cert.GwOut.nD Cert.GwOut.τ Cert.GwOut.sig) → Buf (Elt Bits) ℓ) (g : Dev Cert.GwOut.nD → PrngReg), Pre_GwOut m →
    θ_run (Cert.GwOut.defs (F := Bits)) (onTc (τ := Cert.GwOut.τ) (Cert.GwOut.main (F := Bits))) ⟨m, fun _ => 0, g⟩ (fun r => (∀ c : Dev Cert.GwOut.nD,
      r.2.mem ((c.tc : Thread Cert.GwOut.nD Cert.GwOut.τ).loc Cert.GwOut.main_arg0) = m ((c.tc : Thread Cert.GwOut.nD Cert.GwOut.τ).loc Cert.GwOut.main_arg0)
      ∧ r.2.mem ((c.tc : Thread Cert.GwOut.nD Cert.GwOut.τ).loc Cert.GwOut.main_arg1) = m ((c.tc : Thread Cert.GwOut.nD Cert.GwOut.τ).loc Cert.GwOut.main_arg1))
      ∧ r.2.sem = fun _ => 0)

def quiescent_GwOutIdeal [hGwOutIdeal : Cert.GwOutIdeal.Facts] : Prop :=
  ∀ (m : (ℓ : Loc Cert.GwOutIdeal.nD Cert.GwOutIdeal.τ Cert.GwOutIdeal.sig) → Buf (Elt Ideal) ℓ) (g : Dev Cert.GwOutIdeal.nD → PrngReg), Pre_GwOutIdeal m →
    θ_run (Cert.GwOutIdeal.defs (F := Ideal)) (onTc (τ := Cert.GwOutIdeal.τ) (Cert.GwOutIdeal.main (F := Ideal))) ⟨m, fun _ => 0, g⟩ (fun r => (∀ c : Dev Cert.GwOutIdeal.nD,
      r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
      ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ r.2.sem = fun _ => 0)

def quiescent_GwOutRIdeal [hGwOutRIdeal : Cert.GwOutRIdeal.Facts] : Prop :=
  ∀ (m : (ℓ : Loc Cert.GwOutRIdeal.nD Cert.GwOutRIdeal.τ Cert.GwOutRIdeal.sig) → Buf (Elt Ideal) ℓ) (g : Dev Cert.GwOutRIdeal.nD → PrngReg), Pre_GwOutRIdeal m →
    θ_run (Cert.GwOutRIdeal.defs (F := Ideal)) (onTc (τ := Cert.GwOutRIdeal.τ) (Cert.GwOutRIdeal.main (F := Ideal))) ⟨m, fun _ => 0, g⟩ (fun r => (∀ c : Dev Cert.GwOutRIdeal.nD,
      r.2.mem ((c.tc : Thread Cert.GwOutRIdeal.nD Cert.GwOutRIdeal.τ).loc Cert.GwOutRIdeal.main_arg0) = m ((c.tc : Thread Cert.GwOutRIdeal.nD Cert.GwOutRIdeal.τ).loc Cert.GwOutRIdeal.main_arg0)
      ∧ r.2.mem ((c.tc : Thread Cert.GwOutRIdeal.nD Cert.GwOutRIdeal.τ).loc Cert.GwOutRIdeal.main_arg1) = m ((c.tc : Thread Cert.GwOutRIdeal.nD Cert.GwOutRIdeal.τ).loc Cert.GwOutRIdeal.main_arg1))
      ∧ r.2.sem = fun _ => 0)

def quiescent_GwIn [hGwIn : Cert.GwIn.Facts] : Prop :=
  ∀ (m : (ℓ : Loc Cert.GwIn.nD Cert.GwIn.τ Cert.GwIn.sig) → Buf (Elt Bits) ℓ) (g : Dev Cert.GwIn.nD → PrngReg), Pre_GwIn m →
    θ_run (Cert.GwIn.defs (F := Bits)) (onTc (τ := Cert.GwIn.τ) (Cert.GwIn.main (F := Bits))) ⟨m, fun _ => 0, g⟩ (fun r => (∀ c : Dev Cert.GwIn.nD,
      r.2.mem ((c.tc : Thread Cert.GwIn.nD Cert.GwIn.τ).loc Cert.GwIn.main_arg0) = m ((c.tc : Thread Cert.GwIn.nD Cert.GwIn.τ).loc Cert.GwIn.main_arg0)
      ∧ r.2.mem ((c.tc : Thread Cert.GwIn.nD Cert.GwIn.τ).loc Cert.GwIn.main_arg1) = m ((c.tc : Thread Cert.GwIn.nD Cert.GwIn.τ).loc Cert.GwIn.main_arg1))
      ∧ r.2.sem = fun _ => 0)

def quiescent_GwInIdeal [hGwInIdeal : Cert.GwInIdeal.Facts] : Prop :=
  ∀ (m : (ℓ : Loc Cert.GwInIdeal.nD Cert.GwInIdeal.τ Cert.GwInIdeal.sig) → Buf (Elt Ideal) ℓ) (g : Dev Cert.GwInIdeal.nD → PrngReg), Pre_GwInIdeal m →
    θ_run (Cert.GwInIdeal.defs (F := Ideal)) (onTc (τ := Cert.GwInIdeal.τ) (Cert.GwInIdeal.main (F := Ideal))) ⟨m, fun _ => 0, g⟩ (fun r => (∀ c : Dev Cert.GwInIdeal.nD,
      r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
      ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ r.2.sem = fun _ => 0)

def quiescent_GwInRIdeal [hGwInRIdeal : Cert.GwInRIdeal.Facts] : Prop :=
  ∀ (m : (ℓ : Loc Cert.GwInRIdeal.nD Cert.GwInRIdeal.τ Cert.GwInRIdeal.sig) → Buf (Elt Ideal) ℓ) (g : Dev Cert.GwInRIdeal.nD → PrngReg), Pre_GwInRIdeal m →
    θ_run (Cert.GwInRIdeal.defs (F := Ideal)) (onTc (τ := Cert.GwInRIdeal.τ) (Cert.GwInRIdeal.main (F := Ideal))) ⟨m, fun _ => 0, g⟩ (fun r => (∀ c : Dev Cert.GwInRIdeal.nD,
      r.2.mem ((c.tc : Thread Cert.GwInRIdeal.nD Cert.GwInRIdeal.τ).loc Cert.GwInRIdeal.main_arg0) = m ((c.tc : Thread Cert.GwInRIdeal.nD Cert.GwInRIdeal.τ).loc Cert.GwInRIdeal.main_arg0)
      ∧ r.2.mem ((c.tc : Thread Cert.GwInRIdeal.nD Cert.GwInRIdeal.τ).loc Cert.GwInRIdeal.main_arg1) = m ((c.tc : Thread Cert.GwInRIdeal.nD Cert.GwInRIdeal.τ).loc Cert.GwInRIdeal.main_arg1))
      ∧ r.2.sem = fun _ => 0)

def quiescent_BwdMix [hBwdMix : Cert.BwdMix.Facts] : Prop :=
  ∀ (m : (ℓ : Loc Cert.BwdMix.nD Cert.BwdMix.τ Cert.BwdMix.sig) → Buf (Elt Bits) ℓ) (g : Dev Cert.BwdMix.nD → PrngReg), Pre_BwdMix m →
    θ_run (Cert.BwdMix.defs (F := Bits)) (onTc (τ := Cert.BwdMix.τ) (Cert.BwdMix.main (F := Bits))) ⟨m, fun _ => 0, g⟩ (fun r => (∀ c : Dev Cert.BwdMix.nD,
      r.2.mem ((c.tc : Thread Cert.BwdMix.nD Cert.BwdMix.τ).loc Cert.BwdMix.main_arg0) = m ((c.tc : Thread Cert.BwdMix.nD Cert.BwdMix.τ).loc Cert.BwdMix.main_arg0)
      ∧ r.2.mem ((c.tc : Thread Cert.BwdMix.nD Cert.BwdMix.τ).loc Cert.BwdMix.main_arg1) = m ((c.tc : Thread Cert.BwdMix.nD Cert.BwdMix.τ).loc Cert.BwdMix.main_arg1)
      ∧ r.2.mem ((c.tc : Thread Cert.BwdMix.nD Cert.BwdMix.τ).loc Cert.BwdMix.main_arg2) = m ((c.tc : Thread Cert.BwdMix.nD Cert.BwdMix.τ).loc Cert.BwdMix.main_arg2)
      ∧ r.2.mem ((c.tc : Thread Cert.BwdMix.nD Cert.BwdMix.τ).loc Cert.BwdMix.main_arg3) = m ((c.tc : Thread Cert.BwdMix.nD Cert.BwdMix.τ).loc Cert.BwdMix.main_arg3)
      ∧ r.2.mem ((c.tc : Thread Cert.BwdMix.nD Cert.BwdMix.τ).loc Cert.BwdMix.main_arg4) = m ((c.tc : Thread Cert.BwdMix.nD Cert.BwdMix.τ).loc Cert.BwdMix.main_arg4)
      ∧ r.2.mem ((c.tc : Thread Cert.BwdMix.nD Cert.BwdMix.τ).loc Cert.BwdMix.main_arg5) = m ((c.tc : Thread Cert.BwdMix.nD Cert.BwdMix.τ).loc Cert.BwdMix.main_arg5))
      ∧ r.2.sem = fun _ => 0)

def quiescent_BwdMixIdeal [hBwdMixIdeal : Cert.BwdMixIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg), Pre_BwdMixIdeal m →
    θ_run (Cert.BwdMixIdeal.defs (F := Ideal)) (onTc (τ := Cert.BwdMixIdeal.τ) (Cert.BwdMixIdeal.main (F := Ideal))) ⟨m, fun _ => 0, g⟩ (fun r => (∀ c : Dev Cert.BwdMixIdeal.nD,
      r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
      ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
      ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
      ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
      ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
      ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5))
      ∧ r.2.sem = fun _ => 0)

def quiescent_BwdMixRIdeal [hBwdMixRIdeal : Cert.BwdMixRIdeal.Facts] : Prop :=
  ∀ (m : (ℓ : Loc Cert.BwdMixRIdeal.nD Cert.BwdMixRIdeal.τ Cert.BwdMixRIdeal.sig) → Buf (Elt Ideal) ℓ) (g : Dev Cert.BwdMixRIdeal.nD → PrngReg), Pre_BwdMixRIdeal m →
    θ_run (Cert.BwdMixRIdeal.defs (F := Ideal)) (onTc (τ := Cert.BwdMixRIdeal.τ) (Cert.BwdMixRIdeal.main (F := Ideal))) ⟨m, fun _ => 0, g⟩ (fun r => (∀ c : Dev Cert.BwdMixRIdeal.nD,
      r.2.mem ((c.tc : Thread Cert.BwdMixRIdeal.nD Cert.BwdMixRIdeal.τ).loc Cert.BwdMixRIdeal.main_arg0) = m ((c.tc : Thread Cert.BwdMixRIdeal.nD Cert.BwdMixRIdeal.τ).loc Cert.BwdMixRIdeal.main_arg0)
      ∧ r.2.mem ((c.tc : Thread Cert.BwdMixRIdeal.nD Cert.BwdMixRIdeal.τ).loc Cert.BwdMixRIdeal.main_arg1) = m ((c.tc : Thread Cert.BwdMixRIdeal.nD Cert.BwdMixRIdeal.τ).loc Cert.BwdMixRIdeal.main_arg1)
      ∧ r.2.mem ((c.tc : Thread Cert.BwdMixRIdeal.nD Cert.BwdMixRIdeal.τ).loc Cert.BwdMixRIdeal.main_arg2) = m ((c.tc : Thread Cert.BwdMixRIdeal.nD Cert.BwdMixRIdeal.τ).loc Cert.BwdMixRIdeal.main_arg2)
      ∧ r.2.mem ((c.tc : Thread Cert.BwdMixRIdeal.nD Cert.BwdMixRIdeal.τ).loc Cert.BwdMixRIdeal.main_arg3) = m ((c.tc : Thread Cert.BwdMixRIdeal.nD Cert.BwdMixRIdeal.τ).loc Cert.BwdMixRIdeal.main_arg3)
      ∧ r.2.mem ((c.tc : Thread Cert.BwdMixRIdeal.nD Cert.BwdMixRIdeal.τ).loc Cert.BwdMixRIdeal.main_arg4) = m ((c.tc : Thread Cert.BwdMixRIdeal.nD Cert.BwdMixRIdeal.τ).loc Cert.BwdMixRIdeal.main_arg4)
      ∧ r.2.mem ((c.tc : Thread Cert.BwdMixRIdeal.nD Cert.BwdMixRIdeal.τ).loc Cert.BwdMixRIdeal.main_arg5) = m ((c.tc : Thread Cert.BwdMixRIdeal.nD Cert.BwdMixRIdeal.τ).loc Cert.BwdMixRIdeal.main_arg5))
      ∧ r.2.sem = fun _ => 0)

def quiescent_BwdIn [hBwdIn : Cert.BwdIn.Facts] : Prop :=
  ∀ (m : (ℓ : Loc Cert.BwdIn.nD Cert.BwdIn.τ Cert.BwdIn.sig) → Buf (Elt Bits) ℓ) (g : Dev Cert.BwdIn.nD → PrngReg), Pre_BwdIn m →
    θ_run (Cert.BwdIn.defs (F := Bits)) (onTc (τ := Cert.BwdIn.τ) (Cert.BwdIn.main (F := Bits))) ⟨m, fun _ => 0, g⟩ (fun r => (∀ c : Dev Cert.BwdIn.nD,
      r.2.mem ((c.tc : Thread Cert.BwdIn.nD Cert.BwdIn.τ).loc Cert.BwdIn.main_arg0) = m ((c.tc : Thread Cert.BwdIn.nD Cert.BwdIn.τ).loc Cert.BwdIn.main_arg0)
      ∧ r.2.mem ((c.tc : Thread Cert.BwdIn.nD Cert.BwdIn.τ).loc Cert.BwdIn.main_arg1) = m ((c.tc : Thread Cert.BwdIn.nD Cert.BwdIn.τ).loc Cert.BwdIn.main_arg1)
      ∧ r.2.mem ((c.tc : Thread Cert.BwdIn.nD Cert.BwdIn.τ).loc Cert.BwdIn.main_arg2) = m ((c.tc : Thread Cert.BwdIn.nD Cert.BwdIn.τ).loc Cert.BwdIn.main_arg2)
      ∧ r.2.mem ((c.tc : Thread Cert.BwdIn.nD Cert.BwdIn.τ).loc Cert.BwdIn.main_arg3) = m ((c.tc : Thread Cert.BwdIn.nD Cert.BwdIn.τ).loc Cert.BwdIn.main_arg3)
      ∧ r.2.mem ((c.tc : Thread Cert.BwdIn.nD Cert.BwdIn.τ).loc Cert.BwdIn.main_arg4) = m ((c.tc : Thread Cert.BwdIn.nD Cert.BwdIn.τ).loc Cert.BwdIn.main_arg4)
      ∧ r.2.mem ((c.tc : Thread Cert.BwdIn.nD Cert.BwdIn.τ).loc Cert.BwdIn.main_arg5) = m ((c.tc : Thread Cert.BwdIn.nD Cert.BwdIn.τ).loc Cert.BwdIn.main_arg5)
      ∧ r.2.mem ((c.tc : Thread Cert.BwdIn.nD Cert.BwdIn.τ).loc Cert.BwdIn.main_arg6) = m ((c.tc : Thread Cert.BwdIn.nD Cert.BwdIn.τ).loc Cert.BwdIn.main_arg6)
      ∧ r.2.mem ((c.tc : Thread Cert.BwdIn.nD Cert.BwdIn.τ).loc Cert.BwdIn.main_arg7) = m ((c.tc : Thread Cert.BwdIn.nD Cert.BwdIn.τ).loc Cert.BwdIn.main_arg7)
      ∧ r.2.mem ((c.tc : Thread Cert.BwdIn.nD Cert.BwdIn.τ).loc Cert.BwdIn.main_arg8) = m ((c.tc : Thread Cert.BwdIn.nD Cert.BwdIn.τ).loc Cert.BwdIn.main_arg8))
      ∧ r.2.sem = fun _ => 0)

def quiescent_BwdInIdeal [hBwdInIdeal : Cert.BwdInIdeal.Facts] : Prop :=
  ∀ (m : (ℓ : Loc Cert.BwdInIdeal.nD Cert.BwdInIdeal.τ Cert.BwdInIdeal.sig) → Buf (Elt Ideal) ℓ) (g : Dev Cert.BwdInIdeal.nD → PrngReg), Pre_BwdInIdeal m →
    θ_run (Cert.BwdInIdeal.defs (F := Ideal)) (onTc (τ := Cert.BwdInIdeal.τ) (Cert.BwdInIdeal.main (F := Ideal))) ⟨m, fun _ => 0, g⟩ (fun r => (∀ c : Dev Cert.BwdInIdeal.nD,
      r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
      ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
      ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
      ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
      ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
      ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
      ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
      ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
      ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8))
      ∧ r.2.sem = fun _ => 0)

def quiescent_BwdInRIdeal [hBwdInRIdeal : Cert.BwdInRIdeal.Facts] : Prop :=
  ∀ (m : (ℓ : Loc Cert.BwdInRIdeal.nD Cert.BwdInRIdeal.τ Cert.BwdInRIdeal.sig) → Buf (Elt Ideal) ℓ) (g : Dev Cert.BwdInRIdeal.nD → PrngReg), Pre_BwdInRIdeal m →
    θ_run (Cert.BwdInRIdeal.defs (F := Ideal)) (onTc (τ := Cert.BwdInRIdeal.τ) (Cert.BwdInRIdeal.main (F := Ideal))) ⟨m, fun _ => 0, g⟩ (fun r => (∀ c : Dev Cert.BwdInRIdeal.nD,
      r.2.mem ((c.tc : Thread Cert.BwdInRIdeal.nD Cert.BwdInRIdeal.τ).loc Cert.BwdInRIdeal.main_arg0) = m ((c.tc : Thread Cert.BwdInRIdeal.nD Cert.BwdInRIdeal.τ).loc Cert.BwdInRIdeal.main_arg0)
      ∧ r.2.mem ((c.tc : Thread Cert.BwdInRIdeal.nD Cert.BwdInRIdeal.τ).loc Cert.BwdInRIdeal.main_arg1) = m ((c.tc : Thread Cert.BwdInRIdeal.nD Cert.BwdInRIdeal.τ).loc Cert.BwdInRIdeal.main_arg1)
      ∧ r.2.mem ((c.tc : Thread Cert.BwdInRIdeal.nD Cert.BwdInRIdeal.τ).loc Cert.BwdInRIdeal.main_arg2) = m ((c.tc : Thread Cert.BwdInRIdeal.nD Cert.BwdInRIdeal.τ).loc Cert.BwdInRIdeal.main_arg2)
      ∧ r.2.mem ((c.tc : Thread Cert.BwdInRIdeal.nD Cert.BwdInRIdeal.τ).loc Cert.BwdInRIdeal.main_arg3) = m ((c.tc : Thread Cert.BwdInRIdeal.nD Cert.BwdInRIdeal.τ).loc Cert.BwdInRIdeal.main_arg3)
      ∧ r.2.mem ((c.tc : Thread Cert.BwdInRIdeal.nD Cert.BwdInRIdeal.τ).loc Cert.BwdInRIdeal.main_arg4) = m ((c.tc : Thread Cert.BwdInRIdeal.nD Cert.BwdInRIdeal.τ).loc Cert.BwdInRIdeal.main_arg4)
      ∧ r.2.mem ((c.tc : Thread Cert.BwdInRIdeal.nD Cert.BwdInRIdeal.τ).loc Cert.BwdInRIdeal.main_arg5) = m ((c.tc : Thread Cert.BwdInRIdeal.nD Cert.BwdInRIdeal.τ).loc Cert.BwdInRIdeal.main_arg5)
      ∧ r.2.mem ((c.tc : Thread Cert.BwdInRIdeal.nD Cert.BwdInRIdeal.τ).loc Cert.BwdInRIdeal.main_arg6) = m ((c.tc : Thread Cert.BwdInRIdeal.nD Cert.BwdInRIdeal.τ).loc Cert.BwdInRIdeal.main_arg6)
      ∧ r.2.mem ((c.tc : Thread Cert.BwdInRIdeal.nD Cert.BwdInRIdeal.τ).loc Cert.BwdInRIdeal.main_arg7) = m ((c.tc : Thread Cert.BwdInRIdeal.nD Cert.BwdInRIdeal.τ).loc Cert.BwdInRIdeal.main_arg7)
      ∧ r.2.mem ((c.tc : Thread Cert.BwdInRIdeal.nD Cert.BwdInRIdeal.τ).loc Cert.BwdInRIdeal.main_arg8) = m ((c.tc : Thread Cert.BwdInRIdeal.nD Cert.BwdInRIdeal.τ).loc Cert.BwdInRIdeal.main_arg8))
      ∧ r.2.sem = fun _ => 0)

def quiescent_FwdIn [hFwdIn : Cert.FwdIn.Facts] : Prop :=
  ∀ (m : (ℓ : Loc Cert.FwdIn.nD Cert.FwdIn.τ Cert.FwdIn.sig) → Buf (Elt Bits) ℓ) (g : Dev Cert.FwdIn.nD → PrngReg), Pre_FwdIn m →
    θ_run (Cert.FwdIn.defs (F := Bits)) (onTc (τ := Cert.FwdIn.τ) (Cert.FwdIn.main (F := Bits))) ⟨m, fun _ => 0, g⟩ (fun r => (∀ c : Dev Cert.FwdIn.nD,
      r.2.mem ((c.tc : Thread Cert.FwdIn.nD Cert.FwdIn.τ).loc Cert.FwdIn.main_arg0) = m ((c.tc : Thread Cert.FwdIn.nD Cert.FwdIn.τ).loc Cert.FwdIn.main_arg0)
      ∧ r.2.mem ((c.tc : Thread Cert.FwdIn.nD Cert.FwdIn.τ).loc Cert.FwdIn.main_arg1) = m ((c.tc : Thread Cert.FwdIn.nD Cert.FwdIn.τ).loc Cert.FwdIn.main_arg1)
      ∧ r.2.mem ((c.tc : Thread Cert.FwdIn.nD Cert.FwdIn.τ).loc Cert.FwdIn.main_arg2) = m ((c.tc : Thread Cert.FwdIn.nD Cert.FwdIn.τ).loc Cert.FwdIn.main_arg2))
      ∧ r.2.sem = fun _ => 0)

def quiescent_FwdInIdeal [hFwdInIdeal : Cert.FwdInIdeal.Facts] : Prop :=
  ∀ (m : (ℓ : Loc Cert.FwdInIdeal.nD Cert.FwdInIdeal.τ Cert.FwdInIdeal.sig) → Buf (Elt Ideal) ℓ) (g : Dev Cert.FwdInIdeal.nD → PrngReg), Pre_FwdInIdeal m →
    θ_run (Cert.FwdInIdeal.defs (F := Ideal)) (onTc (τ := Cert.FwdInIdeal.τ) (Cert.FwdInIdeal.main (F := Ideal))) ⟨m, fun _ => 0, g⟩ (fun r => (∀ c : Dev Cert.FwdInIdeal.nD,
      r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
      ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
      ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ r.2.sem = fun _ => 0)

def quiescent_FwdInRIdeal [hFwdInRIdeal : Cert.FwdInRIdeal.Facts] : Prop :=
  ∀ (m : (ℓ : Loc Cert.FwdInRIdeal.nD Cert.FwdInRIdeal.τ Cert.FwdInRIdeal.sig) → Buf (Elt Ideal) ℓ) (g : Dev Cert.FwdInRIdeal.nD → PrngReg), Pre_FwdInRIdeal m →
    θ_run (Cert.FwdInRIdeal.defs (F := Ideal)) (onTc (τ := Cert.FwdInRIdeal.τ) (Cert.FwdInRIdeal.main (F := Ideal))) ⟨m, fun _ => 0, g⟩ (fun r => (∀ c : Dev Cert.FwdInRIdeal.nD,
      r.2.mem ((c.tc : Thread Cert.FwdInRIdeal.nD Cert.FwdInRIdeal.τ).loc Cert.FwdInRIdeal.main_arg0) = m ((c.tc : Thread Cert.FwdInRIdeal.nD Cert.FwdInRIdeal.τ).loc Cert.FwdInRIdeal.main_arg0)
      ∧ r.2.mem ((c.tc : Thread Cert.FwdInRIdeal.nD Cert.FwdInRIdeal.τ).loc Cert.FwdInRIdeal.main_arg1) = m ((c.tc : Thread Cert.FwdInRIdeal.nD Cert.FwdInRIdeal.τ).loc Cert.FwdInRIdeal.main_arg1)
      ∧ r.2.mem ((c.tc : Thread Cert.FwdInRIdeal.nD Cert.FwdInRIdeal.τ).loc Cert.FwdInRIdeal.main_arg2) = m ((c.tc : Thread Cert.FwdInRIdeal.nD Cert.FwdInRIdeal.τ).loc Cert.FwdInRIdeal.main_arg2))
      ∧ r.2.sem = fun _ => 0)

def quiescent_FwdMix [hFwdMix : Cert.FwdMix.Facts] : Prop :=
  ∀ (m : (ℓ : Loc Cert.FwdMix.nD Cert.FwdMix.τ Cert.FwdMix.sig) → Buf (Elt Bits) ℓ) (g : Dev Cert.FwdMix.nD → PrngReg), Pre_FwdMix m →
    θ_run (Cert.FwdMix.defs (F := Bits)) (onTc (τ := Cert.FwdMix.τ) (Cert.FwdMix.main (F := Bits))) ⟨m, fun _ => 0, g⟩ (fun r => (∀ c : Dev Cert.FwdMix.nD,
      r.2.mem ((c.tc : Thread Cert.FwdMix.nD Cert.FwdMix.τ).loc Cert.FwdMix.main_arg0) = m ((c.tc : Thread Cert.FwdMix.nD Cert.FwdMix.τ).loc Cert.FwdMix.main_arg0)
      ∧ r.2.mem ((c.tc : Thread Cert.FwdMix.nD Cert.FwdMix.τ).loc Cert.FwdMix.main_arg1) = m ((c.tc : Thread Cert.FwdMix.nD Cert.FwdMix.τ).loc Cert.FwdMix.main_arg1)
      ∧ r.2.mem ((c.tc : Thread Cert.FwdMix.nD Cert.FwdMix.τ).loc Cert.FwdMix.main_arg2) = m ((c.tc : Thread Cert.FwdMix.nD Cert.FwdMix.τ).loc Cert.FwdMix.main_arg2)
      ∧ r.2.mem ((c.tc : Thread Cert.FwdMix.nD Cert.FwdMix.τ).loc Cert.FwdMix.main_arg3) = m ((c.tc : Thread Cert.FwdMix.nD Cert.FwdMix.τ).loc Cert.FwdMix.main_arg3)
      ∧ r.2.mem ((c.tc : Thread Cert.FwdMix.nD Cert.FwdMix.τ).loc Cert.FwdMix.main_arg4) = m ((c.tc : Thread Cert.FwdMix.nD Cert.FwdMix.τ).loc Cert.FwdMix.main_arg4)
      ∧ r.2.mem ((c.tc : Thread Cert.FwdMix.nD Cert.FwdMix.τ).loc Cert.FwdMix.main_arg5) = m ((c.tc : Thread Cert.FwdMix.nD Cert.FwdMix.τ).loc Cert.FwdMix.main_arg5))
      ∧ r.2.sem = fun _ => 0)

def quiescent_FwdMixIdeal [hFwdMixIdeal : Cert.FwdMixIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg), Pre_FwdMixIdeal m →
    θ_run (Cert.FwdMixIdeal.defs (F := Ideal)) (onTc (τ := Cert.FwdMixIdeal.τ) (Cert.FwdMixIdeal.main (F := Ideal))) ⟨m, fun _ => 0, g⟩ (fun r => (∀ c : Dev Cert.FwdMixIdeal.nD,
      r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
      ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
      ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
      ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
      ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
      ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5))
      ∧ r.2.sem = fun _ => 0)

def quiescent_FwdMixRIdeal [hFwdMixRIdeal : Cert.FwdMixRIdeal.Facts] : Prop :=
  ∀ (m : (ℓ : Loc Cert.FwdMixRIdeal.nD Cert.FwdMixRIdeal.τ Cert.FwdMixRIdeal.sig) → Buf (Elt Ideal) ℓ) (g : Dev Cert.FwdMixRIdeal.nD → PrngReg), Pre_FwdMixRIdeal m →
    θ_run (Cert.FwdMixRIdeal.defs (F := Ideal)) (onTc (τ := Cert.FwdMixRIdeal.τ) (Cert.FwdMixRIdeal.main (F := Ideal))) ⟨m, fun _ => 0, g⟩ (fun r => (∀ c : Dev Cert.FwdMixRIdeal.nD,
      r.2.mem ((c.tc : Thread Cert.FwdMixRIdeal.nD Cert.FwdMixRIdeal.τ).loc Cert.FwdMixRIdeal.main_arg0) = m ((c.tc : Thread Cert.FwdMixRIdeal.nD Cert.FwdMixRIdeal.τ).loc Cert.FwdMixRIdeal.main_arg0)
      ∧ r.2.mem ((c.tc : Thread Cert.FwdMixRIdeal.nD Cert.FwdMixRIdeal.τ).loc Cert.FwdMixRIdeal.main_arg1) = m ((c.tc : Thread Cert.FwdMixRIdeal.nD Cert.FwdMixRIdeal.τ).loc Cert.FwdMixRIdeal.main_arg1)
      ∧ r.2.mem ((c.tc : Thread Cert.FwdMixRIdeal.nD Cert.FwdMixRIdeal.τ).loc Cert.FwdMixRIdeal.main_arg2) = m ((c.tc : Thread Cert.FwdMixRIdeal.nD Cert.FwdMixRIdeal.τ).loc Cert.FwdMixRIdeal.main_arg2)
      ∧ r.2.mem ((c.tc : Thread Cert.FwdMixRIdeal.nD Cert.FwdMixRIdeal.τ).loc Cert.FwdMixRIdeal.main_arg3) = m ((c.tc : Thread Cert.FwdMixRIdeal.nD Cert.FwdMixRIdeal.τ).loc Cert.FwdMixRIdeal.main_arg3)
      ∧ r.2.mem ((c.tc : Thread Cert.FwdMixRIdeal.nD Cert.FwdMixRIdeal.τ).loc Cert.FwdMixRIdeal.main_arg4) = m ((c.tc : Thread Cert.FwdMixRIdeal.nD Cert.FwdMixRIdeal.τ).loc Cert.FwdMixRIdeal.main_arg4)
      ∧ r.2.mem ((c.tc : Thread Cert.FwdMixRIdeal.nD Cert.FwdMixRIdeal.τ).loc Cert.FwdMixRIdeal.main_arg5) = m ((c.tc : Thread Cert.FwdMixRIdeal.nD Cert.FwdMixRIdeal.τ).loc Cert.FwdMixRIdeal.main_arg5))
      ∧ r.2.sem = fun _ => 0)

def quiescent_BwdMlp [hBwdMlp : Cert.BwdMlp.Facts] : Prop :=
  ∀ (m : (ℓ : Loc Cert.BwdMlp.nD Cert.BwdMlp.τ Cert.BwdMlp.sig) → Buf (Elt Bits) ℓ) (g : Dev Cert.BwdMlp.nD → PrngReg), Pre_BwdMlp m →
    θ_run (Cert.BwdMlp.defs (F := Bits)) (onTc (τ := Cert.BwdMlp.τ) (Cert.BwdMlp.main (F := Bits))) ⟨m, fun _ => 0, g⟩ (fun r => (∀ c : Dev Cert.BwdMlp.nD,
      r.2.mem ((c.tc : Thread Cert.BwdMlp.nD Cert.BwdMlp.τ).loc Cert.BwdMlp.main_arg0) = m ((c.tc : Thread Cert.BwdMlp.nD Cert.BwdMlp.τ).loc Cert.BwdMlp.main_arg0)
      ∧ r.2.mem ((c.tc : Thread Cert.BwdMlp.nD Cert.BwdMlp.τ).loc Cert.BwdMlp.main_arg1) = m ((c.tc : Thread Cert.BwdMlp.nD Cert.BwdMlp.τ).loc Cert.BwdMlp.main_arg1)
      ∧ r.2.mem ((c.tc : Thread Cert.BwdMlp.nD Cert.BwdMlp.τ).loc Cert.BwdMlp.main_arg2) = m ((c.tc : Thread Cert.BwdMlp.nD Cert.BwdMlp.τ).loc Cert.BwdMlp.main_arg2)
      ∧ r.2.mem ((c.tc : Thread Cert.BwdMlp.nD Cert.BwdMlp.τ).loc Cert.BwdMlp.main_arg3) = m ((c.tc : Thread Cert.BwdMlp.nD Cert.BwdMlp.τ).loc Cert.BwdMlp.main_arg3)
      ∧ r.2.mem ((c.tc : Thread Cert.BwdMlp.nD Cert.BwdMlp.τ).loc Cert.BwdMlp.main_arg4) = m ((c.tc : Thread Cert.BwdMlp.nD Cert.BwdMlp.τ).loc Cert.BwdMlp.main_arg4))
      ∧ r.2.sem = fun _ => 0)

def quiescent_BwdMlpIdeal [hBwdMlpIdeal : Cert.BwdMlpIdeal.Facts] : Prop :=
  ∀ (m : (ℓ : Loc Cert.BwdMlpIdeal.nD Cert.BwdMlpIdeal.τ Cert.BwdMlpIdeal.sig) → Buf (Elt Ideal) ℓ) (g : Dev Cert.BwdMlpIdeal.nD → PrngReg), Pre_BwdMlpIdeal m →
    θ_run (Cert.BwdMlpIdeal.defs (F := Ideal)) (onTc (τ := Cert.BwdMlpIdeal.τ) (Cert.BwdMlpIdeal.main (F := Ideal))) ⟨m, fun _ => 0, g⟩ (fun r => (∀ c : Dev Cert.BwdMlpIdeal.nD,
      r.2.mem ((c.tc : Thread Cert.BwdMlpIdeal.nD Cert.BwdMlpIdeal.τ).loc Cert.BwdMlpIdeal.main_arg0) = m ((c.tc : Thread Cert.BwdMlpIdeal.nD Cert.BwdMlpIdeal.τ).loc Cert.BwdMlpIdeal.main_arg0)
      ∧ r.2.mem ((c.tc : Thread Cert.BwdMlpIdeal.nD Cert.BwdMlpIdeal.τ).loc Cert.BwdMlpIdeal.main_arg1) = m ((c.tc : Thread Cert.BwdMlpIdeal.nD Cert.BwdMlpIdeal.τ).loc Cert.BwdMlpIdeal.main_arg1)
      ∧ r.2.mem ((c.tc : Thread Cert.BwdMlpIdeal.nD Cert.BwdMlpIdeal.τ).loc Cert.BwdMlpIdeal.main_arg2) = m ((c.tc : Thread Cert.BwdMlpIdeal.nD Cert.BwdMlpIdeal.τ).loc Cert.BwdMlpIdeal.main_arg2)
      ∧ r.2.mem ((c.tc : Thread Cert.BwdMlpIdeal.nD Cert.BwdMlpIdeal.τ).loc Cert.BwdMlpIdeal.main_arg3) = m ((c.tc : Thread Cert.BwdMlpIdeal.nD Cert.BwdMlpIdeal.τ).loc Cert.BwdMlpIdeal.main_arg3)
      ∧ r.2.mem ((c.tc : Thread Cert.BwdMlpIdeal.nD Cert.BwdMlpIdeal.τ).loc Cert.BwdMlpIdeal.main_arg4) = m ((c.tc : Thread Cert.BwdMlpIdeal.nD Cert.BwdMlpIdeal.τ).loc Cert.BwdMlpIdeal.main_arg4))
      ∧ r.2.sem = fun _ => 0)

def quiescent_BwdMlpRIdeal [hBwdMlpRIdeal : Cert.BwdMlpRIdeal.Facts] : Prop :=
  ∀ (m : (ℓ : Loc Cert.BwdMlpRIdeal.nD Cert.BwdMlpRIdeal.τ Cert.BwdMlpRIdeal.sig) → Buf (Elt Ideal) ℓ) (g : Dev Cert.BwdMlpRIdeal.nD → PrngReg), Pre_BwdMlpRIdeal m →
    θ_run (Cert.BwdMlpRIdeal.defs (F := Ideal)) (onTc (τ := Cert.BwdMlpRIdeal.τ) (Cert.BwdMlpRIdeal.main (F := Ideal))) ⟨m, fun _ => 0, g⟩ (fun r => (∀ c : Dev Cert.BwdMlpRIdeal.nD,
      r.2.mem ((c.tc : Thread Cert.BwdMlpRIdeal.nD Cert.BwdMlpRIdeal.τ).loc Cert.BwdMlpRIdeal.main_arg0) = m ((c.tc : Thread Cert.BwdMlpRIdeal.nD Cert.BwdMlpRIdeal.τ).loc Cert.BwdMlpRIdeal.main_arg0)
      ∧ r.2.mem ((c.tc : Thread Cert.BwdMlpRIdeal.nD Cert.BwdMlpRIdeal.τ).loc Cert.BwdMlpRIdeal.main_arg1) = m ((c.tc : Thread Cert.BwdMlpRIdeal.nD Cert.BwdMlpRIdeal.τ).loc Cert.BwdMlpRIdeal.main_arg1)
      ∧ r.2.mem ((c.tc : Thread Cert.BwdMlpRIdeal.nD Cert.BwdMlpRIdeal.τ).loc Cert.BwdMlpRIdeal.main_arg2) = m ((c.tc : Thread Cert.BwdMlpRIdeal.nD Cert.BwdMlpRIdeal.τ).loc Cert.BwdMlpRIdeal.main_arg2)
      ∧ r.2.mem ((c.tc : Thread Cert.BwdMlpRIdeal.nD Cert.BwdMlpRIdeal.τ).loc Cert.BwdMlpRIdeal.main_arg3) = m ((c.tc : Thread Cert.BwdMlpRIdeal.nD Cert.BwdMlpRIdeal.τ).loc Cert.BwdMlpRIdeal.main_arg3)
      ∧ r.2.mem ((c.tc : Thread Cert.BwdMlpRIdeal.nD Cert.BwdMlpRIdeal.τ).loc Cert.BwdMlpRIdeal.main_arg4) = m ((c.tc : Thread Cert.BwdMlpRIdeal.nD Cert.BwdMlpRIdeal.τ).loc Cert.BwdMlpRIdeal.main_arg4))
      ∧ r.2.sem = fun _ => 0)

def quiescent_FwdMlp [hFwdMlp : Cert.FwdMlp.Facts] : Prop :=
  ∀ (m : (ℓ : Loc Cert.FwdMlp.nD Cert.FwdMlp.τ Cert.FwdMlp.sig) → Buf (Elt Bits) ℓ) (g : Dev Cert.FwdMlp.nD → PrngReg), Pre_FwdMlp m →
    θ_run (Cert.FwdMlp.defs (F := Bits)) (onTc (τ := Cert.FwdMlp.τ) (Cert.FwdMlp.main (F := Bits))) ⟨m, fun _ => 0, g⟩ (fun r => (∀ c : Dev Cert.FwdMlp.nD,
      r.2.mem ((c.tc : Thread Cert.FwdMlp.nD Cert.FwdMlp.τ).loc Cert.FwdMlp.main_arg0) = m ((c.tc : Thread Cert.FwdMlp.nD Cert.FwdMlp.τ).loc Cert.FwdMlp.main_arg0)
      ∧ r.2.mem ((c.tc : Thread Cert.FwdMlp.nD Cert.FwdMlp.τ).loc Cert.FwdMlp.main_arg1) = m ((c.tc : Thread Cert.FwdMlp.nD Cert.FwdMlp.τ).loc Cert.FwdMlp.main_arg1)
      ∧ r.2.mem ((c.tc : Thread Cert.FwdMlp.nD Cert.FwdMlp.τ).loc Cert.FwdMlp.main_arg2) = m ((c.tc : Thread Cert.FwdMlp.nD Cert.FwdMlp.τ).loc Cert.FwdMlp.main_arg2)
      ∧ r.2.mem ((c.tc : Thread Cert.FwdMlp.nD Cert.FwdMlp.τ).loc Cert.FwdMlp.main_arg3) = m ((c.tc : Thread Cert.FwdMlp.nD Cert.FwdMlp.τ).loc Cert.FwdMlp.main_arg3)
      ∧ r.2.mem ((c.tc : Thread Cert.FwdMlp.nD Cert.FwdMlp.τ).loc Cert.FwdMlp.main_arg4) = m ((c.tc : Thread Cert.FwdMlp.nD Cert.FwdMlp.τ).loc Cert.FwdMlp.main_arg4)
      ∧ r.2.mem ((c.tc : Thread Cert.FwdMlp.nD Cert.FwdMlp.τ).loc Cert.FwdMlp.main_arg5) = m ((c.tc : Thread Cert.FwdMlp.nD Cert.FwdMlp.τ).loc Cert.FwdMlp.main_arg5))
      ∧ r.2.sem = fun _ => 0)

def quiescent_FwdMlpIdeal [hFwdMlpIdeal : Cert.FwdMlpIdeal.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg), Pre_FwdMlpIdeal m →
    θ_run (Cert.FwdMlpIdeal.defs (F := Ideal)) (onTc (τ := Cert.FwdMlpIdeal.τ) (Cert.FwdMlpIdeal.main (F := Ideal))) ⟨m, fun _ => 0, g⟩ (fun r => (∀ c : Dev Cert.FwdMlpIdeal.nD,
      r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
      ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
      ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
      ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3)
      ∧ r.2.mem ((c.tc : Thread Cert.FwdMlpIdeal.nD Cert.FwdMlpIdeal.τ).loc Cert.FwdMlpIdeal.main_arg4) = m ((c.tc : Thread Cert.FwdMlpIdeal.nD Cert.FwdMlpIdeal.τ).loc Cert.FwdMlpIdeal.main_arg4)
      ∧ r.2.mem ((c.tc : Thread Cert.FwdMlpIdeal.nD Cert.FwdMlpIdeal.τ).loc Cert.FwdMlpIdeal.main_arg5) = m ((c.tc : Thread Cert.FwdMlpIdeal.nD Cert.FwdMlpIdeal.τ).loc Cert.FwdMlpIdeal.main_arg5))
      ∧ r.2.sem = fun _ => 0)

def quiescent_FwdMlpRIdeal [hFwdMlpRIdeal : Cert.FwdMlpRIdeal.Facts] : Prop :=
  ∀ (m : (ℓ : Loc Cert.FwdMlpRIdeal.nD Cert.FwdMlpRIdeal.τ Cert.FwdMlpRIdeal.sig) → Buf (Elt Ideal) ℓ) (g : Dev Cert.FwdMlpRIdeal.nD → PrngReg), Pre_FwdMlpRIdeal m →
    θ_run (Cert.FwdMlpRIdeal.defs (F := Ideal)) (onTc (τ := Cert.FwdMlpRIdeal.τ) (Cert.FwdMlpRIdeal.main (F := Ideal))) ⟨m, fun _ => 0, g⟩ (fun r => (∀ c : Dev Cert.FwdMlpRIdeal.nD,
      r.2.mem ((c.tc : Thread Cert.FwdMlpRIdeal.nD Cert.FwdMlpRIdeal.τ).loc Cert.FwdMlpRIdeal.main_arg0) = m ((c.tc : Thread Cert.FwdMlpRIdeal.nD Cert.FwdMlpRIdeal.τ).loc Cert.FwdMlpRIdeal.main_arg0)
      ∧ r.2.mem ((c.tc : Thread Cert.FwdMlpRIdeal.nD Cert.FwdMlpRIdeal.τ).loc Cert.FwdMlpRIdeal.main_arg1) = m ((c.tc : Thread Cert.FwdMlpRIdeal.nD Cert.FwdMlpRIdeal.τ).loc Cert.FwdMlpRIdeal.main_arg1)
      ∧ r.2.mem ((c.tc : Thread Cert.FwdMlpRIdeal.nD Cert.FwdMlpRIdeal.τ).loc Cert.FwdMlpRIdeal.main_arg2) = m ((c.tc : Thread Cert.FwdMlpRIdeal.nD Cert.FwdMlpRIdeal.τ).loc Cert.FwdMlpRIdeal.main_arg2)
      ∧ r.2.mem ((c.tc : Thread Cert.FwdMlpRIdeal.nD Cert.FwdMlpRIdeal.τ).loc Cert.FwdMlpRIdeal.main_arg3) = m ((c.tc : Thread Cert.FwdMlpRIdeal.nD Cert.FwdMlpRIdeal.τ).loc Cert.FwdMlpRIdeal.main_arg3)
      ∧ r.2.mem ((c.tc : Thread Cert.FwdMlpRIdeal.nD Cert.FwdMlpRIdeal.τ).loc Cert.FwdMlpRIdeal.main_arg4) = m ((c.tc : Thread Cert.FwdMlpRIdeal.nD Cert.FwdMlpRIdeal.τ).loc Cert.FwdMlpRIdeal.main_arg4)
      ∧ r.2.mem ((c.tc : Thread Cert.FwdMlpRIdeal.nD Cert.FwdMlpRIdeal.τ).loc Cert.FwdMlpRIdeal.main_arg5) = m ((c.tc : Thread Cert.FwdMlpRIdeal.nD Cert.FwdMlpRIdeal.τ).loc Cert.FwdMlpRIdeal.main_arg5))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRIdeal [hAdamInRIdeal : Cert.AdamInRIdeal.Facts] : Prop :=
  ∀ (m : (ℓ : Loc Cert.AdamInRIdeal.nD Cert.AdamInRIdeal.τ Cert.AdamInRIdeal.sig) → Buf (Elt Ideal) ℓ) (g : Dev Cert.AdamInRIdeal.nD → PrngReg), Pre_AdamInRIdeal m →
    θ_run (Cert.AdamInRIdeal.defs (F := Ideal)) (onTc (τ := Cert.AdamInRIdeal.τ) (Cert.AdamInRIdeal.main (F := Ideal))) ⟨m, fun _ => 0, g⟩ (fun r => (∀ c : Dev Cert.AdamInRIdeal.nD,
      r.2.mem ((c.tc : Thread Cert.AdamInRIdeal.nD Cert.AdamInRIdeal.τ).loc Cert.AdamInRIdeal.main_arg0) = m ((c.tc : Thread Cert.AdamInRIdeal.nD Cert.AdamInRIdeal.τ).loc Cert.AdamInRIdeal.main_arg0)
      ∧ r.2.mem ((c.tc : Thread Cert.AdamInRIdeal.nD Cert.AdamInRIdeal.τ).loc Cert.AdamInRIdeal.main_arg1) = m ((c.tc : Thread Cert.AdamInRIdeal.nD Cert.AdamInRIdeal.τ).loc Cert.AdamInRIdeal.main_arg1)
      ∧ r.2.mem ((c.tc : Thread Cert.AdamInRIdeal.nD Cert.AdamInRIdeal.τ).loc Cert.AdamInRIdeal.main_arg2) = m ((c.tc : Thread Cert.AdamInRIdeal.nD Cert.AdamInRIdeal.τ).loc Cert.AdamInRIdeal.main_arg2)
      ∧ r.2.mem ((c.tc : Thread Cert.AdamInRIdeal.nD Cert.AdamInRIdeal.τ).loc Cert.AdamInRIdeal.main_arg3) = m ((c.tc : Thread Cert.AdamInRIdeal.nD Cert.AdamInRIdeal.τ).loc Cert.AdamInRIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRIdeal [hSumInRIdeal : Cert.SumInRIdeal.Facts] : Prop :=
  ∀ (m : (ℓ : Loc Cert.SumInRIdeal.nD Cert.SumInRIdeal.τ Cert.SumInRIdeal.sig) → Buf (Elt Ideal) ℓ) (g : Dev Cert.SumInRIdeal.nD → PrngReg), Pre_SumInRIdeal m →
    θ_run (Cert.SumInRIdeal.defs (F := Ideal)) (onTc (τ := Cert.SumInRIdeal.τ) (Cert.SumInRIdeal.main (F := Ideal))) ⟨m, fun _ => 0, g⟩ (fun r => (∀ c : Dev Cert.SumInRIdeal.nD,
      r.2.mem ((c.tc : Thread Cert.SumInRIdeal.nD Cert.SumInRIdeal.τ).loc Cert.SumInRIdeal.main_arg0) = m ((c.tc : Thread Cert.SumInRIdeal.nD Cert.SumInRIdeal.τ).loc Cert.SumInRIdeal.main_arg0))
      ∧ r.2.sem = fun _ => 0)

def quiescent_SumLoss [hSumLoss : Cert.SumLoss.Facts] : Prop :=
  ∀ (m : (ℓ : Loc Cert.SumLoss.nD Cert.SumLoss.τ Cert.SumLoss.sig) → Buf (Elt Bits) ℓ) (g : Dev Cert.SumLoss.nD → PrngReg), Pre_SumLoss m →
    θ_run (Cert.SumLoss.defs (F := Bits)) (onTc (τ := Cert.SumLoss.τ) (Cert.SumLoss.main (F := Bits))) ⟨m, fun _ => 0, g⟩ (fun r => (∀ c : Dev Cert.SumLoss.nD,
      r.2.mem ((c.tc : Thread Cert.SumLoss.nD Cert.SumLoss.τ).loc Cert.SumLoss.main_arg0) = m ((c.tc : Thread Cert.SumLoss.nD Cert.SumLoss.τ).loc Cert.SumLoss.main_arg0))
      ∧ r.2.sem = fun _ => 0)

def quiescent_SumLossIdeal [hSumLossIdeal : Cert.SumLossIdeal.Facts] : Prop :=
  ∀ (m : (ℓ : Loc Cert.SumLossIdeal.nD Cert.SumLossIdeal.τ Cert.SumLossIdeal.sig) → Buf (Elt Ideal) ℓ) (g : Dev Cert.SumLossIdeal.nD → PrngReg), Pre_SumLossIdeal m →
    θ_run (Cert.SumLossIdeal.defs (F := Ideal)) (onTc (τ := Cert.SumLossIdeal.τ) (Cert.SumLossIdeal.main (F := Ideal))) ⟨m, fun _ => 0, g⟩ (fun r => (∀ c : Dev Cert.SumLossIdeal.nD,
      r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ r.2.sem = fun _ => 0)

def quiescent_SumLossRIdeal [hSumLossRIdeal : Cert.SumLossRIdeal.Facts] : Prop :=
  ∀ (m : (ℓ : Loc Cert.SumLossRIdeal.nD Cert.SumLossRIdeal.τ Cert.SumLossRIdeal.sig) → Buf (Elt Ideal) ℓ) (g : Dev Cert.SumLossRIdeal.nD → PrngReg), Pre_SumLossRIdeal m →
    θ_run (Cert.SumLossRIdeal.defs (F := Ideal)) (onTc (τ := Cert.SumLossRIdeal.τ) (Cert.SumLossRIdeal.main (F := Ideal))) ⟨m, fun _ => 0, g⟩ (fun r => (∀ c : Dev Cert.SumLossRIdeal.nD,
      r.2.mem ((c.tc : Thread Cert.SumLossRIdeal.nD Cert.SumLossRIdeal.τ).loc Cert.SumLossRIdeal.main_arg0) = m ((c.tc : Thread Cert.SumLossRIdeal.nD Cert.SumLossRIdeal.τ).loc Cert.SumLossRIdeal.main_arg0))
      ∧ r.2.sem = fun _ => 0)

def preserves_Kernel_KernelIdeal : Prop :=
  True

def preserves_GwUp_GwUpIdeal : Prop :=
  True

def algebraic_GwUpIdeal_GwUpRIdeal [hGwUpIdeal : Cert.GwUpIdeal.Facts] [hGwUpRIdeal : Cert.GwUpRIdeal.Facts] : Prop :=
  ∀ (m : (ℓ : Loc Cert.GwUpIdeal.nD Cert.GwUpIdeal.τ Cert.GwUpIdeal.sig) → Buf (Elt Ideal) ℓ) (g : Dev Cert.GwUpIdeal.nD → PrngReg)
    (m' : (ℓ : Loc Cert.GwUpRIdeal.nD Cert.GwUpRIdeal.τ Cert.GwUpRIdeal.sig) → Buf (Elt Ideal) ℓ) (g' : Dev Cert.GwUpRIdeal.nD → PrngReg), Pre_GwUpIdeal m →
    (∀ c : Dev Cert.GwUpIdeal.nD,
      m' ((c.tc : Thread Cert.GwUpRIdeal.nD Cert.GwUpRIdeal.τ).loc Cert.GwUpRIdeal.main_arg0) = m ((c.tc : Thread Cert.GwUpIdeal.nD Cert.GwUpIdeal.τ).loc Cert.GwUpIdeal.main_arg0)
      ∧ m' ((c.tc : Thread Cert.GwUpRIdeal.nD Cert.GwUpRIdeal.τ).loc Cert.GwUpRIdeal.main_arg1) = m ((c.tc : Thread Cert.GwUpIdeal.nD Cert.GwUpIdeal.τ).loc Cert.GwUpIdeal.main_arg1)) →
    ∃ (v0 : (c : Dev Cert.GwUpIdeal.nD) → Buf (Elt Ideal) ((c.tc : Thread Cert.GwUpIdeal.nD Cert.GwUpIdeal.τ).loc Cert.GwUpIdeal.main_v0)),
      θ_run (Cert.GwUpIdeal.defs (F := Ideal)) (onTc (τ := Cert.GwUpIdeal.τ) (Cert.GwUpIdeal.main (F := Ideal))) ⟨m, fun _ => 0, g⟩ (fun r => ∀ c : Dev Cert.GwUpIdeal.nD,
          r.2.mem ((c.tc : Thread Cert.GwUpIdeal.nD Cert.GwUpIdeal.τ).loc Cert.GwUpIdeal.main_v0) = v0 c
          ∧ r.2.mem ((c.tc : Thread Cert.GwUpIdeal.nD Cert.GwUpIdeal.τ).loc Cert.GwUpIdeal.main_arg0) = m ((c.tc : Thread Cert.GwUpIdeal.nD Cert.GwUpIdeal.τ).loc Cert.GwUpIdeal.main_arg0)
          ∧ r.2.mem ((c.tc : Thread Cert.GwUpIdeal.nD Cert.GwUpIdeal.τ).loc Cert.GwUpIdeal.main_arg1) = m ((c.tc : Thread Cert.GwUpIdeal.nD Cert.GwUpIdeal.τ).loc Cert.GwUpIdeal.main_arg1))
      ∧ θ_run (Cert.GwUpRIdeal.defs (F := Ideal)) (onTc (τ := Cert.GwUpRIdeal.τ) (Cert.GwUpRIdeal.main (F := Ideal))) ⟨m', fun _ => 0, g'⟩ (fun r => ∀ c : Dev Cert.GwUpRIdeal.nD,
          r.2.mem ((c.tc : Thread Cert.GwUpRIdeal.nD Cert.GwUpRIdeal.τ).loc Cert.GwUpRIdeal.main_v7) = v0 c
          ∧ r.2.mem ((c.tc : Thread Cert.GwUpRIdeal.nD Cert.GwUpRIdeal.τ).loc Cert.GwUpRIdeal.main_arg0) = m' ((c.tc : Thread Cert.GwUpRIdeal.nD Cert.GwUpRIdeal.τ).loc Cert.GwUpRIdeal.main_arg0)
          ∧ r.2.mem ((c.tc : Thread Cert.GwUpRIdeal.nD Cert.GwUpRIdeal.τ).loc Cert.GwUpRIdeal.main_arg1) = m' ((c.tc : Thread Cert.GwUpRIdeal.nD Cert.GwUpRIdeal.τ).loc Cert.GwUpRIdeal.main_arg1))

def preserves_GwDown_GwDownIdeal : Prop :=
  True

def algebraic_GwDownIdeal_GwDownRIdeal [hGwDownIdeal : Cert.GwDownIdeal.Facts] [hGwDownRIdeal : Cert.GwDownRIdeal.Facts] : Prop :=
  ∀ (m : (ℓ : Loc Cert.GwDownIdeal.nD Cert.GwDownIdeal.τ Cert.GwDownIdeal.sig) → Buf (Elt Ideal) ℓ) (g : Dev Cert.GwDownIdeal.nD → PrngReg)
    (m' : (ℓ : Loc Cert.GwDownRIdeal.nD Cert.GwDownRIdeal.τ Cert.GwDownRIdeal.sig) → Buf (Elt Ideal) ℓ) (g' : Dev Cert.GwDownRIdeal.nD → PrngReg), Pre_GwDownIdeal m →
    (∀ c : Dev Cert.GwDownIdeal.nD,
      m' ((c.tc : Thread Cert.GwDownRIdeal.nD Cert.GwDownRIdeal.τ).loc Cert.GwDownRIdeal.main_arg0) = m ((c.tc : Thread Cert.GwDownIdeal.nD Cert.GwDownIdeal.τ).loc Cert.GwDownIdeal.main_arg0)
      ∧ m' ((c.tc : Thread Cert.GwDownRIdeal.nD Cert.GwDownRIdeal.τ).loc Cert.GwDownRIdeal.main_arg1) = m ((c.tc : Thread Cert.GwDownIdeal.nD Cert.GwDownIdeal.τ).loc Cert.GwDownIdeal.main_arg1)) →
    ∃ (v0 : (c : Dev Cert.GwDownIdeal.nD) → Buf (Elt Ideal) ((c.tc : Thread Cert.GwDownIdeal.nD Cert.GwDownIdeal.τ).loc Cert.GwDownIdeal.main_v0)),
      θ_run (Cert.GwDownIdeal.defs (F := Ideal)) (onTc (τ := Cert.GwDownIdeal.τ) (Cert.GwDownIdeal.main (F := Ideal))) ⟨m, fun _ => 0, g⟩ (fun r => ∀ c : Dev Cert.GwDownIdeal.nD,
          r.2.mem ((c.tc : Thread Cert.GwDownIdeal.nD Cert.GwDownIdeal.τ).loc Cert.GwDownIdeal.main_v0) = v0 c
          ∧ r.2.mem ((c.tc : Thread Cert.GwDownIdeal.nD Cert.GwDownIdeal.τ).loc Cert.GwDownIdeal.main_arg0) = m ((c.tc : Thread Cert.GwDownIdeal.nD Cert.GwDownIdeal.τ).loc Cert.GwDownIdeal.main_arg0)
          ∧ r.2.mem ((c.tc : Thread Cert.GwDownIdeal.nD Cert.GwDownIdeal.τ).loc Cert.GwDownIdeal.main_arg1) = m ((c.tc : Thread Cert.GwDownIdeal.nD Cert.GwDownIdeal.τ).loc Cert.GwDownIdeal.main_arg1))
      ∧ θ_run (Cert.GwDownRIdeal.defs (F := Ideal)) (onTc (τ := Cert.GwDownRIdeal.τ) (Cert.GwDownRIdeal.main (F := Ideal))) ⟨m', fun _ => 0, g'⟩ (fun r => ∀ c : Dev Cert.GwDownRIdeal.nD,
          r.2.mem ((c.tc : Thread Cert.GwDownRIdeal.nD Cert.GwDownRIdeal.τ).loc Cert.GwDownRIdeal.main_v7) = v0 c
          ∧ r.2.mem ((c.tc : Thread Cert.GwDownRIdeal.nD Cert.GwDownRIdeal.τ).loc Cert.GwDownRIdeal.main_arg0) = m' ((c.tc : Thread Cert.GwDownRIdeal.nD Cert.GwDownRIdeal.τ).loc Cert.GwDownRIdeal.main_arg0)
          ∧ r.2.mem ((c.tc : Thread Cert.GwDownRIdeal.nD Cert.GwDownRIdeal.τ).loc Cert.GwDownRIdeal.main_arg1) = m' ((c.tc : Thread Cert.GwDownRIdeal.nD Cert.GwDownRIdeal.τ).loc Cert.GwDownRIdeal.main_arg1))

def preserves_GwOut_GwOutIdeal : Prop :=
  True

def algebraic_GwOutIdeal_GwOutRIdeal [hGwOutIdeal : Cert.GwOutIdeal.Facts] [hGwOutRIdeal : Cert.GwOutRIdeal.Facts] : Prop :=
  ∀ (m : (ℓ : Loc Cert.GwOutIdeal.nD Cert.GwOutIdeal.τ Cert.GwOutIdeal.sig) → Buf (Elt Ideal) ℓ) (g : Dev Cert.GwOutIdeal.nD → PrngReg)
    (m' : (ℓ : Loc Cert.GwOutRIdeal.nD Cert.GwOutRIdeal.τ Cert.GwOutRIdeal.sig) → Buf (Elt Ideal) ℓ) (g' : Dev Cert.GwOutRIdeal.nD → PrngReg), Pre_GwOutIdeal m →
    (∀ c : Dev Cert.GwOutIdeal.nD,
      m' ((c.tc : Thread Cert.GwOutRIdeal.nD Cert.GwOutRIdeal.τ).loc Cert.GwOutRIdeal.main_arg0) = m ((c.tc : Thread Cert.GwOutIdeal.nD Cert.GwOutIdeal.τ).loc Cert.GwOutIdeal.main_arg0)
      ∧ m' ((c.tc : Thread Cert.GwOutRIdeal.nD Cert.GwOutRIdeal.τ).loc Cert.GwOutRIdeal.main_arg1) = m ((c.tc : Thread Cert.GwOutIdeal.nD Cert.GwOutIdeal.τ).loc Cert.GwOutIdeal.main_arg1)) →
    ∃ (v0 : (c : Dev Cert.GwOutIdeal.nD) → Buf (Elt Ideal) ((c.tc : Thread Cert.GwOutIdeal.nD Cert.GwOutIdeal.τ).loc Cert.GwOutIdeal.main_v0)),
      θ_run (Cert.GwOutIdeal.defs (F := Ideal)) (onTc (τ := Cert.GwOutIdeal.τ) (Cert.GwOutIdeal.main (F := Ideal))) ⟨m, fun _ => 0, g⟩ (fun r => ∀ c : Dev Cert.GwOutIdeal.nD,
          r.2.mem ((c.tc : Thread Cert.GwOutIdeal.nD Cert.GwOutIdeal.τ).loc Cert.GwOutIdeal.main_v0) = v0 c
          ∧ r.2.mem ((c.tc : Thread Cert.GwOutIdeal.nD Cert.GwOutIdeal.τ).loc Cert.GwOutIdeal.main_arg0) = m ((c.tc : Thread Cert.GwOutIdeal.nD Cert.GwOutIdeal.τ).loc Cert.GwOutIdeal.main_arg0)
          ∧ r.2.mem ((c.tc : Thread Cert.GwOutIdeal.nD Cert.GwOutIdeal.τ).loc Cert.GwOutIdeal.main_arg1) = m ((c.tc : Thread Cert.GwOutIdeal.nD Cert.GwOutIdeal.τ).loc Cert.GwOutIdeal.main_arg1))
      ∧ θ_run (Cert.GwOutRIdeal.defs (F := Ideal)) (onTc (τ := Cert.GwOutRIdeal.τ) (Cert.GwOutRIdeal.main (F := Ideal))) ⟨m', fun _ => 0, g'⟩ (fun r => ∀ c : Dev Cert.GwOutRIdeal.nD,
          r.2.mem ((c.tc : Thread Cert.GwOutRIdeal.nD Cert.GwOutRIdeal.τ).loc Cert.GwOutRIdeal.main_v4) = v0 c
          ∧ r.2.mem ((c.tc : Thread Cert.GwOutRIdeal.nD Cert.GwOutRIdeal.τ).loc Cert.GwOutRIdeal.main_arg0) = m' ((c.tc : Thread Cert.GwOutRIdeal.nD Cert.GwOutRIdeal.τ).loc Cert.GwOutRIdeal.main_arg0)
          ∧ r.2.mem ((c.tc : Thread Cert.GwOutRIdeal.nD Cert.GwOutRIdeal.τ).loc Cert.GwOutRIdeal.main_arg1) = m' ((c.tc : Thread Cert.GwOutRIdeal.nD Cert.GwOutRIdeal.τ).loc Cert.GwOutRIdeal.main_arg1))

def preserves_GwIn_GwInIdeal : Prop :=
  True

def algebraic_GwInIdeal_GwInRIdeal [hGwInIdeal : Cert.GwInIdeal.Facts] [hGwInRIdeal : Cert.GwInRIdeal.Facts] : Prop :=
  ∀ (m : (ℓ : Loc Cert.GwInIdeal.nD Cert.GwInIdeal.τ Cert.GwInIdeal.sig) → Buf (Elt Ideal) ℓ) (g : Dev Cert.GwInIdeal.nD → PrngReg)
    (m' : (ℓ : Loc Cert.GwInRIdeal.nD Cert.GwInRIdeal.τ Cert.GwInRIdeal.sig) → Buf (Elt Ideal) ℓ) (g' : Dev Cert.GwInRIdeal.nD → PrngReg), Pre_GwInIdeal m →
    (∀ c : Dev Cert.GwInIdeal.nD,
      m' ((c.tc : Thread Cert.GwInRIdeal.nD Cert.GwInRIdeal.τ).loc Cert.GwInRIdeal.main_arg0) = m ((c.tc : Thread Cert.GwInIdeal.nD Cert.GwInIdeal.τ).loc Cert.GwInIdeal.main_arg0)
      ∧ m' ((c.tc : Thread Cert.GwInRIdeal.nD Cert.GwInRIdeal.τ).loc Cert.GwInRIdeal.main_arg1) = m ((c.tc : Thread Cert.GwInIdeal.nD Cert.GwInIdeal.τ).loc Cert.GwInIdeal.main_arg1)) →
    ∃ (v0 : (c : Dev Cert.GwInIdeal.nD) → Buf (Elt Ideal) ((c.tc : Thread Cert.GwInIdeal.nD Cert.GwInIdeal.τ).loc Cert.GwInIdeal.main_v0)),
      θ_run (Cert.GwInIdeal.defs (F := Ideal)) (onTc (τ := Cert.GwInIdeal.τ) (Cert.GwInIdeal.main (F := Ideal))) ⟨m, fun _ => 0, g⟩ (fun r => ∀ c : Dev Cert.GwInIdeal.nD,
          r.2.mem ((c.tc : Thread Cert.GwInIdeal.nD Cert.GwInIdeal.τ).loc Cert.GwInIdeal.main_v0) = v0 c
          ∧ r.2.mem ((c.tc : Thread Cert.GwInIdeal.nD Cert.GwInIdeal.τ).loc Cert.GwInIdeal.main_arg0) = m ((c.tc : Thread Cert.GwInIdeal.nD Cert.GwInIdeal.τ).loc Cert.GwInIdeal.main_arg0)
          ∧ r.2.mem ((c.tc : Thread Cert.GwInIdeal.nD Cert.GwInIdeal.τ).loc Cert.GwInIdeal.main_arg1) = m ((c.tc : Thread Cert.GwInIdeal.nD Cert.GwInIdeal.τ).loc Cert.GwInIdeal.main_arg1))
      ∧ θ_run (Cert.GwInRIdeal.defs (F := Ideal)) (onTc (τ := Cert.GwInRIdeal.τ) (Cert.GwInRIdeal.main (F := Ideal))) ⟨m', fun _ => 0, g'⟩ (fun r => ∀ c : Dev Cert.GwInRIdeal.nD,
          r.2.mem ((c.tc : Thread Cert.GwInRIdeal.nD Cert.GwInRIdeal.τ).loc Cert.GwInRIdeal.main_v7) = v0 c
          ∧ r.2.mem ((c.tc : Thread Cert.GwInRIdeal.nD Cert.GwInRIdeal.τ).loc Cert.GwInRIdeal.main_arg0) = m' ((c.tc : Thread Cert.GwInRIdeal.nD Cert.GwInRIdeal.τ).loc Cert.GwInRIdeal.main_arg0)
          ∧ r.2.mem ((c.tc : Thread Cert.GwInRIdeal.nD Cert.GwInRIdeal.τ).loc Cert.GwInRIdeal.main_arg1) = m' ((c.tc : Thread Cert.GwInRIdeal.nD Cert.GwInRIdeal.τ).loc Cert.GwInRIdeal.main_arg1))

def preserves_BwdMix_BwdMixIdeal : Prop :=
  True

def algebraic_BwdMixIdeal_BwdMixRIdeal [hBwdMixIdeal : Cert.BwdMixIdeal.Facts] [hBwdMixRIdeal : Cert.BwdMixRIdeal.Facts] : Prop :=
  ∀ (m : (ℓ : Loc Cert.BwdMixIdeal.nD Cert.BwdMixIdeal.τ Cert.BwdMixIdeal.sig) → Buf (Elt Ideal) ℓ) (g : Dev Cert.BwdMixIdeal.nD → PrngReg)
    (m' : (ℓ : Loc Cert.BwdMixRIdeal.nD Cert.BwdMixRIdeal.τ Cert.BwdMixRIdeal.sig) → Buf (Elt Ideal) ℓ) (g' : Dev Cert.BwdMixRIdeal.nD → PrngReg), Pre_BwdMixIdeal m →
    (∀ c : Dev Cert.BwdMixIdeal.nD,
      m' ((c.tc : Thread Cert.BwdMixRIdeal.nD Cert.BwdMixRIdeal.τ).loc Cert.BwdMixRIdeal.main_arg0) = m ((c.tc : Thread Cert.BwdMixIdeal.nD Cert.BwdMixIdeal.τ).loc Cert.BwdMixIdeal.main_arg0)
      ∧ m' ((c.tc : Thread Cert.BwdMixRIdeal.nD Cert.BwdMixRIdeal.τ).loc Cert.BwdMixRIdeal.main_arg1) = m ((c.tc : Thread Cert.BwdMixIdeal.nD Cert.BwdMixIdeal.τ).loc Cert.BwdMixIdeal.main_arg1)
      ∧ m' ((c.tc : Thread Cert.BwdMixRIdeal.nD Cert.BwdMixRIdeal.τ).loc Cert.BwdMixRIdeal.main_arg2) = m ((c.tc : Thread Cert.BwdMixIdeal.nD Cert.BwdMixIdeal.τ).loc Cert.BwdMixIdeal.main_arg2)
      ∧ m' ((c.tc : Thread Cert.BwdMixRIdeal.nD Cert.BwdMixRIdeal.τ).loc Cert.BwdMixRIdeal.main_arg3) = m ((c.tc : Thread Cert.BwdMixIdeal.nD Cert.BwdMixIdeal.τ).loc Cert.BwdMixIdeal.main_arg3)
      ∧ m' ((c.tc : Thread Cert.BwdMixRIdeal.nD Cert.BwdMixRIdeal.τ).loc Cert.BwdMixRIdeal.main_arg4) = m ((c.tc : Thread Cert.BwdMixIdeal.nD Cert.BwdMixIdeal.τ).loc Cert.BwdMixIdeal.main_arg4)
      ∧ m' ((c.tc : Thread Cert.BwdMixRIdeal.nD Cert.BwdMixRIdeal.τ).loc Cert.BwdMixRIdeal.main_arg5) = m ((c.tc : Thread Cert.BwdMixIdeal.nD Cert.BwdMixIdeal.τ).loc Cert.BwdMixIdeal.main_arg5)) →
    ∃ (v0 : (c : Dev Cert.BwdMixIdeal.nD) → Buf (Elt Ideal) ((c.tc : Thread Cert.BwdMixIdeal.nD Cert.BwdMixIdeal.τ).loc Cert.BwdMixIdeal.main_v1_0)) (v1 : (c : Dev Cert.BwdMixIdeal.nD) → Buf (Elt Ideal) ((c.tc : Thread Cert.BwdMixIdeal.nD Cert.BwdMixIdeal.τ).loc Cert.BwdMixIdeal.main_v1_1)) (v2 : (c : Dev Cert.BwdMixIdeal.nD) → Buf (Elt Ideal) ((c.tc : Thread Cert.BwdMixIdeal.nD Cert.BwdMixIdeal.τ).loc Cert.BwdMixIdeal.main_v1_2)) (v3 : (c : Dev Cert.BwdMixIdeal.nD) → Buf (Elt Ideal) ((c.tc : Thread Cert.BwdMixIdeal.nD Cert.BwdMixIdeal.τ).loc Cert.BwdMixIdeal.main_v1_3)),
      θ_run (Cert.BwdMixIdeal.defs (F := Ideal)) (onTc (τ := Cert.BwdMixIdeal.τ) (Cert.BwdMixIdeal.main (F := Ideal))) ⟨m, fun _ => 0, g⟩ (fun r => ∀ c : Dev Cert.BwdMixIdeal.nD,
          r.2.mem ((c.tc : Thread Cert.BwdMixIdeal.nD Cert.BwdMixIdeal.τ).loc Cert.BwdMixIdeal.main_v1_0) = v0 c
          ∧ r.2.mem ((c.tc : Thread Cert.BwdMixIdeal.nD Cert.BwdMixIdeal.τ).loc Cert.BwdMixIdeal.main_v1_1) = v1 c
          ∧ r.2.mem ((c.tc : Thread Cert.BwdMixIdeal.nD Cert.BwdMixIdeal.τ).loc Cert.BwdMixIdeal.main_v1_2) = v2 c
          ∧ r.2.mem ((c.tc : Thread Cert.BwdMixIdeal.nD Cert.BwdMixIdeal.τ).loc Cert.BwdMixIdeal.main_v1_3) = v3 c
          ∧ r.2.mem ((c.tc : Thread Cert.BwdMixIdeal.nD Cert.BwdMixIdeal.τ).loc Cert.BwdMixIdeal.main_arg0) = m ((c.tc : Thread Cert.BwdMixIdeal.nD Cert.BwdMixIdeal.τ).loc Cert.BwdMixIdeal.main_arg0)
          ∧ r.2.mem ((c.tc : Thread Cert.BwdMixIdeal.nD Cert.BwdMixIdeal.τ).loc Cert.BwdMixIdeal.main_arg1) = m ((c.tc : Thread Cert.BwdMixIdeal.nD Cert.BwdMixIdeal.τ).loc Cert.BwdMixIdeal.main_arg1)
          ∧ r.2.mem ((c.tc : Thread Cert.BwdMixIdeal.nD Cert.BwdMixIdeal.τ).loc Cert.BwdMixIdeal.main_arg2) = m ((c.tc : Thread Cert.BwdMixIdeal.nD Cert.BwdMixIdeal.τ).loc Cert.BwdMixIdeal.main_arg2)
          ∧ r.2.mem ((c.tc : Thread Cert.BwdMixIdeal.nD Cert.BwdMixIdeal.τ).loc Cert.BwdMixIdeal.main_arg3) = m ((c.tc : Thread Cert.BwdMixIdeal.nD Cert.BwdMixIdeal.τ).loc Cert.BwdMixIdeal.main_arg3)
          ∧ r.2.mem ((c.tc : Thread Cert.BwdMixIdeal.nD Cert.BwdMixIdeal.τ).loc Cert.BwdMixIdeal.main_arg4) = m ((c.tc : Thread Cert.BwdMixIdeal.nD Cert.BwdMixIdeal.τ).loc Cert.BwdMixIdeal.main_arg4)
          ∧ r.2.mem ((c.tc : Thread Cert.BwdMixIdeal.nD Cert.BwdMixIdeal.τ).loc Cert.BwdMixIdeal.main_arg5) = m ((c.tc : Thread Cert.BwdMixIdeal.nD Cert.BwdMixIdeal.τ).loc Cert.BwdMixIdeal.main_arg5))
      ∧ θ_run (Cert.BwdMixRIdeal.defs (F := Ideal)) (onTc (τ := Cert.BwdMixRIdeal.τ) (Cert.BwdMixRIdeal.main (F := Ideal))) ⟨m', fun _ => 0, g'⟩ (fun r => ∀ c : Dev Cert.BwdMixRIdeal.nD,
          r.2.mem ((c.tc : Thread Cert.BwdMixRIdeal.nD Cert.BwdMixRIdeal.τ).loc Cert.BwdMixRIdeal.main_v72) = v0 c
          ∧ r.2.mem ((c.tc : Thread Cert.BwdMixRIdeal.nD Cert.BwdMixRIdeal.τ).loc Cert.BwdMixRIdeal.main_v73) = v1 c
          ∧ r.2.mem ((c.tc : Thread Cert.BwdMixRIdeal.nD Cert.BwdMixRIdeal.τ).loc Cert.BwdMixRIdeal.main_v56) = v2 c
          ∧ r.2.mem ((c.tc : Thread Cert.BwdMixRIdeal.nD Cert.BwdMixRIdeal.τ).loc Cert.BwdMixRIdeal.main_v37) = v3 c
          ∧ r.2.mem ((c.tc : Thread Cert.BwdMixRIdeal.nD Cert.BwdMixRIdeal.τ).loc Cert.BwdMixRIdeal.main_arg0) = m' ((c.tc : Thread Cert.BwdMixRIdeal.nD Cert.BwdMixRIdeal.τ).loc Cert.BwdMixRIdeal.main_arg0)
          ∧ r.2.mem ((c.tc : Thread Cert.BwdMixRIdeal.nD Cert.BwdMixRIdeal.τ).loc Cert.BwdMixRIdeal.main_arg1) = m' ((c.tc : Thread Cert.BwdMixRIdeal.nD Cert.BwdMixRIdeal.τ).loc Cert.BwdMixRIdeal.main_arg1)
          ∧ r.2.mem ((c.tc : Thread Cert.BwdMixRIdeal.nD Cert.BwdMixRIdeal.τ).loc Cert.BwdMixRIdeal.main_arg2) = m' ((c.tc : Thread Cert.BwdMixRIdeal.nD Cert.BwdMixRIdeal.τ).loc Cert.BwdMixRIdeal.main_arg2)
          ∧ r.2.mem ((c.tc : Thread Cert.BwdMixRIdeal.nD Cert.BwdMixRIdeal.τ).loc Cert.BwdMixRIdeal.main_arg3) = m' ((c.tc : Thread Cert.BwdMixRIdeal.nD Cert.BwdMixRIdeal.τ).loc Cert.BwdMixRIdeal.main_arg3)
          ∧ r.2.mem ((c.tc : Thread Cert.BwdMixRIdeal.nD Cert.BwdMixRIdeal.τ).loc Cert.BwdMixRIdeal.main_arg4) = m' ((c.tc : Thread Cert.BwdMixRIdeal.nD Cert.BwdMixRIdeal.τ).loc Cert.BwdMixRIdeal.main_arg4)
          ∧ r.2.mem ((c.tc : Thread Cert.BwdMixRIdeal.nD Cert.BwdMixRIdeal.τ).loc Cert.BwdMixRIdeal.main_arg5) = m' ((c.tc : Thread Cert.BwdMixRIdeal.nD Cert.BwdMixRIdeal.τ).loc Cert.BwdMixRIdeal.main_arg5))

def preserves_BwdIn_BwdInIdeal : Prop :=
  True

def algebraic_BwdInIdeal_BwdInRIdeal [hBwdInIdeal : Cert.BwdInIdeal.Facts] [hBwdInRIdeal : Cert.BwdInRIdeal.Facts] : Prop :=
  ∀ (m : (ℓ : Loc Cert.BwdInIdeal.nD Cert.BwdInIdeal.τ Cert.BwdInIdeal.sig) → Buf (Elt Ideal) ℓ) (g : Dev Cert.BwdInIdeal.nD → PrngReg)
    (m' : (ℓ : Loc Cert.BwdInRIdeal.nD Cert.BwdInRIdeal.τ Cert.BwdInRIdeal.sig) → Buf (Elt Ideal) ℓ) (g' : Dev Cert.BwdInRIdeal.nD → PrngReg), Pre_BwdInIdeal m →
    (∀ c : Dev Cert.BwdInIdeal.nD,
      m' ((c.tc : Thread Cert.BwdInRIdeal.nD Cert.BwdInRIdeal.τ).loc Cert.BwdInRIdeal.main_arg0) = m ((c.tc : Thread Cert.BwdInIdeal.nD Cert.BwdInIdeal.τ).loc Cert.BwdInIdeal.main_arg0)
      ∧ m' ((c.tc : Thread Cert.BwdInRIdeal.nD Cert.BwdInRIdeal.τ).loc Cert.BwdInRIdeal.main_arg1) = m ((c.tc : Thread Cert.BwdInIdeal.nD Cert.BwdInIdeal.τ).loc Cert.BwdInIdeal.main_arg1)
      ∧ m' ((c.tc : Thread Cert.BwdInRIdeal.nD Cert.BwdInRIdeal.τ).loc Cert.BwdInRIdeal.main_arg2) = m ((c.tc : Thread Cert.BwdInIdeal.nD Cert.BwdInIdeal.τ).loc Cert.BwdInIdeal.main_arg2)
      ∧ m' ((c.tc : Thread Cert.BwdInRIdeal.nD Cert.BwdInRIdeal.τ).loc Cert.BwdInRIdeal.main_arg3) = m ((c.tc : Thread Cert.BwdInIdeal.nD Cert.BwdInIdeal.τ).loc Cert.BwdInIdeal.main_arg3)
      ∧ m' ((c.tc : Thread Cert.BwdInRIdeal.nD Cert.BwdInRIdeal.τ).loc Cert.BwdInRIdeal.main_arg4) = m ((c.tc : Thread Cert.BwdInIdeal.nD Cert.BwdInIdeal.τ).loc Cert.BwdInIdeal.main_arg4)
      ∧ m' ((c.tc : Thread Cert.BwdInRIdeal.nD Cert.BwdInRIdeal.τ).loc Cert.BwdInRIdeal.main_arg5) = m ((c.tc : Thread Cert.BwdInIdeal.nD Cert.BwdInIdeal.τ).loc Cert.BwdInIdeal.main_arg5)
      ∧ m' ((c.tc : Thread Cert.BwdInRIdeal.nD Cert.BwdInRIdeal.τ).loc Cert.BwdInRIdeal.main_arg6) = m ((c.tc : Thread Cert.BwdInIdeal.nD Cert.BwdInIdeal.τ).loc Cert.BwdInIdeal.main_arg6)
      ∧ m' ((c.tc : Thread Cert.BwdInRIdeal.nD Cert.BwdInRIdeal.τ).loc Cert.BwdInRIdeal.main_arg7) = m ((c.tc : Thread Cert.BwdInIdeal.nD Cert.BwdInIdeal.τ).loc Cert.BwdInIdeal.main_arg7)
      ∧ m' ((c.tc : Thread Cert.BwdInRIdeal.nD Cert.BwdInRIdeal.τ).loc Cert.BwdInRIdeal.main_arg8) = m ((c.tc : Thread Cert.BwdInIdeal.nD Cert.BwdInIdeal.τ).loc Cert.BwdInIdeal.main_arg8)) →
    ∃ (v0 : (c : Dev Cert.BwdInIdeal.nD) → Buf (Elt Ideal) ((c.tc : Thread Cert.BwdInIdeal.nD Cert.BwdInIdeal.τ).loc Cert.BwdInIdeal.main_v2_0)) (v1 : (c : Dev Cert.BwdInIdeal.nD) → Buf (Elt Ideal) ((c.tc : Thread Cert.BwdInIdeal.nD Cert.BwdInIdeal.τ).loc Cert.BwdInIdeal.main_v2_1)) (v2 : (c : Dev Cert.BwdInIdeal.nD) → Buf (Elt Ideal) ((c.tc : Thread Cert.BwdInIdeal.nD Cert.BwdInIdeal.τ).loc Cert.BwdInIdeal.main_v2_2)) (v3 : (c : Dev Cert.BwdInIdeal.nD) → Buf (Elt Ideal) ((c.tc : Thread Cert.BwdInIdeal.nD Cert.BwdInIdeal.τ).loc Cert.BwdInIdeal.main_v2_3)),
      θ_run (Cert.BwdInIdeal.defs (F := Ideal)) (onTc (τ := Cert.BwdInIdeal.τ) (Cert.BwdInIdeal.main (F := Ideal))) ⟨m, fun _ => 0, g⟩ (fun r => ∀ c : Dev Cert.BwdInIdeal.nD,
          r.2.mem ((c.tc : Thread Cert.BwdInIdeal.nD Cert.BwdInIdeal.τ).loc Cert.BwdInIdeal.main_v2_0) = v0 c
          ∧ r.2.mem ((c.tc : Thread Cert.BwdInIdeal.nD Cert.BwdInIdeal.τ).loc Cert.BwdInIdeal.main_v2_1) = v1 c
          ∧ r.2.mem ((c.tc : Thread Cert.BwdInIdeal.nD Cert.BwdInIdeal.τ).loc Cert.BwdInIdeal.main_v2_2) = v2 c
          ∧ r.2.mem ((c.tc : Thread Cert.BwdInIdeal.nD Cert.BwdInIdeal.τ).loc Cert.BwdInIdeal.main_v2_3) = v3 c
          ∧ r.2.mem ((c.tc : Thread Cert.BwdInIdeal.nD Cert.BwdInIdeal.τ).loc Cert.BwdInIdeal.main_arg0) = m ((c.tc : Thread Cert.BwdInIdeal.nD Cert.BwdInIdeal.τ).loc Cert.BwdInIdeal.main_arg0)
          ∧ r.2.mem ((c.tc : Thread Cert.BwdInIdeal.nD Cert.BwdInIdeal.τ).loc Cert.BwdInIdeal.main_arg1) = m ((c.tc : Thread Cert.BwdInIdeal.nD Cert.BwdInIdeal.τ).loc Cert.BwdInIdeal.main_arg1)
          ∧ r.2.mem ((c.tc : Thread Cert.BwdInIdeal.nD Cert.BwdInIdeal.τ).loc Cert.BwdInIdeal.main_arg2) = m ((c.tc : Thread Cert.BwdInIdeal.nD Cert.BwdInIdeal.τ).loc Cert.BwdInIdeal.main_arg2)
          ∧ r.2.mem ((c.tc : Thread Cert.BwdInIdeal.nD Cert.BwdInIdeal.τ).loc Cert.BwdInIdeal.main_arg3) = m ((c.tc : Thread Cert.BwdInIdeal.nD Cert.BwdInIdeal.τ).loc Cert.BwdInIdeal.main_arg3)
          ∧ r.2.mem ((c.tc : Thread Cert.BwdInIdeal.nD Cert.BwdInIdeal.τ).loc Cert.BwdInIdeal.main_arg4) = m ((c.tc : Thread Cert.BwdInIdeal.nD Cert.BwdInIdeal.τ).loc Cert.BwdInIdeal.main_arg4)
          ∧ r.2.mem ((c.tc : Thread Cert.BwdInIdeal.nD Cert.BwdInIdeal.τ).loc Cert.BwdInIdeal.main_arg5) = m ((c.tc : Thread Cert.BwdInIdeal.nD Cert.BwdInIdeal.τ).loc Cert.BwdInIdeal.main_arg5)
          ∧ r.2.mem ((c.tc : Thread Cert.BwdInIdeal.nD Cert.BwdInIdeal.τ).loc Cert.BwdInIdeal.main_arg6) = m ((c.tc : Thread Cert.BwdInIdeal.nD Cert.BwdInIdeal.τ).loc Cert.BwdInIdeal.main_arg6)
          ∧ r.2.mem ((c.tc : Thread Cert.BwdInIdeal.nD Cert.BwdInIdeal.τ).loc Cert.BwdInIdeal.main_arg7) = m ((c.tc : Thread Cert.BwdInIdeal.nD Cert.BwdInIdeal.τ).loc Cert.BwdInIdeal.main_arg7)
          ∧ r.2.mem ((c.tc : Thread Cert.BwdInIdeal.nD Cert.BwdInIdeal.τ).loc Cert.BwdInIdeal.main_arg8) = m ((c.tc : Thread Cert.BwdInIdeal.nD Cert.BwdInIdeal.τ).loc Cert.BwdInIdeal.main_arg8))
      ∧ θ_run (Cert.BwdInRIdeal.defs (F := Ideal)) (onTc (τ := Cert.BwdInRIdeal.τ) (Cert.BwdInRIdeal.main (F := Ideal))) ⟨m', fun _ => 0, g'⟩ (fun r => ∀ c : Dev Cert.BwdInRIdeal.nD,
          r.2.mem ((c.tc : Thread Cert.BwdInRIdeal.nD Cert.BwdInRIdeal.τ).loc Cert.BwdInRIdeal.main_v38) = v0 c
          ∧ r.2.mem ((c.tc : Thread Cert.BwdInRIdeal.nD Cert.BwdInRIdeal.τ).loc Cert.BwdInRIdeal.main_v0) = v1 c
          ∧ r.2.mem ((c.tc : Thread Cert.BwdInRIdeal.nD Cert.BwdInRIdeal.τ).loc Cert.BwdInRIdeal.main_v51) = v2 c
          ∧ r.2.mem ((c.tc : Thread Cert.BwdInRIdeal.nD Cert.BwdInRIdeal.τ).loc Cert.BwdInRIdeal.main_v21) = v3 c
          ∧ r.2.mem ((c.tc : Thread Cert.BwdInRIdeal.nD Cert.BwdInRIdeal.τ).loc Cert.BwdInRIdeal.main_arg0) = m' ((c.tc : Thread Cert.BwdInRIdeal.nD Cert.BwdInRIdeal.τ).loc Cert.BwdInRIdeal.main_arg0)
          ∧ r.2.mem ((c.tc : Thread Cert.BwdInRIdeal.nD Cert.BwdInRIdeal.τ).loc Cert.BwdInRIdeal.main_arg1) = m' ((c.tc : Thread Cert.BwdInRIdeal.nD Cert.BwdInRIdeal.τ).loc Cert.BwdInRIdeal.main_arg1)
          ∧ r.2.mem ((c.tc : Thread Cert.BwdInRIdeal.nD Cert.BwdInRIdeal.τ).loc Cert.BwdInRIdeal.main_arg2) = m' ((c.tc : Thread Cert.BwdInRIdeal.nD Cert.BwdInRIdeal.τ).loc Cert.BwdInRIdeal.main_arg2)
          ∧ r.2.mem ((c.tc : Thread Cert.BwdInRIdeal.nD Cert.BwdInRIdeal.τ).loc Cert.BwdInRIdeal.main_arg3) = m' ((c.tc : Thread Cert.BwdInRIdeal.nD Cert.BwdInRIdeal.τ).loc Cert.BwdInRIdeal.main_arg3)
          ∧ r.2.mem ((c.tc : Thread Cert.BwdInRIdeal.nD Cert.BwdInRIdeal.τ).loc Cert.BwdInRIdeal.main_arg4) = m' ((c.tc : Thread Cert.BwdInRIdeal.nD Cert.BwdInRIdeal.τ).loc Cert.BwdInRIdeal.main_arg4)
          ∧ r.2.mem ((c.tc : Thread Cert.BwdInRIdeal.nD Cert.BwdInRIdeal.τ).loc Cert.BwdInRIdeal.main_arg5) = m' ((c.tc : Thread Cert.BwdInRIdeal.nD Cert.BwdInRIdeal.τ).loc Cert.BwdInRIdeal.main_arg5)
          ∧ r.2.mem ((c.tc : Thread Cert.BwdInRIdeal.nD Cert.BwdInRIdeal.τ).loc Cert.BwdInRIdeal.main_arg6) = m' ((c.tc : Thread Cert.BwdInRIdeal.nD Cert.BwdInRIdeal.τ).loc Cert.BwdInRIdeal.main_arg6)
          ∧ r.2.mem ((c.tc : Thread Cert.BwdInRIdeal.nD Cert.BwdInRIdeal.τ).loc Cert.BwdInRIdeal.main_arg7) = m' ((c.tc : Thread Cert.BwdInRIdeal.nD Cert.BwdInRIdeal.τ).loc Cert.BwdInRIdeal.main_arg7)
          ∧ r.2.mem ((c.tc : Thread Cert.BwdInRIdeal.nD Cert.BwdInRIdeal.τ).loc Cert.BwdInRIdeal.main_arg8) = m' ((c.tc : Thread Cert.BwdInRIdeal.nD Cert.BwdInRIdeal.τ).loc Cert.BwdInRIdeal.main_arg8))

def preserves_FwdIn_FwdInIdeal : Prop :=
  True

def algebraic_FwdInIdeal_FwdInRIdeal [hFwdInIdeal : Cert.FwdInIdeal.Facts] [hFwdInRIdeal : Cert.FwdInRIdeal.Facts] : Prop :=
  ∀ (m : (ℓ : Loc Cert.FwdInIdeal.nD Cert.FwdInIdeal.τ Cert.FwdInIdeal.sig) → Buf (Elt Ideal) ℓ) (g : Dev Cert.FwdInIdeal.nD → PrngReg)
    (m' : (ℓ : Loc Cert.FwdInRIdeal.nD Cert.FwdInRIdeal.τ Cert.FwdInRIdeal.sig) → Buf (Elt Ideal) ℓ) (g' : Dev Cert.FwdInRIdeal.nD → PrngReg), Pre_FwdInIdeal m →
    (∀ c : Dev Cert.FwdInIdeal.nD,
      m' ((c.tc : Thread Cert.FwdInRIdeal.nD Cert.FwdInRIdeal.τ).loc Cert.FwdInRIdeal.main_arg0) = m ((c.tc : Thread Cert.FwdInIdeal.nD Cert.FwdInIdeal.τ).loc Cert.FwdInIdeal.main_arg0)
      ∧ m' ((c.tc : Thread Cert.FwdInRIdeal.nD Cert.FwdInRIdeal.τ).loc Cert.FwdInRIdeal.main_arg1) = m ((c.tc : Thread Cert.FwdInIdeal.nD Cert.FwdInIdeal.τ).loc Cert.FwdInIdeal.main_arg1)
      ∧ m' ((c.tc : Thread Cert.FwdInRIdeal.nD Cert.FwdInRIdeal.τ).loc Cert.FwdInRIdeal.main_arg2) = m ((c.tc : Thread Cert.FwdInIdeal.nD Cert.FwdInIdeal.τ).loc Cert.FwdInIdeal.main_arg2)) →
    ∃ (v0 : (c : Dev Cert.FwdInIdeal.nD) → Buf (Elt Ideal) ((c.tc : Thread Cert.FwdInIdeal.nD Cert.FwdInIdeal.τ).loc Cert.FwdInIdeal.main_v2_0)) (v1 : (c : Dev Cert.FwdInIdeal.nD) → Buf (Elt Ideal) ((c.tc : Thread Cert.FwdInIdeal.nD Cert.FwdInIdeal.τ).loc Cert.FwdInIdeal.main_v2_1)),
      θ_run (Cert.FwdInIdeal.defs (F := Ideal)) (onTc (τ := Cert.FwdInIdeal.τ) (Cert.FwdInIdeal.main (F := Ideal))) ⟨m, fun _ => 0, g⟩ (fun r => ∀ c : Dev Cert.FwdInIdeal.nD,
          r.2.mem ((c.tc : Thread Cert.FwdInIdeal.nD Cert.FwdInIdeal.τ).loc Cert.FwdInIdeal.main_v2_0) = v0 c
          ∧ r.2.mem ((c.tc : Thread Cert.FwdInIdeal.nD Cert.FwdInIdeal.τ).loc Cert.FwdInIdeal.main_v2_1) = v1 c
          ∧ r.2.mem ((c.tc : Thread Cert.FwdInIdeal.nD Cert.FwdInIdeal.τ).loc Cert.FwdInIdeal.main_arg0) = m ((c.tc : Thread Cert.FwdInIdeal.nD Cert.FwdInIdeal.τ).loc Cert.FwdInIdeal.main_arg0)
          ∧ r.2.mem ((c.tc : Thread Cert.FwdInIdeal.nD Cert.FwdInIdeal.τ).loc Cert.FwdInIdeal.main_arg1) = m ((c.tc : Thread Cert.FwdInIdeal.nD Cert.FwdInIdeal.τ).loc Cert.FwdInIdeal.main_arg1)
          ∧ r.2.mem ((c.tc : Thread Cert.FwdInIdeal.nD Cert.FwdInIdeal.τ).loc Cert.FwdInIdeal.main_arg2) = m ((c.tc : Thread Cert.FwdInIdeal.nD Cert.FwdInIdeal.τ).loc Cert.FwdInIdeal.main_arg2))
      ∧ θ_run (Cert.FwdInRIdeal.defs (F := Ideal)) (onTc (τ := Cert.FwdInRIdeal.τ) (Cert.FwdInRIdeal.main (F := Ideal))) ⟨m', fun _ => 0, g'⟩ (fun r => ∀ c : Dev Cert.FwdInRIdeal.nD,
          r.2.mem ((c.tc : Thread Cert.FwdInRIdeal.nD Cert.FwdInRIdeal.τ).loc Cert.FwdInRIdeal.main_v13) = v0 c
          ∧ r.2.mem ((c.tc : Thread Cert.FwdInRIdeal.nD Cert.FwdInRIdeal.τ).loc Cert.FwdInRIdeal.main_v15) = v1 c
          ∧ r.2.mem ((c.tc : Thread Cert.FwdInRIdeal.nD Cert.FwdInRIdeal.τ).loc Cert.FwdInRIdeal.main_arg0) = m' ((c.tc : Thread Cert.FwdInRIdeal.nD Cert.FwdInRIdeal.τ).loc Cert.FwdInRIdeal.main_arg0)
          ∧ r.2.mem ((c.tc : Thread Cert.FwdInRIdeal.nD Cert.FwdInRIdeal.τ).loc Cert.FwdInRIdeal.main_arg1) = m' ((c.tc : Thread Cert.FwdInRIdeal.nD Cert.FwdInRIdeal.τ).loc Cert.FwdInRIdeal.main_arg1)
          ∧ r.2.mem ((c.tc : Thread Cert.FwdInRIdeal.nD Cert.FwdInRIdeal.τ).loc Cert.FwdInRIdeal.main_arg2) = m' ((c.tc : Thread Cert.FwdInRIdeal.nD Cert.FwdInRIdeal.τ).loc Cert.FwdInRIdeal.main_arg2))

def preserves_FwdMix_FwdMixIdeal : Prop :=
  True

def algebraic_FwdMixIdeal_FwdMixRIdeal [hFwdMixIdeal : Cert.FwdMixIdeal.Facts] [hFwdMixRIdeal : Cert.FwdMixRIdeal.Facts] : Prop :=
  ∀ (m : (ℓ : Loc Cert.FwdMixIdeal.nD Cert.FwdMixIdeal.τ Cert.FwdMixIdeal.sig) → Buf (Elt Ideal) ℓ) (g : Dev Cert.FwdMixIdeal.nD → PrngReg)
    (m' : (ℓ : Loc Cert.FwdMixRIdeal.nD Cert.FwdMixRIdeal.τ Cert.FwdMixRIdeal.sig) → Buf (Elt Ideal) ℓ) (g' : Dev Cert.FwdMixRIdeal.nD → PrngReg), Pre_FwdMixIdeal m →
    (∀ c : Dev Cert.FwdMixIdeal.nD,
      m' ((c.tc : Thread Cert.FwdMixRIdeal.nD Cert.FwdMixRIdeal.τ).loc Cert.FwdMixRIdeal.main_arg0) = m ((c.tc : Thread Cert.FwdMixIdeal.nD Cert.FwdMixIdeal.τ).loc Cert.FwdMixIdeal.main_arg0)
      ∧ m' ((c.tc : Thread Cert.FwdMixRIdeal.nD Cert.FwdMixRIdeal.τ).loc Cert.FwdMixRIdeal.main_arg1) = m ((c.tc : Thread Cert.FwdMixIdeal.nD Cert.FwdMixIdeal.τ).loc Cert.FwdMixIdeal.main_arg1)
      ∧ m' ((c.tc : Thread Cert.FwdMixRIdeal.nD Cert.FwdMixRIdeal.τ).loc Cert.FwdMixRIdeal.main_arg2) = m ((c.tc : Thread Cert.FwdMixIdeal.nD Cert.FwdMixIdeal.τ).loc Cert.FwdMixIdeal.main_arg2)
      ∧ m' ((c.tc : Thread Cert.FwdMixRIdeal.nD Cert.FwdMixRIdeal.τ).loc Cert.FwdMixRIdeal.main_arg3) = m ((c.tc : Thread Cert.FwdMixIdeal.nD Cert.FwdMixIdeal.τ).loc Cert.FwdMixIdeal.main_arg3)
      ∧ m' ((c.tc : Thread Cert.FwdMixRIdeal.nD Cert.FwdMixRIdeal.τ).loc Cert.FwdMixRIdeal.main_arg4) = m ((c.tc : Thread Cert.FwdMixIdeal.nD Cert.FwdMixIdeal.τ).loc Cert.FwdMixIdeal.main_arg4)
      ∧ m' ((c.tc : Thread Cert.FwdMixRIdeal.nD Cert.FwdMixRIdeal.τ).loc Cert.FwdMixRIdeal.main_arg5) = m ((c.tc : Thread Cert.FwdMixIdeal.nD Cert.FwdMixIdeal.τ).loc Cert.FwdMixIdeal.main_arg5)) →
    ∃ (v0 : (c : Dev Cert.FwdMixIdeal.nD) → Buf (Elt Ideal) ((c.tc : Thread Cert.FwdMixIdeal.nD Cert.FwdMixIdeal.τ).loc Cert.FwdMixIdeal.main_v1_0)) (v1 : (c : Dev Cert.FwdMixIdeal.nD) → Buf (Elt Ideal) ((c.tc : Thread Cert.FwdMixIdeal.nD Cert.FwdMixIdeal.τ).loc Cert.FwdMixIdeal.main_v1_1)),
      θ_run (Cert.FwdMixIdeal.defs (F := Ideal)) (onTc (τ := Cert.FwdMixIdeal.τ) (Cert.FwdMixIdeal.main (F := Ideal))) ⟨m, fun _ => 0, g⟩ (fun r => ∀ c : Dev Cert.FwdMixIdeal.nD,
          r.2.mem ((c.tc : Thread Cert.FwdMixIdeal.nD Cert.FwdMixIdeal.τ).loc Cert.FwdMixIdeal.main_v1_0) = v0 c
          ∧ r.2.mem ((c.tc : Thread Cert.FwdMixIdeal.nD Cert.FwdMixIdeal.τ).loc Cert.FwdMixIdeal.main_v1_1) = v1 c
          ∧ r.2.mem ((c.tc : Thread Cert.FwdMixIdeal.nD Cert.FwdMixIdeal.τ).loc Cert.FwdMixIdeal.main_arg0) = m ((c.tc : Thread Cert.FwdMixIdeal.nD Cert.FwdMixIdeal.τ).loc Cert.FwdMixIdeal.main_arg0)
          ∧ r.2.mem ((c.tc : Thread Cert.FwdMixIdeal.nD Cert.FwdMixIdeal.τ).loc Cert.FwdMixIdeal.main_arg1) = m ((c.tc : Thread Cert.FwdMixIdeal.nD Cert.FwdMixIdeal.τ).loc Cert.FwdMixIdeal.main_arg1)
          ∧ r.2.mem ((c.tc : Thread Cert.FwdMixIdeal.nD Cert.FwdMixIdeal.τ).loc Cert.FwdMixIdeal.main_arg2) = m ((c.tc : Thread Cert.FwdMixIdeal.nD Cert.FwdMixIdeal.τ).loc Cert.FwdMixIdeal.main_arg2)
          ∧ r.2.mem ((c.tc : Thread Cert.FwdMixIdeal.nD Cert.FwdMixIdeal.τ).loc Cert.FwdMixIdeal.main_arg3) = m ((c.tc : Thread Cert.FwdMixIdeal.nD Cert.FwdMixIdeal.τ).loc Cert.FwdMixIdeal.main_arg3)
          ∧ r.2.mem ((c.tc : Thread Cert.FwdMixIdeal.nD Cert.FwdMixIdeal.τ).loc Cert.FwdMixIdeal.main_arg4) = m ((c.tc : Thread Cert.FwdMixIdeal.nD Cert.FwdMixIdeal.τ).loc Cert.FwdMixIdeal.main_arg4)
          ∧ r.2.mem ((c.tc : Thread Cert.FwdMixIdeal.nD Cert.FwdMixIdeal.τ).loc Cert.FwdMixIdeal.main_arg5) = m ((c.tc : Thread Cert.FwdMixIdeal.nD Cert.FwdMixIdeal.τ).loc Cert.FwdMixIdeal.main_arg5))
      ∧ θ_run (Cert.FwdMixRIdeal.defs (F := Ideal)) (onTc (τ := Cert.FwdMixRIdeal.τ) (Cert.FwdMixRIdeal.main (F := Ideal))) ⟨m', fun _ => 0, g'⟩ (fun r => ∀ c : Dev Cert.FwdMixRIdeal.nD,
          r.2.mem ((c.tc : Thread Cert.FwdMixRIdeal.nD Cert.FwdMixRIdeal.τ).loc Cert.FwdMixRIdeal.main_v26) = v0 c
          ∧ r.2.mem ((c.tc : Thread Cert.FwdMixRIdeal.nD Cert.FwdMixRIdeal.τ).loc Cert.FwdMixRIdeal.main_v27) = v1 c
          ∧ r.2.mem ((c.tc : Thread Cert.FwdMixRIdeal.nD Cert.FwdMixRIdeal.τ).loc Cert.FwdMixRIdeal.main_arg0) = m' ((c.tc : Thread Cert.FwdMixRIdeal.nD Cert.FwdMixRIdeal.τ).loc Cert.FwdMixRIdeal.main_arg0)
          ∧ r.2.mem ((c.tc : Thread Cert.FwdMixRIdeal.nD Cert.FwdMixRIdeal.τ).loc Cert.FwdMixRIdeal.main_arg1) = m' ((c.tc : Thread Cert.FwdMixRIdeal.nD Cert.FwdMixRIdeal.τ).loc Cert.FwdMixRIdeal.main_arg1)
          ∧ r.2.mem ((c.tc : Thread Cert.FwdMixRIdeal.nD Cert.FwdMixRIdeal.τ).loc Cert.FwdMixRIdeal.main_arg2) = m' ((c.tc : Thread Cert.FwdMixRIdeal.nD Cert.FwdMixRIdeal.τ).loc Cert.FwdMixRIdeal.main_arg2)
          ∧ r.2.mem ((c.tc : Thread Cert.FwdMixRIdeal.nD Cert.FwdMixRIdeal.τ).loc Cert.FwdMixRIdeal.main_arg3) = m' ((c.tc : Thread Cert.FwdMixRIdeal.nD Cert.FwdMixRIdeal.τ).loc Cert.FwdMixRIdeal.main_arg3)
          ∧ r.2.mem ((c.tc : Thread Cert.FwdMixRIdeal.nD Cert.FwdMixRIdeal.τ).loc Cert.FwdMixRIdeal.main_arg4) = m' ((c.tc : Thread Cert.FwdMixRIdeal.nD Cert.FwdMixRIdeal.τ).loc Cert.FwdMixRIdeal.main_arg4)
          ∧ r.2.mem ((c.tc : Thread Cert.FwdMixRIdeal.nD Cert.FwdMixRIdeal.τ).loc Cert.FwdMixRIdeal.main_arg5) = m' ((c.tc : Thread Cert.FwdMixRIdeal.nD Cert.FwdMixRIdeal.τ).loc Cert.FwdMixRIdeal.main_arg5))

def preserves_BwdMlp_BwdMlpIdeal : Prop :=
  True

def algebraic_BwdMlpIdeal_BwdMlpRIdeal [hBwdMlpIdeal : Cert.BwdMlpIdeal.Facts] [hBwdMlpRIdeal : Cert.BwdMlpRIdeal.Facts] : Prop :=
  ∀ (m : (ℓ : Loc Cert.BwdMlpIdeal.nD Cert.BwdMlpIdeal.τ Cert.BwdMlpIdeal.sig) → Buf (Elt Ideal) ℓ) (g : Dev Cert.BwdMlpIdeal.nD → PrngReg)
    (m' : (ℓ : Loc Cert.BwdMlpRIdeal.nD Cert.BwdMlpRIdeal.τ Cert.BwdMlpRIdeal.sig) → Buf (Elt Ideal) ℓ) (g' : Dev Cert.BwdMlpRIdeal.nD → PrngReg), Pre_BwdMlpIdeal m →
    (∀ c : Dev Cert.BwdMlpIdeal.nD,
      m' ((c.tc : Thread Cert.BwdMlpRIdeal.nD Cert.BwdMlpRIdeal.τ).loc Cert.BwdMlpRIdeal.main_arg0) = m ((c.tc : Thread Cert.BwdMlpIdeal.nD Cert.BwdMlpIdeal.τ).loc Cert.BwdMlpIdeal.main_arg0)
      ∧ m' ((c.tc : Thread Cert.BwdMlpRIdeal.nD Cert.BwdMlpRIdeal.τ).loc Cert.BwdMlpRIdeal.main_arg1) = m ((c.tc : Thread Cert.BwdMlpIdeal.nD Cert.BwdMlpIdeal.τ).loc Cert.BwdMlpIdeal.main_arg1)
      ∧ m' ((c.tc : Thread Cert.BwdMlpRIdeal.nD Cert.BwdMlpRIdeal.τ).loc Cert.BwdMlpRIdeal.main_arg2) = m ((c.tc : Thread Cert.BwdMlpIdeal.nD Cert.BwdMlpIdeal.τ).loc Cert.BwdMlpIdeal.main_arg2)
      ∧ m' ((c.tc : Thread Cert.BwdMlpRIdeal.nD Cert.BwdMlpRIdeal.τ).loc Cert.BwdMlpRIdeal.main_arg3) = m ((c.tc : Thread Cert.BwdMlpIdeal.nD Cert.BwdMlpIdeal.τ).loc Cert.BwdMlpIdeal.main_arg3)
      ∧ m' ((c.tc : Thread Cert.BwdMlpRIdeal.nD Cert.BwdMlpRIdeal.τ).loc Cert.BwdMlpRIdeal.main_arg4) = m ((c.tc : Thread Cert.BwdMlpIdeal.nD Cert.BwdMlpIdeal.τ).loc Cert.BwdMlpIdeal.main_arg4)) →
    ∃ (v0 : (c : Dev Cert.BwdMlpIdeal.nD) → Buf (Elt Ideal) ((c.tc : Thread Cert.BwdMlpIdeal.nD Cert.BwdMlpIdeal.τ).loc Cert.BwdMlpIdeal.main_v19_0)) (v1 : (c : Dev Cert.BwdMlpIdeal.nD) → Buf (Elt Ideal) ((c.tc : Thread Cert.BwdMlpIdeal.nD Cert.BwdMlpIdeal.τ).loc Cert.BwdMlpIdeal.main_v19_1)) (v2 : (c : Dev Cert.BwdMlpIdeal.nD) → Buf (Elt Ideal) ((c.tc : Thread Cert.BwdMlpIdeal.nD Cert.BwdMlpIdeal.τ).loc Cert.BwdMlpIdeal.main_v19_2)) (v3 : (c : Dev Cert.BwdMlpIdeal.nD) → Buf (Elt Ideal) ((c.tc : Thread Cert.BwdMlpIdeal.nD Cert.BwdMlpIdeal.τ).loc Cert.BwdMlpIdeal.main_v19_3)) (v4 : (c : Dev Cert.BwdMlpIdeal.nD) → Buf (Elt Ideal) ((c.tc : Thread Cert.BwdMlpIdeal.nD Cert.BwdMlpIdeal.τ).loc Cert.BwdMlpIdeal.main_v19_4)),
      θ_run (Cert.BwdMlpIdeal.defs (F := Ideal)) (onTc (τ := Cert.BwdMlpIdeal.τ) (Cert.BwdMlpIdeal.main (F := Ideal))) ⟨m, fun _ => 0, g⟩ (fun r => ∀ c : Dev Cert.BwdMlpIdeal.nD,
          r.2.mem ((c.tc : Thread Cert.BwdMlpIdeal.nD Cert.BwdMlpIdeal.τ).loc Cert.BwdMlpIdeal.main_v19_0) = v0 c
          ∧ r.2.mem ((c.tc : Thread Cert.BwdMlpIdeal.nD Cert.BwdMlpIdeal.τ).loc Cert.BwdMlpIdeal.main_v19_1) = v1 c
          ∧ r.2.mem ((c.tc : Thread Cert.BwdMlpIdeal.nD Cert.BwdMlpIdeal.τ).loc Cert.BwdMlpIdeal.main_v19_2) = v2 c
          ∧ r.2.mem ((c.tc : Thread Cert.BwdMlpIdeal.nD Cert.BwdMlpIdeal.τ).loc Cert.BwdMlpIdeal.main_v19_3) = v3 c
          ∧ r.2.mem ((c.tc : Thread Cert.BwdMlpIdeal.nD Cert.BwdMlpIdeal.τ).loc Cert.BwdMlpIdeal.main_v19_4) = v4 c
          ∧ r.2.mem ((c.tc : Thread Cert.BwdMlpIdeal.nD Cert.BwdMlpIdeal.τ).loc Cert.BwdMlpIdeal.main_arg0) = m ((c.tc : Thread Cert.BwdMlpIdeal.nD Cert.BwdMlpIdeal.τ).loc Cert.BwdMlpIdeal.main_arg0)
          ∧ r.2.mem ((c.tc : Thread Cert.BwdMlpIdeal.nD Cert.BwdMlpIdeal.τ).loc Cert.BwdMlpIdeal.main_arg1) = m ((c.tc : Thread Cert.BwdMlpIdeal.nD Cert.BwdMlpIdeal.τ).loc Cert.BwdMlpIdeal.main_arg1)
          ∧ r.2.mem ((c.tc : Thread Cert.BwdMlpIdeal.nD Cert.BwdMlpIdeal.τ).loc Cert.BwdMlpIdeal.main_arg2) = m ((c.tc : Thread Cert.BwdMlpIdeal.nD Cert.BwdMlpIdeal.τ).loc Cert.BwdMlpIdeal.main_arg2)
          ∧ r.2.mem ((c.tc : Thread Cert.BwdMlpIdeal.nD Cert.BwdMlpIdeal.τ).loc Cert.BwdMlpIdeal.main_arg3) = m ((c.tc : Thread Cert.BwdMlpIdeal.nD Cert.BwdMlpIdeal.τ).loc Cert.BwdMlpIdeal.main_arg3)
          ∧ r.2.mem ((c.tc : Thread Cert.BwdMlpIdeal.nD Cert.BwdMlpIdeal.τ).loc Cert.BwdMlpIdeal.main_arg4) = m ((c.tc : Thread Cert.BwdMlpIdeal.nD Cert.BwdMlpIdeal.τ).loc Cert.BwdMlpIdeal.main_arg4))
      ∧ θ_run (Cert.BwdMlpRIdeal.defs (F := Ideal)) (onTc (τ := Cert.BwdMlpRIdeal.τ) (Cert.BwdMlpRIdeal.main (F := Ideal))) ⟨m', fun _ => 0, g'⟩ (fun r => ∀ c : Dev Cert.BwdMlpRIdeal.nD,
          r.2.mem ((c.tc : Thread Cert.BwdMlpRIdeal.nD Cert.BwdMlpRIdeal.τ).loc Cert.BwdMlpRIdeal.main_v76) = v0 c
          ∧ r.2.mem ((c.tc : Thread Cert.BwdMlpRIdeal.nD Cert.BwdMlpRIdeal.τ).loc Cert.BwdMlpRIdeal.main_v75) = v1 c
          ∧ r.2.mem ((c.tc : Thread Cert.BwdMlpRIdeal.nD Cert.BwdMlpRIdeal.τ).loc Cert.BwdMlpRIdeal.main_v89) = v2 c
          ∧ r.2.mem ((c.tc : Thread Cert.BwdMlpRIdeal.nD Cert.BwdMlpRIdeal.τ).loc Cert.BwdMlpRIdeal.main_v90) = v3 c
          ∧ r.2.mem ((c.tc : Thread Cert.BwdMlpRIdeal.nD Cert.BwdMlpRIdeal.τ).loc Cert.BwdMlpRIdeal.main_v58) = v4 c
          ∧ r.2.mem ((c.tc : Thread Cert.BwdMlpRIdeal.nD Cert.BwdMlpRIdeal.τ).loc Cert.BwdMlpRIdeal.main_arg0) = m' ((c.tc : Thread Cert.BwdMlpRIdeal.nD Cert.BwdMlpRIdeal.τ).loc Cert.BwdMlpRIdeal.main_arg0)
          ∧ r.2.mem ((c.tc : Thread Cert.BwdMlpRIdeal.nD Cert.BwdMlpRIdeal.τ).loc Cert.BwdMlpRIdeal.main_arg1) = m' ((c.tc : Thread Cert.BwdMlpRIdeal.nD Cert.BwdMlpRIdeal.τ).loc Cert.BwdMlpRIdeal.main_arg1)
          ∧ r.2.mem ((c.tc : Thread Cert.BwdMlpRIdeal.nD Cert.BwdMlpRIdeal.τ).loc Cert.BwdMlpRIdeal.main_arg2) = m' ((c.tc : Thread Cert.BwdMlpRIdeal.nD Cert.BwdMlpRIdeal.τ).loc Cert.BwdMlpRIdeal.main_arg2)
          ∧ r.2.mem ((c.tc : Thread Cert.BwdMlpRIdeal.nD Cert.BwdMlpRIdeal.τ).loc Cert.BwdMlpRIdeal.main_arg3) = m' ((c.tc : Thread Cert.BwdMlpRIdeal.nD Cert.BwdMlpRIdeal.τ).loc Cert.BwdMlpRIdeal.main_arg3)
          ∧ r.2.mem ((c.tc : Thread Cert.BwdMlpRIdeal.nD Cert.BwdMlpRIdeal.τ).loc Cert.BwdMlpRIdeal.main_arg4) = m' ((c.tc : Thread Cert.BwdMlpRIdeal.nD Cert.BwdMlpRIdeal.τ).loc Cert.BwdMlpRIdeal.main_arg4))

def preserves_FwdMlp_FwdMlpIdeal : Prop :=
  True

def algebraic_FwdMlpIdeal_FwdMlpRIdeal [hFwdMlpIdeal : Cert.FwdMlpIdeal.Facts] [hFwdMlpRIdeal : Cert.FwdMlpRIdeal.Facts] : Prop :=
  ∀ (m : (ℓ : Loc Cert.FwdMlpIdeal.nD Cert.FwdMlpIdeal.τ Cert.FwdMlpIdeal.sig) → Buf (Elt Ideal) ℓ) (g : Dev Cert.FwdMlpIdeal.nD → PrngReg)
    (m' : (ℓ : Loc Cert.FwdMlpRIdeal.nD Cert.FwdMlpRIdeal.τ Cert.FwdMlpRIdeal.sig) → Buf (Elt Ideal) ℓ) (g' : Dev Cert.FwdMlpRIdeal.nD → PrngReg), Pre_FwdMlpIdeal m →
    (∀ c : Dev Cert.FwdMlpIdeal.nD,
      m' ((c.tc : Thread Cert.FwdMlpRIdeal.nD Cert.FwdMlpRIdeal.τ).loc Cert.FwdMlpRIdeal.main_arg0) = m ((c.tc : Thread Cert.FwdMlpIdeal.nD Cert.FwdMlpIdeal.τ).loc Cert.FwdMlpIdeal.main_arg0)
      ∧ m' ((c.tc : Thread Cert.FwdMlpRIdeal.nD Cert.FwdMlpRIdeal.τ).loc Cert.FwdMlpRIdeal.main_arg1) = m ((c.tc : Thread Cert.FwdMlpIdeal.nD Cert.FwdMlpIdeal.τ).loc Cert.FwdMlpIdeal.main_arg1)
      ∧ m' ((c.tc : Thread Cert.FwdMlpRIdeal.nD Cert.FwdMlpRIdeal.τ).loc Cert.FwdMlpRIdeal.main_arg2) = m ((c.tc : Thread Cert.FwdMlpIdeal.nD Cert.FwdMlpIdeal.τ).loc Cert.FwdMlpIdeal.main_arg2)
      ∧ m' ((c.tc : Thread Cert.FwdMlpRIdeal.nD Cert.FwdMlpRIdeal.τ).loc Cert.FwdMlpRIdeal.main_arg3) = m ((c.tc : Thread Cert.FwdMlpIdeal.nD Cert.FwdMlpIdeal.τ).loc Cert.FwdMlpIdeal.main_arg3)
      ∧ m' ((c.tc : Thread Cert.FwdMlpRIdeal.nD Cert.FwdMlpRIdeal.τ).loc Cert.FwdMlpRIdeal.main_arg4) = m ((c.tc : Thread Cert.FwdMlpIdeal.nD Cert.FwdMlpIdeal.τ).loc Cert.FwdMlpIdeal.main_arg4)
      ∧ m' ((c.tc : Thread Cert.FwdMlpRIdeal.nD Cert.FwdMlpRIdeal.τ).loc Cert.FwdMlpRIdeal.main_arg5) = m ((c.tc : Thread Cert.FwdMlpIdeal.nD Cert.FwdMlpIdeal.τ).loc Cert.FwdMlpIdeal.main_arg5)) →
    ∃ (v0 : (c : Dev Cert.FwdMlpIdeal.nD) → Buf (Elt Ideal) ((c.tc : Thread Cert.FwdMlpIdeal.nD Cert.FwdMlpIdeal.τ).loc Cert.FwdMlpIdeal.main_v4_0)) (v1 : (c : Dev Cert.FwdMlpIdeal.nD) → Buf (Elt Ideal) ((c.tc : Thread Cert.FwdMlpIdeal.nD Cert.FwdMlpIdeal.τ).loc Cert.FwdMlpIdeal.main_v4_1)) (v2 : (c : Dev Cert.FwdMlpIdeal.nD) → Buf (Elt Ideal) ((c.tc : Thread Cert.FwdMlpIdeal.nD Cert.FwdMlpIdeal.τ).loc Cert.FwdMlpIdeal.main_v4_2)) (v3 : (c : Dev Cert.FwdMlpIdeal.nD) → Buf (Elt Ideal) ((c.tc : Thread Cert.FwdMlpIdeal.nD Cert.FwdMlpIdeal.τ).loc Cert.FwdMlpIdeal.main_v4_3)),
      θ_run (Cert.FwdMlpIdeal.defs (F := Ideal)) (onTc (τ := Cert.FwdMlpIdeal.τ) (Cert.FwdMlpIdeal.main (F := Ideal))) ⟨m, fun _ => 0, g⟩ (fun r => ∀ c : Dev Cert.FwdMlpIdeal.nD,
          r.2.mem ((c.tc : Thread Cert.FwdMlpIdeal.nD Cert.FwdMlpIdeal.τ).loc Cert.FwdMlpIdeal.main_v4_0) = v0 c
          ∧ r.2.mem ((c.tc : Thread Cert.FwdMlpIdeal.nD Cert.FwdMlpIdeal.τ).loc Cert.FwdMlpIdeal.main_v4_1) = v1 c
          ∧ r.2.mem ((c.tc : Thread Cert.FwdMlpIdeal.nD Cert.FwdMlpIdeal.τ).loc Cert.FwdMlpIdeal.main_v4_2) = v2 c
          ∧ r.2.mem ((c.tc : Thread Cert.FwdMlpIdeal.nD Cert.FwdMlpIdeal.τ).loc Cert.FwdMlpIdeal.main_v4_3) = v3 c
          ∧ r.2.mem ((c.tc : Thread Cert.FwdMlpIdeal.nD Cert.FwdMlpIdeal.τ).loc Cert.FwdMlpIdeal.main_arg0) = m ((c.tc : Thread Cert.FwdMlpIdeal.nD Cert.FwdMlpIdeal.τ).loc Cert.FwdMlpIdeal.main_arg0)
          ∧ r.2.mem ((c.tc : Thread Cert.FwdMlpIdeal.nD Cert.FwdMlpIdeal.τ).loc Cert.FwdMlpIdeal.main_arg1) = m ((c.tc : Thread Cert.FwdMlpIdeal.nD Cert.FwdMlpIdeal.τ).loc Cert.FwdMlpIdeal.main_arg1)
          ∧ r.2.mem ((c.tc : Thread Cert.FwdMlpIdeal.nD Cert.FwdMlpIdeal.τ).loc Cert.FwdMlpIdeal.main_arg2) = m ((c.tc : Thread Cert.FwdMlpIdeal.nD Cert.FwdMlpIdeal.τ).loc Cert.FwdMlpIdeal.main_arg2)
          ∧ r.2.mem ((c.tc : Thread Cert.FwdMlpIdeal.nD Cert.FwdMlpIdeal.τ).loc Cert.FwdMlpIdeal.main_arg3) = m ((c.tc : Thread Cert.FwdMlpIdeal.nD Cert.FwdMlpIdeal.τ).loc Cert.FwdMlpIdeal.main_arg3)
          ∧ r.2.mem ((c.tc : Thread Cert.FwdMlpIdeal.nD Cert.FwdMlpIdeal.τ).loc Cert.FwdMlpIdeal.main_arg4) = m ((c.tc : Thread Cert.FwdMlpIdeal.nD Cert.FwdMlpIdeal.τ).loc Cert.FwdMlpIdeal.main_arg4)
          ∧ r.2.mem ((c.tc : Thread Cert.FwdMlpIdeal.nD Cert.FwdMlpIdeal.τ).loc Cert.FwdMlpIdeal.main_arg5) = m ((c.tc : Thread Cert.FwdMlpIdeal.nD Cert.FwdMlpIdeal.τ).loc Cert.FwdMlpIdeal.main_arg5))
      ∧ θ_run (Cert.FwdMlpRIdeal.defs (F := Ideal)) (onTc (τ := Cert.FwdMlpRIdeal.τ) (Cert.FwdMlpRIdeal.main (F := Ideal))) ⟨m', fun _ => 0, g'⟩ (fun r => ∀ c : Dev Cert.FwdMlpRIdeal.nD,
          r.2.mem ((c.tc : Thread Cert.FwdMlpRIdeal.nD Cert.FwdMlpRIdeal.τ).loc Cert.FwdMlpRIdeal.main_v66) = v0 c
          ∧ r.2.mem ((c.tc : Thread Cert.FwdMlpRIdeal.nD Cert.FwdMlpRIdeal.τ).loc Cert.FwdMlpRIdeal.main_v65) = v1 c
          ∧ r.2.mem ((c.tc : Thread Cert.FwdMlpRIdeal.nD Cert.FwdMlpRIdeal.τ).loc Cert.FwdMlpRIdeal.main_v49) = v2 c
          ∧ r.2.mem ((c.tc : Thread Cert.FwdMlpRIdeal.nD Cert.FwdMlpRIdeal.τ).loc Cert.FwdMlpRIdeal.main_v67) = v3 c
          ∧ r.2.mem ((c.tc : Thread Cert.FwdMlpRIdeal.nD Cert.FwdMlpRIdeal.τ).loc Cert.FwdMlpRIdeal.main_arg0) = m' ((c.tc : Thread Cert.FwdMlpRIdeal.nD Cert.FwdMlpRIdeal.τ).loc Cert.FwdMlpRIdeal.main_arg0)
          ∧ r.2.mem ((c.tc : Thread Cert.FwdMlpRIdeal.nD Cert.FwdMlpRIdeal.τ).loc Cert.FwdMlpRIdeal.main_arg1) = m' ((c.tc : Thread Cert.FwdMlpRIdeal.nD Cert.FwdMlpRIdeal.τ).loc Cert.FwdMlpRIdeal.main_arg1)
          ∧ r.2.mem ((c.tc : Thread Cert.FwdMlpRIdeal.nD Cert.FwdMlpRIdeal.τ).loc Cert.FwdMlpRIdeal.main_arg2) = m' ((c.tc : Thread Cert.FwdMlpRIdeal.nD Cert.FwdMlpRIdeal.τ).loc Cert.FwdMlpRIdeal.main_arg2)
          ∧ r.2.mem ((c.tc : Thread Cert.FwdMlpRIdeal.nD Cert.FwdMlpRIdeal.τ).loc Cert.FwdMlpRIdeal.main_arg3) = m' ((c.tc : Thread Cert.FwdMlpRIdeal.nD Cert.FwdMlpRIdeal.τ).loc Cert.FwdMlpRIdeal.main_arg3)
          ∧ r.2.mem ((c.tc : Thread Cert.FwdMlpRIdeal.nD Cert.FwdMlpRIdeal.τ).loc Cert.FwdMlpRIdeal.main_arg4) = m' ((c.tc : Thread Cert.FwdMlpRIdeal.nD Cert.FwdMlpRIdeal.τ).loc Cert.FwdMlpRIdeal.main_arg4)
          ∧ r.2.mem ((c.tc : Thread Cert.FwdMlpRIdeal.nD Cert.FwdMlpRIdeal.τ).loc Cert.FwdMlpRIdeal.main_arg5) = m' ((c.tc : Thread Cert.FwdMlpRIdeal.nD Cert.FwdMlpRIdeal.τ).loc Cert.FwdMlpRIdeal.main_arg5))

def preserves_AdamIn_AdamInIdeal : Prop :=
  True

def algebraic_AdamInIdeal_AdamInRIdeal [hAdamInIdeal : Cert.AdamInIdeal.Facts] [hAdamInRIdeal : Cert.AdamInRIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRIdeal.nD Cert.AdamInRIdeal.τ Cert.AdamInRIdeal.sig) → Buf (Elt Ideal) ℓ) (g' : Dev Cert.AdamInRIdeal.nD → PrngReg), Pre_AdamInIdeal m →
    (∀ c : Dev Cert.AdamInIdeal.nD,
      m' ((c.tc : Thread Cert.AdamInRIdeal.nD Cert.AdamInRIdeal.τ).loc Cert.AdamInRIdeal.main_arg0) = m ((c.tc : Thread Cert.AdamInIdeal.nD Cert.AdamInIdeal.τ).loc Cert.AdamInIdeal.main_arg0)
      ∧ m' ((c.tc : Thread Cert.AdamInRIdeal.nD Cert.AdamInRIdeal.τ).loc Cert.AdamInRIdeal.main_arg1) = m ((c.tc : Thread Cert.AdamInIdeal.nD Cert.AdamInIdeal.τ).loc Cert.AdamInIdeal.main_arg1)
      ∧ m' ((c.tc : Thread Cert.AdamInRIdeal.nD Cert.AdamInRIdeal.τ).loc Cert.AdamInRIdeal.main_arg2) = m ((c.tc : Thread Cert.AdamInIdeal.nD Cert.AdamInIdeal.τ).loc Cert.AdamInIdeal.main_arg2)
      ∧ m' ((c.tc : Thread Cert.AdamInRIdeal.nD Cert.AdamInRIdeal.τ).loc Cert.AdamInRIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRIdeal.defs (F := Ideal)) (onTc (τ := Cert.AdamInRIdeal.τ) (Cert.AdamInRIdeal.main (F := Ideal))) ⟨m', fun _ => 0, g'⟩ (fun r => ∀ c : Dev Cert.AdamInRIdeal.nD,
          r.2.mem ((c.tc : Thread Cert.AdamInRIdeal.nD Cert.AdamInRIdeal.τ).loc Cert.AdamInRIdeal.main_v23) = v0 c
          ∧ r.2.mem ((c.tc : Thread Cert.AdamInRIdeal.nD Cert.AdamInRIdeal.τ).loc Cert.AdamInRIdeal.main_v4) = v1 c
          ∧ r.2.mem ((c.tc : Thread Cert.AdamInRIdeal.nD Cert.AdamInRIdeal.τ).loc Cert.AdamInRIdeal.main_v10) = v2 c
          ∧ r.2.mem ((c.tc : Thread Cert.AdamInRIdeal.nD Cert.AdamInRIdeal.τ).loc Cert.AdamInRIdeal.main_arg0) = m' ((c.tc : Thread Cert.AdamInRIdeal.nD Cert.AdamInRIdeal.τ).loc Cert.AdamInRIdeal.main_arg0)
          ∧ r.2.mem ((c.tc : Thread Cert.AdamInRIdeal.nD Cert.AdamInRIdeal.τ).loc Cert.AdamInRIdeal.main_arg1) = m' ((c.tc : Thread Cert.AdamInRIdeal.nD Cert.AdamInRIdeal.τ).loc Cert.AdamInRIdeal.main_arg1)
          ∧ r.2.mem ((c.tc : Thread Cert.AdamInRIdeal.nD Cert.AdamInRIdeal.τ).loc Cert.AdamInRIdeal.main_arg2) = m' ((c.tc : Thread Cert.AdamInRIdeal.nD Cert.AdamInRIdeal.τ).loc Cert.AdamInRIdeal.main_arg2)
          ∧ r.2.mem ((c.tc : Thread Cert.AdamInRIdeal.nD Cert.AdamInRIdeal.τ).loc Cert.AdamInRIdeal.main_arg3) = m' ((c.tc : Thread Cert.AdamInRIdeal.nD Cert.AdamInRIdeal.τ).loc Cert.AdamInRIdeal.main_arg3))

def preserves_SumIn_SumInIdeal : Prop :=
  True

def algebraic_SumInIdeal_SumInRIdeal [hSumInIdeal : Cert.SumInIdeal.Facts] [hSumInRIdeal : Cert.SumInRIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRIdeal.nD Cert.SumInRIdeal.τ Cert.SumInRIdeal.sig) → Buf (Elt Ideal) ℓ) (g' : Dev Cert.SumInRIdeal.nD → PrngReg), Pre_SumInIdeal m →
    (∀ c : Dev Cert.SumInIdeal.nD,
      m' ((c.tc : Thread Cert.SumInRIdeal.nD Cert.SumInRIdeal.τ).loc Cert.SumInRIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRIdeal.defs (F := Ideal)) (onTc (τ := Cert.SumInRIdeal.τ) (Cert.SumInRIdeal.main (F := Ideal))) ⟨m', fun _ => 0, g'⟩ (fun r => ∀ c : Dev Cert.SumInRIdeal.nD,
          r.2.mem ((c.tc : Thread Cert.SumInRIdeal.nD Cert.SumInRIdeal.τ).loc Cert.SumInRIdeal.main_v1) = v0 c
          ∧ r.2.mem ((c.tc : Thread Cert.SumInRIdeal.nD Cert.SumInRIdeal.τ).loc Cert.SumInRIdeal.main_arg0) = m' ((c.tc : Thread Cert.SumInRIdeal.nD Cert.SumInRIdeal.τ).loc Cert.SumInRIdeal.main_arg0))

def preserves_SumLoss_SumLossIdeal : Prop :=
  True

def algebraic_SumLossIdeal_SumLossRIdeal [hSumLossIdeal : Cert.SumLossIdeal.Facts] [hSumLossRIdeal : Cert.SumLossRIdeal.Facts] : Prop :=
  ∀ (m : (ℓ : Loc Cert.SumLossIdeal.nD Cert.SumLossIdeal.τ Cert.SumLossIdeal.sig) → Buf (Elt Ideal) ℓ) (g : Dev Cert.SumLossIdeal.nD → PrngReg)
    (m' : (ℓ : Loc Cert.SumLossRIdeal.nD Cert.SumLossRIdeal.τ Cert.SumLossRIdeal.sig) → Buf (Elt Ideal) ℓ) (g' : Dev Cert.SumLossRIdeal.nD → PrngReg), Pre_SumLossIdeal m →
    (∀ c : Dev Cert.SumLossIdeal.nD,
      m' ((c.tc : Thread Cert.SumLossRIdeal.nD Cert.SumLossRIdeal.τ).loc Cert.SumLossRIdeal.main_arg0) = m ((c.tc : Thread Cert.SumLossIdeal.nD Cert.SumLossIdeal.τ).loc Cert.SumLossIdeal.main_arg0)) →
    ∃ (v0 : (c : Dev Cert.SumLossIdeal.nD) → Buf (Elt Ideal) ((c.tc : Thread Cert.SumLossIdeal.nD Cert.SumLossIdeal.τ).loc Cert.SumLossIdeal.main_v0)),
      θ_run (Cert.SumLossIdeal.defs (F := Ideal)) (onTc (τ := Cert.SumLossIdeal.τ) (Cert.SumLossIdeal.main (F := Ideal))) ⟨m, fun _ => 0, g⟩ (fun r => ∀ c : Dev Cert.SumLossIdeal.nD,
          r.2.mem ((c.tc : Thread Cert.SumLossIdeal.nD Cert.SumLossIdeal.τ).loc Cert.SumLossIdeal.main_v0) = v0 c
          ∧ r.2.mem ((c.tc : Thread Cert.SumLossIdeal.nD Cert.SumLossIdeal.τ).loc Cert.SumLossIdeal.main_arg0) = m ((c.tc : Thread Cert.SumLossIdeal.nD Cert.SumLossIdeal.τ).loc Cert.SumLossIdeal.main_arg0))
      ∧ θ_run (Cert.SumLossRIdeal.defs (F := Ideal)) (onTc (τ := Cert.SumLossRIdeal.τ) (Cert.SumLossRIdeal.main (F := Ideal))) ⟨m', fun _ => 0, g'⟩ (fun r => ∀ c : Dev Cert.SumLossRIdeal.nD,
          r.2.mem ((c.tc : Thread Cert.SumLossRIdeal.nD Cert.SumLossRIdeal.τ).loc Cert.SumLossRIdeal.main_v0) = v0 c
          ∧ r.2.mem ((c.tc : Thread Cert.SumLossRIdeal.nD Cert.SumLossRIdeal.τ).loc Cert.SumLossRIdeal.main_arg0) = m' ((c.tc : Thread Cert.SumLossRIdeal.nD Cert.SumLossRIdeal.τ).loc Cert.SumLossRIdeal.main_arg0))

def Claim : Prop :=
  ∃ (hKernel : Cert.Kernel.Facts) (hKernelIdeal : Cert.KernelIdeal.Facts) (hReferenceIdeal : Cert.ReferenceIdeal.Facts) (hGwUp : Cert.GwUp.Facts) (hGwUpIdeal : Cert.GwUpIdeal.Facts) (hGwUpRIdeal : Cert.GwUpRIdeal.Facts) (hGwDown : Cert.GwDown.Facts) (hGwDownIdeal : Cert.GwDownIdeal.Facts) (hGwDownRIdeal : Cert.GwDownRIdeal.Facts) (hGwOut : Cert.GwOut.Facts) (hGwOutIdeal : Cert.GwOutIdeal.Facts) (hGwOutRIdeal : Cert.GwOutRIdeal.Facts) (hGwIn : Cert.GwIn.Facts) (hGwInIdeal : Cert.GwInIdeal.Facts) (hGwInRIdeal : Cert.GwInRIdeal.Facts) (hBwdMix : Cert.BwdMix.Facts) (hBwdMixIdeal : Cert.BwdMixIdeal.Facts) (hBwdMixRIdeal : Cert.BwdMixRIdeal.Facts) (hBwdIn : Cert.BwdIn.Facts) (hBwdInIdeal : Cert.BwdInIdeal.Facts) (hBwdInRIdeal : Cert.BwdInRIdeal.Facts) (hFwdIn : Cert.FwdIn.Facts) (hFwdInIdeal : Cert.FwdInIdeal.Facts) (hFwdInRIdeal : Cert.FwdInRIdeal.Facts) (hFwdMix : Cert.FwdMix.Facts) (hFwdMixIdeal : Cert.FwdMixIdeal.Facts) (hFwdMixRIdeal : Cert.FwdMixRIdeal.Facts) (hBwdMlp : Cert.BwdMlp.Facts) (hBwdMlpIdeal : Cert.BwdMlpIdeal.Facts) (hBwdMlpRIdeal : Cert.BwdMlpRIdeal.Facts) (hFwdMlp : Cert.FwdMlp.Facts) (hFwdMlpIdeal : Cert.FwdMlpIdeal.Facts) (hFwdMlpRIdeal : Cert.FwdMlpRIdeal.Facts) (hAdamIn : Cert.AdamIn.Facts) (hAdamInIdeal : Cert.AdamInIdeal.Facts) (hAdamInRIdeal : Cert.AdamInRIdeal.Facts) (hSumIn : Cert.SumIn.Facts) (hSumInIdeal : Cert.SumInIdeal.Facts) (hSumInRIdeal : Cert.SumInRIdeal.Facts) (hSumLoss : Cert.SumLoss.Facts) (hSumLossIdeal : Cert.SumLossIdeal.Facts) (hSumLossRIdeal : Cert.SumLossRIdeal.Facts),
    quiescent_Kernel (hKernel := hKernel)
    ∧ quiescent_KernelIdeal (hKernelIdeal := hKernelIdeal)
    ∧ quiescent_ReferenceIdeal (hReferenceIdeal := hReferenceIdeal)
    ∧ quiescent_GwUp (hGwUp := hGwUp)
    ∧ quiescent_GwUpIdeal (hGwUpIdeal := hGwUpIdeal)
    ∧ quiescent_GwUpRIdeal (hGwUpRIdeal := hGwUpRIdeal)
    ∧ quiescent_GwDown (hGwDown := hGwDown)
    ∧ quiescent_GwDownIdeal (hGwDownIdeal := hGwDownIdeal)
    ∧ quiescent_GwDownRIdeal (hGwDownRIdeal := hGwDownRIdeal)
    ∧ quiescent_GwOut (hGwOut := hGwOut)
    ∧ quiescent_GwOutIdeal (hGwOutIdeal := hGwOutIdeal)
    ∧ quiescent_GwOutRIdeal (hGwOutRIdeal := hGwOutRIdeal)
    ∧ quiescent_GwIn (hGwIn := hGwIn)
    ∧ quiescent_GwInIdeal (hGwInIdeal := hGwInIdeal)
    ∧ quiescent_GwInRIdeal (hGwInRIdeal := hGwInRIdeal)
    ∧ quiescent_BwdMix (hBwdMix := hBwdMix)
    ∧ quiescent_BwdMixIdeal (hBwdMixIdeal := hBwdMixIdeal)
    ∧ quiescent_BwdMixRIdeal (hBwdMixRIdeal := hBwdMixRIdeal)
    ∧ quiescent_BwdIn (hBwdIn := hBwdIn)
    ∧ quiescent_BwdInIdeal (hBwdInIdeal := hBwdInIdeal)
    ∧ quiescent_BwdInRIdeal (hBwdInRIdeal := hBwdInRIdeal)
    ∧ quiescent_FwdIn (hFwdIn := hFwdIn)
    ∧ quiescent_FwdInIdeal (hFwdInIdeal := hFwdInIdeal)
    ∧ quiescent_FwdInRIdeal (hFwdInRIdeal := hFwdInRIdeal)
    ∧ quiescent_FwdMix (hFwdMix := hFwdMix)
    ∧ quiescent_FwdMixIdeal (hFwdMixIdeal := hFwdMixIdeal)
    ∧ quiescent_FwdMixRIdeal (hFwdMixRIdeal := hFwdMixRIdeal)
    ∧ quiescent_BwdMlp (hBwdMlp := hBwdMlp)
    ∧ quiescent_BwdMlpIdeal (hBwdMlpIdeal := hBwdMlpIdeal)
    ∧ quiescent_BwdMlpRIdeal (hBwdMlpRIdeal := hBwdMlpRIdeal)
    ∧ quiescent_FwdMlp (hFwdMlp := hFwdMlp)
    ∧ quiescent_FwdMlpIdeal (hFwdMlpIdeal := hFwdMlpIdeal)
    ∧ quiescent_FwdMlpRIdeal (hFwdMlpRIdeal := hFwdMlpRIdeal)
    ∧ quiescent_AdamIn (hAdamIn := hAdamIn)
    ∧ quiescent_AdamInIdeal (hAdamInIdeal := hAdamInIdeal)
    ∧ quiescent_AdamInRIdeal (hAdamInRIdeal := hAdamInRIdeal)
    ∧ quiescent_SumIn (hSumIn := hSumIn)
    ∧ quiescent_SumInIdeal (hSumInIdeal := hSumInIdeal)
    ∧ quiescent_SumInRIdeal (hSumInRIdeal := hSumInRIdeal)
    ∧ quiescent_SumLoss (hSumLoss := hSumLoss)
    ∧ quiescent_SumLossIdeal (hSumLossIdeal := hSumLossIdeal)
    ∧ quiescent_SumLossRIdeal (hSumLossRIdeal := hSumLossRIdeal)
    ∧ preserves_Kernel_KernelIdeal
    ∧ preserves_GwUp_GwUpIdeal
    ∧ algebraic_GwUpIdeal_GwUpRIdeal (hGwUpIdeal := hGwUpIdeal) (hGwUpRIdeal := hGwUpRIdeal)
    ∧ preserves_GwDown_GwDownIdeal
    ∧ algebraic_GwDownIdeal_GwDownRIdeal (hGwDownIdeal := hGwDownIdeal) (hGwDownRIdeal := hGwDownRIdeal)
    ∧ preserves_GwOut_GwOutIdeal
    ∧ algebraic_GwOutIdeal_GwOutRIdeal (hGwOutIdeal := hGwOutIdeal) (hGwOutRIdeal := hGwOutRIdeal)
    ∧ preserves_GwIn_GwInIdeal
    ∧ algebraic_GwInIdeal_GwInRIdeal (hGwInIdeal := hGwInIdeal) (hGwInRIdeal := hGwInRIdeal)
    ∧ preserves_BwdMix_BwdMixIdeal
    ∧ algebraic_BwdMixIdeal_BwdMixRIdeal (hBwdMixIdeal := hBwdMixIdeal) (hBwdMixRIdeal := hBwdMixRIdeal)
    ∧ preserves_BwdIn_BwdInIdeal
    ∧ algebraic_BwdInIdeal_BwdInRIdeal (hBwdInIdeal := hBwdInIdeal) (hBwdInRIdeal := hBwdInRIdeal)
    ∧ preserves_FwdIn_FwdInIdeal
    ∧ algebraic_FwdInIdeal_FwdInRIdeal (hFwdInIdeal := hFwdInIdeal) (hFwdInRIdeal := hFwdInRIdeal)
    ∧ preserves_FwdMix_FwdMixIdeal
    ∧ algebraic_FwdMixIdeal_FwdMixRIdeal (hFwdMixIdeal := hFwdMixIdeal) (hFwdMixRIdeal := hFwdMixRIdeal)
    ∧ preserves_BwdMlp_BwdMlpIdeal
    ∧ algebraic_BwdMlpIdeal_BwdMlpRIdeal (hBwdMlpIdeal := hBwdMlpIdeal) (hBwdMlpRIdeal := hBwdMlpRIdeal)
    ∧ preserves_FwdMlp_FwdMlpIdeal
    ∧ algebraic_FwdMlpIdeal_FwdMlpRIdeal (hFwdMlpIdeal := hFwdMlpIdeal) (hFwdMlpRIdeal := hFwdMlpRIdeal)
    ∧ preserves_AdamIn_AdamInIdeal
    ∧ algebraic_AdamInIdeal_AdamInRIdeal (hAdamInIdeal := hAdamInIdeal) (hAdamInRIdeal := hAdamInRIdeal)
    ∧ preserves_SumIn_SumInIdeal
    ∧ algebraic_SumInIdeal_SumInRIdeal (hSumInIdeal := hSumInIdeal) (hSumInRIdeal := hSumInRIdeal)
    ∧ preserves_SumLoss_SumLossIdeal
    ∧ algebraic_SumLossIdeal_SumLossRIdeal (hSumLossIdeal := hSumLossIdeal) (hSumLossRIdeal := hSumLossRIdeal)
-- ==== Kernel.lean ====
abbrev S8192x1536 : Shape := ⟨2, ![8192, 1536]⟩
abbrev S8192x512 : Shape := ⟨2, ![8192, 512]⟩
abbrev S2x4096x8x64 : Shape := ⟨4, ![2, 4096, 8, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S128 : Shape := ⟨1, ![128]⟩
abbrev S1x128 : Shape := ⟨2, ![1, 128]⟩
abbrev S4096x128 : Shape := ⟨2, ![4096, 128]⟩
abbrev S2x8x4096x4096x1 : Shape := ⟨5, ![2, 8, 4096, 4096, 1]⟩
abbrev S2x8x4096x4096x128 : Shape := ⟨5, ![2, 8, 4096, 4096, 128]⟩
abbrev S2x8x4096x128 : Shape := ⟨4, ![2, 8, 4096, 128]⟩
abbrev S2x4096x8x128 : Shape := ⟨4, ![2, 4096, 8, 128]⟩
abbrev S8192x1024 : Shape := ⟨2, ![8192, 1024]⟩
abbrev S256x256 : Shape := ⟨2, ![256, 256]⟩
abbrev S256x128 : Shape := ⟨2, ![256, 128]⟩
abbrev S16x128x256 : Shape := ⟨3, ![16, 128, 256]⟩
abbrev S128x256 : Shape := ⟨2, ![128, 256]⟩
abbrev S128x512 : Shape := ⟨2, ![128, 512]⟩
abbrev S256x1 : Shape := ⟨2, ![256, 1]⟩
abbrev S256 : Shape := ⟨1, ![256]⟩
abbrev S1x128x256 : Shape := ⟨3, ![1, 128, 256]⟩
abbrev S512x256 : Shape := ⟨2, ![512, 256]⟩

abbrev nBuf : Space → Nat
  | .hbm => 77
  | .vmem => 20
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S2x4096x8x64, .f32⟩
  | .hbm, ⟨7, _⟩ => ⟨S2x4096x8x64, .f32⟩
  | .hbm, ⟨8, _⟩ => ⟨S2x4096x8x64, .f32⟩
  | .hbm, ⟨9, _⟩ => ⟨S2x8x4096x4096, .f32⟩
  | .hbm, ⟨10, _⟩ => ⟨S_, .f32⟩
  | .hbm, ⟨11, _⟩ => ⟨S2x8x4096x4096, .f32⟩
  | .hbm, ⟨12, _⟩ => ⟨S2x8x4096x4096, .f32⟩
  | .hbm, ⟨13, _⟩ => ⟨S4096, .i32⟩
  | .hbm, ⟨14, _⟩ => ⟨S1x4096, .i32⟩
  | .hbm, ⟨15, _⟩ => ⟨S4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S2x8x4096x4096, .f32⟩
  | .hbm, ⟨21, _⟩ => ⟨S2x8x4096x4096, .f32⟩
  | .hbm, ⟨22, _⟩ => ⟨S_, .f32⟩
  | .hbm, ⟨23, _⟩ => ⟨S2x8x4096x4096, .f32⟩
  | .hbm, ⟨24, _⟩ => ⟨S2x8x4096x4096, .f32⟩
  | .hbm, ⟨25, _⟩ => ⟨S2x8x4096x4096, .f32⟩
  | .hbm, ⟨26, _⟩ => ⟨S2x8x4096x4096, .f32⟩
  | .hbm, ⟨27, _⟩ => ⟨S2x8x4096x4096, .i1⟩
  | .hbm, ⟨28, _⟩ => ⟨S2x8x4096x4096, .f32⟩
  | .hbm, ⟨29, _⟩ => ⟨S2x8x4096x4096, .f32⟩
  | .hbm, ⟨30, _⟩ => ⟨S2x8x4096x4096, .f32⟩
  | .hbm, ⟨31, _⟩ => ⟨S2x8x4096x4096, .f32⟩
  | .hbm, ⟨32, _⟩ => ⟨S2x8x4096x4096, .f32⟩
  | .hbm, ⟨33, _⟩ => ⟨S2x8x4096x4096, .f32⟩
  | .hbm, ⟨34, _⟩ => ⟨S2x8x4096x4096, .f32⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S_, .f32⟩
  | .hbm, ⟨39, _⟩ => ⟨S2x8x4096x4096, .i1⟩
  | .hbm, ⟨40, _⟩ => ⟨S2x8x4096x4096, .f32⟩
  | .hbm, ⟨41, _⟩ => ⟨S2x8x4096x4096, .f32⟩
  | .hbm, ⟨42, _⟩ => ⟨S4096, .i32⟩
  | .hbm, ⟨43, _⟩ => ⟨S4096x1, .i32⟩
  | .hbm, ⟨44, _⟩ => ⟨S128, .i32⟩
  | .hbm, ⟨45, _⟩ => ⟨S1x128, .i32⟩
  | .hbm, ⟨46, _⟩ => ⟨S_, .i32⟩
  | .hbm, ⟨47, _⟩ => ⟨S1x128, .i32⟩
  | .hbm, ⟨48, _⟩ => ⟨S1x128, .i32⟩
  | .hbm, ⟨49, _⟩ => ⟨S_, .i32⟩
  | .hbm, ⟨50, _⟩ => ⟨S1x128, .i32⟩
  | .hbm, ⟨51, _⟩ => ⟨S1x128, .i32⟩
  | .hbm, ⟨52, _⟩ => ⟨S4096x128, .i32⟩
  | .hbm, ⟨53, _⟩ => ⟨S4096x128, .i32⟩
  | .hbm, ⟨54, _⟩ => ⟨S4096x128, .i1⟩
  | .hbm, ⟨55, _⟩ => ⟨S2x8x4096x4096x1, .f32⟩
  | .hbm, ⟨56, _⟩ => ⟨S_, .f32⟩
  | .hbm, ⟨57, _⟩ => ⟨S_, .f32⟩
  | .hbm, ⟨58, _⟩ => ⟨S2x8x4096x4096x128, .i1⟩
  | .hbm, ⟨59, _⟩ => ⟨S2x8x4096x4096x128, .f32⟩
  | .hbm, ⟨60, _⟩ => ⟨S2x8x4096x4096x128, .f32⟩
  | .hbm, ⟨61, _⟩ => ⟨S2x8x4096x4096x128, .f32⟩
  | .hbm, ⟨62, _⟩ => ⟨S_, .f32⟩
  | .hbm, ⟨63, _⟩ => ⟨S2x8x4096x128, .f32⟩
  | .hbm, ⟨64, _⟩ => ⟨S2x4096x8x128, .f32⟩
  | .hbm, ⟨65, _⟩ => ⟨S8192x1024, .f32⟩
  | .hbm, ⟨66, _⟩ => ⟨S256x256, .i32⟩
  | .hbm, ⟨67, _⟩ => ⟨S256x256, .i32⟩
  | .hbm, ⟨68, _⟩ => ⟨S256x256, .i1⟩
  | .hbm, ⟨69, _⟩ => ⟨S256x256, .bf16⟩
  | .hbm, ⟨70, _⟩ => ⟨S256x256, .i32⟩
  | .hbm, ⟨71, _⟩ => ⟨S256x256, .i32⟩
  | .hbm, ⟨72, _⟩ => ⟨S256x256, .i1⟩
  | .hbm, ⟨73, _⟩ => ⟨S256x256, .bf16⟩
  | .hbm, ⟨74, _⟩ => ⟨S8192x512, .bf16⟩
  | .hbm, ⟨75, _⟩ => ⟨S8192x512, .bf16⟩
  | .hbm, ⟨76, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x256, .f32⟩
  | .local _ .vmem, ⟨7, _⟩ => ⟨S256x256, .f32⟩
  | .local _ .vmem, ⟨8, _⟩ => ⟨S256x128, .bf16⟩
  | .local _ .vmem, ⟨9, _⟩ => ⟨S256x128, .bf16⟩
  | .local _ .vmem, ⟨10, _⟩ => ⟨S256x256, .bf16⟩
  | .local _ .vmem, ⟨11, _⟩ => ⟨S256x256, .bf16⟩
  | .local _ .vmem, ⟨12, _⟩ => ⟨S256x128, .bf16⟩
  | .local _ .vmem, ⟨13, _⟩ => ⟨S256x128, .bf16⟩
  | .local _ .vmem, ⟨14, _⟩ => ⟨S4096x128, .bf16⟩
  | .local _ .vmem, ⟨15, _⟩ => ⟨S4096x128, .bf16⟩
  | .local _ .vmem, ⟨16, _⟩ => ⟨S4096x128, .bf16⟩
  | .local _ .vmem, ⟨17, _⟩ => ⟨S4096x128, .bf16⟩
  | .local _ .vmem, ⟨18, _⟩ => ⟨S16x128x256, .f32⟩
  | .local _ .vmem, ⟨19, _⟩ => ⟨S16x128x256, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v18 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_c : Ref sig .tc := ⟨.hbm, 46, rfl⟩
abbrev main_v24 : Ref sig .tc := ⟨.hbm, 47, rfl⟩
abbrev main_v25 : Ref sig .tc := ⟨.hbm, 48, rfl⟩
abbrev main_c_1 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_2 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_v32 : Ref sig .tc := ⟨.hbm, 61, rfl⟩
abbrev main_cst_3 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44_0 : Ref sig .tc := ⟨.hbm, 74, rfl⟩
abbrev main_v44_1 : Ref sig .tc := ⟨.hbm, 75, rfl⟩
abbrev main_v44_2 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_44 : BitVec 32 := 1#32
  ⟨c0_i32_42, v130, c1_i32_44⟩
def k0_mult1 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c0_i32_73 : BitVec 32 := 0#32
  let v186 : BitVec 32 := Scalar.addi v185 c0_i32_73
  let c256_i32_80 : BitVec 32 := 256#32
  let v194 : BitVec 32 := Scalar.muli v186 c256_i32_80
  v194
def k0_off1 (i : grid0.Coords) (k0_t1 : Fin (k0_t1_loop i).trips) (c0_i32_73 : BitVec 32) : Fin 2 → Nat :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let v186 : BitVec 32 := Scalar.addi v185 c0_i32_73
  let c256_i32_80 : BitVec 32 := 256#32
  let v194 : BitVec 32 := Scalar.muli v186 c256_i32_80
  let v195 : BitVec 32 := v194
  let v196 : Index := Scalar.indexCast v195
  let c0_81 : Index := 0#32
  ![v196.toNat, 0]
def k0_mult2 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c1_i32_75 : BitVec 32 := 1#32
  let v188 : BitVec 32 := Scalar.addi v185 c1_i32_75
  let c256_i32_82 : BitVec 32 := 256#32
  let v198 : BitVec 32 := Scalar.muli v188 c256_i32_82
  v198
def k0_mult3 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c2_i32_77 : BitVec 32 := 2#32
  let v190 : BitVec 32 := Scalar.addi v185 c2_i32_77
  let c256_i32_84 : BitVec 32 := 256#32
  let v202 : BitVec 32 := Scalar.muli v190 c256_i32_84
  v202
def k0_mult4 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c3_i32 : BitVec 32 := 3#32
  let v192 : BitVec 32 := Scalar.addi v185 c3_i32
  let c256_i32_86 : BitVec 32 := 256#32
  let v206 : BitVec 32 := Scalar.muli v192 c256_i32_86
  v206
def k0_mult5 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c0_i32_73 : BitVec 32 := 0#32
  let v186 : BitVec 32 := Scalar.addi v185 c0_i32_73
  let c256_i32_88 : BitVec 32 := 256#32
  let v210 : BitVec 32 := Scalar.muli v186 c256_i32_88
  v210
def k0_mult6 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c1_i32_75 : BitVec 32 := 1#32
  let v188 : BitVec 32 := Scalar.addi v185 c1_i32_75
  let c256_i32_90 : BitVec 32 := 256#32
  let v214 : BitVec 32 := Scalar.muli v188 c256_i32_90
  v214
def k0_mult7 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c2_i32_77 : BitVec 32 := 2#32
  let v190 : BitVec 32 := Scalar.addi v185 c2_i32_77
  let c256_i32_92 : BitVec 32 := 256#32
  let v218 : BitVec 32 := Scalar.muli v190 c256_i32_92
  v218
def k0_mult8 (i : grid0.Coords) (k0_t1 : Fin (k0_t1_loop i).trips) : BitVec 32 :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let c3_i32 : BitVec 32 := 3#32
  let v192 : BitVec 32 := Scalar.addi v185 c3_i32
  let c256_i32_94 : BitVec 32 := 256#32
  let v222 : BitVec 32 := Scalar.muli v192 c256_i32_94
  v222
def k0_off2 (i : grid0.Coords) (k0_t1 : Fin (k0_t1_loop i).trips) (c0_i32_73 : BitVec 32) : Fin 3 → Nat :=
  let c4_i32 : BitVec 32 := 4#32
  let c0_i32_42 : BitVec 32 := 0#32
  let c1_i32_44 : BitVec 32 := 1#32
  let arg15 : BitVec 32 := Scf.iv c0_i32_42 c1_i32_44 k0_t1
  let v185 : BitVec 32 := Scalar.muli c4_i32 arg15
  let v186 : BitVec 32 := Scalar.addi v185 c0_i32_73
  let v634 : Index := Scalar.indexCast v186
  let c0_224 : Index := 0#32
  let c0_225 : Index := 0#32
  ![v634.toNat, 0, 0]
@[reducible] def k0_t2_loop (i : grid0.Coords) : Scf.Loop 32 :=
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let v127 : BitVec 32 := Scalar.addi c0_i32_42 v126
  let c1_i32_45 : BitVec 32 := 1#32
  ⟨v130, v127, c1_i32_45⟩
def k0_mult9 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c0_i32_73 : BitVec 32 := 0#32
  let v186 : BitVec 32 := Scalar.addi v185 c0_i32_73
  let c256_i32_80 : BitVec 32 := 256#32
  let v194 : BitVec 32 := Scalar.muli v186 c256_i32_80
  v194
def k0_off3 (i : grid0.Coords) (k0_t2 : Fin (k0_t2_loop i).trips) (c0_i32_73 : BitVec 32) : Fin 2 → Nat :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let v186 : BitVec 32 := Scalar.addi v185 c0_i32_73
  let c256_i32_80 : BitVec 32 := 256#32
  let v194 : BitVec 32 := Scalar.muli v186 c256_i32_80
  let v195 : BitVec 32 := v194
  let v196 : Index := Scalar.indexCast v195
  let c0_81 : Index := 0#32
  ![v196.toNat, 0]
def k0_mult10 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c1_i32_75 : BitVec 32 := 1#32
  let v188 : BitVec 32 := Scalar.addi v185 c1_i32_75
  let c256_i32_82 : BitVec 32 := 256#32
  let v198 : BitVec 32 := Scalar.muli v188 c256_i32_82
  v198
def k0_mult11 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c2_i32_77 : BitVec 32 := 2#32
  let v190 : BitVec 32 := Scalar.addi v185 c2_i32_77
  let c256_i32_84 : BitVec 32 := 256#32
  let v202 : BitVec 32 := Scalar.muli v190 c256_i32_84
  v202
def k0_mult12 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c3_i32 : BitVec 32 := 3#32
  let v192 : BitVec 32 := Scalar.addi v185 c3_i32
  let c256_i32_86 : BitVec 32 := 256#32
  let v206 : BitVec 32 := Scalar.muli v192 c256_i32_86
  v206
def k0_mult13 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c0_i32_73 : BitVec 32 := 0#32
  let v186 : BitVec 32 := Scalar.addi v185 c0_i32_73
  let c256_i32_88 : BitVec 32 := 256#32
  let v210 : BitVec 32 := Scalar.muli v186 c256_i32_88
  v210
def k0_mult14 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c1_i32_75 : BitVec 32 := 1#32
  let v188 : BitVec 32 := Scalar.addi v185 c1_i32_75
  let c256_i32_90 : BitVec 32 := 256#32
  let v214 : BitVec 32 := Scalar.muli v188 c256_i32_90
  v214
def k0_mult15 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c2_i32_77 : BitVec 32 := 2#32
  let v190 : BitVec 32 := Scalar.addi v185 c2_i32_77
  let c256_i32_92 : BitVec 32 := 256#32
  let v218 : BitVec 32 := Scalar.muli v190 c256_i32_92
  v218
def k0_mult16 (i : grid0.Coords) (k0_t2 : Fin (k0_t2_loop i).trips) : BitVec 32 :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let c3_i32 : BitVec 32 := 3#32
  let v192 : BitVec 32 := Scalar.addi v185 c3_i32
  let c256_i32_94 : BitVec 32 := 256#32
  let v222 : BitVec 32 := Scalar.muli v192 c256_i32_94
  v222
def k0_off4 (i : grid0.Coords) (k0_t2 : Fin (k0_t2_loop i).trips) (c0_i32_73 : BitVec 32) : Fin 3 → Nat :=
  let c4_i32 : BitVec 32 := 4#32
  let c0_i32_42 : BitVec 32 := 0#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v126 : BitVec 32 := Scalar.subi v124 c0_i32_42
  let c1_i32_43 : BitVec 32 := 1#32
  let v128 : BitVec 32 := Scalar.divsi v126 c1_i32_43
  let v129 : BitVec 32 := Scalar.muli v128 c1_i32_43
  let v130 : BitVec 32 := Scalar.addi c0_i32_42 v129
  let c1_i32_45 : BitVec 32 := 1#32
  let arg15 : BitVec 32 := Scf.iv v130 c1_i32_45 k0_t2
  let v185 : BitVec 32 := Scalar.muli c4_i32 arg15
  let v186 : BitVec 32 := Scalar.addi v185 c0_i32_73
  let v634 : Index := Scalar.indexCast v186
  let c0_224 : Index := 0#32
  let c0_225 : Index := 0#32
  ![v634.toNat, 0, 0]
def k0_cond2 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_47 : BitVec 32 := 0#32
  let v134 : BitVec 1 := Scalar.cmpi .sgt v16 c0_i32_47
  let v135 : BitVec 32 := Scalar.extui v134
  let c0_i32_48 : BitVec 32 := 0#32
  let v136 : BitVec 1 := Scalar.cmpi .slt v16 c0_i32_48
  let v137 : BitVec 32 := Scalar.extui v136
  let v138 : BitVec 32 := Scalar.subi v135 v137
  let c2_i32_46 : BitVec 32 := 2#32
  let c0_i32_49 : BitVec 32 := 0#32
  let v139 : BitVec 1 := Scalar.cmpi .sgt c2_i32_46 c0_i32_49
  let v140 : BitVec 32 := Scalar.extui v139
  let c0_i32_50 : BitVec 32 := 0#32
  let v141 : BitVec 1 := Scalar.cmpi .slt c2_i32_46 c0_i32_50
  let v142 : BitVec 32 := Scalar.extui v141
  let v143 : BitVec 32 := Scalar.subi v140 v142
  let v144 : BitVec 1 := Scalar.cmpi .ne v138 v143
  let v145 : BitVec 32 := Scalar.remsi v16 c2_i32_46
  let c0_i32_51 : BitVec 32 := 0#32
  let v146 : BitVec 1 := Scalar.cmpi .ne v145 c0_i32_51
  let v147 : BitVec 1 := Scalar.andi v144 v146
  let v133 : BitVec 32 := Scalar.divsi v16 c2_i32_46
  let c1_i32_52 : BitVec 32 := 1#32
  let v148 : BitVec 32 := Scalar.subi v133 c1_i32_52
  let v149 : BitVec 32 := Scalar.select v147 v148 v133
  let c2_i32_53 : BitVec 32 := 2#32
  let c0_i32_54 : BitVec 32 := 0#32
  let v150 : BitVec 1 := Scalar.cmpi .eq c2_i32_53 c0_i32_54
  let c1_i32_55 : BitVec 32 := 1#32
  let v151 : BitVec 32 := Scalar.select v150 c1_i32_55 c2_i32_53
  let v152 : BitVec 32 := Scalar.remsi v149 v151
  let c0_i32_57 : BitVec 32 := 0#32
  let v154 : BitVec 1 := Scalar.cmpi .slt v152 c0_i32_57
  let c0_i32_58 : BitVec 32 := 0#32
  let v155 : BitVec 1 := Scalar.cmpi .slt v151 c0_i32_58
  let v156 : BitVec 1 := Scalar.xori v154 v155
  let c0_i32_56 : BitVec 32 := 0#32
  let v153 : BitVec 1 := Scalar.cmpi .ne v152 c0_i32_56
  let v157 : BitVec 1 := Scalar.andi v156 v153
  let v158 : BitVec 32 := Scalar.addi v152 v151
  let v159 : BitVec 32 := Scalar.select v157 v158 v152
  let c1_i32_59 : BitVec 32 := 1#32
  let v160 : BitVec 1 := Scalar.cmpi .eq v159 c1_i32_59
  let v161 : BitVec 32 := Scalar.extui v160
  let c0_i32_60 : BitVec 32 := 0#32
  let v162 : BitVec 1 := Scalar.cmpi .ne v161 c0_i32_60
  v162

def k0_mult17 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let c0_i32_73 : BitVec 32 := 0#32
  let v186 : BitVec 32 := Scalar.addi v185 c0_i32_73
  let c256_i32_77 : BitVec 32 := 256#32
  let v190 : BitVec 32 := Scalar.muli v186 c256_i32_77
  v190
def k0_off5 (i : grid0.Coords) (c0_i32_73 : BitVec 32) : Fin 2 → Nat :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let v186 : BitVec 32 := Scalar.addi v185 c0_i32_73
  let c256_i32_77 : BitVec 32 := 256#32
  let v190 : BitVec 32 := Scalar.muli v186 c256_i32_77
  let v191 : BitVec 32 := v190
  let v192 : Index := Scalar.indexCast v191
  let c0_78 : Index := 0#32
  ![v192.toNat, 0]
def k0_mult18 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let c1_i32_75 : BitVec 32 := 1#32
  let v188 : BitVec 32 := Scalar.addi v185 c1_i32_75
  let c256_i32_79 : BitVec 32 := 256#32
  let v194 : BitVec 32 := Scalar.muli v188 c256_i32_79
  v194
def k0_mult19 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let c0_i32_73 : BitVec 32 := 0#32
  let v186 : BitVec 32 := Scalar.addi v185 c0_i32_73
  let c256_i32_81 : BitVec 32 := 256#32
  let v198 : BitVec 32 := Scalar.muli v186 c256_i32_81
  v198
def k0_mult20 (i : grid0.Coords) : BitVec 32 :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let c1_i32_75 : BitVec 32 := 1#32
  let v188 : BitVec 32 := Scalar.addi v185 c1_i32_75
  let c256_i32_83 : BitVec 32 := 256#32
  let v202 : BitVec 32 := Scalar.muli v188 c256_i32_83
  v202
def k0_off6 (i : grid0.Coords) (c0_i32_73 : BitVec 32) : Fin 3 → Nat :=
  let c4_i32 : BitVec 32 := 4#32
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c0_i32_28 : BitVec 32 := 0#32
  let v92 : BitVec 1 := Scalar.cmpi .sgt v16 c0_i32_28
  let v93 : BitVec 32 := Scalar.extui v92
  let c0_i32_29 : BitVec 32 := 0#32
  let v94 : BitVec 1 := Scalar.cmpi .slt v16 c0_i32_29
  let v95 : BitVec 32 := Scalar.extui v94
  let v96 : BitVec 32 := Scalar.subi v93 v95
  let c2_i32 : BitVec 32 := 2#32
  let c0_i32_30 : BitVec 32 := 0#32
  let v97 : BitVec 1 := Scalar.cmpi .sgt c2_i32 c0_i32_30
  let v98 : BitVec 32 := Scalar.extui v97
  let c0_i32_31 : BitVec 32 := 0#32
  let v99 : BitVec 1 := Scalar.cmpi .slt c2_i32 c0_i32_31
  let v100 : BitVec 32 := Scalar.extui v99
  let v101 : BitVec 32 := Scalar.subi v98 v100
  let v102 : BitVec 1 := Scalar.cmpi .ne v96 v101
  let v103 : BitVec 32 := Scalar.remsi v16 c2_i32
  let c0_i32_32 : BitVec 32 := 0#32
  let v104 : BitVec 1 := Scalar.cmpi .ne v103 c0_i32_32
  let v105 : BitVec 1 := Scalar.andi v102 v104
  let v91 : BitVec 32 := Scalar.divsi v16 c2_i32
  let c1_i32_33 : BitVec 32 := 1#32
  let v106 : BitVec 32 := Scalar.subi v91 c1_i32_33
  let v107 : BitVec 32 := Scalar.select v105 v106 v91
  let c0_i32_35 : BitVec 32 := 0#32
  let v109 : BitVec 1 := Scalar.cmpi .sgt v107 c0_i32_35
  let v110 : BitVec 32 := Scalar.extui v109
  let c0_i32_36 : BitVec 32 := 0#32
  let v111 : BitVec 1 := Scalar.cmpi .slt v107 c0_i32_36
  let v112 : BitVec 32 := Scalar.extui v111
  let v113 : BitVec 32 := Scalar.subi v110 v112
  let c2_i32_34 : BitVec 32 := 2#32
  let c0_i32_37 : BitVec 32 := 0#32
  let v114 : BitVec 1 := Scalar.cmpi .sgt c2_i32_34 c0_i32_37
  let v115 : BitVec 32 := Scalar.extui v114
  let c0_i32_38 : BitVec 32 := 0#32
  let v116 : BitVec 1 := Scalar.cmpi .slt c2_i32_34 c0_i32_38
  let v117 : BitVec 32 := Scalar.extui v116
  let v118 : BitVec 32 := Scalar.subi v115 v117
  let v119 : BitVec 1 := Scalar.cmpi .ne v113 v118
  let v120 : BitVec 32 := Scalar.remsi v107 c2_i32_34
  let c0_i32_39 : BitVec 32 := 0#32
  let v121 : BitVec 1 := Scalar.cmpi .ne v120 c0_i32_39
  let v122 : BitVec 1 := Scalar.andi v119 v121
  let v108 : BitVec 32 := Scalar.divsi v107 c2_i32_34
  let c1_i32_40 : BitVec 32 := 1#32
  let v123 : BitVec 32 := Scalar.subi v108 c1_i32_40
  let v124 : BitVec 32 := Scalar.select v122 v123 v108
  let v185 : BitVec 32 := Scalar.muli c4_i32 v124
  let v186 : BitVec 32 := Scalar.addi v185 c0_i32_73
  let v410 : Index := Scalar.indexCast v186
  let c0_149 : Index := 0#32
  let c0_150 : Index := 0#32
  ![v410.toNat, 0, 0]
def k0_cond3 (i : grid0.Coords) : BitVec 1 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c2_i32_61 : BitVec 32 := 2#32
  let c0_i32_62 : BitVec 32 := 0#32
  let v164 : BitVec 1 := Scalar.cmpi .eq c2_i32_61 c0_i32_62
  let c1_i32_63 : BitVec 32 := 1#32
  let v165 : BitVec 32 := Scalar.select v164 c1_i32_63 c2_i32_61
  let v166 : BitVec 32 := Scalar.remsi v16 v165
  let c0_i32_65 : BitVec 32 := 0#32
  let v168 : BitVec 1 := Scalar.cmpi .slt v166 c0_i32_65
  let c0_i32_66 : BitVec 32 := 0#32
  let v169 : BitVec 1 := Scalar.cmpi .slt v165 c0_i32_66
  let v170 : BitVec 1 := Scalar.xori v168 v169
  let c0_i32_64 : BitVec 32 := 0#32
  let v167 : BitVec 1 := Scalar.cmpi .ne v166 c0_i32_64
  let v171 : BitVec 1 := Scalar.andi v170 v167
  let v172 : BitVec 32 := Scalar.addi v166 v165
  let v173 : BitVec 32 := Scalar.select v171 v172 v166
  let c1_i32_67 : BitVec 32 := 1#32
  let v174 : BitVec 1 := Scalar.cmpi .eq v173 c1_i32_67
  let v175 : BitVec 32 := Scalar.extui v174
  let c0_i32_68 : BitVec 32 := 0#32
  let v176 : BitVec 1 := Scalar.cmpi .ne v175 c0_i32_68
  v176

def k0_mult21 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v185 : BitVec 32 := Scalar.subi v16 c1_i32_73
  let c256_i32_75 : BitVec 32 := 256#32
  let v187 : BitVec 32 := Scalar.muli v185 c256_i32_75
  v187
def k0_off7 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v185 : BitVec 32 := Scalar.subi v16 c1_i32_73
  let c256_i32_75 : BitVec 32 := 256#32
  let v187 : BitVec 32 := Scalar.muli v185 c256_i32_75
  let v188 : BitVec 32 := v187
  let v189 : Index := Scalar.indexCast v188
  let c0_76 : Index := 0#32
  ![v189.toNat, 0]
def k0_mult22 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_77 : BitVec 32 := 256#32
  let v191 : BitVec 32 := Scalar.muli v16 c256_i32_77
  v191
def k0_off8 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_77 : BitVec 32 := 256#32
  let v191 : BitVec 32 := Scalar.muli v16 c256_i32_77
  let v192 : BitVec 32 := v191
  let v193 : Index := Scalar.indexCast v192
  let c0_78 : Index := 0#32
  ![v193.toNat, 0]
def k0_mult23 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v185 : BitVec 32 := Scalar.subi v16 c1_i32_73
  let c256_i32_79 : BitVec 32 := 256#32
  let v195 : BitVec 32 := Scalar.muli v185 c256_i32_79
  v195
def k0_mult24 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_81 : BitVec 32 := 256#32
  let v199 : BitVec 32 := Scalar.muli v16 c256_i32_81
  v199
def k0_off9 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c1_i32_73 : BitVec 32 := 1#32
  let v185 : BitVec 32 := Scalar.subi v16 c1_i32_73
  let v415 : Index := Scalar.indexCast v185
  let c0_153 : Index := 0#32
  let c0_154 : Index := 0#32
  ![v415.toNat, 0, 0]
def k0_off10 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let v435 : Index := Scalar.indexCast v16
  let c0_163 : Index := 0#32
  let c0_164 : Index := 0#32
  ![v435.toNat, 0, 0]
def k0_mult25 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_73 : BitVec 32 := 256#32
  let v185 : BitVec 32 := Scalar.muli v16 c256_i32_73
  v185
def k0_off11 (i : grid0.Coords) : Fin 2 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_73 : BitVec 32 := 256#32
  let v185 : BitVec 32 := Scalar.muli v16 c256_i32_73
  let v186 : BitVec 32 := v185
  let v187 : Index := Scalar.indexCast v186
  let c0_74 : Index := 0#32
  ![v187.toNat, 0]
def k0_mult26 (i : grid0.Coords) : BitVec 32 :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let c256_i32_75 : BitVec 32 := 256#32
  let v189 : BitVec 32 := Scalar.muli v16 c256_i32_75
  v189
def k0_off12 (i : grid0.Coords) : Fin 3 → Nat :=
  let arg2 : BitVec 32 := BitVec.ofNat 32 (i 2).val
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c1_i32 : BitVec 32 := 1#32
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let v0 : BitVec 32 := Scalar.divsi arg2 c1_i32
  let c1_i32_4 : BitVec 32 := 1#32
  let v15 : BitVec 32 := Scalar.subi v0 c1_i32_4
  let v16 : BitVec 32 := Scalar.select v14 v15 v0
  let v303 : Index := Scalar.indexCast v16
  let c0_115 : Index := 0#32
  let c0_116 : Index := 0#32
  ![v303.toNat, 0, 0]
def k0_cond4 (i : grid0.Coords) : BitVec 1 :=
  let arg2 : BitVec 32 := BitVec.ofNat 32 (i 2).val
  let c15_i32 : BitVec 32 := 15#32
  let v182 : BitVec 1 := Scalar.cmpi .eq arg2 c15_i32
  let v183 : BitVec 32 := Scalar.extui v182
  let c0_i32_72 : BitVec 32 := 0#32
  let v184 : BitVec 1 := Scalar.cmpi .ne v183 c0_i32_72
  v184

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4096x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S8192x1536 : Shape := ⟨2, ![8192, 1536]⟩
abbrev S8192x512 : Shape := ⟨2, ![8192, 512]⟩
abbrev S2x4096x8x64 : Shape := ⟨4, ![2, 4096, 8, 64]⟩
abbrev S2x8x4096x4096 : Shape := ⟨4, ![2, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x8x64x4096 : Shape := ⟨4, ![2, 8, 64, 4096]⟩
abbrev S2x8x4096x64 : Shape := ⟨4, ![2, 8, 4096, 64]⟩

abbrev nBuf : Space → Nat
  | .hbm => 178
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x1536, .f32⟩
  | 3 => ⟨S8192x512, .f32⟩
  | 4 => ⟨S8192x512, .f32⟩
  | 5 => ⟨S8192x512, .f32⟩
  | 6 => ⟨S2x4096x8x64, .f32⟩
  | 7 => ⟨S2x4096x8x64, .f32⟩
  | 8 => ⟨S2x4096x8x64, .f32⟩
  | 9 => ⟨S2x8x4096x4096, .f32⟩
  | 10 => ⟨S_, .f32⟩
  | 11 => ⟨S2x8x4096x4096, .f32⟩
  | 12 => ⟨S2x8x4096x4096, .f32⟩
  | 13 => ⟨S4096, .i32⟩
  | 14 => ⟨S1x4096, .i32⟩
  | 15 => ⟨S4096, .i32⟩
  | 16 => ⟨S4096x1, .i32⟩
  | 17 => ⟨S4096x4096, .i32⟩
  | 18 => ⟨S4096x4096, .i32⟩
  | 19 => ⟨S4096x4096, .i1⟩
  | 20 => ⟨S2x8x4096x4096, .f32⟩
  | 21 => ⟨S2x8x4096x4096, .f32⟩
  | 22 => ⟨S_, .f32⟩
  | 23 => ⟨S2x8x4096x4096, .f32⟩
  | 24 => ⟨S2x8x4096x4096, .f32⟩
  | 25 => ⟨S2x8x4096x4096, .f32⟩
  | 26 => ⟨S2x8x4096x4096, .f32⟩
  | 27 => ⟨S2x8x4096x4096, .i1⟩
  | 28 => ⟨S2x8x4096x4096, .f32⟩
  | 29 => ⟨S2x8x4096x4096, .f32⟩
  | 30 => ⟨S2x8x4096x4096, .f32⟩
  | 31 => ⟨S2x8x4096x4096, .f32⟩
  | 32 => ⟨S2x8x4096x4096, .f32⟩
  | 33 => ⟨S2x8x4096x4096, .f32⟩
  | 34 => ⟨S2x8x4096x4096, .f32⟩
  | 35 => ⟨S2x8x4096x4096, .f32⟩
  | 36 => ⟨S_, .f32⟩
  | 37 => ⟨S2x8x4096x4096, .f32⟩
  | 38 => ⟨S2x8x4096x4096, .i1⟩
  | 39 => ⟨S_, .f32⟩
  | 40 => ⟨S2x8x4096x4096, .f32⟩
  | 41 => ⟨S2x8x4096x4096, .f32⟩
  | 42 => ⟨S_, .f32⟩
  | 43 => ⟨S2x8x4096x4096, .f32⟩
  | 44 => ⟨S2x8x4096x4096, .i1⟩
  | 45 => ⟨S_, .f32⟩
  | 46 => ⟨S2x8x4096x4096, .f32⟩
  | 47 => ⟨S2x8x4096x4096, .f32⟩
  | 48 => ⟨S2x8x4096x4096, .f32⟩
  | 49 => ⟨S2x8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S2x8x4096x4096, .f32⟩
  | 58 => ⟨S2x8x4096x4096, .i1⟩
  | 59 => ⟨S_, .f32⟩
  | 60 => ⟨S2x8x4096x4096, .f32⟩
  | 61 => ⟨S2x8x4096x4096, .f32⟩
  | 62 => ⟨S2x8x4096x4096, .f32⟩
  | 63 => ⟨S2x8x4096x4096, .f32⟩
  | 64 => ⟨S2x8x4096x4096, .f32⟩
  | 65 => ⟨S_, .f32⟩
  | 66 => ⟨S2x8x4096x4096, .f32⟩
  | 67 => ⟨S2x8x4096x4096, .f32⟩
  | 68 => ⟨S2x8x4096x4096, .f32⟩
  | 69 => ⟨S_, .f32⟩
  | 70 => ⟨S_, .f32⟩
  | 71 => ⟨S2x8x4096x4096, .i1⟩
  | 72 => ⟨S2x8x4096x4096, .f32⟩
  | 73 => ⟨S2x8x4096x4096, .f32⟩
  | 74 => ⟨S_, .f32⟩
  | 75 => ⟨S2x8x4096x4096, .f32⟩
  | 76 => ⟨S_, .f32⟩
  | 77 => ⟨S_, .f32⟩
  | 78 => ⟨S2x8x4096x4096, .f32⟩
  | 79 => ⟨S2x8x4096x4096, .f32⟩
  | 80 => ⟨S2x8x4096x4096, .f32⟩
  | 81 => ⟨S_, .f32⟩
  | 82 => ⟨S2x8x4096x4096, .f32⟩
  | 83 => ⟨S2x8x4096x4096, .f32⟩
  | 84 => ⟨S2x8x4096x4096, .f32⟩
  | 85 => ⟨S2x8x4096x4096, .f32⟩
  | 86 => ⟨S2x8x4096x4096, .i1⟩
  | 87 => ⟨S2x8x4096x4096, .f32⟩
  | 88 => ⟨S2x8x4096x4096, .f32⟩
  | 89 => ⟨S2x8x4096x4096, .f32⟩
  | 90 => ⟨S2x8x4096x4096, .f32⟩
  | 91 => ⟨S2x8x4096x4096, .f32⟩
  | 92 => ⟨S2x8x4096x4096, .f32⟩
  | 93 => ⟨S2x8x4096x4096, .f32⟩
  | 94 => ⟨S2x8x4096x4096, .f32⟩
  | 95 => ⟨S_, .f32⟩
  | 96 => ⟨S2x8x4096x4096, .f32⟩
  | 97 => ⟨S2x8x4096x4096, .i1⟩
  | 98 => ⟨S_, .f32⟩
  | 99 => ⟨S2x8x4096x4096, .f32⟩
  | 100 => ⟨S2x8x4096x4096, .f32⟩
  | 101 => ⟨S_, .f32⟩
  | 102 => ⟨S2x8x4096x4096, .f32⟩
  | 103 => ⟨S2x8x4096x4096, .i1⟩
  | 104 => ⟨S_, .f32⟩
  | 105 => ⟨S2x8x4096x4096, .f32⟩
  | 106 => ⟨S2x8x4096x4096, .f32⟩
  | 107 => ⟨S2x8x4096x4096, .f32⟩
  | 108 => ⟨S2x8x4096x4096, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S2x8x4096x4096, .f32⟩
  | 117 => ⟨S2x8x4096x4096, .i1⟩
  | 118 => ⟨S_, .f32⟩
  | 119 => ⟨S2x8x4096x4096, .f32⟩
  | 120 => ⟨S2x8x4096x4096, .f32⟩
  | 121 => ⟨S2x8x4096x4096, .f32⟩
  | 122 => ⟨S2x8x4096x4096, .f32⟩
  | 123 => ⟨S2x8x4096x4096, .f32⟩
  | 124 => ⟨S_, .f32⟩
  | 125 => ⟨S2x8x4096x4096, .f32⟩
  | 126 => ⟨S2x8x4096x4096, .f32⟩
  | 127 => ⟨S2x8x4096x4096, .f32⟩
  | _ => ⟨S8192x1536, .bf16⟩

abbrev hbmTy0_1 (i : Nat) : BufTy := match i % 128 with
  | 0 => ⟨S2x8x4096x4096, .f32⟩
  | 1 => ⟨S2x8x4096x4096, .f32⟩
  | 2 => ⟨S_, .f32⟩
  | 3 => ⟨S_, .f32⟩
  | 4 => ⟨S2x8x4096x4096, .i1⟩
  | 5 => ⟨S2x8x4096x4096, .f32⟩
  | 6 => ⟨S2x8x4096x4096, .f32⟩
  | 7 => ⟨S_, .f32⟩
  | 8 => ⟨S2x8x4096x4096, .f32⟩
  | 9 => ⟨S2x8x64x4096, .f32⟩
  | 10 => ⟨S2x4096x8x64, .f32⟩
  | 11 => ⟨S8192x512, .f32⟩
  | 12 => ⟨S2x4096x8x64, .f32⟩
  | 13 => ⟨S2x8x64x4096, .f32⟩
  | 14 => ⟨S2x8x4096x4096, .f32⟩
  | 15 => ⟨S2x8x64x4096, .f32⟩
  | 16 => ⟨S2x4096x8x64, .f32⟩
  | 17 => ⟨S_, .f32⟩
  | 18 => ⟨S2x8x4096x4096, .f32⟩
  | 19 => ⟨S2x8x4096x4096, .f32⟩
  | 20 => ⟨S2x8x4096x4096, .f32⟩
  | 21 => ⟨S2x8x4096x4096, .f32⟩
  | 22 => ⟨S2x8x4096x4096, .f32⟩
  | 23 => ⟨S2x8x4096x4096, .f32⟩
  | 24 => ⟨S2x8x4096x4096, .f32⟩
  | 25 => ⟨S_, .f32⟩
  | 26 => ⟨S_, .f32⟩
  | 27 => ⟨S2x8x4096x4096, .f32⟩
  | 28 => ⟨S2x8x4096x4096, .f32⟩
  | 29 => ⟨S_, .f32⟩
  | 30 => ⟨S2x8x4096x4096, .f32⟩
  | 31 => ⟨S2x8x4096x4096, .f32⟩
  | 32 => ⟨S2x8x4096x4096, .f32⟩
  | 33 => ⟨S2x8x4096x4096, .f32⟩
  | 34 => ⟨S2x8x4096x4096, .f32⟩
  | 35 => ⟨S2x8x4096x4096, .f32⟩
  | 36 => ⟨S2x8x4096x4096, .f32⟩
  | 37 => ⟨S_, .f32⟩
  | 38 => ⟨S2x8x4096x4096, .f32⟩
  | 39 => ⟨S2x8x4096x4096, .f32⟩
  | 40 => ⟨S2x8x4096x64, .f32⟩
  | 41 => ⟨S2x4096x8x64, .f32⟩
  | 42 => ⟨S2x8x4096x64, .f32⟩
  | 43 => ⟨S2x4096x8x64, .f32⟩
  | 44 => ⟨S8192x512, .f32⟩
  | 45 => ⟨S8192x512, .bf16⟩
  | 46 => ⟨S8192x512, .f32⟩
  | 47 => ⟨S8192x512, .bf16⟩
  | 48 => ⟨S8192x512, .f32⟩
  | 49 => ⟨S8192x512, .bf16⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_cst_0 : Ref sig .tc := ⟨.hbm, 69, rfl⟩
abbrev main_call1_v0 : Ref sig .tc := ⟨.hbm, 70, rfl⟩
abbrev main_v19_1 : Ref sig .tc := ⟨.hbm, 71, rfl⟩
abbrev main_call1_v2 : Ref sig .tc := ⟨.hbm, 72, rfl⟩
abbrev main_v19_0 : Ref sig .tc := ⟨.hbm, 73, rfl⟩
abbrev main_call1_cst : Ref sig .tc := ⟨.hbm, 74, rfl⟩
abbrev main_v19_2 : Ref sig .tc := ⟨.hbm, 75, rfl⟩
abbrev main_call2_cst : Ref sig .tc := ⟨.hbm, 76, rfl⟩
abbrev main_call2_v0 : Ref sig .tc := ⟨.hbm, 77, rfl⟩
abbrev main_v20 : Ref sig .tc := ⟨.hbm, 78, rfl⟩
abbrev main_v21 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v22_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v22_2 : Ref sig .tc := ⟨.hbm, 126, rfl⟩
abbrev main_v22_0 : Ref sig .tc := ⟨.hbm, 127, rfl⟩
abbrev main_v23 : Ref sig .tc := ⟨.hbm, 128, rfl⟩
abbrev main_v24 : Ref sig .tc := ⟨.hbm, 129, rfl⟩
abbrev main_cst_1 : Ref sig .tc := ⟨.hbm, 130, rfl⟩
abbrev main_call4_v0 : Ref sig .tc := ⟨.hbm, 131, rfl⟩
abbrev main_v25_1 : Ref sig .tc := ⟨.hbm, 132, rfl⟩
abbrev main_call4_v2 : Ref sig .tc := ⟨.hbm, 133, rfl⟩
abbrev main_v25_0 : Ref sig .tc := ⟨.hbm, 134, rfl⟩
abbrev main_call4_cst : Ref sig .tc := ⟨.hbm, 135, rfl⟩
abbrev main_v25_2 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_call5_cst : Ref sig .tc := ⟨.hbm, 145, rfl⟩
abbrev main_call5_v0 : Ref sig .tc := ⟨.hbm, 146, rfl⟩
abbrev main_v34 : Ref sig .tc := ⟨.hbm, 147, rfl⟩
abbrev main_v35 : Ref sig .tc := ⟨.hbm, 148, rfl⟩
abbrev main_call6_v0 : Ref sig .tc := ⟨.hbm, 149, rfl⟩
abbrev main_call6_v1 : Ref sig .tc := ⟨.hbm, 150, rfl⟩
abbrev main_v36 : Ref sig .tc := ⟨.hbm, 151, rfl⟩
abbrev main_v37 : Ref sig .tc := ⟨.hbm, 152, rfl⟩
abbrev main_call7_cst : Ref sig .tc := ⟨.hbm, 153, rfl⟩
abbrev main_call7_v0 : Ref sig .tc := ⟨.hbm, 154, rfl⟩
abbrev main_v38 : Ref sig .tc := ⟨.hbm, 155, rfl⟩
abbrev main_v39 : Ref sig .tc := ⟨.hbm, 156, rfl⟩
abbrev main_call8_cst : Ref sig .tc := ⟨.hbm, 157, rfl⟩
abbrev main_call8_v0 : Ref sig .tc := ⟨.hbm, 158, rfl⟩
abbrev main_v40 : Ref sig .tc := ⟨.hbm, 159, rfl⟩
abbrev main_call9_v0 : Ref sig .tc := ⟨.hbm, 160, rfl⟩
abbrev main_call9_v1 : Ref sig .tc := ⟨.hbm, 161, rfl⟩
abbrev main_v41 : Ref sig .tc := ⟨.hbm, 162, rfl⟩
abbrev main_v42 : Ref sig .tc := ⟨.hbm, 163, rfl⟩
abbrev main_v43 : Ref sig .tc := ⟨.hbm, 164, rfl⟩
abbrev main_cst_2 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩

abbrev nD : Nat := 1
abbrev τ : Topo := Topo.v7x

variable {F : FTy → Type} [FloatOps F]
-- ==== GwUp.lean ====
abbrev S8192x1024 : Shape := ⟨2, ![8192, 1024]⟩
abbrev S8192x4096 : Shape := ⟨2, ![8192, 4096]⟩
abbrev S8x1024x512 : Shape := ⟨3, ![8, 1024, 512]⟩
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .f32⟩
  | .local _ .vmem, ⟨5, _⟩ => ⟨S4x1024x512, .f32⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GwUpRIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwDown.lean ====
abbrev S8192x4096 : Shape := ⟨2, ![8192, 4096]⟩
abbrev S8192x1024 : Shape := ⟨2, ![8192, 1024]⟩
abbrev S8x512x1024 : Shape := ⟨3, ![8, 512, 1024]⟩
abbrev S1024x2048 : Shape := ⟨2, ![1024, 2048]⟩
abbrev S1024x1024 : Shape := ⟨2, ![1024, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8x512x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x1024, .f32⟩
  | .local _ .vmem, ⟨5, _⟩ => ⟨S4x512x1024, .f32⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GwDownRIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩
abbrev S8x512x1024 : Shape := ⟨3, ![8, 512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S8192x4096, .f32⟩
  | .hbm, ⟨3, _⟩ => ⟨S_, .f32⟩
  | .hbm, ⟨4, _⟩ => ⟨S4096x1024, .f32⟩
  | .hbm, ⟨5, _⟩ => ⟨S8192x4096, .f32⟩
  | .hbm, ⟨6, _⟩ => ⟨S8192x1024, .f32⟩
  | .hbm, ⟨7, _⟩ => ⟨S8192x1024, .f32⟩
  | .hbm, ⟨8, _⟩ => ⟨S1024x4096, .f32⟩
  | .hbm, ⟨9, _⟩ => ⟨S4096x1024, .f32⟩
  | .hbm, ⟨10, _⟩ => ⟨S8x512x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== GwOut.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x512, .f32⟩
  | .local _ .vmem, ⟨3, _⟩ => ⟨S2048x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== GwOutRIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GwIn.lean ====
abbrev S8192x2560 : Shape := ⟨2, ![8192, 2560]⟩
abbrev S8192x1024 : Shape := ⟨2, ![8192, 1024]⟩
abbrev S2560x1024 : Shape := ⟨2, ![2560, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .bf16⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S1280x1024, .bf16⟩
  | .local _ .vmem, ⟨5, _⟩ => ⟨S1280x1024, .bf16⟩
  | .local _ .vmem, ⟨6, _⟩ => ⟨S1280x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1280x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== GwInRIdeal.lean ====
abbrev S8192x2560 : Shape := ⟨2, ![8192, 2560]⟩
abbrev S8192x1024 : Shape := ⟨2, ![8192, 1024]⟩
abbrev S_ : Shape := ⟨0, ![]⟩
abbrev S1024x2560 : Shape := ⟨2, ![1024, 2560]⟩
abbrev S2560x1024 : Shape := ⟨2, ![2560, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S2560x1024, .f32⟩
  | .hbm, ⟨10, _⟩ => ⟨S2560x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== BwdMix.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S1024x512 : Shape := ⟨2, ![1024, 512]⟩
abbrev S512x1024 : Shape := ⟨2, ![512, 1024]⟩
abbrev S1024 : Shape := ⟨1, ![1024]⟩
abbrev S1024x1 : Shape := ⟨2, ![1024, 1]⟩
abbrev S512 : Shape := ⟨1, ![512]⟩

abbrev nBuf : Space → Nat
  | .hbm => 11
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S1024x1024, .bf16⟩
  | .hbm, ⟨7, _⟩ => ⟨S8192x512, .f32⟩
  | .hbm, ⟨8, _⟩ => ⟨S8192x512, .bf16⟩
  | .hbm, ⟨9, _⟩ => ⟨S1x512, .f32⟩
  | .hbm, ⟨10, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1x512, .f32⟩
  | .local _ .vmem, ⟨14, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v1_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== BwdMixRIdeal.lean ====
abbrev S8192x1024 : Shape := ⟨2, ![8192, 1024]⟩
abbrev S1024x1024 : Shape := ⟨2, ![1024, 1024]⟩
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x512, .f32⟩
  | .hbm, ⟨3, _⟩ => ⟨S8192x512, .f32⟩
  | .hbm, ⟨4, _⟩ => ⟨S1x512, .f32⟩
  | .hbm, ⟨5, _⟩ => ⟨S1x512, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x512, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x512, .f32⟩
  | .hbm, ⟨60, _⟩ => ⟨S8192x512, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x512, .f32⟩
  | .hbm, ⟨68, _⟩ => ⟨S8192x512, .f32⟩
  | .hbm, ⟨69, _⟩ => ⟨S8192x512, .f32⟩
  | .hbm, ⟨70, _⟩ => ⟨S8192x512, .f32⟩
  | .hbm, ⟨71, _⟩ => ⟨S8192x512, .f32⟩
  | .hbm, ⟨72, _⟩ => ⟨S8192x512, .f32⟩
  | .hbm, ⟨73, _⟩ => ⟨S_, .f32⟩
  | .hbm, ⟨74, _⟩ => ⟨S512, .f32⟩
  | .hbm, ⟨75, _⟩ => ⟨S1x512, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x512, .f32⟩
  | .hbm, ⟨83, _⟩ => ⟨S8192x512, .f32⟩
  | .hbm, ⟨84, _⟩ => ⟨S8192x1, .f32⟩
  | .hbm, ⟨85, _⟩ => ⟨S_, .f32⟩
  | .hbm, ⟨86, _⟩ => ⟨S8192x1, .f32⟩
  | .hbm, ⟨87, _⟩ => ⟨S8192x1, .f32⟩
  | .hbm, ⟨88, _⟩ => ⟨S_, .f32⟩
  | .hbm, ⟨89, _⟩ => ⟨S8192, .f32⟩
  | .hbm, ⟨90, _⟩ => ⟨S8192x512, .f32⟩
  | .hbm, ⟨91, _⟩ => ⟨S8192x512, .f32⟩
  | .hbm, ⟨92, _⟩ => ⟨S8192x512, .f32⟩
  | .hbm, ⟨93, _⟩ => ⟨S8192x512, .f32⟩
  | .hbm, ⟨94, _⟩ => ⟨S8192x512, .f32⟩
  | .hbm, ⟨95, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_9 : Ref sig .tc := ⟨.hbm, 62, rfl⟩
abbrev main_v46 : Ref sig .tc := ⟨.hbm, 63, rfl⟩
abbrev main_v47 : Ref sig .tc := ⟨.hbm, 64, rfl⟩
abbrev main_cst_10 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_11 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩

abbrev nD : Nat := 1
abbrev τ : Topo := Topo.v7x

variable {F : FTy → Type} [FloatOps F]
-- ==== BwdIn.lean ====
abbrev S8192x512 : Shape := ⟨2, ![8192, 512]⟩
abbrev S1024x2560 : Shape := ⟨2, ![1024, 2560]⟩
abbrev S8192x1024 : Shape := ⟨2, ![8192, 1024]⟩
abbrev S1x1024 : Shape := ⟨2, ![1, 1024]⟩
abbrev S2560x1024 : Shape := ⟨2, ![2560, 1024]⟩
abbrev S8192x2560 : Shape := ⟨2, ![8192, 2560]⟩
abbrev S512x512 : Shape := ⟨2, ![512, 512]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩
abbrev S1024 : Shape := ⟨1, ![1024]⟩

abbrev nBuf : Space → Nat
  | .hbm => 15
  | .vmem => 23
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x2560, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S1024x2560, .bf16⟩
  | .hbm, ⟨10, _⟩ => ⟨S2560x1024, .bf16⟩
  | .hbm, ⟨11, _⟩ => ⟨S8192x1024, .f32⟩
  | .hbm, ⟨12, _⟩ => ⟨S8192x2560, .bf16⟩
  | .hbm, ⟨13, _⟩ => ⟨S8192x1024, .bf16⟩
  | .hbm, ⟨14, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S2560x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x2560, .bf16⟩
  | .local _ .vmem, ⟨19, _⟩ => ⟨S512x2560, .bf16⟩
  | .local _ .vmem, ⟨20, _⟩ => ⟨S512x1024, .bf16⟩
  | .local _ .vmem, ⟨21, _⟩ => ⟨S512x1024, .bf16⟩
  | .local _ .vmem, ⟨22, _⟩ => ⟨S1x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2560 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== BwdInRIdeal.lean ====
abbrev S8192x512 : Shape := ⟨2, ![8192, 512]⟩
abbrev S1024x2560 : Shape := ⟨2, ![1024, 2560]⟩
abbrev S8192x1024 : Shape := ⟨2, ![8192, 1024]⟩
abbrev S1x1024 : Shape := ⟨2, ![1, 1024]⟩
abbrev S8192x2560 : Shape := ⟨2, ![8192, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x512, .bf16⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S1024x2560, .f32⟩
  | .hbm, ⟨6, _⟩ => ⟨S8192x1024, .f32⟩
  | .hbm, ⟨7, _⟩ => ⟨S1x1024, .f32⟩
  | .hbm, ⟨8, _⟩ => ⟨S8192x1024, .f32⟩
  | .hbm, ⟨9, _⟩ => ⟨S8192x2560, .bf16⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x2560, .f32⟩
  | .hbm, ⟨30, _⟩ => ⟨S8192x2560, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S_, .f32⟩
  | .hbm, ⟨58, _⟩ => ⟨S8192, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_7 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== FwdIn.lean ====
abbrev S8192x1024 : Shape := ⟨2, ![8192, 1024]⟩
abbrev S1x1024 : Shape := ⟨2, ![1, 1024]⟩
abbrev S1024x2560 : Shape := ⟨2, ![1024, 2560]⟩
abbrev S2560x1024 : Shape := ⟨2, ![2560, 1024]⟩
abbrev S8192x1536 : Shape := ⟨2, ![8192, 1536]⟩
abbrev S1024x1024 : Shape := ⟨2, ![1024, 1024]⟩
abbrev S1024x1536 : Shape := ⟨2, ![1024, 1536]⟩
abbrev S1024 : Shape := ⟨1, ![1024]⟩
abbrev S1024x1 : Shape := ⟨2, ![1024, 1]⟩
abbrev S1536x1024 : Shape := ⟨2, ![1536, 1024]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S1024x2560, .bf16⟩
  | .hbm, ⟨4, _⟩ => ⟨S2560x1024, .bf16⟩
  | .hbm, ⟨5, _⟩ => ⟨S8192x1024, .f32⟩
  | .hbm, ⟨6, _⟩ => ⟨S8192x1536, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2560x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1536, .bf16⟩
  | .local _ .vmem, ⟨7, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FwdInRIdeal.lean ====
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S8192x1536 : Shape := ⟨2, ![8192, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2560, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2560, .f32⟩
  | .hbm, ⟨19, _⟩ => ⟨S8192x1024, .f32⟩
  | .hbm, ⟨20, _⟩ => ⟨S8192x1536, .f32⟩
  | .hbm, ⟨21, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== FwdMix.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S1024x512 : Shape := ⟨2, ![1024, 512]⟩
abbrev S1024 : Shape := ⟨1, ![1024]⟩
abbrev S1024x1 : Shape := ⟨2, ![1024, 1]⟩
abbrev S512x1024 : Shape := ⟨2, ![512, 1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S1024x1024, .bf16⟩
  | .hbm, ⟨7, _⟩ => ⟨S8192x1024, .f32⟩
  | .hbm, ⟨8, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1x512, .f32⟩
  | .local _ .vmem, ⟨5, _⟩ => ⟨S1x512, .f32⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FwdMixRIdeal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩

abbrev nD : Nat := 1
abbrev τ : Topo := Topo.v7x

variable {F : FTy → Type} [FloatOps F]
-- ==== BwdMlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024x8x512 : Shape := ⟨3, ![1024, 8, 512]⟩
abbrev S8x1024x512 : Shape := ⟨3, ![8, 1024, 512]⟩
abbrev S512x1024 : Shape := ⟨2, ![512, 1024]⟩
abbrev S512x2048 : Shape := ⟨2, ![512, 2048]⟩
abbrev S4x1024x512 : Shape := ⟨3, ![4, 1024, 512]⟩
abbrev S2048x1024 : Shape := ⟨2, ![2048, 1024]⟩
abbrev S512 : Shape := ⟨1, ![512]⟩
abbrev S512x1 : Shape := ⟨2, ![512, 1]⟩
abbrev S512x512 : Shape := ⟨2, ![512, 512]⟩
abbrev S1x1024x512 : Shape := ⟨3, ![1, 1024, 512]⟩
abbrev S1024x512 : Shape := ⟨2, ![1024, 512]⟩
abbrev S1024 : Shape := ⟨1, ![1024]⟩

abbrev nBuf : Space → Nat
  | .hbm => 34
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S1024x4096, .bf16⟩
  | .hbm, ⟨6, _⟩ => ⟨S4096x1024, .bf16⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | .hbm, ⟨27, _⟩ => ⟨S1024x8x512, .bf16⟩
  | .hbm, ⟨28, _⟩ => ⟨S8x1024x512, .bf16⟩
  | .hbm, ⟨29, _⟩ => ⟨S8192x4096, .bf16⟩
  | .hbm, ⟨30, _⟩ => ⟨S8192x1024, .f32⟩
  | .hbm, ⟨31, _⟩ => ⟨S8192x1024, .bf16⟩
  | .hbm, ⟨32, _⟩ => ⟨S8192x1024, .bf16⟩
  | .hbm, ⟨33, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4x1024x512, .bf16⟩
  | .local _ .vmem, ⟨8, _⟩ => ⟨S4x1024x512, .bf16⟩
  | .local _ .vmem, ⟨9, _⟩ => ⟨S2048x1024, .bf16⟩
  | .local _ .vmem, ⟨10, _⟩ => ⟨S2048x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_cst : Ref sig .tc := ⟨.hbm, 23, rfl⟩
abbrev main_call0_v0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19_0 : Ref sig .tc := ⟨.hbm, 29, rfl⟩
abbrev main_v19_1 : Ref sig .tc := ⟨.hbm, 30, rfl⟩
abbrev main_v19_2 : Ref sig .tc := ⟨.hbm, 31, rfl⟩
abbrev main_v19_3 : Ref sig .tc := ⟨.hbm, 32, rfl⟩
abbrev main_v19_4 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![16, 2], ![false, false]⟩

def k0_cond3 (i : grid0.Coords) : BitVec 1 :=
  let arg1 : BitVec 32 := BitVec.ofNat 32 (i 1).val
  let c1_i32 : BitVec 32 := 1#32
  let v80 : BitVec 1 := Scalar.cmpi .eq arg1 c1_i32
  let v81 : BitVec 32 := Scalar.extui v80
  let c0_i32_56 : BitVec 32 := 0#32
  let v82 : BitVec 1 := Scalar.cmpi .ne v81 c0_i32_56
  v82

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_53 : BitVec 32 := 0#32
  let v75 : BitVec 1 := Scalar.cmpi .eq arg0 c0_i32_53
  let arg1 : BitVec 32 := BitVec.ofNat 32 (i 1).val
  let c0_i32_54 : BitVec 32 := 0#32
  let v76 : BitVec 1 := Scalar.cmpi .eq arg1 c0_i32_54
  let v77 : BitVec 1 := Scalar.andi v75 v76
  let v78 : BitVec 32 := Scalar.extui v77
  let c0_i32_55 : BitVec 32 := 0#32
  let v79 : BitVec 1 := Scalar.cmpi .ne v78 c0_i32_55
  v79

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S4x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== BwdMlpRIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩

abbrev nBuf : Space → Nat
  | .hbm => 120
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x4096, .f32⟩
  | .hbm, ⟨4, _⟩ => ⟨S4096x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192x4096, .f32⟩
  | .hbm, ⟨26, _⟩ => ⟨S8192x4096, .i1⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S8192x1024, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x4096, .f32⟩
  | .hbm, ⟨58, _⟩ => ⟨S_, .f32⟩
  | .hbm, ⟨59, _⟩ => ⟨S8192x4096, .f32⟩
  | .hbm, ⟨60, _⟩ => ⟨S8192x4096, .f32⟩
  | .hbm, ⟨61, _⟩ => ⟨S_, .f32⟩
  | .hbm, ⟨62, _⟩ => ⟨S8192x4096, .f32⟩
  | .hbm, ⟨63, _⟩ => ⟨S8192x4096, .i1⟩
  | .hbm, ⟨64, _⟩ => ⟨S_, .f32⟩
  | .hbm, ⟨65, _⟩ => ⟨S8192x4096, .f32⟩
  | .hbm, ⟨66, _⟩ => ⟨S8192x4096, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x4096, .f32⟩
  | .hbm, ⟨71, _⟩ => ⟨S8192x4096, .f32⟩
  | .hbm, ⟨72, _⟩ => ⟨S8192x4096, .f32⟩
  | .hbm, ⟨73, _⟩ => ⟨S8192x4096, .f32⟩
  | .hbm, ⟨74, _⟩ => ⟨S_, .f32⟩
  | .hbm, ⟨75, _⟩ => ⟨S8192x4096, .f32⟩
  | .hbm, ⟨76, _⟩ => ⟨S8192x4096, .f32⟩
  | .hbm, ⟨77, _⟩ => ⟨S8192x1024, .f32⟩
  | .hbm, ⟨78, _⟩ => ⟨S8192x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1, .f32⟩
  | .hbm, ⟨92, _⟩ => ⟨S_, .f32⟩
  | .hbm, ⟨93, _⟩ => ⟨S8192x1, .f32⟩
  | .hbm, ⟨94, _⟩ => ⟨S8192x1, .f32⟩
  | .hbm, ⟨95, _⟩ => ⟨S_, .f32⟩
  | .hbm, ⟨96, _⟩ => ⟨S8192, .f32⟩
  | .hbm, ⟨97, _⟩ => ⟨S8192x1024, .f32⟩
  | .hbm, ⟨98, _⟩ => ⟨S8192x1024, .f32⟩
  | .hbm, ⟨99, _⟩ => ⟨S8192x1024, .f32⟩
  | .hbm, ⟨100, _⟩ => ⟨S8192x1024, .f32⟩
  | .hbm, ⟨101, _⟩ => ⟨S8192x1024, .f32⟩
  | .hbm, ⟨102, _⟩ => ⟨S8192x4096, .bf16⟩
  | .hbm, ⟨103, _⟩ => ⟨S8192x1024, .f32⟩
  | .hbm, ⟨104, _⟩ => ⟨S_, .f32⟩
  | .hbm, ⟨105, _⟩ => ⟨S8192, .f32⟩
  | .hbm, ⟨106, _⟩ => ⟨S8192x1, .f32⟩
  | .hbm, ⟨107, _⟩ => ⟨S_, .f32⟩
  | .hbm, ⟨108, _⟩ => ⟨S8192x1, .f32⟩
  | .hbm, ⟨109, _⟩ => ⟨S8192x1, .f32⟩
  | .hbm, ⟨110, _⟩ => ⟨S_, .f32⟩
  | .hbm, ⟨111, _⟩ => ⟨S8192x1, .f32⟩
  | .hbm, ⟨112, _⟩ => ⟨S8192x1, .f32⟩
  | .hbm, ⟨113, _⟩ => ⟨S8192x1, .f32⟩
  | .hbm, ⟨114, _⟩ => ⟨S8192x1024, .f32⟩
  | .hbm, ⟨115, _⟩ => ⟨S8192x1024, .f32⟩
  | .hbm, ⟨116, _⟩ => ⟨S8192x1024, .f32⟩
  | .hbm, ⟨117, _⟩ => ⟨S8192x1024, .f32⟩
  | .hbm, ⟨118, _⟩ => ⟨S8192x1024, .bf16⟩
  | .hbm, ⟨119, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_cst : Ref sig .tc := ⟨.hbm, 21, rfl⟩
abbrev main_call0_v0 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_cst_10 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_13 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_cst_15 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_16 : Ref sig .tc := ⟨.hbm, 104, rfl⟩
abbrev main_v78 : Ref sig .tc := ⟨.hbm, 105, rfl⟩
abbrev main_v79 : Ref sig .tc := ⟨.hbm, 106, rfl⟩
abbrev main_cst_17 : Ref sig .tc := ⟨.hbm, 107, rfl⟩
abbrev main_v80 : Ref sig .tc := ⟨.hbm, 108, rfl⟩
abbrev main_v81 : Ref sig .tc := ⟨.hbm, 109, rfl⟩
abbrev main_cst_18 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== FwdMlp.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8192x4096 : Shape := ⟨2, ![8192, 4096]⟩
abbrev S1x128 : Shape := ⟨2, ![1, 128]⟩
abbrev S1024x1024 : Shape := ⟨2, ![1024, 1024]⟩
abbrev S2x1024x512 : Shape := ⟨3, ![2, 1024, 512]⟩
abbrev S1024 : Shape := ⟨1, ![1024]⟩
abbrev S1024x1 : Shape := ⟨2, ![1024, 1]⟩
abbrev S1x1024x512 : Shape := ⟨3, ![1, 1024, 512]⟩
abbrev S1024x512 : Shape := ⟨2, ![1024, 512]⟩
abbrev S512x1024 : Shape := ⟨2, ![512, 1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S8192x4096, .bf16⟩
  | .hbm, ⟨11, _⟩ => ⟨S8192x1024, .f32⟩
  | .hbm, ⟨12, _⟩ => ⟨S1x1024, .f32⟩
  | .hbm, ⟨13, _⟩ => ⟨S1x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2x1024x512, .bf16⟩
  | .local _ .vmem, ⟨4, _⟩ => ⟨S2x1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1x1024, .f32⟩
  | .local _ .vmem, ⟨15, _⟩ => ⟨S1x128, .f32⟩
  | .local _ .vmem, ⟨16, _⟩ => ⟨S1024x1024, .bf16⟩
  | .local _ .vmem, ⟨17, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v40 : BitVec 1 := Scalar.cmpi .eq arg1 c3_i32
  let v41 : BitVec 32 := Scalar.extui v40
  let c0_i32_28 : BitVec 32 := 0#32
  let v42 : BitVec 1 := Scalar.cmpi .ne v41 c0_i32_28
  v42

def k0_cond2 (i : grid0.Coords) : BitVec 1 :=
  let arg0 : BitVec 32 := BitVec.ofNat 32 (i 0).val
  let c0_i32_25 : BitVec 32 := 0#32
  let v35 : BitVec 1 := Scalar.cmpi .eq arg0 c0_i32_25
  let arg1 : BitVec 32 := BitVec.ofNat 32 (i 1).val
  let c0_i32_26 : BitVec 32 := 0#32
  let v36 : BitVec 1 := Scalar.cmpi .eq arg1 c0_i32_26
  let v37 : BitVec 1 := Scalar.andi v35 v36
  let v38 : BitVec 32 := Scalar.extui v37
  let c0_i32_27 : BitVec 32 := 0#32
  let v39 : BitVec 1 := Scalar.cmpi .ne v38 c0_i32_27
  v39

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== FwdMlpRIdeal.lean ====
abbrev S8192x1024 : Shape := ⟨2, ![8192, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S8192 : Shape := ⟨1, ![8192]⟩
abbrev S8192x1 : Shape := ⟨2, ![8192, 1]⟩
abbrev S8192x4096 : Shape := ⟨2, ![8192, 4096]⟩
abbrev S1024 : Shape := ⟨1, ![1024]⟩
abbrev S1x128 : Shape := ⟨2, ![1, 128]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4096, .f32⟩
  | .hbm, ⟨3, _⟩ => ⟨S4096x1024, .f32⟩
  | .hbm, ⟨4, _⟩ => ⟨S1x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S8192, .f32⟩
  | .hbm, ⟨54, _⟩ => ⟨S_, .f32⟩
  | .hbm, ⟨55, _⟩ => ⟨S8192, .f32⟩
  | .hbm, ⟨56, _⟩ => ⟨S8192, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S8192, .f32⟩
  | .hbm, ⟨65, _⟩ => ⟨S_, .f32⟩
  | .hbm, ⟨66, _⟩ => ⟨S8192, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x4096, .bf16⟩
  | .hbm, ⟨94, _⟩ => ⟨S1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_cst : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_cst_10 : Ref sig .tc := ⟨.hbm, 59, rfl⟩
abbrev main_v40 : Ref sig .tc := ⟨.hbm, 60, rfl⟩
abbrev main_cst_11 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_16 : Ref sig .tc := ⟨.hbm, 83, rfl⟩
abbrev main_v58 : Ref sig .tc := ⟨.hbm, 84, rfl⟩
abbrev main_v59 : Ref sig .tc := ⟨.hbm, 85, rfl⟩
abbrev main_cst_17 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩

abbrev nD : Nat := 1
abbrev τ : Topo := Topo.v7x

variable {F : FTy → Type} [FloatOps F]
-- ==== AdamIn.lean ====
abbrev S1024x2560 : Shape := ⟨2, ![1024, 2560]⟩
abbrev S256x2560 : Shape := ⟨2, ![256, 2560]⟩

abbrev nBuf : Space → Nat
  | .hbm => 7
  | .vmem => 14
  | .smem => 0
  | _ => 0

abbrev bufTy : (tb : Table) → Fin (tcTables nBuf tb) → BufTy
  | .hbm, ⟨0, _⟩ => ⟨S1024x2560, .f32⟩
  | .hbm, ⟨1, _⟩ => ⟨S1024x2560, .f32⟩
  | .hbm, ⟨2, _⟩ => ⟨S1024x2560, .f32⟩
  | .hbm, ⟨3, _⟩ => ⟨S1024x2560, .f32⟩
  | .hbm, ⟨4, _⟩ => ⟨S1024x2560, .f32⟩
  | .hbm, ⟨5, _⟩ => ⟨S1024x2560, .f32⟩
  | .hbm, ⟨6, _⟩ => ⟨S1024x2560, .f32⟩
  | .local _ .vmem, ⟨0, _⟩ => ⟨S256x2560, .f32⟩
  | .local _ .vmem, ⟨1, _⟩ => ⟨S256x2560, .f32⟩
  | .local _ .vmem, ⟨2, _⟩ => ⟨S256x2560, .f32⟩
  | .local _ .vmem, ⟨3, _⟩ => ⟨S256x2560, .f32⟩
  | .local _ .vmem, ⟨4, _⟩ => ⟨S256x2560, .f32⟩
  | .local _ .vmem, ⟨5, _⟩ => ⟨S256x2560, .f32⟩
  | .local _ .vmem, ⟨6, _⟩ => ⟨S256x2560, .f32⟩
  | .local _ .vmem, ⟨7, _⟩ => ⟨S256x2560, .f32⟩
  | .local _ .vmem, ⟨8, _⟩ => ⟨S256x2560, .f32⟩
  | .local _ .vmem, ⟨9, _⟩ => ⟨S256x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .f32⟩
  | _, _ => ⟨S1024x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2560 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2560 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInRIdeal.lean ====
abbrev S1024x2560 : Shape := ⟨2, ![1024, 2560]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x2560, .f32⟩
  | .hbm, ⟨1, _⟩ => ⟨S1024x2560, .f32⟩
  | .hbm, ⟨2, _⟩ => ⟨S1024x2560, .f32⟩
  | .hbm, ⟨3, _⟩ => ⟨S1024x2560, .f32⟩
  | .hbm, ⟨4, _⟩ => ⟨S_, .f32⟩
  | .hbm, ⟨5, _⟩ => ⟨S1024x2560, .f32⟩
  | .hbm, ⟨6, _⟩ => ⟨S1024x2560, .f32⟩
  | .hbm, ⟨7, _⟩ => ⟨S_, .f32⟩
  | .hbm, ⟨8, _⟩ => ⟨S1024x2560, .f32⟩
  | .hbm, ⟨9, _⟩ => ⟨S1024x2560, .f32⟩
  | .hbm, ⟨10, _⟩ => ⟨S1024x2560, .f32⟩
  | .hbm, ⟨11, _⟩ => ⟨S_, .f32⟩
  | .hbm, ⟨12, _⟩ => ⟨S1024x2560, .f32⟩
  | .hbm, ⟨13, _⟩ => ⟨S1024x2560, .f32⟩
  | .hbm, ⟨14, _⟩ => ⟨S1024x2560, .f32⟩
  | .hbm, ⟨15, _⟩ => ⟨S_, .f32⟩
  | .hbm, ⟨16, _⟩ => ⟨S1024x2560, .f32⟩
  | .hbm, ⟨17, _⟩ => ⟨S1024x2560, .f32⟩
  | .hbm, ⟨18, _⟩ => ⟨S1024x2560, .f32⟩
  | .hbm, ⟨19, _⟩ => ⟨S_, .f32⟩
  | .hbm, ⟨20, _⟩ => ⟨S1024x2560, .f32⟩
  | .hbm, ⟨21, _⟩ => ⟨S1024x2560, .f32⟩
  | .hbm, ⟨22, _⟩ => ⟨S_, .f32⟩
  | .hbm, ⟨23, _⟩ => ⟨S1024x2560, .f32⟩
  | .hbm, ⟨24, _⟩ => ⟨S1024x2560, .f32⟩
  | .hbm, ⟨25, _⟩ => ⟨S1024x2560, .f32⟩
  | .hbm, ⟨26, _⟩ => ⟨S_, .f32⟩
  | .hbm, ⟨27, _⟩ => ⟨S1024x2560, .f32⟩
  | .hbm, ⟨28, _⟩ => ⟨S1024x2560, .f32⟩
  | .hbm, ⟨29, _⟩ => ⟨S1024x2560, .f32⟩
  | .hbm, ⟨30, _⟩ => ⟨S_, .f32⟩
  | .hbm, ⟨31, _⟩ => ⟨S1024x2560, .f32⟩
  | .hbm, ⟨32, _⟩ => ⟨S1024x2560, .f32⟩
  | .hbm, ⟨33, _⟩ => ⟨S1024x2560, .f32⟩
  | .hbm, ⟨34, _⟩ => ⟨S_, .f32⟩
  | .hbm, ⟨35, _⟩ => ⟨S1024x2560, .f32⟩
  | .hbm, ⟨36, _⟩ => ⟨S1024x2560, .f32⟩
  | _, _ => ⟨S1024x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== SumIn.lean ====
abbrev S8x320x1024 : Shape := ⟨3, ![8, 320, 1024]⟩
abbrev S320x1024 : Shape := ⟨2, ![320, 1024]⟩
abbrev S1x320x1024 : Shape := ⟨3, ![1, 320, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x320x1024, .bf16⟩
  | .hbm, ⟨1, _⟩ => ⟨S320x1024, .f32⟩
  | .local _ .vmem, ⟨0, _⟩ => ⟨S8x320x1024, .bf16⟩
  | .local _ .vmem, ⟨1, _⟩ => ⟨S320x1024, .f32⟩
  | _, _ => ⟨S8x320x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S320x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumInRIdeal.lean ====
abbrev S8x320x1024 : Shape := ⟨3, ![8, 320, 1024]⟩
abbrev S_ : Shape := ⟨0, ![]⟩
abbrev S320x1024 : Shape := ⟨2, ![320, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x320x1024, .bf16⟩
  | .hbm, ⟨1, _⟩ => ⟨S8x320x1024, .f32⟩
  | .hbm, ⟨2, _⟩ => ⟨S_, .f32⟩
  | .hbm, ⟨3, _⟩ => ⟨S320x1024, .f32⟩
  | _, _ => ⟨S8x320x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumLoss.lean ====
abbrev S8x1x128 : Shape := ⟨3, ![8, 1, 128]⟩
abbrev S1x128 : Shape := ⟨2, ![1, 128]⟩
abbrev S1x1x128 : Shape := ⟨3, ![1, 1, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x1x128, .f32⟩
  | .hbm, ⟨1, _⟩ => ⟨S1x128, .f32⟩
  | .local _ .vmem, ⟨0, _⟩ => ⟨S8x1x128, .f32⟩
  | .local _ .vmem, ⟨1, _⟩ => ⟨S1x128, .f32⟩
  | _, _ => ⟨S8x1x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== SumLossRIdeal.lean ====
abbrev S8x1x128 : Shape := ⟨3, ![8, 1, 128]⟩
abbrev S_ : Shape := ⟨0, ![]⟩
abbrev S1x128 : Shape := ⟨2, ![1, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1x128, .f32⟩
  | .hbm, ⟨1, _⟩ => ⟨S_, .f32⟩
  | .hbm, ⟨2, _⟩ => ⟨S1x128, .f32⟩
  | _, _ => ⟨S8x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.AttnOffsets.lean ====
/-
  The attention call's row and slab positions in closed form: where block `4 * trip + r`, the pair of blocks after the
  groups of four, and the block before the diagonal lie in the key array and in the two transposed accumulators.
-/
module

public import proofs.«01_k».proof.Proof.Gen.KernelIdeal
public import proofs.«01_k».proof.Proof.Gen.KernelIdeal.Skeleton
public import Idealize.ShloMosaic.Lib.Exec
public import Idealize.ShloMosaic.Lib.Tactic

@[expose] public section

set_option maxRecDepth 8192

namespace Cert.KernelIdeal.Attn

open Idealize.ShloMosaic Idealize.ShloMosaic.TcCoe Idealize.ShloMosaic.Tactic
open Cert.KernelIdeal Cert.KernelIdeal.Gen

/-- The loop over groups of four blocks runs `qi / 4` times. -/
theorem trips1 : ∀ i : grid0.Coords, (k0_t1_loop i).trips = (i 2).val / 4 := by decide +kernel
/-- The remainder loop of that loop's unit step never runs. -/
theorem trips2 : ∀ i : grid0.Coords, (k0_t2_loop i).trips = 0 := by decide +kernel

theorem off1_eq : ∀ (i : grid0.Coords) (k : Fin (k0_t1_loop i).trips) (r : Fin 4),
    k0_off1 i k (BitVec.ofNat 32 r.val) = ![256 * (4 * k.val + r.val), 0] := by decide +kernel
theorem off2_eq : ∀ (i : grid0.Coords) (k : Fin (k0_t1_loop i).trips) (r : Fin 4),
    k0_off2 i k (BitVec.ofNat 32 r.val) = ![4 * k.val + r.val, 0, 0] := by decide +kernel
theorem off5_eq : ∀ (i : grid0.Coords) (r : Fin 2),
    k0_off5 i (BitVec.ofNat 32 r.val) = ![256 * (4 * ((i 2).val / 4) + r.val), 0] := by decide +kernel
theorem off6_eq : ∀ (i : grid0.Coords) (r : Fin 2),
    k0_off6 i (BitVec.ofNat 32 r.val) = ![4 * ((i 2).val / 4) + r.val, 0, 0] := by decide +kernel
theorem off7_eq : ∀ (i : grid0.Coords), k0_cond3 i = 1#1 → k0_off7 i = ![256 * ((i 2).val - 1), 0] := by decide +kernel
theorem off9_eq : ∀ (i : grid0.Coords), k0_cond3 i = 1#1 → k0_off9 i = ![(i 2).val - 1, 0, 0] := by decide +kernel

/-- The condition under which the two accumulators are zeroed: the first query block. -/
abbrev condZ (i : grid0.Coords) : Prop :=
  Scalar.cmpi .ne (Scalar.extui (Scalar.cmpi .eq (BitVec.ofNat 32 (i 2).val) 0#32) : BitVec 32) 0#32 = 1#1
theorem condZ_iff : ∀ i : grid0.Coords, condZ i ↔ (i 2).val = 0 := by decide +kernel
theorem cond2_iff : ∀ i : grid0.Coords, k0_cond2 i = 1#1 ↔ (i 2).val / 2 % 2 = 1 := by decide +kernel
theorem cond3_iff : ∀ i : grid0.Coords, k0_cond3 i = 1#1 ↔ (i 2).val % 2 = 1 := by decide +kernel
theorem cond4_iff : ∀ i : grid0.Coords, k0_cond4 i = 1#1 ↔ (i 2).val = 15 := by decide +kernel

instance (i : grid0.Coords) (k : Fin (k0_t1_loop i).trips) : ClosedOff (k0_off2 i k 0#32) := ⟨![4 * k.val, 0, 0], off2_eq i k 0⟩
instance (i : grid0.Coords) (k : Fin (k0_t1_loop i).trips) : ClosedOff (k0_off2 i k 1#32) := ⟨![4 * k.val + 1, 0, 0], off2_eq i k 1⟩
instance (i : grid0.Coords) (k : Fin (k0_t1_loop i).trips) : ClosedOff (k0_off2 i k 2#32) := ⟨![4 * k.val + 2, 0, 0], off2_eq i k 2⟩
instance (i : grid0.Coords) (k : Fin (k0_t1_loop i).trips) : ClosedOff (k0_off2 i k 3#32) := ⟨![4 * k.val + 3, 0, 0], off2_eq i k 3⟩
instance (i : grid0.Coords) (k : Fin (k0_t1_loop i).trips) : ClosedOff (k0_off1 i k 0#32) := ⟨![256 * (4 * k.val), 0], off1_eq i k 0⟩
instance (i : grid0.Coords) (k : Fin (k0_t1_loop i).trips) : ClosedOff (k0_off1 i k 1#32) := ⟨![256 * (4 * k.val + 1), 0], off1_eq i k 1⟩
instance (i : grid0.Coords) (k : Fin (k0_t1_loop i).trips) : ClosedOff (k0_off1 i k 2#32) := ⟨![256 * (4 * k.val + 2), 0], off1_eq i k 2⟩
instance (i : grid0.Coords) (k : Fin (k0_t1_loop i).trips) : ClosedOff (k0_off1 i k 3#32) := ⟨![256 * (4 * k.val + 3), 0], off1_eq i k 3⟩
instance (i : grid0.Coords) : ClosedOff (k0_off5 i 0#32) := ⟨![256 * (4 * ((i 2).val / 4)), 0], off5_eq i 0⟩
instance (i : grid0.Coords) : ClosedOff (k0_off5 i 1#32) := ⟨![256 * (4 * ((i 2).val / 4) + 1), 0], off5_eq i 1⟩
instance (i : grid0.Coords) : ClosedOff (k0_off6 i 0#32) := ⟨![4 * ((i 2).val / 4), 0, 0], off6_eq i 0⟩
instance (i : grid0.Coords) : ClosedOff (k0_off6 i 1#32) := ⟨![4 * ((i 2).val / 4) + 1, 0, 0], off6_eq i 1⟩
instance (i : grid0.Coords) [h : Fact (k0_cond3 i = 1#1)] : ClosedOff (k0_off7 i) := ⟨![256 * ((i 2).val - 1), 0], off7_eq i h.out⟩
instance (i : grid0.Coords) [h : Fact (k0_cond3 i = 1#1)] : ClosedOff (k0_off9 i) := ⟨![(i 2).val - 1, 0, 0], off9_eq i h.out⟩

end Cert.KernelIdeal.Attn

end
-- ==== Proof.AttnTrip.lean ====
/-
  One trip of the attention call's loop over groups of four key blocks, run once at a symbolic trip: what it yields (the two
  prefix sums and the query gradient) and what it stores into the two transposed accumulators, as functions of the carried
  value and of what the accumulators hold when the trip starts; then the state before each trip, and the loop's invariant.
-/
module

public import proofs.«01_k».proof.Proof.AttnOffsets
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop carries: the two running prefix sums and the query block's gradient. -/
abbrev Carry (F : FTy → Type) : Type := FVec F S256x1 .f32 × FVec F S256x1 .f32 × FVec F S256x128 .f32

/-- The pieces stored into an accumulator. -/
abbrev Acc (F : FTy → Type) : Type := List (View.Piece (Elt F) S16x128x256 .f32)

/-- The buffers a trip touches: the keys, the values, the two triangles, and the two accumulators. -/
abbrev Res (c : Dev nD) (arg4 arg5 : Memref sig .tc .vmem S4096x128 .bf16) (arg8 arg9 : Memref sig .tc .vmem S256x256 .bf16) (arg13 arg14 : Memref sig .tc .vmem S16x128x256 .f32)
    (X4 : Buf (Elt F) (arg4.view.loc (c : Thread nD τ))) (X5 : Buf (Elt F) (arg5.view.loc (c : Thread nD τ)))
    (X8 : Buf (Elt F) (arg8.view.loc (c : Thread nD τ))) (X9 : Buf (Elt F) (arg9.view.loc (c : Thread nD τ)))
    (f13 : Buf (Elt F) (arg13.view.loc (c : Thread nD τ))) (f14 : Buf (Elt F) (arg14.view.loc (c : Thread nD τ))) : sProp 𝕄 :=
  iprop((arg4.view.loc (c : Thread nD τ) ↦[arg4.view.set]{fullShare} X4) ∗ (arg5.view.loc (c : Thread nD τ) ↦[arg5.view.set]{fullShare} X5)
    ∗ (arg8.view.loc (c : Thread nD τ) ↦[arg8.view.set]{fullShare} X8) ∗ (arg9.view.loc (c : Thread nD τ) ↦[arg9.view.set]{fullShare} X9)
    ∗ (arg13.view.loc (c : Thread nD τ) ↦[arg13.view.set]{fullShare} f13) ∗ (arg14.view.loc (c : Thread nD τ) ↦[arg14.view.set]{fullShare} f14))

section Trip

variable (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (v16 : BitVec 32) (v45 : IVec S1x128 32) (v47 : IVec S1x128 1) (v49 : IVec S1x128 1) (v57 : FVec F S256x128 .bf16) (v63 : FVec F S256x128 .bf16) (v67 : Vec F S256x128 .bf16) (v71 : Vec F S256x128 .bf16) (v78 : FVec F S128x512 .bf16) (v85 : FVec F S128x512 .bf16) (v87 : FVec F S256x128 .f32) (v89 : FVec F S256x128 .f32) (v90 : FVec F S256x1 .f32) (v124 : BitVec 32) (v125 : FVec F S256x128 .f32)
  (X4 : Buf (Elt F) (arg4.view.loc (c : Thread nD τ))) (X5 : Buf (Elt F) (arg5.view.loc (c : Thread nD τ)))
  (X8 : Buf (Elt F) (arg8.view.loc (c : Thread nD τ))) (X9 : Buf (Elt F) (arg9.view.loc (c : Thread nD τ)))

set_option maxHeartbeats 4000000 in
/-- ONE TRIP at a symbolic `k`, its yield and its stores found by the run. -/
def trip (k : Fin (k0_t1_loop i).trips) (acc : Carry F)
    (f13 : Buf (Elt F) (arg13.view.loc (c : Thread nD τ))) (f14 : Buf (Elt F) (arg14.view.loc (c : Thread nD τ))) :
    Σ' (R : Carry F) (L13 : Acc F), { L14 : Acc F //
      Res c arg4 arg5 arg8 arg9 arg13 arg14 X4 X5 X8 X9 f13 f14
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 k acc)
        (fun y => iprop(⌜y = R⌝ ∗ Res c arg4 arg5 arg8 arg9 arg13 arg14 X4 X5 X8 X9
          (arg13.view.writes (Elt F) f13 L13) (arg14.view.writes (Elt F) f14 L14))) } := by
  refine ⟨?_, ?_, ?_, ?run⟩
  case run =>
    unfold k0_t1_body
    iintro ⟨H4, H5, H8, H9, H13, H14⟩
    sl_exec
    sl_step
    isplitr; · ipureintro; rfl
    isplitl [H4]; · iexact H4
    isplitl [H5]; · iexact H5
    isplitl [H8]; · iexact H8
    isplitl [H9]; · iexact H9
    isplitl [H13]; · iexact H13
    iexact H14

end Trip

end Cert.KernelIdeal.Attn

end
-- ==== Proof.AttnLoop.lean ====
/-
  The attention call's loop over groups of four key blocks: the state before each trip, and the loop's invariant; and the
  loop over the remaining groups, which never runs a trip.
-/
module

public import proofs.«01_k».proof.Proof.AttnTrip

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loop

variable (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (v16 : BitVec 32) (v45 : IVec S1x128 32) (v47 : IVec S1x128 1) (v49 : IVec S1x128 1) (v57 : FVec F S256x128 .bf16) (v63 : FVec F S256x128 .bf16) (v67 : Vec F S256x128 .bf16) (v71 : Vec F S256x128 .bf16) (v78 : FVec F S128x512 .bf16) (v85 : FVec F S128x512 .bf16) (v87 : FVec F S256x128 .f32) (v89 : FVec F S256x128 .f32) (v90 : FVec F S256x1 .f32) (v124 : BitVec 32) (v125 : FVec F S256x128 .f32)
  (X4 : Buf (Elt F) (arg4.view.loc (c : Thread nD τ))) (X5 : Buf (Elt F) (arg5.view.loc (c : Thread nD τ)))
  (X8 : Buf (Elt F) (arg8.view.loc (c : Thread nD τ))) (X9 : Buf (Elt F) (arg9.view.loc (c : Thread nD τ)))
  (init : Carry F) (G13 : Buf (Elt F) (arg13.view.loc (c : Thread nD τ))) (G14 : Buf (Elt F) (arg14.view.loc (c : Thread nD τ)))

/-- What is carried and what the two accumulators hold before trip `k`. -/
def st : ℕ → Carry F × Buf (Elt F) (arg13.view.loc (c : Thread nD τ)) × Buf (Elt F) (arg14.view.loc (c : Thread nD τ))
  | 0 => (init, G13, G14)
  | k + 1 =>
    if h : k < (k0_t1_loop i).trips then
      ((trip c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 ⟨k, h⟩ (st k).1 (st k).2.1 (st k).2.2).1,
        arg13.view.writes (Elt F) (st k).2.1 (trip c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 ⟨k, h⟩ (st k).1 (st k).2.1 (st k).2.2).2.1,
        arg14.view.writes (Elt F) (st k).2.2 (trip c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 ⟨k, h⟩ (st k).1 (st k).2.1 (st k).2.2).2.2.1)
    else st k

/-- The loop's invariant: the state before trip `k`. -/
abbrev Inv (k : ℕ) (acc : Carry F) : sProp 𝕄 :=
  iprop(⌜acc = (st c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k).1⌝
    ∗ Res c arg4 arg5 arg8 arg9 arg13 arg14 X4 X5 X8 X9 (st c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k).2.1 (st c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k).2.2)

theorem inv_step (k : Fin (k0_t1_loop i).trips) (acc : Carry F) :
    Inv c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k.val acc
      ⊢ wp frame (wpE (defs₀ (F := F)) Variants.none (c : Thread nD τ) none) Set.univ (k0_t1_body (F := F) i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 k acc)
          (Inv c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 (k.val + 1)) := by
  unfold Inv
  rw [st, dif_pos k.isLt]
  iintro ⟨%h, H⟩
  subst h
  iapply (wp_wand_r Idealize.ShloMosaic.frame (wpE (defs₀ (F := F)) Variants.none (c : Thread nD τ) none) Set.univ)
  isplitl [H]
  · iapply (trip c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 k _ _ _).2.2.2; iexact H
  · iintro %_ H'
    iexact H'

set_option warn.classDefReducibility false in
/-- The loop over groups of four. -/
@[sl_loop] def loopInv_t1 : LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 init where
  inv k acc := Inv c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k acc
  step k acc := inv_step c i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 X4 X5 X8 X9 init G13 G14 k acc

set_option warn.classDefReducibility false in
/-- The loop over what is left, which runs no trip. -/
@[sl_loop] def loopInv_t2 (v130 : BitVec 32) : LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 arg14 harg14 v16 v45 v47 v49 v57 v63 v67 v71 v78 v85 v87 v89 v90 v124 v125 v130 init where
  inv k acc := iprop(⌜acc = init⌝)
  step k _ := (Nat.not_lt_zero _ (Nat.lt_of_lt_of_eq k.isLt (trips2 i))).elim

end Loop

end Cert.KernelIdeal.Attn

end
-- ==== Proof.AttnRunA.lean ====
/-
  The attention call's body at the first query block of a head pair, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at the first query block of a head pair: what it stores into its outputs and what the two accumulators hold after it, found by the run. -/
def runA (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : condZ i) (h2 : ¬k0_cond2 i = 1#1) (h3 : ¬k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) :
    Σ' (L10 : List (View.Piece (Elt F) S256x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg13 fullShare d) ∗ (∃ d, owns (c : Thread nD τ) arg14 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  have htr : (k0_t1_loop i).trips = 0 := by rw [trips1, (condZ_iff i).mp hz]
  refine ⟨?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d13, %f13, -, H13⟩, ⟨%d14, %f14, -, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H13]
    · iexists _; isplitr; swap; · iexact H13
      ipureintro; rfl
    iexists _; isplitr; swap; · iexact H14
    ipureintro; rfl

end Cert.KernelIdeal.Attn

end
-- ==== Proof.AttnRunB.lean ====
/-
  The attention call's body at a query block with neither a pair nor a single left over, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at a query block with neither a pair nor a single left over: what it stores into its outputs and what the two accumulators hold after it, found by the run. -/
def runB (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : ¬condZ i) (h2 : ¬k0_cond2 i = 1#1) (h3 : ¬k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) :
    Σ' (L10 : List (View.Piece (Elt F) S256x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg13 fullShare s13 ∗ owns (c : Thread nD τ) arg14 fullShare s14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  refine ⟨?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H13]
    · iexists _; isplitr; swap; · iexact H13
      ipureintro; rfl
    iexists _; isplitr; swap; · iexact H14
    ipureintro; rfl

end Cert.KernelIdeal.Attn

end
-- ==== Proof.AttnRunC.lean ====
/-
  The attention call's body at a query block with a pair left over, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at a query block with a pair left over: what it stores into its outputs and what the two accumulators hold after it, found by the run. -/
def runC (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : ¬condZ i) (h2 : k0_cond2 i = 1#1) (h3 : ¬k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) :
    Σ' (L10 : List (View.Piece (Elt F) S256x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg13 fullShare s13 ∗ owns (c : Thread nD τ) arg14 fullShare s14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  refine ⟨?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H13]
    · iexists _; isplitr; swap; · iexact H13
      ipureintro; rfl
    iexists _; isplitr; swap; · iexact H14
    ipureintro; rfl

end Cert.KernelIdeal.Attn

end
-- ==== Proof.AttnRunD.lean ====
/-
  The attention call's body at a query block with a single left over, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at a query block with a single left over: what it stores into its outputs and what the two accumulators hold after it, found by the run. -/
def runD (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : ¬condZ i) (h2 : ¬k0_cond2 i = 1#1) (h3 : k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) :
    Σ' (L10 : List (View.Piece (Elt F) S256x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg13 fullShare s13 ∗ owns (c : Thread nD τ) arg14 fullShare s14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  haveI : Fact (k0_cond3 i = 1#1) := ⟨h3⟩
  refine ⟨?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H13]
    · iexists _; isplitr; swap; · iexact H13
      ipureintro; rfl
    iexists _; isplitr; swap; · iexact H14
    ipureintro; rfl

end Cert.KernelIdeal.Attn

end
-- ==== Proof.AttnRunE.lean ====
/-
  The attention call's body at a query block with a pair and a single left over, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at a query block with a pair and a single left over: what it stores into its outputs and what the two accumulators hold after it, found by the run. -/
def runE (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : ¬condZ i) (h2 : k0_cond2 i = 1#1) (h3 : k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) :
    Σ' (L10 : List (View.Piece (Elt F) S256x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg13 fullShare s13 ∗ owns (c : Thread nD τ) arg14 fullShare s14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  haveI : Fact (k0_cond3 i = 1#1) := ⟨h3⟩
  refine ⟨?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H13]
    · iexists _; isplitr; swap; · iexact H13
      ipureintro; rfl
    iexists _; isplitr; swap; · iexact H14
    ipureintro; rfl

end Cert.KernelIdeal.Attn

end
-- ==== Proof.AttnRunG.lean ====
/-
  The attention call's body at the last query block of a head pair, run once.
-/
module

public import proofs.«01_k».proof.Proof.AttnLoop

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 4000000 in
/-- THE BODY at the last query block of a head pair: what it stores into its outputs and what the two accumulators hold after it, found by the run. -/
def runG (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (hz : ¬condZ i) (h2 : k0_cond2 i = 1#1) (h3 : k0_cond3 i = 1#1) (h4 : k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) :
    Σ' (L10 : List (View.Piece (Elt F) S256x128 .bf16)) (L11 L12 : List (View.Piece (Elt F) S4096x128 .bf16)) (R13 : Vec F S16x128x256 .f32), { R14 : Vec F S16x128x256 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12) ∗ owns (c : Thread nD τ) arg13 fullShare R13 ∗ owns (c : Thread nD τ) arg14 fullShare R14) -∗ K ⟨⟩))
          ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K } := by
  haveI : Fact (k0_cond3 i = 1#1) := ⟨h3⟩
  refine ⟨?_, ?_, ?_, ?_, ?_, fun K => ?run⟩
  case run =>
    simp only [cc0_attn_bwd_eq_skeleton]; unfold cc0_attn_bwd_skel
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%f13, %hf13, H13⟩, ⟨%f14, %hf14, H14⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg13.eq_unread hf13; obtain rfl := harg14.eq_unread hf14
    sl_exec (disch := first | sl_exact hz | sl_exact h2 | sl_exact h3 | sl_exact h4)
    sl_step
    iapply Hk
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]
    · iexists _; isplitr; swap; · iexact H13
      ipureintro; rfl
    iexists _; isplitr; swap; · iexact H14
    ipureintro; rfl

end Cert.KernelIdeal.Attn

end
-- ==== Proof.AttnStep.lean ====
/-
  What the attention call's body leaves at a point, in one function over the point's case: the query block's gradient, the
  key and value gradients at the last point of a head pair, and the two accumulators.
-/
module

public import proofs.«01_k».proof.Proof.AttnRunA
public import proofs.«01_k».proof.Proof.AttnRunB
public import proofs.«01_k».proof.Proof.AttnRunC
public import proofs.«01_k».proof.Proof.AttnRunD
public import proofs.«01_k».proof.Proof.AttnRunE
public import proofs.«01_k».proof.Proof.AttnRunG
public import Idealize.ShloMosaic.Lib.Ring

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

theorem condZ_cond2 {i : grid0.Coords} (h : condZ i) : ¬k0_cond2 i = 1#1 := fun h' => by
  have h := (condZ_iff i).mp h; have h' := (cond2_iff i).mp h'; omega
theorem condZ_cond3 {i : grid0.Coords} (h : condZ i) : ¬k0_cond3 i = 1#1 := fun h' => by
  have h := (condZ_iff i).mp h; have h' := (cond3_iff i).mp h'; omega
theorem condZ_cond4 {i : grid0.Coords} (h : condZ i) : ¬k0_cond4 i = 1#1 := fun h' => by
  have h := (condZ_iff i).mp h; have h' := (cond4_iff i).mp h'; omega
theorem cond4_condZ {i : grid0.Coords} (h : k0_cond4 i = 1#1) : ¬condZ i := fun h' => condZ_cond4 h' h
theorem cond4_cond2 {i : grid0.Coords} (h : k0_cond4 i = 1#1) : k0_cond2 i = 1#1 := by
  have h := (cond4_iff i).mp h; exact (cond2_iff i).mpr (by omega)
theorem cond4_cond3 {i : grid0.Coords} (h : k0_cond4 i = 1#1) : k0_cond3 i = 1#1 := by
  have h := (cond4_iff i).mp h; exact (cond3_iff i).mpr (by omega)

/-- What a point leaves: dq, dk, dv, and the accumulators of dk and dv. -/
abbrev Out (F : FTy → Type) : Type :=
  Vec F S256x128 .bf16 × Vec F S4096x128 .bf16 × Vec F S4096x128 .bf16 × Vec F S16x128x256 .f32 × Vec F S16x128x256 .f32

theorem coverA_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : condZ i)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (y : S256x128.Idx) :
    ∃ pc ∈ (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).1, y ∈ pc.1.set :=
  View.cover_of_tiledL (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).1 S256x128.size (by sl_kernel_rfl) y

theorem coverB_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : ¬condZ i) (h2 : ¬k0_cond2 i = 1#1) (h3 : ¬k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S256x128.Idx) :
    ∃ pc ∈ (runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1, y ∈ pc.1.set :=
  View.cover_of_tiledL (runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1 S256x128.size (by sl_kernel_rfl) y

theorem coverC_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : ¬condZ i) (h2 : k0_cond2 i = 1#1) (h3 : ¬k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S256x128.Idx) :
    ∃ pc ∈ (runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1, y ∈ pc.1.set :=
  View.cover_of_tiledL (runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1 S256x128.size (by sl_kernel_rfl) y

theorem coverD_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : ¬condZ i) (h2 : ¬k0_cond2 i = 1#1) (h3 : k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S256x128.Idx) :
    ∃ pc ∈ (runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1, y ∈ pc.1.set :=
  View.cover_of_tiledL (runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1 S256x128.size (by sl_kernel_rfl) y

theorem coverE_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : ¬condZ i) (h2 : k0_cond2 i = 1#1) (h3 : k0_cond3 i = 1#1) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S256x128.Idx) :
    ∃ pc ∈ (runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1, y ∈ pc.1.set :=
  View.cover_of_tiledL (runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1 S256x128.size (by sl_kernel_rfl) y

theorem coverG_10 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (h4 : k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S256x128.Idx) :
    ∃ pc ∈ (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).1, y ∈ pc.1.set :=
  View.cover_of_tiledL (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).1 S256x128.size (by sl_kernel_rfl) y

theorem coverG_11 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (h4 : k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S4096x128.Idx) :
    ∃ pc ∈ (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.1, y ∈ pc.1.set :=
  View.cover_of_tiledL (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.1 S256x128.size (by sl_kernel_rfl) y

theorem coverG_12 (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (h4 : k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (y : S4096x128.Idx) :
    ∃ pc ∈ (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.1, y ∈ pc.1.set :=
  View.cover_of_tiledL (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.1 S256x128.size (by sl_kernel_rfl) y

/-- What the body leaves at coordinates `i`, from the blocks it reads and what the accumulators held. -/
def stepOut (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) : Out F :=
  if hz : condZ i then (arg10.view.read (Elt F) (arg10.view.writes (Elt F) arg10.view.junk (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).1), arg11.view.read (Elt F) arg11.view.junk, arg12.view.read (Elt F) arg12.view.junk, (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).2.1, (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).2.2.1)
  else if h4 : k0_cond4 i = 1#1 then (arg10.view.read (Elt F) (arg10.view.writes (Elt F) arg10.view.junk (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).1), arg11.view.read (Elt F) (arg11.view.writes (Elt F) arg11.view.junk (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.1), arg12.view.read (Elt F) (arg12.view.writes (Elt F) arg12.view.junk (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.1), (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.2.1, (runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.2.2.1)
  else if h2 : k0_cond2 i = 1#1 then
    if h3 : k0_cond3 i = 1#1 then (arg10.view.read (Elt F) (arg10.view.writes (Elt F) arg10.view.junk (runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1), arg11.view.read (Elt F) arg11.view.junk, arg12.view.read (Elt F) arg12.view.junk, (runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.1, (runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.1)
    else (arg10.view.read (Elt F) (arg10.view.writes (Elt F) arg10.view.junk (runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1), arg11.view.read (Elt F) arg11.view.junk, arg12.view.read (Elt F) arg12.view.junk, (runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.1, (runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.1)
  else
    if h3 : k0_cond3 i = 1#1 then (arg10.view.read (Elt F) (arg10.view.writes (Elt F) arg10.view.junk (runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1), arg11.view.read (Elt F) arg11.view.junk, arg12.view.read (Elt F) arg12.view.junk, (runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.1, (runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.1)
    else (arg10.view.read (Elt F) (arg10.view.writes (Elt F) arg10.view.junk (runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).1), arg11.view.read (Elt F) arg11.view.junk, arg12.view.read (Elt F) arg12.view.junk, (runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.1, (runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.1)

/-- At the first query block what the accumulators held does not matter. -/
theorem stepOut_first (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : condZ i)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 s13' s14' : Vec F S16x128x256 .f32) :
    stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13' s14' := by
  have e (a b : Vec F S16x128x256 .f32) : stepOut c i arg3 harg3 arg4 harg4 arg5 harg5 arg6 harg6 arg7 harg7 arg8 harg8 arg9 harg9 arg10 harg10 arg11 harg11 arg12 harg12 arg13 harg13 arg14 harg14 x3 x4 x5 x6 x7 x8 x9 a b = (arg10.view.read (Elt F) (arg10.view.writes (Elt F) arg10.view.junk (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).1), arg11.view.read (Elt F) arg11.view.junk, arg12.view.read (Elt F) arg12.view.junk, (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).2.1, (runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).2.2.1) := dif_pos hz
  rw [e, e]

set_option maxHeartbeats 1000000 in
/-- The body at the first query block of a head pair. -/
theorem body_first (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : condZ i)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg13 fullShare d) ∗ (∃ d, owns (c : Thread nD τ) arg14 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).1 ∗ owns (c : Thread nD τ) arg13 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.1 ∗ owns (c : Thread nD τ) arg14 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.2) -∗ K ⟨⟩))
      ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K := by
  rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from dif_pos hz]; (try dsimp only)
  iintro ⟨H3, H4, H5, H6, H7, H8, H9, H10, H13, H14, Hk⟩
  iapply ((runA c i arg3 harg3 arg4 harg4 arg5 harg5 arg6 harg6 arg7 harg7 arg8 harg8 arg9 harg9 arg10 harg10 arg11 harg11 arg12 harg12 arg13 harg13 arg14 harg14 hz (condZ_cond2 hz) (condZ_cond3 hz) (condZ_cond4 hz) x3 x4 x5 x6 x7 x8 x9).2.2.2 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H13]; · iexact H13
  isplitl [H14]; · iexact H14
  iintro ⟨H3, H4, H5, H6, H7, H8, H9, ⟨%e10, H10⟩, H13, H14⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverA_10 c i arg3 harg3 arg4 harg4 arg5 harg5 arg6 harg6 arg7 harg7 arg8 harg8 arg9 harg9 arg10 harg10 arg11 harg11 arg12 harg12 arg13 harg13 arg14 harg14 hz x3 x4 x5 x6 x7 x8 x9)
  isplitl [H13]; · iexact H13
  iexact H14

set_option maxHeartbeats 1000000 in
/-- The body at a query block between the first and the last. -/
theorem body_mid (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (hz : ¬condZ i) (h4 : ¬k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ owns (c : Thread nD τ) arg13 fullShare s13 ∗ owns (c : Thread nD τ) arg14 fullShare s14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).1 ∗ owns (c : Thread nD τ) arg13 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.1 ∗ owns (c : Thread nD τ) arg14 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.2) -∗ K ⟨⟩))
      ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K := by
  by_cases h2 : k0_cond2 i = 1#1
  · by_cases h3 : k0_cond3 i = 1#1
    · rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from (dif_neg hz).trans ((dif_neg h4).trans ((dif_pos h2).trans (dif_pos h3)))]; (try dsimp only)
      iintro ⟨H3, H4, H5, H6, H7, H8, H9, H10, H13, H14, Hk⟩
      iapply ((runE c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.2 _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H13]; · iexact H13
      isplitl [H14]; · iexact H14
      iintro ⟨H3, H4, H5, H6, H7, H8, H9, ⟨%e10, H10⟩, H13, H14⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverE_10 c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14)
      isplitl [H13]; · iexact H13
      iexact H14
    · rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from (dif_neg hz).trans ((dif_neg h4).trans ((dif_pos h2).trans (dif_neg h3)))]; (try dsimp only)
      iintro ⟨H3, H4, H5, H6, H7, H8, H9, H10, H13, H14, Hk⟩
      iapply ((runC c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.2 _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H13]; · iexact H13
      isplitl [H14]; · iexact H14
      iintro ⟨H3, H4, H5, H6, H7, H8, H9, ⟨%e10, H10⟩, H13, H14⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverC_10 c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14)
      isplitl [H13]; · iexact H13
      iexact H14
  · by_cases h3 : k0_cond3 i = 1#1
    · rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from (dif_neg hz).trans ((dif_neg h4).trans ((dif_neg h2).trans (dif_pos h3)))]; (try dsimp only)
      iintro ⟨H3, H4, H5, H6, H7, H8, H9, H10, H13, H14, Hk⟩
      iapply ((runD c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.2 _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H13]; · iexact H13
      isplitl [H14]; · iexact H14
      iintro ⟨H3, H4, H5, H6, H7, H8, H9, ⟨%e10, H10⟩, H13, H14⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverD_10 c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14)
      isplitl [H13]; · iexact H13
      iexact H14
    · rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from (dif_neg hz).trans ((dif_neg h4).trans ((dif_neg h2).trans (dif_neg h3)))]; (try dsimp only)
      iintro ⟨H3, H4, H5, H6, H7, H8, H9, H10, H13, H14, Hk⟩
      iapply ((runB c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14).2.2.2 _)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H13]; · iexact H13
      isplitl [H14]; · iexact H14
      iintro ⟨H3, H4, H5, H6, H7, H8, H9, ⟨%e10, H10⟩, H13, H14⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (coverB_10 c i arg3 harg3 arg4 harg4 arg5 harg5 arg6 harg6 arg7 harg7 arg8 harg8 arg9 harg9 arg10 harg10 arg11 harg11 arg12 harg12 arg13 harg13 arg14 harg14 hz h2 h3 h4 x3 x4 x5 x6 x7 x8 x9 s13 s14)
      isplitl [H13]; · iexact H13
      iexact H14

set_option maxHeartbeats 1000000 in
/-- The body at the last query block of a head pair. -/
theorem body_last (c : Dev nD) (i : grid0.Coords) (arg3 : Memref sig .tc .vmem S256x128 .bf16) (harg3 : arg3.IsWhole) (arg4 : Memref sig .tc .vmem S4096x128 .bf16) (harg4 : arg4.IsWhole) (arg5 : Memref sig .tc .vmem S4096x128 .bf16) (harg5 : arg5.IsWhole) (arg6 : Memref sig .tc .vmem S256x256 .f32) (harg6 : arg6.IsWhole) (arg7 : Memref sig .tc .vmem S256x128 .bf16) (harg7 : arg7.IsWhole) (arg8 : Memref sig .tc .vmem S256x256 .bf16) (harg8 : arg8.IsWhole) (arg9 : Memref sig .tc .vmem S256x256 .bf16) (harg9 : arg9.IsWhole) (arg10 : Memref sig .tc .vmem S256x128 .bf16) (harg10 : arg10.IsWhole) (arg11 : Memref sig .tc .vmem S4096x128 .bf16) (harg11 : arg11.IsWhole) (arg12 : Memref sig .tc .vmem S4096x128 .bf16) (harg12 : arg12.IsWhole) (arg13 : Memref sig .tc .vmem S16x128x256 .f32) (harg13 : arg13.IsWhole) (arg14 : Memref sig .tc .vmem S16x128x256 .f32) (harg14 : arg14.IsWhole) (h4 : k0_cond4 i = 1#1)
    (x3 : Vec F S256x128 .bf16) (x4 : Vec F S4096x128 .bf16) (x5 : Vec F S4096x128 .bf16) (x6 : Vec F S256x256 .f32) (x7 : Vec F S256x128 .bf16) (x8 : Vec F S256x256 .bf16) (x9 : Vec F S256x256 .bf16) (s13 s14 : Vec F S16x128x256 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ (∃ d, owns (c : Thread nD τ) arg10 fullShare d) ∗ (∃ d, owns (c : Thread nD τ) arg11 fullShare d) ∗ (∃ d, owns (c : Thread nD τ) arg12 fullShare d) ∗ owns (c : Thread nD τ) arg13 fullShare s13 ∗ owns (c : Thread nD τ) arg14 fullShare s14
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).1 ∗ owns (c : Thread nD τ) arg11 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.1 ∗ owns (c : Thread nD τ) arg12 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.1 ∗ owns (c : Thread nD τ) arg13 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.1 ∗ owns (c : Thread nD τ) arg14 fullShare (stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14).2.2.2.2) -∗ K ⟨⟩))
      ⊢ wp frame (wpE (defs₀ (F := F)) Variants.none (c : Thread nD τ) none) Set.univ (cc0_attn_bwd (F := F) i arg3 harg3 arg4 harg4 arg5 harg5 arg6 harg6 arg7 harg7 arg8 harg8 arg9 harg9 arg10 harg10 arg11 harg11 arg12 harg12 arg13 harg13 arg14 harg14) K := by
  rw [show stepOut c i arg3 harg3 arg4 harg4 arg5 harg5 arg6 harg6 arg7 harg7 arg8 harg8 arg9 harg9 arg10 harg10 arg11 harg11 arg12 harg12 arg13 harg13 arg14 harg14 x3 x4 x5 x6 x7 x8 x9 s13 s14 = _ from (dif_neg (cond4_condZ h4)).trans (dif_pos h4)]; (try dsimp only)
  iintro ⟨H3, H4, H5, H6, H7, H8, H9, H10, H11, H12, H13, H14, Hk⟩
  iapply ((runG c i arg3 harg3 arg4 harg4 arg5 harg5 arg6 harg6 arg7 harg7 arg8 harg8 arg9 harg9 arg10 harg10 arg11 harg11 arg12 harg12 arg13 harg13 arg14 harg14 (cond4_condZ h4) (cond4_cond2 h4) (cond4_cond3 h4) h4 x3 x4 x5 x6 x7 x8 x9 s13 s14).2.2.2.2.2 _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iintro ⟨H3, H4, H5, H6, H7, H8, H9, ⟨%e10, H10⟩, ⟨%e11, H11⟩, ⟨%e12, H12⟩, H13, H14⟩
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · unfold owns; iexists _; isplitr
    swap; · iexact H10
    ipureintro; exact View.read_writes_of_cover _ _ _ _ _ (coverG_10 c i arg3 harg3 arg4 harg4 arg5 harg5 arg6 harg6 arg7 harg7 arg8 harg8 arg9 harg9 arg10 harg10 arg11 harg11 arg12 harg12 arg13 harg13 arg14 harg14 h4 x3 x4 x5 x6 x7 x8 x9 s13 s14)
  isplitl [H11]
  · unfold owns; iexists _; isplitr
    swap; · iexact H11
    ipureintro; exact View.read_writes_of_cover _ _ _ _ _ (coverG_11 c i arg3 harg3 arg4 harg4 arg5 harg5 arg6 harg6 arg7 harg7 arg8 harg8 arg9 harg9 arg10 harg10 arg11 harg11 arg12 harg12 arg13 harg13 arg14 harg14 h4 x3 x4 x5 x6 x7 x8 x9 s13 s14)
  isplitl [H12]
  · unfold owns; iexists _; isplitr
    swap; · iexact H12
    ipureintro; exact View.read_writes_of_cover _ _ _ _ _ (coverG_12 c i arg3 harg3 arg4 harg4 arg5 harg5 arg6 harg6 arg7 harg7 arg8 harg8 arg9 harg9 arg10 harg10 arg11 harg11 arg12 harg12 arg13 harg13 arg14 harg14 h4 x3 x4 x5 x6 x7 x8 x9 s13 s14)
  isplitl [H13]; · iexact H13
  iexact H14

end Cert.KernelIdeal.Attn

end
-- ==== Proof.AttnFrame.lean ====
/-
  The attention call's frame: what every buffer holds before each grid point, the body's obligation there, and the run.
-/
module

public import proofs.«01_k».proof.Proof.AttnStep

public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms_0 (t : Fin cfg0.N) : Memref sig .tc .vmem S256x128 .bf16 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S4096x128 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S4096x128 .bf16 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S256x256 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S256x128 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S256x256 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S256x256 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S256x128 .bf16 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S4096x128 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S4096x128 .bf16 := win0_9.stage (cfg0.slots t 9)
abbrev hs_9 (t : Fin cfg0.N) : (ms_9 t).IsWhole := hstage0_9 ((cfg0.slots t 9).cast nbuf0_9)
/-- The two accumulators. -/
abbrev scM_0 : Memref sig .tc .vmem S16x128x256 .f32 := Memref.whole cc0_scratch0
abbrev scM_1 : Memref sig .tc .vmem S16x128x256 .f32 := Memref.whole cc0_scratch1

theorem ΦA_eq (c : Dev nD) :
    (Pipeline.ΦA spec0 c : sProp 𝕄)
      = iprop(iprop((∃ d, owns (c : Thread nD τ) scM_0 fullShare d) ∗ (∃ d, owns (c : Thread nD τ) scM_1 fullShare d)) ∗ (∃ r, prngReg c r)) := by
  unfold Pipeline.ΦA; rw [scopedRest0_eq]; simp only [scM_0, scM_1, owns_whole]; try rfl

/-! ## The points by their case -/

theorem coord2 (t : Fin cfg0.N) : (grid0.coords t 2).val = t.val % 16 := by
  have e : (grid0.coords t 2).val = t.val / 1 % 16 := Pipeline.Grid.coords_val t 2 (by decide) rfl
  rw [e, Nat.div_one]

theorem first_iff (t : Fin cfg0.N) : condZ (grid0.coords t) ↔ t.val % 16 = 0 := by rw [condZ_iff, coord2]
theorem last_iff (t : Fin cfg0.N) : k0_cond4 (grid0.coords t) = 1#1 ↔ t.val % 16 = 15 := by rw [cond4_iff, coord2]

theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem live_6 : ∀ t : Fin cfg0.N, cfg0.idle 6 (grid0.coords t) = false := fun _ => rfl
theorem live_7 : ∀ t : Fin cfg0.N, cfg0.idle 7 (grid0.coords t) = false := by decide +kernel
theorem idle_8 : ∀ t : Fin cfg0.N, ¬t.val % 16 = 15 → cfg0.idle 8 (grid0.coords t) = true := by decide +kernel
theorem live_8 : ∀ t : Fin cfg0.N, t.val % 16 = 15 → cfg0.idle 8 (grid0.coords t) = false := by decide +kernel
theorem noFlush_8 (t : Fin cfg0.N) (h : ¬t.val % 16 = 15) : (cfg0.win 8).flush t = false := by
  rw [← Bool.not_eq_true, flush0_8]; exact h
theorem idle_9 : ∀ t : Fin cfg0.N, ¬t.val % 16 = 15 → cfg0.idle 9 (grid0.coords t) = true := by decide +kernel
theorem live_9 : ∀ t : Fin cfg0.N, t.val % 16 = 15 → cfg0.idle 9 (grid0.coords t) = false := by decide +kernel
theorem noFlush_9 (t : Fin cfg0.N) (h : ¬t.val % 16 = 15) : (cfg0.win 9).flush t = false := by
  rw [← Bool.not_eq_true, flush0_9]; exact h

/-! ## What the buffers hold after each point -/

/-- What the body leaves at point `t`, from what the accumulators held before it. -/
def stepAt (c : Dev nD) (t : Fin cfg0.N) (s13 s14 : Vec F S16x128x256 .f32) : Out F :=
  stepOut c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (iblk m c 0 t) (iblk m c 1 t) (iblk m c 2 t) (iblk m c 3 t) (iblk m c 4 t) (iblk m c 5 t) (iblk m c 6 t) s13 s14

/-- At the first query block of a head pair what the accumulators held does not matter. -/
theorem stepAt_first (c : Dev nD) (t : Fin cfg0.N) (h : t.val % 16 = 0) (s13 s14 s13' s14' : Vec F S16x128x256 .f32) :
    stepAt m c t s13 s14 = stepAt m c t s13' s14' := by
  exact stepOut_first _ _ _ _ _ _ _ _ _ _ _ _ _ _ _ _ _ _ _ _ _ _ _ _ _ _ ((first_iff t).mpr h) _ _ _ _ _ _ _ _ _ _ _

/-- What the outputs' staging buffers and the accumulators hold after point `n`. -/
def outsAt (c : Dev nD) : (n : ℕ) → n < cfg0.N → Out F
  | 0, hn => stepAt m c ⟨0, hn⟩ (scM_0.view.read (Elt F) scM_0.view.junk) (scM_1.view.read (Elt F) scM_1.view.junk)
  | n + 1, hn => stepAt m c ⟨n + 1, hn⟩ (outsAt c n (Nat.lt_of_succ_lt hn)).2.2.2.1 (outsAt c n (Nat.lt_of_succ_lt hn)).2.2.2.2

theorem outsAt_first (c : Dev nD) (t : Fin cfg0.N) (h : t.val % 16 = 0) (s13 s14 : Vec F S16x128x256 .f32) :
    outsAt m c t.val t.isLt = stepAt m c t s13 s14 := by
  obtain ⟨n, hn⟩ := t
  cases n with
  | zero => exact stepAt_first m c _ h _ _ _ _
  | succ n => exact stepAt_first m c _ h _ _ _ _

theorem outsAt_pos (c : Dev nD) (t : Fin cfg0.N) (h : ¬t.val % 16 = 0) :
    outsAt m c t.val t.isLt = stepAt m c t (outsAt m c (t.val - 1) (Nat.lt_of_le_of_lt (Nat.sub_le _ _) t.isLt)).2.2.2.1
      (outsAt m c (t.val - 1) (Nat.lt_of_le_of_lt (Nat.sub_le _ _) t.isLt)).2.2.2.2 := by
  obtain ⟨n, hn⟩ := t
  cases n with
  | zero => exact absurd (Nat.zero_mod _) h
  | succ n => rfl

/-- Before point `n`: the accumulators at what the point before left, the generator register at some state. -/
def PhiS (c : Dev nD) : (n : ℕ) → n ≤ cfg0.N → sProp 𝕄
  | 0, _ => Pipeline.ΦA spec0 c
  | n + 1, hn => iprop(iprop(owns (c : Thread nD τ) scM_0 fullShare (outsAt m c n hn).2.2.2.1
      ∗ owns (c : Thread nD τ) scM_1 fullShare (outsAt m c n hn).2.2.2.2) ∗ (∃ r, prngReg c r))

theorem PhiS_succ (c : Dev nD) (n : ℕ) (hn : n < cfg0.N) :
    PhiS m c (n + 1) hn = iprop(iprop(owns (c : Thread nD τ) scM_0 fullShare (outsAt m c n hn).2.2.2.1
      ∗ owns (c : Thread nD τ) scM_1 fullShare (outsAt m c n hn).2.2.2.2) ∗ (∃ r, prngReg c r)) := rfl

theorem PhiS_pos (c : Dev nD) (n : ℕ) (h : n ≤ cfg0.N) (hz : n ≠ 0) :
    PhiS m c n h = iprop(iprop(owns (c : Thread nD τ) scM_0 fullShare (outsAt m c (n - 1) (by omega)).2.2.2.1
      ∗ owns (c : Thread nD τ) scM_1 fullShare (outsAt m c (n - 1) (by omega)).2.2.2.2) ∗ (∃ r, prngReg c r)) := by
  cases n with
  | zero => exact absurd rfl hz
  | succ n => rfl

/-- Whatever the point, the accumulators hold something. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, ΦA_eq]
    iintro ⟨⟨H0, H1⟩, Hg⟩
    isplitl [H0 H1]
    · isplitl [H0]
      · iexists _; iexact H0
      iexists _; iexact H1
    iexact Hg

theorem PhiS_any_eq (c : Dev nD) (n : ℕ) (h : n ≤ cfg0.N) :
    PhiS m c n h ⊢ iprop(iprop((∃ d, owns (c : Thread nD τ) scM_0 fullShare d) ∗ (∃ d, owns (c : Thread nD τ) scM_1 fullShare d)) ∗ (∃ r, prngReg c r)) := by
  rw [← ΦA_eq]; exact PhiS_any m c n h

/-! ## The proof data -/

/-- The pipeline's data: each input's buffer at its block, the outputs' and the accumulators' by `outsAt`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt m c t.val t.isLt).1
    | ⟨8, _⟩ => (outsAt m c t.val t.isLt).2.1
    | ⟨9, _⟩ => (outsAt m c t.val t.isLt).2.2.1
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (outsAt m c t.val t.isLt).1 := by dsimp only [dats]
theorem after_8 (c : Dev nD) (t : Fin cfg0.N) : (dats m 0 c).after 8 t = (outsAt m c t.val t.isLt).2.1 := by dsimp only [dats]
theorem after_9 (c : Dev nD) (t : Fin cfg0.N) : (dats m 0 c).after 9 t = (outsAt m c t.val t.isLt).2.2.1 := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem leaves_0 (c : Dev nD) (t : Fin cfg0.N) :
    (dats m 0 c).leavesExact 0 t = owns (c : Thread nD τ) (ms_0 t) fullShare ((dats m 0 c).after 0 t) := by
  unfold Dat.leavesExact; rw [live_0 t]
theorem leaves_1 (c : Dev nD) (t : Fin cfg0.N) :
    (dats m 0 c).leavesExact 1 t = owns (c : Thread nD τ) (ms_1 t) fullShare ((dats m 0 c).after 1 t) := by
  unfold Dat.leavesExact; rw [live_1 t]
theorem leaves_2 (c : Dev nD) (t : Fin cfg0.N) :
    (dats m 0 c).leavesExact 2 t = owns (c : Thread nD τ) (ms_2 t) fullShare ((dats m 0 c).after 2 t) := by
  unfold Dat.leavesExact; rw [live_2 t]
theorem leaves_3 (c : Dev nD) (t : Fin cfg0.N) :
    (dats m 0 c).leavesExact 3 t = owns (c : Thread nD τ) (ms_3 t) fullShare ((dats m 0 c).after 3 t) := by
  unfold Dat.leavesExact; rw [live_3 t]
theorem leaves_4 (c : Dev nD) (t : Fin cfg0.N) :
    (dats m 0 c).leavesExact 4 t = owns (c : Thread nD τ) (ms_4 t) fullShare ((dats m 0 c).after 4 t) := by
  unfold Dat.leavesExact; rw [live_4 t]
theorem leaves_5 (c : Dev nD) (t : Fin cfg0.N) :
    (dats m 0 c).leavesExact 5 t = owns (c : Thread nD τ) (ms_5 t) fullShare ((dats m 0 c).after 5 t) := by
  unfold Dat.leavesExact; rw [live_5 t]
theorem leaves_6 (c : Dev nD) (t : Fin cfg0.N) :
    (dats m 0 c).leavesExact 6 t = owns (c : Thread nD τ) (ms_6 t) fullShare ((dats m 0 c).after 6 t) := by
  unfold Dat.leavesExact; rw [live_6 t]
theorem leaves_7 (c : Dev nD) (t : Fin cfg0.N) :
    (dats m 0 c).leavesExact 7 t = owns (c : Thread nD τ) (ms_7 t) fullShare ((dats m 0 c).after 7 t) := by
  unfold Dat.leavesExact; rw [live_7 t]
theorem leaves_8 (c : Dev nD) (t : Fin cfg0.N) (h : t.val % 16 = 15) :
    (dats m 0 c).leavesExact 8 t = owns (c : Thread nD τ) (ms_8 t) fullShare ((dats m 0 c).after 8 t) := by
  unfold Dat.leavesExact; rw [live_8 t h]
theorem leaves_9 (c : Dev nD) (t : Fin cfg0.N) (h : t.val % 16 = 15) :
    (dats m 0 c).leavesExact 9 t = owns (c : Thread nD τ) (ms_9 t) fullShare ((dats m 0 c).after 9 t) := by
  unfold Dat.leavesExact; rw [live_9 t h]

/-! ## The body's obligation -/

def bodyPre (c : Dev nD) (t : Fin cfg0.N) : sProp 𝕄 :=
  iprop((dats m 0 c).Φ t.castSucc
    ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl]
  rw [show (dats m 0 c).Φ t.succ = PhiS m c (t.val + 1) t.isLt from rfl, PhiS_succ]
  rw [leaves_0, after_0, leaves_1, after_1, leaves_2, after_2, leaves_3, after_3, leaves_4, after_4, leaves_5, after_5, leaves_6, after_6, leaves_7, after_7, Phi_castSucc]
  by_cases h0 : t.val % 16 = 0
  · have h15 : ¬t.val % 16 = 15 := by omega
    rw [Dat.leavesExact_idle (dats m 0 c) 8 t (idle_8 t h15) (noFlush_8 t h15), Dat.leavesExact_idle (dats m 0 c) 9 t (idle_9 t h15) (noFlush_9 t h15)]
    rw [outsAt_first m c t h0 (scM_0.view.read (Elt F) scM_0.view.junk) (scM_1.view.read (Elt F) scM_1.view.junk)]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    ihave HΦ := (PhiS_any_eq m c t.val (Nat.le_of_lt t.isLt)) $$ HΦ
    icases HΦ with ⟨⟨HS0, HS1⟩, Hg⟩
    iapply (body_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((first_iff t).mpr h0) (iblk m c 0 t) (iblk m c 1 t) (iblk m c 2 t) (iblk m c 3 t) (iblk m c 4 t) (iblk m c 5 t) (iblk m c 6 t) (scM_0.view.read (Elt F) scM_0.view.junk) (scM_1.view.read (Elt F) scM_1.view.junk) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iexists _; iexact H9
  · by_cases h15 : t.val % 16 = 15
    · rw [leaves_8 m c t h15, leaves_9 m c t h15, after_8, after_9]
      rw [PhiS_pos m c _ _ (by omega), outsAt_pos m c t h0]
      unfold stepAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) ((last_iff t).mpr h15) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.2.1 (outsAt m c (t.val - 1) (Nat.lt_of_le_of_lt (Nat.sub_le _ _) t.isLt)).2.2.2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, H7, H8, H9, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · rw [Dat.leavesExact_idle (dats m 0 c) 8 t (idle_8 t h15) (noFlush_8 t h15), Dat.leavesExact_idle (dats m 0 c) 9 t (idle_9 t h15) (noFlush_9 t h15)]
      rw [PhiS_pos m c _ _ (by omega), outsAt_pos m c t h0]
      unfold stepAt
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (body_mid c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) scM_0 (Memref.isWhole_whole _) scM_1 (Memref.isWhole_whole _) (fun h => h0 ((first_iff t).mp h)) (fun h => h15 ((last_iff t).mp h)) (iblk m c 0 t) (iblk m c 1 t) (iblk m c 2 t) (iblk m c 3 t) (iblk m c 4 t) (iblk m c 5 t) (iblk m c 6 t) (outsAt m c (t.val - 1) (Nat.lt_of_le_of_lt (Nat.sub_le _ _) t.isLt)).2.2.2.1 (outsAt m c (t.val - 1) (Nat.lt_of_le_of_lt (Nat.sub_le _ _) t.isLt)).2.2.2.2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      iexists _; iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _

theorem hout (c : Dev nD) : (dats m 0 c).Φ (Fin.last cfg0.N) ⊢ Pipeline.ΦA spec0 c :=
  Phi_out m c _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- Every execution ends with each array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnKernel.lean ====
/-
  The attention gradient is one text, printed once for each of its two readings. What is proved of one print at any
  float values is carried to the other here.
-/
module

public import proofs.«01_k».proof.Proof.AttnFrame
public import proofs.«01_k».proof.Defs
public import proofs.«01_k».proof.Proof.Gen.Kernel
public import proofs.«01_k».proof.Proof.Gen.KernelIdeal
public import Idealize.ShloMosaic.Lib.Tactic

@[expose] public section

noncomputable section

namespace Cert.Proof

open Idealize.ShloMosaic Idealize.SL.Sem

/-- What the frame of the first print says is what the second print's frame says at words. -/
theorem frame_same : Cert.quiescent_Kernel =
    ∀ (m : (ℓ : Loc Cert.KernelIdeal.nD Cert.KernelIdeal.τ Cert.KernelIdeal.sig) → Buf (Elt Bits) ℓ)
      (g : Dev Cert.KernelIdeal.nD → PrngReg), Cert.Pre_Kernel m →
      θ_run (Cert.KernelIdeal.defs (F := Bits)) (onTc (τ := Cert.KernelIdeal.τ) (Cert.KernelIdeal.main (F := Bits)))
        ⟨m, fun _ => 0, g⟩ (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1))
          ∧ r.2.sem = fun _ => 0) := by sl_kernel_rfl

/-- The attention gradient, at any bits: it ends with its arguments unchanged and its counters at zero. -/
theorem frame_kernel : Cert.quiescent_Kernel :=
  frame_same.mpr fun m ρ _ => Cert.KernelIdeal.Attn.frame (F := Bits) m ρ

end Cert.Proof

end
-- ==== Proof.Blocks.lean ====
/-
  Loads and stores of whole blocks, and of blocks in two halves side by side.
-/
module

public import Idealize.ShloMosaic.Lib.Pointwise
public import Idealize.ShloMosaic.Lib.Pipeline.Value
public import Idealize.ShloMosaic.Lib.Pipeline.ValueKit.Tiles

@[expose] public section

noncomputable section

namespace Cert.Blocks

open Idealize.ShloMosaic

variable {F : FTy → Type} [FloatOps F] {a b : ℕ} {e : EltTy}

theorem hz : (![0, 0] : Fin 2 → Nat) = fun _ => 0 := funext fun a => by fin_cases a <;> rfl

/-- A store of a whole block leaves what it stores, whatever was stored before. -/
theorem canon_whole (inb : ∀ x, (![0, 0] : Fin 2 → Nat) x + (![a, b] : Fin 2 → Nat) x ≤ (⟨2, ![a, b]⟩ : Shape).size x)
    (w : (⟨2, ![a, b]⟩ : Shape).Idx → Elt F e) (L : List (View.Piece (Elt F) ⟨2, ![a, b]⟩ e)) :
    View.canon ((⟨Rect.unit (s := (⟨2, ![a, b]⟩ : Shape)) ![0, 0] ![a, b] inb, w⟩ : View.Piece (Elt F) ⟨2, ![a, b]⟩ e) :: L) = w :=
  View.canon_cons_unit_zero (S := (⟨2, ![a, b]⟩ : Shape)) hz inb w L

/-- A load of a whole block reads each entry at its own place. -/
theorem idx_whole (inb : ∀ x, (![0, 0] : Fin 2 → Nat) x + (![a, b] : Fin 2 → Nat) x ≤ (⟨2, ![a, b]⟩ : Shape).size x)
    (j : (⟨2, ![a, b]⟩ : Shape).Idx) :
    (Rect.unit (s := (⟨2, ![a, b]⟩ : Shape)) ![0, 0] ![a, b] inb).idx j = j := by
  funext x
  apply Fin.ext
  match x with
  | ⟨0, _⟩ => show 0 + 1 * (j 0).val = (j 0).val; omega
  | ⟨1, _⟩ => show 0 + 1 * (j 1).val = (j 1).val; omega

theorem ld_whole (inb : ∀ x, (![0, 0] : Fin 2 → Nat) x + (![a, b] : Fin 2 → Nat) x ≤ (⟨2, ![a, b]⟩ : Shape).size x)
    (w : (⟨2, ![a, b]⟩ : Shape).Idx → Elt F e) :
    View.ld (Val := Elt F) (e' := e) w (Rect.unit (s := (⟨2, ![a, b]⟩ : Shape)) ![0, 0] ![a, b] inb) = w :=
  View.ld_unit_zero (S := (⟨2, ![a, b]⟩ : Shape)) hz inb w

/-- Two stores side by side, read back: the columns below `b` from one, the others from the other. -/
theorem canon_halves {b' n : ℕ} (h : n = b + b')
    (inb₀ : ∀ x, (![0, 0] : Fin 2 → Nat) x + (![a, b] : Fin 2 → Nat) x ≤ (⟨2, ![a, n]⟩ : Shape).size x)
    (inb₁ : ∀ x, (![0, b] : Fin 2 → Nat) x + (![a, b'] : Fin 2 → Nat) x ≤ (⟨2, ![a, n]⟩ : Shape).size x)
    (w₀ : (⟨2, ![a, b]⟩ : Shape).Idx → Elt F e) (w₁ : (⟨2, ![a, b']⟩ : Shape).Idx → Elt F e) (r : Fin a) (l : Fin n) :
    View.canon [(⟨Rect.unit (s := (⟨2, ![a, n]⟩ : Shape)) ![0, b] ![a, b'] inb₁, w₁⟩ : View.Piece (Elt F) ⟨2, ![a, n]⟩ e),
        ⟨Rect.unit (s := (⟨2, ![a, n]⟩ : Shape)) ![0, 0] ![a, b] inb₀, w₀⟩] (ix2 r l)
      = if hl : l.val < b then w₀ (ix2 r ⟨l.val, hl⟩) else w₁ (ix2 r ⟨l.val - b, by omega⟩) := by
  by_cases hl : l.val < b
  · rw [dif_pos hl]
    refine View.canon_eq_of_allAt _ _ _ ⟨_, List.mem_cons_of_mem _ (List.mem_singleton_self _), ?_⟩ ?_
    · refine (congrArg (· ∈ _) ?_).mp ((Rect.unit (s := (⟨2, ![a, n]⟩ : Shape)) ![0, 0] ![a, b] inb₀).idx_mem (ix2 r (⟨l.val, hl⟩ : Fin b)))
      funext x
      apply Fin.ext
      match x with
      | ⟨0, _⟩ => show 0 + 1 * r.val = r.val; omega
      | ⟨1, _⟩ => show 0 + 1 * l.val = l.val; omega
    · refine View.allAt_cons_unit _ _ _ _ _ ?_ (View.allAt_cons_unit _ _ _ _ _ ?_ (View.allAt_nil _ _))
      · intro x hx
        have h1 : l.val = b + (x 1).val := hx 1
        omega
      · intro x hx
        refine congrArg w₀ ?_
        funext y
        apply Fin.ext
        match y with
        | ⟨0, _⟩ => have h1 : r.val = 0 + (x 0).val := hx 0; show (x 0).val = r.val; omega
        | ⟨1, _⟩ => have h1 : l.val = 0 + (x 1).val := hx 1; show (x 1).val = l.val; omega
  · rw [dif_neg hl]
    refine View.canon_eq_of_allAt _ _ _ ⟨_, List.mem_cons_self, ?_⟩ ?_
    · refine (congrArg (· ∈ _) ?_).mp ((Rect.unit (s := (⟨2, ![a, n]⟩ : Shape)) ![0, b] ![a, b'] inb₁).idx_mem (ix2 r (⟨l.val - b, by omega⟩ : Fin b')))
      funext x
      apply Fin.ext
      match x with
      | ⟨0, _⟩ => show 0 + 1 * r.val = r.val; omega
      | ⟨1, _⟩ => show b + 1 * (l.val - b) = l.val; omega
    · refine View.allAt_cons_unit _ _ _ _ _ ?_ (View.allAt_cons_unit _ _ _ _ _ ?_ (View.allAt_nil _ _))
      · intro x hx
        refine congrArg w₁ ?_
        funext y
        apply Fin.ext
        match y with
        | ⟨0, _⟩ => have h1 : r.val = 0 + (x 0).val := hx 0; show (x 0).val = r.val; omega
        | ⟨1, _⟩ => have h1 : l.val = b + (x 1).val := hx 1; show (x 1).val = l.val - b; omega
      · intro x hx
        have h1 : l.val = 0 + (x 1).val := hx 1
        have h2 : (x 1).val < b := (x 1).isLt
        omega

/-- Two arrays side by side, read: likewise. -/
theorem cat_halves {α : Type} {b' n : ℕ} (h : n = b + b') (w₀ : (⟨2, ![a, b]⟩ : Shape).Idx → α) (w₁ : (⟨2, ![a, b']⟩ : Shape).Idx → α)
    (hc : Shape.Concatenates [(⟨2, ![a, b]⟩ : Shape), ⟨2, ![a, b']⟩] ⟨2, ![a, n]⟩ 1) (r : Fin a) (l : Fin n) :
    concatenate (⟨2, ![a, n]⟩ : Shape) 1 [⟨(⟨2, ![a, b]⟩ : Shape), w₀⟩, ⟨(⟨2, ![a, b']⟩ : Shape), w₁⟩] hc (ix2 r l)
      = if hl : l.val < b then w₀ (ix2 r ⟨l.val, hl⟩) else w₁ (ix2 r ⟨l.val - b, by omega⟩) := by
  by_cases hl : l.val < b
  · rw [dif_pos hl]
    exact concatenate_pair_apply_left 1 w₀ w₁ hc _ rfl _ fun x => by
      match x with
      | ⟨0, _⟩ => rfl
      | ⟨1, _⟩ => rfl
  · rw [dif_neg hl]
    refine concatenate_pair_apply_right 1 w₀ w₁ hc _ rfl rfl _ (fun x hx => ?_) ?_
    · match x with
      | ⟨0, _⟩ => rfl
      | ⟨1, _⟩ => exact absurd rfl hx
    · show l.val - b + b = l.val
      omega

/-- An index of a matrix is its row and its column. -/
theorem ext2 {x : (⟨2, ![a, b]⟩ : Shape).Idx} {r : Fin a} {l : Fin b} (h0 : (x 0).val = r.val) (h1 : (x 1).val = l.val) : x = ix2 r l := by
  funext y
  apply Fin.ext
  match y with
  | ⟨0, _⟩ => exact h0
  | ⟨1, _⟩ => exact h1

/-- Five stores of 512 columns side by side, read back: column `512 * q + k` is column `k` of the store `q`. -/
theorem canon_five (w : Fin 5 → (⟨2, ![a, 512]⟩ : Shape).Idx → Elt F e) (inb₀ inb₁ inb₂ inb₃ inb₄) (q : Fin 5) (r : Fin a) (k : Fin 512) :
    View.canon [(⟨Rect.unit (s := (⟨2, ![a, 2560]⟩ : Shape)) ![0, 2048] ![a, 512] inb₄, w 4⟩ : View.Piece (Elt F) ⟨2, ![a, 2560]⟩ e),
        ⟨Rect.unit (s := (⟨2, ![a, 2560]⟩ : Shape)) ![0, 1536] ![a, 512] inb₃, w 3⟩, ⟨Rect.unit (s := (⟨2, ![a, 2560]⟩ : Shape)) ![0, 1024] ![a, 512] inb₂, w 2⟩,
        ⟨Rect.unit (s := (⟨2, ![a, 2560]⟩ : Shape)) ![0, 512] ![a, 512] inb₁, w 1⟩, ⟨Rect.unit (s := (⟨2, ![a, 2560]⟩ : Shape)) ![0, 0] ![a, 512] inb₀, w 0⟩]
      (ix2 r (⟨512 * q.val + k.val, by omega⟩ : Fin 2560)) = w q (ix2 r k) := by
  have emb : ∀ (o : ℕ) (inb) (x : (⟨2, ![a, 512]⟩ : Shape).Idx) (i : Fin 5), o = 512 * i.val →
      (Rect.unit (s := (⟨2, ![a, 2560]⟩ : Shape)) ![0, o] ![a, 512] inb).emb x = ix2 (x 0) (⟨512 * i.val + (x 1).val, by have : (x 1).val < 512 := (x 1).isLt; omega⟩ : Fin 2560) := by
    intro o inb x i ho
    refine ext2 ?_ ?_
    · show 0 + 1 * (x 0).val = (x 0).val; omega
    · show o + 1 * (x 1).val = 512 * i.val + (x 1).val; omega
  have piece : ∀ (o : ℕ) (inb) (i : Fin 5), o = 512 * i.val → ∀ x : (⟨2, ![a, 512]⟩ : Shape).Idx,
      w i x = (fun y : (⟨2, ![a, 2560]⟩ : Shape).Idx => w ⟨(y 1).val / 512, by have : (y 1).val < 2560 := (y 1).isLt; omega⟩
        (ix2 (y 0) (⟨(y 1).val % 512, by omega⟩ : Fin 512))) ((Rect.unit (s := (⟨2, ![a, 2560]⟩ : Shape)) ![0, o] ![a, 512] inb).emb x) := by
    intro o inb i ho x
    rw [emb o inb x i ho]
    have h1 : (x 1).val < 512 := (x 1).isLt
    have e1 : (512 * i.val + (x 1).val) / 512 = i.val := by omega
    have e2 : (512 * i.val + (x 1).val) % 512 = (x 1).val := by omega
    show w i x = w ⟨(512 * i.val + (x 1).val) / 512, _⟩ (ix2 (x 0) ⟨(512 * i.val + (x 1).val) % 512, _⟩)
    have e3 : (⟨(512 * i.val + (x 1).val) / 512, by omega⟩ : Fin 5) = i := Fin.ext e1
    rw [e3]
    exact congrArg (w i) (ext2 (l := ⟨(512 * i.val + (x 1).val) % 512, by omega⟩) rfl e2.symm)
  have mem : ∀ (o : ℕ) (inb), o = 512 * q.val → (ix2 r (⟨512 * q.val + k.val, by omega⟩ : Fin 2560))
      ∈ (Rect.unit (s := (⟨2, ![a, 2560]⟩ : Shape)) ![0, o] ![a, 512] inb).set := by
    intro o inb ho
    have h := (Rect.unit (s := (⟨2, ![a, 2560]⟩ : Shape)) ![0, o] ![a, 512] inb).idx_mem (ix2 r k)
    have e : (Rect.unit (s := (⟨2, ![a, 2560]⟩ : Shape)) ![0, o] ![a, 512] inb).idx (ix2 r k) = ix2 r (⟨512 * q.val + k.val, by omega⟩ : Fin 2560) := by
      refine ext2 ?_ ?_
      · show 0 + 1 * r.val = r.val; omega
      · show o + 1 * k.val = 512 * q.val + k.val; omega
    rwa [e] at h
  refine (View.canon_apply_of_pieces (fun y : (⟨2, ![a, 2560]⟩ : Shape).Idx => w ⟨(y 1).val / 512, by have : (y 1).val < 2560 := (y 1).isLt; omega⟩
    (ix2 (y 0) (⟨(y 1).val % 512, by omega⟩ : Fin 512))) _ ?_ _ ?_).trans ?_
  · intro p hp
    rcases List.mem_cons.1 hp with rfl | hp
    · exact piece 2048 inb₄ 4 rfl
    rcases List.mem_cons.1 hp with rfl | hp
    · exact piece 1536 inb₃ 3 rfl
    rcases List.mem_cons.1 hp with rfl | hp
    · exact piece 1024 inb₂ 2 rfl
    rcases List.mem_cons.1 hp with rfl | hp
    · exact piece 512 inb₁ 1 rfl
    rcases List.mem_cons.1 hp with rfl | hp
    · exact piece 0 inb₀ 0 rfl
    · cases hp
  · match q, mem with
    | 0, mem => exact ⟨_, (List.mem_cons_of_mem _ (List.mem_cons_of_mem _ (List.mem_cons_of_mem _ (List.mem_cons_of_mem _ List.mem_cons_self)))), mem 0 inb₀ rfl⟩
    | 1, mem => exact ⟨_, (List.mem_cons_of_mem _ (List.mem_cons_of_mem _ (List.mem_cons_of_mem _ List.mem_cons_self))), mem 512 inb₁ rfl⟩
    | 2, mem => exact ⟨_, (List.mem_cons_of_mem _ (List.mem_cons_of_mem _ List.mem_cons_self)), mem 1024 inb₂ rfl⟩
    | 3, mem => exact ⟨_, (List.mem_cons_of_mem _ List.mem_cons_self), mem 1536 inb₃ rfl⟩
    | 4, mem => exact ⟨_, List.mem_cons_self, mem 2048 inb₄ rfl⟩
  · have e1 : (⟨(512 * q.val + k.val) / 512, by omega⟩ : Fin 5) = q := Fin.ext (by dsimp only; omega)
    show w ⟨(512 * q.val + k.val) / 512, _⟩ (ix2 r ⟨(512 * q.val + k.val) % 512, _⟩) = _
    rw [e1]
    exact congrArg (w q) (ext2 rfl (show (512 * q.val + k.val) % 512 = k.val by omega))

/-- Five arrays of 512 columns side by side, read: likewise. -/
theorem cat_five {α : Type} (w : Fin 5 → (⟨2, ![a, 512]⟩ : Shape).Idx → α) (hc) (q : Fin 5) (r : Fin a) (k : Fin 512) :
    concatenate (⟨2, ![a, 2560]⟩ : Shape) 1 [⟨⟨2, ![a, 512]⟩, w 0⟩, ⟨⟨2, ![a, 512]⟩, w 1⟩, ⟨⟨2, ![a, 512]⟩, w 2⟩, ⟨⟨2, ![a, 512]⟩, w 3⟩, ⟨⟨2, ![a, 512]⟩, w 4⟩] hc
      (ix2 r (⟨512 * q.val + k.val, by omega⟩ : Fin 2560)) = w q (ix2 r k) := by
  refine concatenate_apply_piece 1 _ hc _ q.val q.isLt ⟨2, ![a, 512]⟩ (w q) ?_ rfl (512 * q.val) ?_ (ix2 r k) ?_ ?_
  · match q with
    | 0 | 1 | 2 | 3 | 4 => rfl
  · match q with
    | 0 | 1 | 2 | 3 | 4 => rfl
  · intro x hx
    match x with
    | ⟨0, _⟩ => rfl
    | ⟨1, _⟩ => exact absurd rfl hx
  · rfl

/-- A sum over a row of two halves is the sum over the halves. -/
theorem sum_halves {b' n : ℕ} (h : n = b + b') (f : ℕ → EReal) :
    ∑ l : Fin n, f l.val = ∑ l : Fin b, f l.val + ∑ l : Fin b', f (b + l.val) := by
  subst h
  exact Fin.sum_univ_add fun l : Fin (b + b') => f l.val

end Cert.Blocks

end
-- ==== Proof.BwdMlpRun.lean ====
/-
  The MLP's backward call: what one run of its body leaves in the buffers, as the payloads of its stores. A row block
  takes two grid points, one for each half of the hidden width.
-/
module

public import proofs.«01_k».proof.Proof.Gen.BwdMlpIdeal.Frame
public import proofs.«01_k».proof.Proof.Gen.BwdMlpIdeal.Skeleton
public import proofs.«01_k».proof.Proof.Blocks

@[expose] public section

set_option maxRecDepth 16384

noncomputable section

namespace Cert.BwdMlpIdeal.Mlp

open Cert.BwdMlpIdeal Cert.BwdMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The values -/

/-- The column piece of the saved activation that starts at column `o`, and the row piece of the second weights. -/
abbrev upAt (x : Vec F S512x2048 .bf16) (o : ℕ) (inb : ∀ a, (![0, o] : Fin 2 → ℕ) a + S512x512.size a ≤ S512x2048.size a) : Vec F S512x512 .bf16 :=
  View.ld x (Rect.unit (s := S512x2048) ![0, o] S512x512.size inb)
abbrev downAt (x : Vec F S2048x1024 .bf16) (o : ℕ) (inb : ∀ a, (![o, 0] : Fin 2 → ℕ) a + S512x1024.size a ≤ S2048x1024.size a) : Vec F S512x1024 .bf16 :=
  View.ld x (Rect.unit (s := S2048x1024) ![o, 0] S512x1024.size inb)
/-- The first weights' column block `o`. -/
abbrev wAt (x : Vec F S4x1024x512 .bf16) (o : ℕ) (inb : ∀ a, (![o, 0, 0] : Fin 3 → ℕ) a + S1x1024x512.size a ≤ S4x1024x512.size a) : Vec F S1x1024x512 .bf16 :=
  View.ld x (Rect.unit (s := S4x1024x512) ![o, 0, 0] S1x1024x512.size inb)

variable (b : Vec F S512x1024 .bf16) (u : Vec F S512x2048 .bf16) (wu : Vec F S4x1024x512 .bf16) (wd : Vec F S2048x1024 .bf16)

/-- The four column pieces of the gradient at the hidden layer. -/
abbrev d0 : FVec F S512x512 .bf16 := k0_pay11 (upAt u 0 inb_S512x2048_S512x512_0_0) b (downAt wd 0 inb_S2048x1024_S512x1024_0_0)
abbrev d1 : FVec F S512x512 .bf16 := k0_pay13 (upAt u 512 inb_S512x2048_S512x512_0_512) b (downAt wd 512 inb_S2048x1024_S512x1024_512_0)
abbrev d2 : FVec F S512x512 .bf16 := k0_pay14 (upAt u 1024 inb_S512x2048_S512x512_0_1024) b (downAt wd 1024 inb_S2048x1024_S512x1024_1024_0)
abbrev d3 : FVec F S512x512 .bf16 := k0_pay1 (k0_pay16 (upAt u 1536 inb_S512x2048_S512x512_0_1536)) (k0_pay17 b) (k0_pay18 (downAt wd 1536 inb_S2048x1024_S512x1024_1536_0)) (constant S512x512 .f32 0x00000000#32)

/-- All four, stored side by side. -/
def dupV : Vec F S512x2048 .bf16 :=
  View.canon [⟨Rect.unit (s := S512x2048) ![0, 1536] S512x512.size inb_S512x2048_S512x512_0_1536, d3 b u wd⟩,
    ⟨Rect.unit (s := S512x2048) ![0, 1024] S512x512.size inb_S512x2048_S512x512_0_1024, d2 b u wd⟩,
    ⟨Rect.unit (s := S512x2048) ![0, 512] S512x512.size inb_S512x2048_S512x512_0_512, d1 b u wd⟩,
    ⟨Rect.unit (s := S512x2048) ![0, 0] S512x512.size inb_S512x2048_S512x512_0_0, d0 b u wd⟩]

/-- The accumulator with the four products added to it. -/
def accV (a : Vec F S512x1024 .f32) : Vec F S512x1024 .f32 :=
  k0_pay2 (k0_pay15 (k0_pay12 (upAt u 0 inb_S512x2048_S512x512_0_0) b (downAt wd 0 inb_S2048x1024_S512x1024_0_0) (wAt wu 0 inb_S4x1024x512_S1x1024x512_0_0_0))
      (d1 b u wd) (wAt wu 1 inb_S4x1024x512_S1x1024x512_1_0_0)
      (upAt u 1024 inb_S512x2048_S512x512_0_1024) b (downAt wd 1024 inb_S2048x1024_S512x1024_1024_0) (wAt wu 2 inb_S4x1024x512_S1x1024x512_2_0_0))
    (k0_pay16 (upAt u 1536 inb_S512x2048_S512x512_0_1536)) (k0_pay17 b) (k0_pay18 (downAt wd 1536 inb_S2048x1024_S512x1024_1536_0)) (constant S512x512 .f32 0x00000000#32)
    (wAt wu 3 inb_S4x1024x512_S1x1024x512_3_0_0) a

/-- The four column pieces fill the block. -/
theorem cover_dup (w3 w2 w1 w0 : FVec F S512x512 .bf16) (y : S512x2048.Idx) :
    ∃ pc ∈ ([⟨Rect.unit (s := S512x2048) ![0, 1536] S512x512.size inb_S512x2048_S512x512_0_1536, w3⟩,
      ⟨Rect.unit (s := S512x2048) ![0, 1024] S512x512.size inb_S512x2048_S512x512_0_1024, w2⟩,
      ⟨Rect.unit (s := S512x2048) ![0, 512] S512x512.size inb_S512x2048_S512x512_0_512, w1⟩,
      ⟨Rect.unit (s := S512x2048) ![0, 0] S512x512.size inb_S512x2048_S512x512_0_0, w0⟩] : List (View.Piece (Elt F) S512x2048 .bf16)), y ∈ pc.1.set :=
  View.cover_of_tiledL (s := S512x2048) _ S512x512.size (by sl_kernel_rfl) y

/-- A store of a whole block fills it. -/
theorem cover_whole {n k : ℕ} {e : EltTy} (inb : ∀ x, (![0, 0] : Fin 2 → ℕ) x + (![n, k] : Fin 2 → ℕ) x ≤ (⟨2, ![n, k]⟩ : Shape).size x)
    (w : (⟨2, ![n, k]⟩ : Shape).Idx → Elt F e) (L : List (View.Piece (Elt F) ⟨2, ![n, k]⟩ e)) (y : (⟨2, ![n, k]⟩ : Shape).Idx) :
    ∃ pc ∈ ((⟨Rect.unit (s := (⟨2, ![n, k]⟩ : Shape)) ![0, 0] ![n, k] inb, w⟩ : View.Piece (Elt F) ⟨2, ![n, k]⟩ e) :: L), y ∈ pc.1.set :=
  ⟨_, List.mem_cons_self, View.mem_set_unit_zero (S := (⟨2, ![n, k]⟩ : Shape)) Cert.Blocks.hz inb y⟩

/-! ## The runs -/

variable (c : Dev nD) (i : grid0.Coords)
  (a2 : Memref sig .tc .vmem S512x1024 .f32) (h2 : a2.IsWhole)
  (a3 : Memref sig .tc .vmem S512x2048 .bf16) (h3 : a3.IsWhole)
  (a4 : Memref sig .tc .vmem S512x1024 .f32) (h4 : a4.IsWhole)
  (a5 : Memref sig .tc .vmem S1x1024 .f32) (h5 : a5.IsWhole)
  (a6 : Memref sig .tc .vmem S4x1024x512 .bf16) (h6 : a6.IsWhole)
  (a7 : Memref sig .tc .vmem S2048x1024 .bf16) (h7 : a7.IsWhole)
  (a8 : Memref sig .tc .vmem S512x2048 .bf16) (h8 : a8.IsWhole)
  (a9 : Memref sig .tc .vmem S512x1024 .f32) (h9 : a9.IsWhole)
  (a10 : Memref sig .tc .vmem S512x1024 .bf16) (h10 : a10.IsWhole)
  (a11 : Memref sig .tc .vmem S512x1024 .bf16) (h11 : a11.IsWhole)
  (a12 : Memref sig .tc .vmem S1x1024 .f32) (h12 : a12.IsWhole)
  (a13 : Memref sig .tc .vmem S512x1024 .f32) (h13 : a13.IsWhole)
  (x2 : Vec F S512x1024 .f32) (x3 : Vec F S512x2048 .bf16) (x4 : Vec F S512x1024 .f32) (x5 : Vec F S1x1024 .f32) (x6 : Vec F S4x1024x512 .bf16) (x7 : Vec F S2048x1024 .bf16)

set_option maxHeartbeats 4000000 in
/-- The first point of all: as a row block's first point, and the gain's gradient starts at zero. -/
theorem run_start (c1 : k0_cond1 i = 1#1) (c2 : k0_cond2 i = 1#1) (c3 : ¬k0_cond3 i = 1#1) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a10 fullShare d) ∗ (∃ d, owns (c : Thread nD τ) a11 fullShare d) ∗ (∃ d, owns (c : Thread nD τ) a12 fullShare d) ∗ (∃ d, owns (c : Thread nD τ) a13 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (dupV (k0_pay9 x2) x3 x7) ∗ owns (c : Thread nD τ) a10 fullShare (k0_pay8 x4 x5) ∗ owns (c : Thread nD τ) a11 fullShare (k0_pay9 x2) ∗ owns (c : Thread nD τ) a12 fullShare k0_pay3 ∗ owns (c : Thread nD τ) a13 fullShare (accV (k0_pay9 x2) x3 x6 x7 k0_pay10)) -∗ K ⟨⟩))
      ⊢ wp frame (wpE (defs₀ (F := F)) Variants.none (c : Thread nD τ) none) Set.univ (cc0_bwd_mlp (F := F) i a2 h2 a3 h3 a4 h4 a5 h5 a6 h6 a7 h7 a8 h8 a9 h9 a10 h10 a11 h11 a12 h12 a13 h13) K := by
  simp only [cc0_bwd_mlp_eq_skeleton]; unfold cc0_bwd_mlp_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d10, %f10, -, H10⟩, ⟨%d11, %f11, -, H11⟩, ⟨%d12, %f12, -, H12⟩, ⟨%d13, %f13, -, H13⟩, Hk⟩
  obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact c1 | sl_exact c2 | sl_exact c3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro; sl_unfold_words; rw [View.read_writes_eq_canon _ _ _ (cover_dup _ _ _ _)]
    unfold dupV; simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  isplitl [H10]
  · iexists _; isplitr; swap; · iexact H10
    ipureintro; sl_unfold_words; rw [View.read_writes_eq_canon _ _ _ (cover_whole _ _ _)]
    simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  isplitl [H11]
  · iexists _; isplitr; swap; · iexact H11
    ipureintro; sl_unfold_words; rw [View.read_writes_eq_canon _ _ _ (cover_whole _ _ _)]
    simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  isplitl [H12]
  · iexists _; isplitr; swap; · iexact H12
    ipureintro; sl_unfold_words; rw [View.read_writes_eq_canon _ _ _ (cover_whole _ _ _)]
    simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  iexists _; isplitr; swap; · iexact H13
  ipureintro; sl_unfold_words; rw [View.read_writes_eq_canon _ _ _ (cover_whole _ _ _)]
  unfold accV; simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]

set_option maxHeartbeats 4000000 in
/-- A row block's first point: the normalised rows and the cotangent's cast are stored, and the accumulator starts. -/
theorem run_first (c1 : k0_cond1 i = 1#1) (c2 : ¬k0_cond2 i = 1#1) (c3 : ¬k0_cond3 i = 1#1) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a10 fullShare d) ∗ (∃ d, owns (c : Thread nD τ) a11 fullShare d) ∗ (∃ d, owns (c : Thread nD τ) a13 fullShare d)
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (dupV (k0_pay9 x2) x3 x7) ∗ owns (c : Thread nD τ) a10 fullShare (k0_pay8 x4 x5) ∗ owns (c : Thread nD τ) a11 fullShare (k0_pay9 x2) ∗ owns (c : Thread nD τ) a13 fullShare (accV (k0_pay9 x2) x3 x6 x7 k0_pay10)) -∗ K ⟨⟩))
      ⊢ wp frame (wpE (defs₀ (F := F)) Variants.none (c : Thread nD τ) none) Set.univ (cc0_bwd_mlp (F := F) i a2 h2 a3 h3 a4 h4 a5 h5 a6 h6 a7 h7 a8 h8 a9 h9 a10 h10 a11 h11 a12 h12 a13 h13) K := by
  simp only [cc0_bwd_mlp_eq_skeleton]; unfold cc0_bwd_mlp_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d10, %f10, -, H10⟩, ⟨%d11, %f11, -, H11⟩, ⟨%d13, %f13, -, H13⟩, Hk⟩
  obtain rfl := h2.eq_unread e2; obtain rfl := h3.eq_unread e3; obtain rfl := h4.eq_unread e4; obtain rfl := h5.eq_unread e5; obtain rfl := h6.eq_unread e6; obtain rfl := h7.eq_unread e7
  sl_exec (disch := first | sl_exact c1 | sl_exact c2 | sl_exact c3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro; sl_unfold_words; rw [View.read_writes_eq_canon _ _ _ (cover_dup _ _ _ _)]
    unfold dupV; simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  isplitl [H10]
  · iexists _; isplitr; swap; · iexact H10
    ipureintro; sl_unfold_words; rw [View.read_writes_eq_canon _ _ _ (cover_whole _ _ _)]
    simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  isplitl [H11]
  · iexists _; isplitr; swap; · iexact H11
    ipureintro; sl_unfold_words; rw [View.read_writes_eq_canon _ _ _ (cover_whole _ _ _)]
    simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]
  iexists _; isplitr; swap; · iexact H13
  ipureintro; sl_unfold_words; rw [View.read_writes_eq_canon _ _ _ (cover_whole _ _ _)]
  unfold accV; simp only [View.readAt_eq_ld, View.readCov_eq_canon', Cert.Blocks.canon_whole, Cert.Blocks.idx_whole, Cert.Blocks.ld_whole, h2.read_unread, h3.read_unread, h4.read_unread, h5.read_unread, h6.read_unread, h7.read_unread, shapeCast_self]

set_option maxHeartbeats 4000000 in
/-- A row block's last point: the rows' gradient is stored and the gain's gradient grows. -/
theorem run_last (c1 : ¬k0_cond1 i = 1#1) (c2 : ¬k0_cond2 i = 1#1) (c3 : k0_cond3 i = 1#1) (b : Vec F S512x1024 .bf16) (g : Vec F S1x1024 .f32) (a : Vec F S512x1024 .f32) (K : PUnit → sProp 𝕄) :
    iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
        ∗ (∃ d, owns (c : Thread nD τ) a8 fullShare d) ∗ (∃ d, owns (c : Thread nD τ) a9 fullShare d) ∗ owns (c : Thread nD τ) a11 fullShare b ∗ owns (c : Thread nD τ) a12 fullShare g ∗ owns (c : Thread nD τ) a13 fullShare a
        ∗ (iprop(owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7
            ∗ owns (c : Thread nD τ) a8 fullShare (dupV b x3 x7) ∗ owns (c : Thread nD τ) a9 fullShare (k0_pay7 x5 x4 (accV b x3 x6 x7 a) x2) ∗ owns (c : Thread nD τ) a11 fullShare b ∗ owns (c : Thread nD τ) a12 fullShare (k0_pay6 x4 (accV b x3 x6 x7 a) g) ∗ owns (c : Thread nD τ) a13 fullShare (accV b x3 x6 x7 a)) -∗ K ⟨⟩))
      ⊢ wp frame (wpE (defs₀ (F := F)) Variants.none (c : Thread nD τ) none) Set.univ (cc0_bwd_mlp (F := F) i a2 h2 a3 h3 a4 h4 a5 h5 a6 h6 a7 h7 a8 h8 a9 h9 a10 h10 a11 h11 a12 h12 a13 h13) K := by
  simp only [cc0_bwd_mlp_eq_skeleton]; unfold cc0_bwd_mlp_skel
  simp only [k0_part1_eq_skeleton, k0_part2_eq_skeleton]
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%f11, %e11, H11⟩, ⟨%f12, %e12, H12⟩, ⟨%f13, %e13, H13⟩, Hk⟩
  obtain rfl := h2.eq_unread e2; obtain rfl := h3.eq_unread e3; obtain rfl := h4.eq_unread e4; obtain rfl := h5.eq_unread e5; obtain rfl := h6.eq_unread e6; obtain rfl := h7.eq_unread e7; obtain rfl := h11.eq_unread e11; obtain rfl := h12.eq_unread e12; obtain rfl := h13.eq_unread e13
  sl_exec (disch := first | sl_exact c1 | sl_exact c2 | sl_exact c3)
  sl_step
  iapply Hk
  isplitl [H2]
  · iexists _; isplitr; · ipureintro; exact h2.read_unread _
    iexact H2
  isplitl [H3]
  · iexists _; isplitr; · ipureintro; exact h3.read_unread _
    iexact H3
  isplitl [H4]
  · iexists _; isplitr; · ipureintro; exact h4.read_unread _
    iexact H4
  isplitl [H5]
  · iexists _; isplitr; · ipureintro; exact h5.read_unread _
    iexact H5
  isplitl [H6]
  · iexists _; isplitr; · ipureintro; exact h6.read_unread _
    iexact H6
  isplitl [H7]
  · iexists _; isplitr; · ipureintro; exact h7.read_unread _
    iexact H7
  isplitl [H8]
  · iexists _; isplitr; swap; · iexact H8
    ipureintro; sl_unfold_words; rw [View.read_writes_eq_canon _ _ _ (cover_dup _ _ _ _)]
    unfold dupV; simp only [View.readAt_eq_ld, View.readCov_eq_canon', Cert.Blocks.canon_whole, Cert.Blocks.idx_whole, Cert.Blocks.ld_whole, h2.read_unread, h3.read_unread, h4.read_unread, h5.read_unread, h6.read_unread, h7.read_unread, h11.read_unread, h12.read_unread, h13.read_unread, shapeCast_self]
  isplitl [H9]
  · iexists _; isplitr; swap; · iexact H9
    ipureintro; sl_unfold_words; rw [View.read_writes_eq_canon _ _ _ (cover_whole _ _ _)]
    unfold accV d1 upAt downAt wAt; simp only [View.readAt_eq_ld, View.readCov_eq_canon', Cert.Blocks.canon_whole, Cert.Blocks.idx_whole, Cert.Blocks.ld_whole, h2.read_unread, h3.read_unread, h4.read_unread, h5.read_unread, h6.read_unread, h7.read_unread, h11.read_unread, h12.read_unread, h13.read_unread, shapeCast_self]
  isplitl [H11]
  · iexists _; isplitr; · ipureintro; exact h11.read_unread _
    iexact H11
  isplitl [H12]
  · iexists _; isplitr; swap; · iexact H12
    ipureintro; sl_unfold_words; rw [View.read_writes_eq_canon _ _ _ (cover_whole _ _ _)]
    unfold accV d1 upAt downAt wAt; simp only [View.readAt_eq_ld, View.readCov_eq_canon', Cert.Blocks.canon_whole, Cert.Blocks.idx_whole, Cert.Blocks.ld_whole, h2.read_unread, h3.read_unread, h4.read_unread, h5.read_unread, h6.read_unread, h7.read_unread, h11.read_unread, h12.read_unread, h13.read_unread, shapeCast_self]
  iexists _; isplitr; swap; · iexact H13
  ipureintro; sl_unfold_words; rw [View.read_writes_eq_canon _ _ _ (cover_whole _ _ _)]
  unfold accV; simp only [View.readAt_eq_ld, View.readCov_eq_canon', Cert.Blocks.canon_whole, Cert.Blocks.idx_whole, Cert.Blocks.ld_whole, h2.read_unread, h3.read_unread, h4.read_unread, h5.read_unread, h6.read_unread, h7.read_unread, h11.read_unread, h12.read_unread, h13.read_unread, shapeCast_self]

end Cert.BwdMlpIdeal.Mlp

end
-- ==== Proof.BwdMlpFrame.lean ====
/-
  The MLP gradient's frame: what every buffer holds before each grid point, the body's obligation there, and the run.

  Points come in pairs, one pair per row block. Two of the outputs, the normalised rows and the cotangent's cast, are
  stored at the pair's first point and written back after its second, which only finds them; so what they hold is stated
  at the first point of the pair.
-/
module

public import proofs.«01_k».proof.Proof.BwdMlpRun
public import proofs.«01_k».proof.Proof.Gen.BwdMlpIdeal.Launch
public import Idealize.ShloMosaic.Lib.Pipeline.TableIdle

public import Idealize.ShloMosaic.Lib.Claim

@[expose] public section

set_option maxRecDepth 16384

noncomputable section

namespace Cert.BwdMlpIdeal.Mlp

open Cert.BwdMlpIdeal Cert.BwdMlpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers at a point -/

abbrev ms_0 (t : Fin cfg0.N) : Memref sig .tc .vmem S512x1024 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S512x2048 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S512x1024 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S1x1024 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S4x1024x512 .bf16 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S2048x1024 .bf16 := win0_5.stage (cfg0.slots t 5)
abbrev hs_5 (t : Fin cfg0.N) : (ms_5 t).IsWhole := hstage0_5 ((cfg0.slots t 5).cast nbuf0_5)
abbrev ms_6 (t : Fin cfg0.N) : Memref sig .tc .vmem S512x2048 .bf16 := win0_6.stage (cfg0.slots t 6)
abbrev hs_6 (t : Fin cfg0.N) : (ms_6 t).IsWhole := hstage0_6 ((cfg0.slots t 6).cast nbuf0_6)
abbrev ms_7 (t : Fin cfg0.N) : Memref sig .tc .vmem S512x1024 .f32 := win0_7.stage (cfg0.slots t 7)
abbrev hs_7 (t : Fin cfg0.N) : (ms_7 t).IsWhole := hstage0_7 ((cfg0.slots t 7).cast nbuf0_7)
abbrev ms_8 (t : Fin cfg0.N) : Memref sig .tc .vmem S512x1024 .bf16 := win0_8.stage (cfg0.slots t 8)
abbrev hs_8 (t : Fin cfg0.N) : (ms_8 t).IsWhole := hstage0_8 ((cfg0.slots t 8).cast nbuf0_8)
abbrev ms_9 (t : Fin cfg0.N) : Memref sig .tc .vmem S512x1024 .bf16 := win0_9.stage (cfg0.slots t 9)
abbrev hs_9 (t : Fin cfg0.N) : (ms_9 t).IsWhole := hstage0_9 ((cfg0.slots t 9).cast nbuf0_9)
abbrev ms_10 (t : Fin cfg0.N) : Memref sig .tc .vmem S1x1024 .f32 := win0_10.stage (cfg0.slots t 10)
abbrev hs_10 (t : Fin cfg0.N) : (ms_10 t).IsWhole := hstage0_10 ((cfg0.slots t 10).cast nbuf0_10)
/-- The accumulator. -/
abbrev scM_0 : Memref sig .tc .vmem S512x1024 .f32 := Memref.whole cc0_scratch0

theorem ΦA_eq (c : Dev nD) :
    (Pipeline.ΦA spec0 c : sProp 𝕄) = iprop((∃ d, owns (c : Thread nD τ) scM_0 fullShare d) ∗ (∃ r, prngReg c r)) := by
  unfold Pipeline.ΦA; rw [scopedRest0_eq]; simp only [scM_0, owns_whole]; try rfl

/-! ## The points by their case -/

theorem points : cfg0.N = 32 := by decide +kernel

theorem first_iff : ∀ t : Fin cfg0.N, k0_cond1 (grid0.coords t) = 1#1 ↔ t.val % 2 = 0 := by decide +kernel
theorem start_iff : ∀ t : Fin cfg0.N, k0_cond2 (grid0.coords t) = 1#1 ↔ t.val = 0 := by decide +kernel
theorem last_iff : ∀ t : Fin cfg0.N, k0_cond3 (grid0.coords t) = 1#1 ↔ t.val % 2 = 1 := by decide +kernel

theorem idle_7 : ∀ t : Fin cfg0.N, cfg0.idle 7 (grid0.coords t) = decide (t.val % 2 = 0) := by decide +kernel
theorem idle_8 : ∀ t : Fin cfg0.N, cfg0.idle 8 (grid0.coords t) = decide (t.val % 2 = 1) := by decide +kernel
theorem idle_9 : ∀ t : Fin cfg0.N, cfg0.idle 9 (grid0.coords t) = decide (t.val % 2 = 1) := by decide +kernel
theorem idle_10 : ∀ t : Fin cfg0.N, cfg0.idle 10 (grid0.coords t) = decide (t.val % 2 = 0 ∧ t.val ≠ 0) := by decide +kernel
theorem fresh_9 : ∀ t : Fin cfg0.N, cfg0.fresh 9 t.val = decide (t.val % 2 = 0) := by decide +kernel
theorem fresh_8 : ∀ t : Fin cfg0.N, cfg0.fresh 8 t.val = decide (t.val % 2 = 0) := by decide +kernel
theorem fresh_10 : ∀ t : Fin cfg0.N, cfg0.fresh 10 t.val = decide (t.val = 0) := by decide +kernel

/-- The first point of `t`'s pair. -/
def ev (t : Fin cfg0.N) : Fin cfg0.N := ⟨t.val - t.val % 2, Nat.lt_of_le_of_lt (Nat.sub_le _ _) t.isLt⟩

theorem ev_first (t : Fin cfg0.N) (h : t.val % 2 = 0) : ev t = t := Fin.ext (by show t.val - t.val % 2 = t.val; omega)
theorem ev_last (t : Fin cfg0.N) (h : t.val % 2 = 1) (hp : t.val - 1 < cfg0.N) : ev t = ⟨t.val - 1, hp⟩ :=
  Fin.ext (by show t.val - t.val % 2 = t.val - 1; omega)
theorem ev_ev (t : Fin cfg0.N) : ev (ev t) = ev t :=
  Fin.ext (by show t.val - t.val % 2 - (t.val - t.val % 2) % 2 = t.val - t.val % 2; omega)
theorem ev_pred (t : Fin cfg0.N) (h : t.val % 2 = 1) (hp : t.val - 1 < cfg0.N) : ev ⟨t.val - 1, hp⟩ = ev t := by
  rw [← ev_last t h hp, ev_ev]

/-! ## What the buffers hold after each point -/

/-- The cotangent's cast, and the normalised rows, stored at the pair's first point. -/
def castAt (c : Dev nD) (t : Fin cfg0.N) : Vec F S512x1024 .bf16 := k0_pay9 (iblk m c 0 (ev t))
def normAt (c : Dev nD) (t : Fin cfg0.N) : Vec F S512x1024 .bf16 := k0_pay8 (iblk m c 2 (ev t)) (iblk m c 3 (ev t))
/-- The gradient at the hidden layer, stored at every point. -/
def dupAt (c : Dev nD) (t : Fin cfg0.N) : Vec F S512x2048 .bf16 := dupV (castAt m c t) (iblk m c 1 t) (iblk m c 5 t)
/-- The accumulator after a pair's first point, and after any point. -/
def accFirst (c : Dev nD) (t : Fin cfg0.N) : Vec F S512x1024 .f32 :=
  accV (castAt m c t) (iblk m c 1 t) (iblk m c 4 t) (iblk m c 5 t) k0_pay10
def accAt (c : Dev nD) (t : Fin cfg0.N) : Vec F S512x1024 .f32 :=
  if t.val % 2 = 0 then accFirst m c t
  else accV (castAt m c t) (iblk m c 1 t) (iblk m c 4 t) (iblk m c 5 t) (accFirst m c (ev t))
/-- The rows' gradient. -/
def rowsAt (c : Dev nD) (t : Fin cfg0.N) : Vec F S512x1024 .f32 := k0_pay7 (iblk m c 3 t) (iblk m c 2 t) (accAt m c t) (iblk m c 0 t)
/-- The gain's gradient: zero at the first point, and one row block more at each pair's second point. -/
def gainAt (c : Dev nD) : (n : ℕ) → n < cfg0.N → Vec F S1x1024 .f32
  | 0, _ => k0_pay3
  | n + 1, hn => if (n + 1) % 2 = 0 then gainAt c n (Nat.lt_of_succ_lt hn)
      else k0_pay6 (iblk m c 2 ⟨n + 1, hn⟩) (accAt m c ⟨n + 1, hn⟩) (gainAt c n (Nat.lt_of_succ_lt hn))

theorem accAt_first (c : Dev nD) (t : Fin cfg0.N) (h : t.val % 2 = 0) : accAt m c t = accFirst m c t := by
  unfold accAt; rw [if_pos h]
theorem accAt_last (c : Dev nD) (t : Fin cfg0.N) (h : t.val % 2 = 1) (hp : t.val - 1 < cfg0.N) :
    accAt m c t = accV (castAt m c t) (iblk m c 1 t) (iblk m c 4 t) (iblk m c 5 t) (accAt m c ⟨t.val - 1, hp⟩) := by
  rw [accAt_first m c ⟨t.val - 1, hp⟩ (by show (t.val - 1) % 2 = 0; omega), ← ev_last t h hp]
  unfold accAt; rw [if_neg (by omega)]
theorem gainAt_first (c : Dev nD) (t : Fin cfg0.N) (h : t.val % 2 = 0) (hz : t.val ≠ 0) (hp : t.val - 1 < cfg0.N) :
    gainAt m c t.val t.isLt = gainAt m c (t.val - 1) hp := by
  obtain ⟨n, hn⟩ := t
  cases n with
  | zero => exact absurd rfl hz
  | succ n => exact if_pos h
theorem gainAt_last (c : Dev nD) (t : Fin cfg0.N) (h : t.val % 2 = 1) (hp : t.val - 1 < cfg0.N) :
    gainAt m c t.val t.isLt = k0_pay6 (iblk m c 2 t) (accAt m c t) (gainAt m c (t.val - 1) hp) := by
  obtain ⟨n, hn⟩ := t
  cases n with
  | zero => exact absurd h (by dsimp only; omega)
  | succ n => exact if_neg (by dsimp only at h; omega)

/-- Before point `n`: the accumulator at what the point before left, the generator register at some state. -/
def PhiS (c : Dev nD) : (n : ℕ) → n ≤ cfg0.N → sProp 𝕄
  | 0, _ => Pipeline.ΦA spec0 c
  | n + 1, hn => iprop(owns (c : Thread nD τ) scM_0 fullShare (accAt m c ⟨n, hn⟩) ∗ (∃ r, prngReg c r))

theorem PhiS_succ (c : Dev nD) (n : ℕ) (hn : n < cfg0.N) :
    PhiS m c (n + 1) hn = iprop(owns (c : Thread nD τ) scM_0 fullShare (accAt m c ⟨n, hn⟩) ∗ (∃ r, prngReg c r)) := rfl

theorem PhiS_pos (c : Dev nD) (n : ℕ) (h : n ≤ cfg0.N) (hz : n ≠ 0) (hp : n - 1 < cfg0.N) :
    PhiS m c n h = iprop(owns (c : Thread nD τ) scM_0 fullShare (accAt m c ⟨n - 1, hp⟩) ∗ (∃ r, prngReg c r)) := by
  cases n with
  | zero => exact absurd rfl hz
  | succ n => rfl

/-- Whatever the point, the accumulator holds something. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, ΦA_eq]
    iintro ⟨H0, Hg⟩
    isplitl [H0]
    · iexists _; iexact H0
    iexact Hg

theorem PhiS_any_eq (c : Dev nD) (n : ℕ) (h : n ≤ cfg0.N) :
    PhiS m c n h ⊢ iprop((∃ d, owns (c : Thread nD τ) scM_0 fullShare d) ∗ (∃ r, prngReg c r)) := by
  rw [← ΦA_eq]; exact PhiS_any m c n h

/-! ## The proof data -/

/-- The pipeline's data: each input's buffer at its block, the outputs' as above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dupAt m c t
    | ⟨7, _⟩ => rowsAt m c t
    | ⟨8, _⟩ => normAt m c t
    | ⟨9, _⟩ => castAt m c t
    | ⟨10, _⟩ => gainAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = dupAt m c t := by dsimp only [dats]
theorem after_7 (c : Dev nD) (t : Fin cfg0.N) : (dats m 0 c).after 7 t = rowsAt m c t := by dsimp only [dats]
theorem after_8 (c : Dev nD) (t : Fin cfg0.N) : (dats m 0 c).after 8 t = normAt m c t := by dsimp only [dats]
theorem after_9 (c : Dev nD) (t : Fin cfg0.N) : (dats m 0 c).after 9 t = castAt m c t := by dsimp only [dats]
theorem after_10 (c : Dev nD) (t : Fin cfg0.N) : (dats m 0 c).after 10 t = gainAt m c t.val t.isLt := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-- A pair's second point finds what its first point stored, and the gain's gradient is carried from point to point. -/
theorem before_8 (c : Dev nD) (t : Fin cfg0.N) (h : t.val % 2 = 1) (d) : (dats m 0 c).before 8 t d = normAt m c t := by
  rw [(dats m 0 c).before_out_traj 8 rfl (fun _ _ => rfl) (fun t hz hi _ => by
    rw [idle_8, decide_eq_true_eq] at hi; rw [after_8, after_8]; unfold normAt; rw [ev_pred t hi]) t.val t rfl d]
  rw [if_neg (by rw [fresh_8, decide_eq_true_eq]; omega), after_8]; unfold normAt; rw [ev_pred t h]
theorem before_9 (c : Dev nD) (t : Fin cfg0.N) (h : t.val % 2 = 1) (d) : (dats m 0 c).before 9 t d = castAt m c t := by
  rw [(dats m 0 c).before_out_traj 9 rfl (fun _ _ => rfl) (fun t hz hi _ => by
    rw [idle_9, decide_eq_true_eq] at hi; rw [after_9, after_9]; unfold castAt; rw [ev_pred t hi]) t.val t rfl d]
  rw [if_neg (by rw [fresh_9, decide_eq_true_eq]; omega), after_9]; unfold castAt; rw [ev_pred t h]
theorem before_10 (c : Dev nD) (t : Fin cfg0.N) (h : t.val ≠ 0) (hp : t.val - 1 < cfg0.N) (d) :
    (dats m 0 c).before 10 t d = gainAt m c (t.val - 1) hp := by
  rw [(dats m 0 c).before_out_traj 10 rfl (fun _ _ => rfl) (fun t hz hi _ => by
    rw [idle_10, decide_eq_true_eq] at hi; rw [after_10, after_10]; exact gainAt_first m c t hi.1 hi.2 _) t.val t rfl d]
  rw [if_neg (by rw [fresh_10, decide_eq_true_eq]; exact h), after_10]

theorem leaves_0 (c : Dev nD) (t : Fin cfg0.N) :
    (dats m 0 c).leavesExact 0 t = owns (c : Thread nD τ) (ms_0 t) fullShare ((dats m 0 c).after 0 t) := by
  unfold Dat.leavesExact; rw [show cfg0.idle 0 (cfg0.grid.coords t) = false from rfl]
theorem leaves_1 (c : Dev nD) (t : Fin cfg0.N) :
    (dats m 0 c).leavesExact 1 t = owns (c : Thread nD τ) (ms_1 t) fullShare ((dats m 0 c).after 1 t) := by
  unfold Dat.leavesExact; rw [show cfg0.idle 1 (cfg0.grid.coords t) = false from rfl]
theorem leaves_2 (c : Dev nD) (t : Fin cfg0.N) :
    (dats m 0 c).leavesExact 2 t = owns (c : Thread nD τ) (ms_2 t) fullShare ((dats m 0 c).after 2 t) := by
  unfold Dat.leavesExact; rw [show cfg0.idle 2 (cfg0.grid.coords t) = false from rfl]
theorem leaves_3 (c : Dev nD) (t : Fin cfg0.N) :
    (dats m 0 c).leavesExact 3 t = owns (c : Thread nD τ) (ms_3 t) fullShare ((dats m 0 c).after 3 t) := by
  unfold Dat.leavesExact; rw [show cfg0.idle 3 (cfg0.grid.coords t) = false from rfl]
theorem leaves_4 (c : Dev nD) (t : Fin cfg0.N) :
    (dats m 0 c).leavesExact 4 t = owns (c : Thread nD τ) (ms_4 t) fullShare ((dats m 0 c).after 4 t) := by
  unfold Dat.leavesExact; rw [show cfg0.idle 4 (cfg0.grid.coords t) = false from rfl]
theorem leaves_5 (c : Dev nD) (t : Fin cfg0.N) :
    (dats m 0 c).leavesExact 5 t = owns (c : Thread nD τ) (ms_5 t) fullShare ((dats m 0 c).after 5 t) := by
  unfold Dat.leavesExact; rw [show cfg0.idle 5 (cfg0.grid.coords t) = false from rfl]
theorem leaves_6 (c : Dev nD) (t : Fin cfg0.N) :
    (dats m 0 c).leavesExact 6 t = owns (c : Thread nD τ) (ms_6 t) fullShare ((dats m 0 c).after 6 t) := by
  unfold Dat.leavesExact; rw [show cfg0.idle 6 (cfg0.grid.coords t) = false from rfl]
theorem leaves_7 (c : Dev nD) (t : Fin cfg0.N) (h : t.val % 2 = 1) :
    (dats m 0 c).leavesExact 7 t = owns (c : Thread nD τ) (ms_7 t) fullShare ((dats m 0 c).after 7 t) := by
  unfold Dat.leavesExact; rw [(idle_7 t).trans (decide_eq_false (by omega))]
theorem leaves_8_first (c : Dev nD) (t : Fin cfg0.N) (h : t.val % 2 = 0) :
    (dats m 0 c).leavesExact 8 t = owns (c : Thread nD τ) (ms_8 t) fullShare ((dats m 0 c).after 8 t) := by
  unfold Dat.leavesExact; rw [(idle_8 t).trans (decide_eq_false (by omega))]
theorem leaves_8_last (c : Dev nD) (t : Fin cfg0.N) (h : t.val % 2 = 1) :
    (dats m 0 c).leavesExact 8 t = owns (c : Thread nD τ) (ms_8 t) fullShare ((dats m 0 c).after 8 t) := by
  unfold Dat.leavesExact; rw [(idle_8 t).trans (decide_eq_true h), (flush0_8 t).mpr h]
theorem leaves_9_first (c : Dev nD) (t : Fin cfg0.N) (h : t.val % 2 = 0) :
    (dats m 0 c).leavesExact 9 t = owns (c : Thread nD τ) (ms_9 t) fullShare ((dats m 0 c).after 9 t) := by
  unfold Dat.leavesExact; rw [(idle_9 t).trans (decide_eq_false (by omega))]
theorem leaves_9_last (c : Dev nD) (t : Fin cfg0.N) (h : t.val % 2 = 1) :
    (dats m 0 c).leavesExact 9 t = owns (c : Thread nD τ) (ms_9 t) fullShare ((dats m 0 c).after 9 t) := by
  unfold Dat.leavesExact; rw [(idle_9 t).trans (decide_eq_true h), (flush0_9 t).mpr h]
theorem leaves_10 (c : Dev nD) (t : Fin cfg0.N) (h : t.val % 2 = 1 ∨ t.val = 0) :
    (dats m 0 c).leavesExact 10 t = owns (c : Thread nD τ) (ms_10 t) fullShare ((dats m 0 c).after 10 t) := by
  unfold Dat.leavesExact; rw [(idle_10 t).trans (decide_eq_false (by omega))]
theorem found_7 (c : Dev nD) (t : Fin cfg0.N) (h : t.val % 2 = 0) :
    (dats m 0 c).leavesExact 7 t = iprop(∃ d, owns (c : Thread nD τ) (ms_7 t) fullShare ((dats m 0 c).before 7 t d)) :=
  Dat.leavesExact_idle (dats m 0 c) 7 t ((idle_7 t).trans (decide_eq_true h))
    (by rw [← Bool.not_eq_true, flush0_7]; omega)
theorem found_10 (c : Dev nD) (t : Fin cfg0.N) (h : t.val % 2 = 0) (hz : t.val ≠ 0) :
    (dats m 0 c).leavesExact 10 t = iprop(∃ d, owns (c : Thread nD τ) (ms_10 t) fullShare ((dats m 0 c).before 10 t d)) :=
  Dat.leavesExact_idle (dats m 0 c) 10 t ((idle_10 t).trans (decide_eq_true ⟨h, hz⟩))
    (by rw [← Bool.not_eq_true, flush0_10]; omega)

/-! ## The body's obligation -/

def bodyPre (c : Dev nD) (t : Fin cfg0.N) : sProp 𝕄 :=
  iprop((dats m 0 c).Φ t.castSucc
    ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d))
    ∗ (∃ d, owns (c : Thread nD τ) (ms_6 t) fullShare ((dats m 0 c).before 6 t d))
    ∗ (∃ d, owns (c : Thread nD τ) (ms_7 t) fullShare ((dats m 0 c).before 7 t d))
    ∗ (∃ d, owns (c : Thread nD τ) (ms_8 t) fullShare ((dats m 0 c).before 8 t d))
    ∗ (∃ d, owns (c : Thread nD τ) (ms_9 t) fullShare ((dats m 0 c).before 9 t d))
    ∗ (∃ d, owns (c : Thread nD τ) (ms_10 t) fullShare ((dats m 0 c).before 10 t d)))

def bodyPost (c : Dev nD) (t : Fin cfg0.N) : sProp 𝕄 :=
  iprop((dats m 0 c).Φ t.succ
    ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hp : t.val - 1 < cfg0.N := Nat.lt_of_le_of_lt (Nat.sub_le _ _) t.isLt
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ]
  rw [leaves_0, after_0, leaves_1, after_1, leaves_2, after_2, leaves_3, after_3, leaves_4, after_4, leaves_5, after_5, leaves_6, after_6, Phi_castSucc]
  rcases Nat.mod_two_eq_zero_or_one t.val with h | h
  · rw [leaves_8_first m c t h, leaves_9_first m c t h, found_7 m c t h, after_8, after_9, accAt_first m c t h]
    unfold accFirst dupAt castAt normAt
    rw [ev_first t h]
    by_cases hz : t.val = 0
    · rw [leaves_10 m c t (Or.inr hz), after_10, show gainAt m c t.val t.isLt = k0_pay3 by
        obtain ⟨n, hn⟩ := t; obtain rfl := hz; rfl]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HΦ := (PhiS_any_eq m c t.val (Nat.le_of_lt t.isLt)) $$ HΦ
      icases HΦ with ⟨HS0, Hg⟩
      iapply (run_start c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) (iblk m c 0 t) (iblk m c 1 t) (iblk m c 2 t) (iblk m c 3 t) (iblk m c 4 t) (iblk m c 5 t) ((first_iff t).mpr h) ((start_iff t).mpr hz) (fun e => by have := (last_iff t).mp e; omega) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H8]; · iexists _; iexact H8
      isplitl [H9]; · iexists _; iexact H9
      isplitl [H10]; · iexists _; iexact H10
      isplitl [HS0]; · iexact HS0
      iintro ⟨H0, H1, H2, H3, H4, H5, H6, H8, H9, H10, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iexact H10
    · rw [found_10 m c t h hz]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      ihave HΦ := (PhiS_any_eq m c t.val (Nat.le_of_lt t.isLt)) $$ HΦ
      icases HΦ with ⟨HS0, Hg⟩
      iapply (run_first c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) (iblk m c 0 t) (iblk m c 1 t) (iblk m c 2 t) (iblk m c 3 t) (iblk m c 4 t) (iblk m c 5 t) ((first_iff t).mpr h) (fun e => hz ((start_iff t).mp e)) (fun e => by have := (last_iff t).mp e; omega) _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H8]; · iexists _; iexact H8
      isplitl [H9]; · iexists _; iexact H9
      isplitl [HS0]; · iexact HS0
      iintro ⟨H0, H1, H2, H3, H4, H5, H6, H8, H9, HS0⟩
      isplitl [HS0 Hg]
      · isplitl [HS0]; · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      iexists _; iexact H10
  · have hz : t.val ≠ 0 := by omega
    rw [leaves_7 m c t h, leaves_8_last m c t h, leaves_9_last m c t h, leaves_10 m c t (Or.inl h), after_7, after_8, after_9, after_10]
    rw [PhiS_pos m c _ _ hz hp, gainAt_last m c t h hp]
    unfold dupAt rowsAt
    rw [accAt_last m c t h hp]
    simp only [before_8 m c t h, before_9 m c t h, before_10 m c t hz hp]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (run_last c (grid0.coords t) (ms_0 t) (hs_0 t) (ms_1 t) (hs_1 t) (ms_2 t) (hs_2 t) (ms_3 t) (hs_3 t) (ms_4 t) (hs_4 t) (ms_5 t) (hs_5 t) (ms_6 t) (hs_6 t) (ms_7 t) (hs_7 t) (ms_8 t) (hs_8 t) (ms_9 t) (hs_9 t) (ms_10 t) (hs_10 t) scM_0 (Memref.isWhole_whole _) (iblk m c 0 t) (iblk m c 1 t) (iblk m c 2 t) (iblk m c 3 t) (iblk m c 4 t) (iblk m c 5 t) (fun e => by have := (first_iff t).mp e; omega) (fun e => hz ((start_iff t).mp e)) ((last_iff t).mpr h) (castAt m c t) (gainAt m c (t.val - 1) hp) (accAt m c ⟨t.val - 1, hp⟩) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H9]; · iexact H9
    isplitl [H10]; · iexact H10
    isplitl [HS0]; · iexact HS0
    iintro ⟨H0, H1, H2, H3, H4, H5, H6, H7, H9, H10, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem Phi_out (c : Dev nD) (t : Fin (cfg0.N + 1)) : (dats m 0 c).Φ t ⊢ Pipeline.ΦA spec0 c := by
  rw [show (dats m 0 c).Φ t = PhiS m c t.val (Nat.le_of_lt_succ t.isLt) from rfl]
  exact PhiS_any m c _ _

theorem hout (c : Dev nD) : (dats m 0 c).Φ (Fin.last cfg0.N) ⊢ Pipeline.ΦA spec0 c :=
  Phi_out m c _

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- Every execution ends with each array of the pipeline at what the proof data says. -/
theorem run_main : θ_run defs (onTc (τ := τ) (main (F := F))) (s₀ m ρ) (Pipeline.FramePost cfgs (dats m) 0 (V m)) :=
  (θ_run defs _ _).mono (fun _ h => h.1) (run_main_quiescent m ρ)

/-- THE FRAME: the arguments end unchanged and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.BwdMlpIdeal.Mlp

end
-- ==== Proof.BwdMlpKernel.lean ====
/-
  The MLP gradient is one text, printed once for each of its two readings. What is proved of one print at any float
  values is carried to the other here.
-/
module

public import proofs.«01_k».proof.Proof.BwdMlpFrame
public import proofs.«01_k».proof.Defs
public import proofs.«01_k».proof.Proof.Gen.BwdMlp
public import Idealize.ShloMosaic.Lib.Tactic

@[expose] public section

noncomputable section

namespace Cert.Proof

open Idealize.ShloMosaic Idealize.SL.Sem

/-- What the frame of the first print says is what the second print's frame says at words. -/
theorem frame_mlp_same : Cert.quiescent_BwdMlp =
    ∀ (m : (ℓ : Loc Cert.BwdMlpIdeal.nD Cert.BwdMlpIdeal.τ Cert.BwdMlpIdeal.sig) → Buf (Elt Bits) ℓ)
      (g : Dev Cert.BwdMlpIdeal.nD → PrngReg), Cert.Pre_BwdMlp m →
      θ_run (Cert.BwdMlpIdeal.defs (F := Bits)) (onTc (τ := Cert.BwdMlpIdeal.τ) (Cert.BwdMlpIdeal.main (F := Bits)))
        ⟨m, fun _ => 0, g⟩ (fun r => (∀ c : Dev Cert.BwdMlpIdeal.nD,
          r.2.mem ((c.tc : Thread Cert.BwdMlpIdeal.nD Cert.BwdMlpIdeal.τ).loc Cert.BwdMlpIdeal.main_arg0)
            = m ((c.tc : Thread Cert.BwdMlpIdeal.nD Cert.BwdMlpIdeal.τ).loc Cert.BwdMlpIdeal.main_arg0)
          ∧ r.2.mem ((c.tc : Thread Cert.BwdMlpIdeal.nD Cert.BwdMlpIdeal.τ).loc Cert.BwdMlpIdeal.main_arg1)
            = m ((c.tc : Thread Cert.BwdMlpIdeal.nD Cert.BwdMlpIdeal.τ).loc Cert.BwdMlpIdeal.main_arg1)
          ∧ r.2.mem ((c.tc : Thread Cert.BwdMlpIdeal.nD Cert.BwdMlpIdeal.τ).loc Cert.BwdMlpIdeal.main_arg2)
            = m ((c.tc : Thread Cert.BwdMlpIdeal.nD Cert.BwdMlpIdeal.τ).loc Cert.BwdMlpIdeal.main_arg2)
          ∧ r.2.mem ((c.tc : Thread Cert.BwdMlpIdeal.nD Cert.BwdMlpIdeal.τ).loc Cert.BwdMlpIdeal.main_arg3)
            = m ((c.tc : Thread Cert.BwdMlpIdeal.nD Cert.BwdMlpIdeal.τ).loc Cert.BwdMlpIdeal.main_arg3)
          ∧ r.2.mem ((c.tc : Thread Cert.BwdMlpIdeal.nD Cert.BwdMlpIdeal.τ).loc Cert.BwdMlpIdeal.main_arg4)
            = m ((c.tc : Thread Cert.BwdMlpIdeal.nD Cert.BwdMlpIdeal.τ).loc Cert.BwdMlpIdeal.main_arg4))
          ∧ r.2.sem = fun _ => 0) := by sl_kernel_rfl

/-- The MLP gradient, at any bits: it ends with its arguments unchanged and its counters at zero. -/
theorem frame_bwd_mlp : Cert.quiescent_BwdMlp :=
  frame_mlp_same.mpr fun m ρ _ => Cert.BwdMlpIdeal.Mlp.frame (F := Bits) m ρ

end Cert.Proof

end
-- ==== Proof.Sums.lean ====
/-
  Sums over blocks: a sum over `n` blocks of `b` rows each is the sum over all `n * b` rows.
-/
module

public import Idealize.ShloMosaic.Lib.Pointwise

@[expose] public section

namespace Cert.Sums

/-- A sum over the blocks `s < n`, in each over the rows `k < b`, of a function of the row `b * s + k` is its sum over
    the rows below `N = n * b`. -/
theorem sum_blocks {M : Type*} [AddCommMonoid M] (n b N : ℕ) (hN : N = n * b) (f : ℕ → M) :
    ∑ s ∈ Finset.range n, ∑ k : Fin b, f (b * s + k.val) = ∑ K : Fin N, f K.val := by
  subst hN
  rw [Fin.sum_univ_eq_sum_range f (n * b)]
  induction n with
  | zero => simp
  | succ n ih =>
    rw [Finset.sum_range_succ, ih, Nat.succ_mul, Finset.sum_range_add, Fin.sum_univ_eq_sum_range (fun k => f (b * n + k)) b]
    simp only [Nat.mul_comm n b]

/-- An accumulator swept in runs of `p` points: the first point of a run sets it to its addend, a later one (short
    of the run's offset `q`) adds its own; so it holds the sum of the run's addends so far. -/
theorem sum_runs {M ι : Type*} [AddCommMonoid M] {N p q : ℕ} (hp : 0 < p) (f : ∀ n, n < N → ι → M) (P : ℕ → ι → M)
    (hA : ∀ n h i, n % p = 0 → f n h i = P n i)
    (hB : ∀ n (h : n + 1 < N) i, (n + 1) % p ≠ 0 → (n + 1) % p < q → f (n + 1) h i = f n (Nat.lt_of_succ_lt h) i + P (n + 1) i) :
    ∀ n (h : n < N), n % p < q → ∀ i, f n h i = ∑ s ∈ Finset.range (n % p + 1), P (p * (n / p) + s) i := by
  intro n
  induction n with
  | zero =>
    intro h _ i
    rw [hA 0 h i (Nat.zero_mod p)]
    simp
  | succ n ih =>
    intro h hq i
    by_cases h0 : (n + 1) % p = 0
    · have e : p * ((n + 1) / p) = n + 1 := Nat.mul_div_cancel' (Nat.dvd_of_mod_eq_zero h0)
      rw [hA _ h i h0, h0]
      simp only [zero_add, Finset.sum_range_one]
      rw [Nat.add_zero, e]
    · have ed : (n + 1) / p = n / p := by
        rw [Nat.succ_div, if_neg (fun hd => h0 (Nat.mod_eq_zero_of_dvd hd)), Nat.add_zero]
      have em : (n + 1) % p = n % p + 1 := by
        have h1 := Nat.div_add_mod (n + 1) p
        have h2 := Nat.div_add_mod n p
        rw [ed] at h1
        omega
      rw [hB n h i h0 hq, ih _ (by omega) i, ed, em, Finset.sum_range_succ _ (n % p + 1)]
      rw [show p * (n / p) + (n % p + 1) = n + 1 by have h2 := Nat.div_add_mod n p; omega]

end Cert.Sums

end
-- ==== Proof.GwUpValue.lean ====
/-
  The gradient of the up projection's weights: what the kernel's accumulator and result hold, the reference's
  product, and their equality.
-/
module

public import proofs.«01_k».proof.Defs
public import proofs.«01_k».proof.Proof.Gen.GwUpIdeal.Value
public import proofs.«01_k».proof.Proof.Gen.GwUpRIdeal.Run
public import proofs.«01_k».proof.Proof.Sums
public import Idealize.ShloMosaic.Lib.Pointwise
public import Idealize.ShloMosaic.Lib.Pipeline.Value

@[expose] public section

noncomputable section

namespace Cert.GwUpIdeal.Grad

open Cert.GwUpIdeal Cert.GwUpIdeal.Gen Cert.GwUpIdeal.Value
open Idealize.ShloMosaic Idealize.ShloMosaic.TcCoe Idealize.SL.Sem

theorem hz : (![0, 0] : Fin 2 → Nat) = fun _ => 0 := funext fun a => by fin_cases a <;> rfl

variable {F : FTy → Type} [FloatOps F]

/-- The first point of a run leaves the point's product in the accumulator. -/
theorem sout_A (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S4x1024x512 .f32) (h5 : a5.IsWhole)
    (a6 : Memref sig .tc .vmem S1024x2048 .f32) (h6 : a6.IsWhole) (hc0 : cond0_0 i) (hc1 : ¬cond0_1 i) (hc2 : ¬cond0_2 i)
    (x0 : Vec F S1024x1024 .bf16) (x1 : Vec F S1024x2048 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1024x1024) hz, View.ld_unit_zero (S := S1024x2048) hz, shapeCast_self]

/-- A later point adds its product to the accumulator. -/
theorem sout_B (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S4x1024x512 .f32) (h5 : a5.IsWhole)
    (a6 : Memref sig .tc .vmem S1024x2048 .f32) (h6 : a6.IsWhole) (hc0 : ¬cond0_0 i) (hc1 : cond0_1 i) (hc2 : ¬cond0_2 i)
    (x0 : Vec F S1024x1024 .bf16) (x1 : Vec F S1024x2048 .bf16) (xs : Vec F S1024x2048 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  unfold k0_pay3
  simp only [View.readAt_eq_ld, h3.read_unread, h4.read_unread, h6.read_unread, View.ld_unit_zero (S := S1024x1024) hz, View.ld_unit_zero (S := S1024x2048) hz, shapeCast_self]

/-- The whole sum, cut into four slabs: entry `(a, r, l)` of the result block is entry `(r, 512 a + l)` of the sum. -/
def slabs (Y : Vec F S1024x2048 .f32) : Vec F S4x1024x512 .f32 := fun y =>
  Y (ix2 (y 1) ⟨512 * (y 0).val + (y 2).val, by have h0 : (y 0).val < 4 := (y 0).isLt; have h2 : (y 2).val < 512 := (y 2).isLt; omega⟩)

/-- A slab of the sum, loaded from column `o` of the accumulator on and stored as slab `a`. -/
theorem slab_apply (v : View sig .tc .vmem S1024x2048 .f32) (Y : Vec F S1024x2048 .f32) (a o : ℕ) (ho : o = 512 * a)
    (inb0 : ∀ b, (![0, 0] : Fin 2 → ℕ) b + S1024x2048.size b ≤ S1024x2048.size b)
    (inbY : ∀ b, (![0, o] : Fin 2 → ℕ) b + S1024x512.size b ≤ S1024x2048.size b)
    (inb : ∀ b, (![a, 0, 0] : Fin 3 → ℕ) b + S1x1024x512.size b ≤ S4x1024x512.size b) (h : S1024x512.ShapeCasts S1x1024x512) (x : S1x1024x512.Idx) :
    shapeCast S1x1024x512 (v.readCov [(⟨Rect.unit (s := S1024x2048) ![0, 0] S1024x2048.size inb0, Y⟩ : View.Piece (Elt F) S1024x2048 .f32)]
        (Rect.unit (s := S1024x2048) ![0, o] S1024x512.size inbY).toLoadRect) h x
      = slabs Y ((Rect.unit (s := S4x1024x512) ![a, 0, 0] S1x1024x512.size inb).emb x) := by
  subst ho
  refine (shapeCast_addUnit_apply _ _ h x).trans ?_
  rw [View.readCov_eq_canon', View.canon_unit_zero hz]
  refine congrArg Y ?_
  funext b
  apply Fin.ext
  match b with
  | ⟨0, _⟩ => show 0 + 1 * (x 1).val = 0 + 1 * (x 1).val; rfl
  | ⟨1, _⟩ =>
    have hx : (x 0).val < 1 := (x 0).isLt
    show 512 * a + 1 * (x 2).val = 512 * (a + 1 * (x 0).val) + (0 + 1 * (x 2).val)
    omega

/-- The last point of a run leaves the whole sum in its result block, cut into four slabs. -/
theorem out_C (c : Dev nD) (i : grid0.Coords) (a3 : Memref sig .tc .vmem S1024x1024 .bf16) (h3 : a3.IsWhole)
    (a4 : Memref sig .tc .vmem S1024x2048 .bf16) (h4 : a4.IsWhole) (a5 : Memref sig .tc .vmem S4x1024x512 .f32) (h5 : a5.IsWhole)
    (a6 : Memref sig .tc .vmem S1024x2048 .f32) (h6 : a6.IsWhole) (hc0 : ¬cond0_0 i) (hc1 : cond0_1 i) (hc2 : cond0_2 i)
    (x0 : Vec F S1024x1024 .bf16) (x1 : Vec F S1024x2048 .bf16) (xs : Vec F S1024x2048 .f32) :
    out0_C_2 c i a3 h3 a4 h4 a5 h5 a6 h6 hc0 hc1 hc2 x0 x1 xs = slabs (addf xs (k0_pay1 x0 x1)) := by
  unfold out0_C_2
  rw [View.read_writes_eq_canon _ _ _ (cover0_C_2 c i a3 h3 a4 h4 a5 h5 a6 h6 hc0 hc1 hc2 x0 x1 xs)]
  funext y
  refine View.canon_apply_of_pieces (slabs (addf xs (k0_pay1 x0 x1))) _ ?_ y (cover0_C_2 c i a3 h3 a4 h4 a5 h5 a6 h6 hc0 hc1 hc2 x0 x1 xs y)
  unfold kernelRun0_C
  dsimp only
  sl_unfold_words
  simp only [k0_pay3, View.readAt_eq_ld, h3.read_unread, h4.read_unread, h6.read_unread, View.ld_unit_zero (S := S1024x1024) hz, View.ld_unit_zero (S := S1024x2048) hz, shapeCast_self]
  unfold k0_pay4 k0_pay5 k0_pay6 k0_pay7
  generalize addf xs (k0_pay1 x0 x1) = Y
  intro p hp
  rcases List.mem_cons.mp hp with rfl | hp
  · exact slab_apply a6.view Y 3 1536 rfl inb_S1024x2048_S1024x2048_0_0 inb_S1024x2048_S1024x512_0_1536 inb_S4x1024x512_S1x1024x512_3_0_0 shapeCasts_S1024x512_S1x1024x512
  rcases List.mem_cons.mp hp with rfl | hp
  · exact slab_apply a6.view Y 2 1024 rfl inb_S1024x2048_S1024x2048_0_0 inb_S1024x2048_S1024x512_0_1024 inb_S4x1024x512_S1x1024x512_2_0_0 shapeCasts_S1024x512_S1x1024x512
  rcases List.mem_cons.mp hp with rfl | hp
  · exact slab_apply a6.view Y 1 512 rfl inb_S1024x2048_S1024x2048_0_0 inb_S1024x2048_S1024x512_0_512 inb_S4x1024x512_S1x1024x512_1_0_0 shapeCasts_S1024x512_S1x1024x512
  rcases List.mem_cons.mp hp with rfl | hp
  · exact slab_apply a6.view Y 0 0 rfl inb_S1024x2048_S1024x2048_0_0 inb_S1024x2048_S1024x512_0_0 inb_S4x1024x512_S1x1024x512_0_0_0 shapeCasts_S1024x512_S1x1024x512
  exact absurd hp List.not_mem_nil

section Real

variable (m : (ℓ : Loc nD τ sig) → Buf (Elt Ideal) ℓ) (c : Dev nD)

/-- The two arguments' entries. -/
abbrev A0 : Vec Ideal S8192x1024 .bf16 := m ((c : Thread nD τ).loc main_arg0)
abbrev A1 : Vec Ideal S8192x4096 .bf16 := m ((c : Thread nD τ).loc main_arg1)

theorem idx0 : ∀ t : Fin cfg0.N, win0_0.index t (0 : Fin 2) = t.val % 8 ∧ win0_0.index t (1 : Fin 2) = 0 :=
  (by decide +kernel : ∀ t : Fin grid0.N, _)
theorem idx1 : ∀ t : Fin cfg0.N, win0_1.index t (0 : Fin 2) = t.val % 8 ∧ win0_1.index t (1 : Fin 2) = t.val / 8 :=
  (by decide +kernel : ∀ t : Fin grid0.N, _)

/-- The block of the first argument at point `t`. -/
theorem blk0_apply (t : Fin cfg0.N) (k : Fin 1024) (r : Fin 1024) :
    iblk m c 0 t (ix2 k r) = A0 m c (ix2 ⟨1024 * (t.val % 8) + k.val, by omega⟩ r) := by
  unfold iblk
  rw [View.read_apply]
  refine congrArg (A0 m c) ?_
  funext a
  apply Fin.ext
  match a with
  | ⟨0, _⟩ => show win0_0.index t 0 * 1024 + 1 * k.val = _; rw [(idx0 t).1]; show _ = 1024 * (t.val % 8) + k.val; omega
  | ⟨1, _⟩ => show win0_0.index t 1 * 1024 + 1 * r.val = _; rw [(idx0 t).2]; show _ = r.val; omega

/-- The block of the second argument at point `t`. -/
theorem blk1_apply (t : Fin cfg0.N) (k : Fin 1024) (l : Fin 2048) (h : 2048 * (t.val / 8) + l.val < 4096) :
    iblk m c 1 t (ix2 k l) = A1 m c (ix2 ⟨1024 * (t.val % 8) + k.val, by omega⟩ ⟨2048 * (t.val / 8) + l.val, h⟩) := by
  unfold iblk
  rw [View.read_apply]
  refine congrArg (A1 m c) ?_
  funext a
  apply Fin.ext
  match a with
  | ⟨0, _⟩ => show win0_1.index t 0 * 1024 + 1 * k.val = _; rw [(idx1 t).1]; show _ = 1024 * (t.val % 8) + k.val; omega
  | ⟨1, _⟩ => show win0_1.index t 1 * 2048 + 1 * l.val = _; rw [(idx1 t).2]; show _ = 2048 * (t.val / 8) + l.val; omega

/-- A point's product, entry by entry. -/
theorem pay1_apply (x0 : Vec Ideal S1024x1024 .bf16) (x1 : Vec Ideal S1024x2048 .bf16) (r : Fin 1024) (l : Fin 2048) :
    k0_pay1 x0 x1 (ix2 r l) = ∑ k : Fin 1024, x0 (ix2 k r) * x1 (ix2 k l) := by
  pointwise [k0_pay1]

/-- One product of the whole sum: row `K` of the two arguments, columns `r` and `L`. -/
def term (r L : ℕ) (K : ℕ) : EReal :=
  if h : K < 8192 ∧ r < 1024 ∧ L < 4096 then A0 m c (ix2 ⟨K, h.1⟩ ⟨r, h.2.1⟩) * A1 m c (ix2 ⟨K, h.1⟩ ⟨L, h.2.2⟩) else 0

/-- The point `n`'s product, at an entry. -/
def addend (n : ℕ) (i : S1024x2048.Idx) : EReal :=
  ∑ k : Fin 1024, term m c (i 0).val (2048 * (n / 8) + (i 1).val) (1024 * (n % 8) + k.val)

theorem addend_eq (t : Fin cfg0.N) (i : S1024x2048.Idx) : k0_pay1 (iblk m c 0 t) (iblk m c 1 t) i = addend m c t.val i := by
  have hN : t.val < 16 := lt_of_lt_of_eq t.isLt N_0
  obtain ⟨r, l, rfl⟩ : ∃ (r : Fin 1024) (l : Fin 2048), i = ix2 r l := ⟨i 0, i 1, eq_ix2 i⟩
  rw [pay1_apply]
  refine Finset.sum_congr rfl fun k _ => ?_
  have hl : 2048 * (t.val / 8) + l.val < 4096 := by omega
  rw [blk0_apply, blk1_apply _ _ _ _ _ hl]
  have hk : 1024 * (t.val % 8) + k.val < 8192 := by omega
  show _ = term m c r.val (2048 * (t.val / 8) + l.val) (1024 * (t.val % 8) + k.val)
  unfold term
  rw [dif_pos ⟨hk, r.isLt, hl⟩]

/-- What the accumulator holds after point `n`, before the last of its run: the sum of the run's products so far. -/
theorem acc_apply : ∀ (n : ℕ) (h : n < cfg0.N) (_ : n % 8 < 7) (i : S1024x2048.Idx),
    (outsAt0 m c n h).2 i = ∑ s ∈ Finset.range (n % 8 + 1), addend m c (8 * (n / 8) + s) i := by
  refine Cert.Sums.sum_runs (by decide) (fun n h => (outsAt0 m c n h).2) (addend m c) ?_ ?_
  · intro n h i h0
    rw [outsAt0_A m c ⟨n, h⟩ h0 (by dsimp only; omega) (by dsimp only; omega)]
    dsimp only
    rw [sout_A, addend_eq]
  · intro n h i h0 h7
    rw [outsAt0_B m c ⟨n + 1, h⟩ h0 (by dsimp only; omega) (by dsimp only; omega)]
    dsimp only
    rw [sout_B]
    show ((outsAt0 m c n _).2 i : EReal) + (k0_pay1 (F := Ideal) _ _ i : EReal) = _
    rw [addend_eq]

/-- The result, entry by entry: column `r` of the first argument times column `512 a + l` of the second. -/
theorem result_apply (a : Fin 8) (r : Fin 1024) (l : Fin 512) :
    (G2 m c (ix3 a r l) : EReal) = ∑ K : Fin 8192, (A0 m c (ix2 K r) : EReal) * A1 m c (ix2 K ⟨512 * a.val + l.val, by omega⟩) := by
  have hr : run2Of (ix3 a r l) = a.val / 4 := by
    show 1 * (a.val / 4 - 0) + 1 * (r.val / 1024 - 0) + 1 * (l.val / 512 - 0) = a.val / 4
    omega
  have hp : pt2Of (ix3 a r l) = 8 * (a.val / 4) + 7 := by rw [pt2Of, hr]
  have hN : 8 * (a.val / 4) + 7 < cfg0.N := lt_of_lt_of_eq (show _ < 16 by omega) N_0.symm
  unfold G2
  rw [dif_pos (by rw [hp]; exact hN), fold0_congr m c _ _ _ (by rw [Nat.zero_add]; exact hN) hp, ← outsAt0_sweep,
    outsAt0_C m c ⟨_, hN⟩ (by dsimp only; omega) (by dsimp only; omega) (by dsimp only; omega)]
  case hn => exact hN
  dsimp only
  rw [out_C]
  have hl : loc2Of (ix3 a r l) = ix3 (⟨a.val % 4, by omega⟩ : Fin 4) r l := by
    funext b
    apply Fin.ext
    match b with
    | ⟨0, _⟩ => rfl
    | ⟨1, _⟩ => show r.val % 1024 = r.val; omega
    | ⟨2, _⟩ => show l.val % 512 = l.val; omega
  rw [hl]
  show (outsAt0 m c (8 * (a.val / 4) + 6) _).2 (ix2 r ⟨512 * (a.val % 4) + l.val, by omega⟩) +
    (k0_pay1 (F := Ideal) _ _ (ix2 r ⟨512 * (a.val % 4) + l.val, by omega⟩) : EReal) = _
  rw [addend_eq, acc_apply m c _ _ (by omega), show (8 * (a.val / 4) + 6) % 8 = 6 by omega, show (8 * (a.val / 4) + 6) / 8 = a.val / 4 by omega,
    ← Finset.sum_range_succ (fun s => addend m c (8 * (a.val / 4) + s) _) 7]
  have e : ∀ s ∈ Finset.range 8, addend m c (8 * (a.val / 4) + s) (ix2 r ⟨512 * (a.val % 4) + l.val, by omega⟩)
      = ∑ k : Fin 1024, term m c r.val (512 * a.val + l.val) (1024 * s + k.val) := by
    intro s hs
    have hs := Finset.mem_range.mp hs
    refine Finset.sum_congr rfl fun k _ => ?_
    show term m c r.val (2048 * ((8 * (a.val / 4) + s) / 8) + (512 * (a.val % 4) + l.val)) (1024 * ((8 * (a.val / 4) + s) % 8) + k.val) = _
    rw [show 2048 * ((8 * (a.val / 4) + s) / 8) + (512 * (a.val % 4) + l.val) = 512 * a.val + l.val by omega,
      show (8 * (a.val / 4) + s) % 8 = s by omega]
  rw [Finset.sum_congr rfl e, Cert.Sums.sum_blocks 8 1024 8192 rfl (term m c r.val (512 * a.val + l.val))]
  refine Finset.sum_congr rfl fun K _ => ?_
  unfold term
  rw [dif_pos ⟨K.isLt, r.isLt, by omega⟩]

end Real

end Cert.GwUpIdeal.Grad

namespace Cert.Proof.GwUp

open Idealize.ShloMosaic Idealize.ShloMosaic.TcCoe Idealize.SL.Sem

open Cert.GwUpRIdeal Cert.GwUpRIdeal.Gen in
/-- The reference's product, entry by entry. -/
theorem ref_apply (x0 : Vec Ideal S8192x1024 .bf16) (x1 : Vec Ideal S8192x4096 .bf16) (a : Fin 8) (r : Fin 1024) (l : Fin 512) :
    (transpose S8x1024x512 [1, 0, 2] (shapeCast _ (transpose S1024x4096 [1, 0] (Host.dotGeneral dot_S8192x4096_S8192x1024_S4096x1024_0_0_1_1_n_n none (extf (F := Ideal) .f32 x1 bitsLt_bf16_f32) (extf (F := Ideal) .f32 x0 bitsLt_bf16_f32)) transposes_S4096x1024_S1024x4096_1_0) shapeCasts_S1024x4096_S1024x8x512) transposes_S1024x8x512_S8x1024x512_1_0_2 (ix3 a r l) : EReal)
      = ∑ K : Fin 8192, (x0 (ix2 K r) : EReal) * x1 (ix2 K ⟨512 * a.val + l.val, by omega⟩) := by
  pointwise
  refine Finset.sum_congr rfl fun K _ => ?_
  rw [mul_comm (x1 _ : EReal)]
  simp only [mul_comm a.val 512]

/-- The kernel and the reference leave the same gradient. -/
theorem algebraic : Cert.algebraic_GwUpIdeal_GwUpRIdeal := by
  intro m g m' g' _ hm
  refine ⟨fun c => Cert.GwUpIdeal.Value.G2 m c, Cert.GwUpIdeal.Value.run m g, ?_⟩
  refine (θ_run Cert.GwUpRIdeal.defs _ _).mono (fun r h c => ⟨(h c).1.trans ?_, (h c).2⟩) (Cert.GwUpRIdeal.Value.run m' g')
  rw [(hm c).1, (hm c).2]
  funext i
  obtain ⟨a, r, l, rfl⟩ : ∃ (a : Fin 8) (r : Fin 1024) (l : Fin 512), i = ix3 a r l := ⟨i 0, i 1, i 2, eq_ix3 i⟩
  exact (ref_apply _ _ a r l).trans (Cert.GwUpIdeal.Grad.result_apply m c a r l).symm

end Cert.Proof.GwUp

end
-- ==== Proof.GwDownValue.lean ====
/-
  The gradient of the down projection's weights: what the kernel's accumulator and result hold, the reference's
  product, and their equality.
-/
module

public import proofs.«01_k».proof.Defs
public import proofs.«01_k».proof.Proof.Gen.GwDownIdeal.Value
public import proofs.«01_k».proof.Proof.Gen.GwDownRIdeal.Run
public import proofs.«01_k».proof.Proof.Sums
public import Idealize.ShloMosaic.Lib.Pointwise
public import Idealize.ShloMosaic.Lib.Pipeline.Value

@[expose] public section

noncomputable section

namespace Cert.GwDownIdeal.Grad

open Cert.GwDownIdeal Cert.GwDownIdeal.Gen Cert.GwDownIdeal.Value
open Idealize.ShloMosaic Idealize.ShloMosaic.TcCoe Idealize.SL.Sem

theorem hz : (![0, 0] : Fin 2 → Nat) = fun _ => 0 := funext fun a => by fin_cases a <;> rfl

variable {F : FTy → Type} [FloatOps F]

/-- The first point of a run leaves the point's product in the accumulator. -/
theorem sout_A (c : Dev nD) (i : grid0.Coords) (a3 : Memref sig .tc .vmem S1024x2048 .bf16) (h3 : a3.IsWhole)
    (a4 : Memref sig .tc .vmem S1024x1024 .bf16) (h4 : a4.IsWhole) (a5 : Memref sig .tc .vmem S4x512x1024 .f32) (h5 : a5.IsWhole)
    (a6 : Memref sig .tc .vmem S2048x1024 .f32) (h6 : a6.IsWhole) (hc0 : cond0_0 i) (hc1 : ¬cond0_1 i) (hc2 : ¬cond0_2 i)
    (x0 : Vec F S1024x2048 .bf16) (x1 : Vec F S1024x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1024x2048) hz, View.ld_unit_zero (S := S1024x1024) hz, View.ld_unit_zero (S := S2048x1024) hz, shapeCast_self]

/-- A later point adds its product to the accumulator. -/
theorem sout_B (c : Dev nD) (i : grid0.Coords) (a3 : Memref sig .tc .vmem S1024x2048 .bf16) (h3 : a3.IsWhole)
    (a4 : Memref sig .tc .vmem S1024x1024 .bf16) (h4 : a4.IsWhole) (a5 : Memref sig .tc .vmem S4x512x1024 .f32) (h5 : a5.IsWhole)
    (a6 : Memref sig .tc .vmem S2048x1024 .f32) (h6 : a6.IsWhole) (hc0 : ¬cond0_0 i) (hc1 : cond0_1 i) (hc2 : ¬cond0_2 i)
    (x0 : Vec F S1024x2048 .bf16) (x1 : Vec F S1024x1024 .bf16) (xs : Vec F S2048x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  unfold k0_pay3
  simp only [View.readAt_eq_ld, h3.read_unread, h4.read_unread, h6.read_unread, View.ld_unit_zero (S := S1024x2048) hz, View.ld_unit_zero (S := S1024x1024) hz, View.ld_unit_zero (S := S2048x1024) hz, shapeCast_self]

/-- The whole sum, cut into four slabs: entry `(a, r, l)` of the result block is entry `(512 a + r, l)` of the sum. -/
def slabs (Y : Vec F S2048x1024 .f32) : Vec F S4x512x1024 .f32 := fun y =>
  Y (ix2 ⟨512 * (y 0).val + (y 1).val, by have h0 : (y 0).val < 4 := (y 0).isLt; have h1 : (y 1).val < 512 := (y 1).isLt; omega⟩ (y 2))

/-- A slab of the sum, loaded from row `o` of the accumulator on and stored as slab `a`. -/
theorem slab_apply (v : View sig .tc .vmem S2048x1024 .f32) (Y : Vec F S2048x1024 .f32) (a o : ℕ) (ho : o = 512 * a)
    (inb0 : ∀ b, (![0, 0] : Fin 2 → ℕ) b + S2048x1024.size b ≤ S2048x1024.size b)
    (inbY : ∀ b, (![o, 0] : Fin 2 → ℕ) b + S512x1024.size b ≤ S2048x1024.size b)
    (inb : ∀ b, (![a, 0, 0] : Fin 3 → ℕ) b + S1x512x1024.size b ≤ S4x512x1024.size b) (h : S512x1024.ShapeCasts S1x512x1024) (x : S1x512x1024.Idx) :
    shapeCast S1x512x1024 (v.readCov [(⟨Rect.unit (s := S2048x1024) ![0, 0] S2048x1024.size inb0, Y⟩ : View.Piece (Elt F) S2048x1024 .f32)]
        (Rect.unit (s := S2048x1024) ![o, 0] S512x1024.size inbY).toLoadRect) h x
      = slabs Y ((Rect.unit (s := S4x512x1024) ![a, 0, 0] S1x512x1024.size inb).emb x) := by
  subst ho
  refine (shapeCast_addUnit_apply _ _ h x).trans ?_
  rw [View.readCov_eq_canon', View.canon_unit_zero hz]
  refine congrArg Y ?_
  funext b
  apply Fin.ext
  match b with
  | ⟨0, _⟩ =>
    have hx : (x 0).val < 1 := (x 0).isLt
    show 512 * a + 1 * (x 1).val = 512 * (a + 1 * (x 0).val) + (0 + 1 * (x 1).val)
    omega
  | ⟨1, _⟩ => show 0 + 1 * (x 2).val = 0 + 1 * (x 2).val; rfl

/-- The last point of a run leaves the whole sum in its result block, cut into four slabs. -/
theorem out_C (c : Dev nD) (i : grid0.Coords) (a3 : Memref sig .tc .vmem S1024x2048 .bf16) (h3 : a3.IsWhole)
    (a4 : Memref sig .tc .vmem S1024x1024 .bf16) (h4 : a4.IsWhole) (a5 : Memref sig .tc .vmem S4x512x1024 .f32) (h5 : a5.IsWhole)
    (a6 : Memref sig .tc .vmem S2048x1024 .f32) (h6 : a6.IsWhole) (hc0 : ¬cond0_0 i) (hc1 : cond0_1 i) (hc2 : cond0_2 i)
    (x0 : Vec F S1024x2048 .bf16) (x1 : Vec F S1024x1024 .bf16) (xs : Vec F S2048x1024 .f32) :
    out0_C_2 c i a3 h3 a4 h4 a5 h5 a6 h6 hc0 hc1 hc2 x0 x1 xs = slabs (addf xs (k0_pay1 x0 x1)) := by
  unfold out0_C_2
  rw [View.read_writes_eq_canon _ _ _ (cover0_C_2 c i a3 h3 a4 h4 a5 h5 a6 h6 hc0 hc1 hc2 x0 x1 xs)]
  funext y
  refine View.canon_apply_of_pieces (slabs (addf xs (k0_pay1 x0 x1))) _ ?_ y (cover0_C_2 c i a3 h3 a4 h4 a5 h5 a6 h6 hc0 hc1 hc2 x0 x1 xs y)
  unfold kernelRun0_C
  dsimp only
  sl_unfold_words
  simp only [k0_pay3, View.readAt_eq_ld, h3.read_unread, h4.read_unread, h6.read_unread, View.ld_unit_zero (S := S1024x2048) hz, View.ld_unit_zero (S := S1024x1024) hz, View.ld_unit_zero (S := S2048x1024) hz, shapeCast_self]
  unfold k0_pay4 k0_pay5 k0_pay6 k0_pay7
  generalize addf xs (k0_pay1 x0 x1) = Y
  intro p hp
  rcases List.mem_cons.mp hp with rfl | hp
  · exact slab_apply a6.view Y 3 1536 rfl inb_S2048x1024_S2048x1024_0_0 inb_S2048x1024_S512x1024_1536_0 inb_S4x512x1024_S1x512x1024_3_0_0 shapeCasts_S512x1024_S1x512x1024
  rcases List.mem_cons.mp hp with rfl | hp
  · exact slab_apply a6.view Y 2 1024 rfl inb_S2048x1024_S2048x1024_0_0 inb_S2048x1024_S512x1024_1024_0 inb_S4x512x1024_S1x512x1024_2_0_0 shapeCasts_S512x1024_S1x512x1024
  rcases List.mem_cons.mp hp with rfl | hp
  · exact slab_apply a6.view Y 1 512 rfl inb_S2048x1024_S2048x1024_0_0 inb_S2048x1024_S512x1024_512_0 inb_S4x512x1024_S1x512x1024_1_0_0 shapeCasts_S512x1024_S1x512x1024
  rcases List.mem_cons.mp hp with rfl | hp
  · exact slab_apply a6.view Y 0 0 rfl inb_S2048x1024_S2048x1024_0_0 inb_S2048x1024_S512x1024_0_0 inb_S4x512x1024_S1x512x1024_0_0_0 shapeCasts_S512x1024_S1x512x1024
  exact absurd hp List.not_mem_nil

section Real

variable (m : (ℓ : Loc nD τ sig) → Buf (Elt Ideal) ℓ) (c : Dev nD)

/-- The two arguments' entries. -/
abbrev A0 : Vec Ideal S8192x4096 .bf16 := m ((c : Thread nD τ).loc main_arg0)
abbrev A1 : Vec Ideal S8192x1024 .bf16 := m ((c : Thread nD τ).loc main_arg1)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

/-- The block of the first argument at point `t`. -/
theorem blk0_apply (t : Fin cfg0.N) (k : Fin 1024) (r : Fin 2048) (h : 2048 * (t.val / 8) + r.val < 4096) :
    iblk m c 0 t (ix2 k r) = A0 m c (ix2 ⟨1024 * (t.val % 8) + k.val, by omega⟩ ⟨2048 * (t.val / 8) + r.val, h⟩) := by
  unfold iblk
  rw [View.read_apply]
  refine congrArg (A0 m c) ?_
  funext a
  apply Fin.ext
  match a with
  | ⟨0, _⟩ => show win0_0.index t 0 * 1024 + 1 * k.val = _; rw [(idx0 t).1]; show _ = 1024 * (t.val % 8) + k.val; omega
  | ⟨1, _⟩ => show win0_0.index t 1 * 2048 + 1 * r.val = _; rw [(idx0 t).2]; show _ = 2048 * (t.val / 8) + r.val; omega

/-- The block of the second argument at point `t`. -/
theorem blk1_apply (t : Fin cfg0.N) (k : Fin 1024) (l : Fin 1024) :
    iblk m c 1 t (ix2 k l) = A1 m c (ix2 ⟨1024 * (t.val % 8) + k.val, by omega⟩ l) := by
  unfold iblk
  rw [View.read_apply]
  refine congrArg (A1 m c) ?_
  funext a
  apply Fin.ext
  match a with
  | ⟨0, _⟩ => show win0_1.index t 0 * 1024 + 1 * k.val = _; rw [(idx1 t).1]; show _ = 1024 * (t.val % 8) + k.val; omega
  | ⟨1, _⟩ => show win0_1.index t 1 * 1024 + 1 * l.val = _; rw [(idx1 t).2]; show _ = l.val; omega

/-- A point's product, entry by entry: the first block is squared before it is multiplied. -/
theorem pay1_apply (x0 : Vec Ideal S1024x2048 .bf16) (x1 : Vec Ideal S1024x1024 .bf16) (r : Fin 2048) (l : Fin 1024) :
    k0_pay1 x0 x1 (ix2 r l) = ∑ k : Fin 1024, x0 (ix2 k r) * x0 (ix2 k r) * x1 (ix2 k l) := by
  pointwise [k0_pay1]

/-- One product of the whole sum: row `K` of the two arguments, columns `R` and `l`. -/
def term (R l : ℕ) (K : ℕ) : EReal :=
  if h : K < 8192 ∧ R < 4096 ∧ l < 1024 then
    A0 m c (ix2 ⟨K, h.1⟩ ⟨R, h.2.1⟩) * A0 m c (ix2 ⟨K, h.1⟩ ⟨R, h.2.1⟩) * A1 m c (ix2 ⟨K, h.1⟩ ⟨l, h.2.2⟩) else 0

/-- The point `n`'s product, at an entry. -/
def addend (n : ℕ) (i : S2048x1024.Idx) : EReal :=
  ∑ k : Fin 1024, term m c (2048 * (n / 8) + (i 0).val) (i 1).val (1024 * (n % 8) + k.val)

theorem addend_eq (t : Fin cfg0.N) (i : S2048x1024.Idx) : k0_pay1 (iblk m c 0 t) (iblk m c 1 t) i = addend m c t.val i := by
  have hN : t.val < 16 := lt_of_lt_of_eq t.isLt N_0
  obtain ⟨r, l, rfl⟩ : ∃ (r : Fin 2048) (l : Fin 1024), i = ix2 r l := ⟨i 0, i 1, eq_ix2 i⟩
  rw [pay1_apply]
  refine Finset.sum_congr rfl fun k _ => ?_
  have hr : 2048 * (t.val / 8) + r.val < 4096 := by omega
  rw [blk0_apply _ _ _ _ _ hr, blk1_apply]
  have hk : 1024 * (t.val % 8) + k.val < 8192 := by omega
  show _ = term m c (2048 * (t.val / 8) + r.val) l.val (1024 * (t.val % 8) + k.val)
  unfold term
  rw [dif_pos ⟨hk, hr, l.isLt⟩]

/-- What the accumulator holds after point `n`, before the last of its run: the sum of the run's products so far. -/
theorem acc_apply : ∀ (n : ℕ) (h : n < cfg0.N) (_ : n % 8 < 7) (i : S2048x1024.Idx),
    (outsAt0 m c n h).2 i = ∑ s ∈ Finset.range (n % 8 + 1), addend m c (8 * (n / 8) + s) i := by
  refine Cert.Sums.sum_runs (by decide) (fun n h => (outsAt0 m c n h).2) (addend m c) ?_ ?_
  · intro n h i h0
    rw [outsAt0_A m c ⟨n, h⟩ h0 (by dsimp only; omega) (by dsimp only; omega)]
    dsimp only
    rw [sout_A, addend_eq]
  · intro n h i h0 h7
    rw [outsAt0_B m c ⟨n + 1, h⟩ h0 (by dsimp only; omega) (by dsimp only; omega)]
    dsimp only
    rw [sout_B]
    show ((outsAt0 m c n _).2 i : EReal) + (k0_pay1 (F := Ideal) _ _ i : EReal) = _
    rw [addend_eq]

/-- The result, entry by entry: the squares of column `512 a + r` of the first argument times column `l` of the second. -/
theorem result_apply (a : Fin 8) (r : Fin 512) (l : Fin 1024) :
    (G2 m c (ix3 a r l) : EReal) = ∑ K : Fin 8192,
      (A0 m c (ix2 K ⟨512 * a.val + r.val, by omega⟩) : EReal) * A0 m c (ix2 K ⟨512 * a.val + r.val, by omega⟩) * A1 m c (ix2 K l) := by
  have hr : run2Of (ix3 a r l) = a.val / 4 := by
    show 1 * (a.val / 4 - 0) + 1 * (r.val / 512 - 0) + 1 * (l.val / 1024 - 0) = a.val / 4
    omega
  have hp : pt2Of (ix3 a r l) = 8 * (a.val / 4) + 7 := by rw [pt2Of, hr]
  have hN : 8 * (a.val / 4) + 7 < cfg0.N := lt_of_lt_of_eq (show _ < 16 by omega) N_0.symm
  unfold G2
  rw [dif_pos (by rw [hp]; exact hN), fold0_congr m c _ _ _ (by rw [Nat.zero_add]; exact hN) hp, ← outsAt0_sweep,
    outsAt0_C m c ⟨_, hN⟩ (by dsimp only; omega) (by dsimp only; omega) (by dsimp only; omega)]
  case hn => exact hN
  dsimp only
  rw [out_C]
  have hl : loc2Of (ix3 a r l) = ix3 (⟨a.val % 4, by omega⟩ : Fin 4) r l := by
    funext b
    apply Fin.ext
    match b with
    | ⟨0, _⟩ => rfl
    | ⟨1, _⟩ => show r.val % 512 = r.val; omega
    | ⟨2, _⟩ => show l.val % 1024 = l.val; omega
  rw [hl]
  show ((outsAt0 m c (8 * (a.val / 4) + 6) _).2 (ix2 ⟨512 * (a.val % 4) + r.val, by omega⟩ l) : EReal) +
    (k0_pay1 (F := Ideal) _ _ (ix2 ⟨512 * (a.val % 4) + r.val, by omega⟩ l) : EReal) = _
  rw [addend_eq, acc_apply m c _ _ (by omega), show (8 * (a.val / 4) + 6) % 8 = 6 by omega, show (8 * (a.val / 4) + 6) / 8 = a.val / 4 by omega,
    ← Finset.sum_range_succ (fun s => addend m c (8 * (a.val / 4) + s) _) 7]
  have e : ∀ s ∈ Finset.range 8, addend m c (8 * (a.val / 4) + s) (ix2 ⟨512 * (a.val % 4) + r.val, by omega⟩ l)
      = ∑ k : Fin 1024, term m c (512 * a.val + r.val) l.val (1024 * s + k.val) := by
    intro s hs
    have hs := Finset.mem_range.mp hs
    refine Finset.sum_congr rfl fun k _ => ?_
    show term m c (2048 * ((8 * (a.val / 4) + s) / 8) + (512 * (a.val % 4) + r.val)) l.val (1024 * ((8 * (a.val / 4) + s) % 8) + k.val) = _
    rw [show 2048 * ((8 * (a.val / 4) + s) / 8) + (512 * (a.val % 4) + r.val) = 512 * a.val + r.val by omega,
      show (8 * (a.val / 4) + s) % 8 = s by omega]
  rw [Finset.sum_congr rfl e, Cert.Sums.sum_blocks 8 1024 8192 rfl (term m c (512 * a.val + r.val) l.val)]
  refine Finset.sum_congr rfl fun K _ => ?_
  unfold term
  rw [dif_pos ⟨K.isLt, by omega, l.isLt⟩]

end Real

end Cert.GwDownIdeal.Grad

namespace Cert.Proof.GwDown

open Idealize.ShloMosaic Idealize.ShloMosaic.TcCoe Idealize.SL.Sem

open Cert.GwDownRIdeal Cert.GwDownRIdeal.Gen in
/-- The reference's product, entry by entry. -/
theorem ref_apply (x0 : Vec Ideal S8192x4096 .bf16) (x1 : Vec Ideal S8192x1024 .bf16) (a : Fin 8) (r : Fin 512) (l : Fin 1024) :
    (shapeCast S8x512x1024 (transpose S4096x1024 [1, 0] (Host.dotGeneral dot_S8192x1024_S8192x4096_S1024x4096_0_0_1_1_n_n none (extf (F := Ideal) .f32 x1 bitsLt_bf16_f32) (mulf (extf (F := Ideal) .f32 x0 bitsLt_bf16_f32) (extf (F := Ideal) .f32 x0 bitsLt_bf16_f32))) transposes_S1024x4096_S4096x1024_1_0) shapeCasts_S4096x1024_S8x512x1024 (ix3 a r l) : EReal)
      = ∑ K : Fin 8192, (x0 (ix2 K ⟨512 * a.val + r.val, by omega⟩) : EReal) * x0 (ix2 K ⟨512 * a.val + r.val, by omega⟩) * x1 (ix2 K l) := by
  pointwise
  refine Finset.sum_congr rfl fun K _ => ?_
  rw [mul_comm (x1 _ : EReal)]
  simp only [mul_comm a.val 512]

/-- The kernel and the reference leave the same gradient. -/
theorem algebraic : Cert.algebraic_GwDownIdeal_GwDownRIdeal := by
  intro m g m' g' _ hm
  refine ⟨fun c => Cert.GwDownIdeal.Value.G2 m c, Cert.GwDownIdeal.Value.run m g, ?_⟩
  refine (θ_run Cert.GwDownRIdeal.defs _ _).mono (fun r h c => ⟨(h c).1.trans ?_, (h c).2⟩) (Cert.GwDownRIdeal.Value.run m' g')
  rw [(hm c).1, (hm c).2]
  funext i
  obtain ⟨a, r, l, rfl⟩ : ∃ (a : Fin 8) (r : Fin 512) (l : Fin 1024), i = ix3 a r l := ⟨i 0, i 1, i 2, eq_ix3 i⟩
  exact (ref_apply _ _ a r l).trans (Cert.GwDownIdeal.Grad.result_apply m c a r l).symm

end Cert.Proof.GwDown

end
-- ==== Proof.GwOutValue.lean ====
/-
  The gradient of the output projection's weights: what the kernel's accumulator and result hold, the reference's
  product, and their equality.
-/
module

public import proofs.«01_k».proof.Defs
public import proofs.«01_k».proof.Proof.Gen.GwOutIdeal.Value
public import proofs.«01_k».proof.Proof.Gen.GwOutRIdeal.Run
public import proofs.«01_k».proof.Proof.Sums
public import Idealize.ShloMosaic.Lib.Pointwise
public import Idealize.ShloMosaic.Lib.Pipeline.Value

@[expose] public section

noncomputable section

namespace Cert.GwOutIdeal.Grad

open Cert.GwOutIdeal Cert.GwOutIdeal.Gen Cert.GwOutIdeal.Value
open Idealize.ShloMosaic Idealize.ShloMosaic.TcCoe Idealize.SL.Sem

theorem hz : (![0, 0] : Fin 2 → Nat) = fun _ => 0 := funext fun a => by fin_cases a <;> rfl

variable {F : FTy → Type} [FloatOps F]

/-- The first point of a run leaves the point's product in the accumulator. -/
theorem sout_A (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole) (hc0 : cond0_0 i) (hc1 : ¬cond0_1 i) (hc2 : ¬cond0_2 i)
    (x0 : Vec F S2048x1024 .bf16) (x1 : Vec F S2048x512 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S2048x1024) hz, View.ld_unit_zero (S := S2048x512) hz, View.ld_unit_zero (S := S1024x512) hz, shapeCast_self]

/-- A later point adds its product to the accumulator. -/
theorem sout_B (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole) (hc0 : ¬cond0_0 i) (hc1 : cond0_1 i) (hc2 : ¬cond0_2 i)
    (x0 : Vec F S2048x1024 .bf16) (x1 : Vec F S2048x512 .f32) (xs : Vec F S1024x512 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  unfold k0_pay3
  simp only [View.readAt_eq_ld, h3.read_unread, h4.read_unread, h6.read_unread, View.ld_unit_zero (S := S2048x1024) hz, View.ld_unit_zero (S := S2048x512) hz, View.ld_unit_zero (S := S1024x512) hz, shapeCast_self]

/-- The last point of a run leaves the whole sum in its result block. -/
theorem out_C (c : Dev nD) (i : grid0.Coords) (a3 : Memref sig .tc .vmem S2048x1024 .bf16) (h3 : a3.IsWhole)
    (a4 : Memref sig .tc .vmem S2048x512 .f32) (h4 : a4.IsWhole) (a5 : Memref sig .tc .vmem S1024x512 .f32) (h5 : a5.IsWhole)
    (a6 : Memref sig .tc .vmem S1024x512 .f32) (h6 : a6.IsWhole) (hc0 : ¬cond0_0 i) (hc1 : cond0_1 i) (hc2 : cond0_2 i)
    (x0 : Vec F S2048x1024 .bf16) (x1 : Vec F S2048x512 .f32) (xs : Vec F S1024x512 .f32) :
    out0_C_2 c i a3 h3 a4 h4 a5 h5 a6 h6 hc0 hc1 hc2 x0 x1 xs = addf xs (k0_pay1 x0 x1) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_eq_canon', View.canon_unit_zero hz]
  unfold k0_pay3
  simp only [View.readAt_eq_ld, h3.read_unread, h4.read_unread, h6.read_unread, View.ld_unit_zero (S := S2048x1024) hz, View.ld_unit_zero (S := S2048x512) hz, View.ld_unit_zero (S := S1024x512) hz, shapeCast_self]
  funext y
  refine congrArg (addf xs (k0_pay1 x0 x1)) ?_
  funext b
  apply Fin.ext
  match b with
  | ⟨0, _⟩ => show 0 + 1 * (y 0).val = (y 0).val; omega
  | ⟨1, _⟩ => show 0 + 1 * (y 1).val = (y 1).val; omega

section Real

variable (m : (ℓ : Loc nD τ sig) → Buf (Elt Ideal) ℓ) (c : Dev nD)

/-- The two arguments' entries. -/
abbrev A0 : Vec Ideal S8192x1024 .bf16 := m ((c : Thread nD τ).loc main_arg0)
abbrev A1 : Vec Ideal S8192x1024 .f32 := m ((c : Thread nD τ).loc main_arg1)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = t.val % 4 ∧ win0_1.index t (1 : Fin 2) = t.val / 4 :=
  (by decide +kernel : ∀ t : Fin grid0.N, _)

/-- The block of the first argument at point `t`. -/
theorem blk0_apply (t : Fin cfg0.N) (k : Fin 2048) (r : Fin 1024) :
    iblk m c 0 t (ix2 k r) = A0 m c (ix2 ⟨2048 * (t.val % 4) + k.val, by omega⟩ r) := by
  unfold iblk
  rw [View.read_apply]
  refine congrArg (A0 m c) ?_
  funext a
  apply Fin.ext
  match a with
  | ⟨0, _⟩ => show win0_0.index t 0 * 2048 + 1 * k.val = _; rw [(idx0 t).1]; show _ = 2048 * (t.val % 4) + k.val; omega
  | ⟨1, _⟩ => show win0_0.index t 1 * 1024 + 1 * r.val = _; rw [(idx0 t).2]; show _ = r.val; omega

/-- The block of the second argument at point `t`. -/
theorem blk1_apply (t : Fin cfg0.N) (k : Fin 2048) (l : Fin 512) (h : 512 * (t.val / 4) + l.val < 1024) :
    iblk m c 1 t (ix2 k l) = A1 m c (ix2 ⟨2048 * (t.val % 4) + k.val, by omega⟩ ⟨512 * (t.val / 4) + l.val, h⟩) := by
  unfold iblk
  rw [View.read_apply]
  refine congrArg (A1 m c) ?_
  funext a
  apply Fin.ext
  match a with
  | ⟨0, _⟩ => show win0_1.index t 0 * 2048 + 1 * k.val = _; rw [(idx1 t).1]; show _ = 2048 * (t.val % 4) + k.val; omega
  | ⟨1, _⟩ => show win0_1.index t 1 * 512 + 1 * l.val = _; rw [(idx1 t).2]; show _ = 512 * (t.val / 4) + l.val; omega

/-- A point's product, entry by entry. -/
theorem pay1_apply (x0 : Vec Ideal S2048x1024 .bf16) (x1 : Vec Ideal S2048x512 .f32) (r : Fin 1024) (l : Fin 512) :
    (k0_pay1 x0 x1 (ix2 r l) : EReal) = ∑ k : Fin 2048, (x0 (ix2 k r) : EReal) * x1 (ix2 k l) := by
  pointwise [k0_pay1]

/-- One product of the whole sum: row `K` of the two arguments, columns `r` and `L`. -/
def term (r L : ℕ) (K : ℕ) : EReal :=
  if h : K < 8192 ∧ r < 1024 ∧ L < 1024 then
    (A0 m c (ix2 ⟨K, h.1⟩ ⟨r, h.2.1⟩) : EReal) * A1 m c (ix2 ⟨K, h.1⟩ ⟨L, h.2.2⟩) else 0

/-- The point `n`'s product, at an entry. -/
def addend (n : ℕ) (i : S1024x512.Idx) : EReal :=
  ∑ k : Fin 2048, term m c (i 0).val (512 * (n / 4) + (i 1).val) (2048 * (n % 4) + k.val)

theorem addend_eq (t : Fin cfg0.N) (i : S1024x512.Idx) : k0_pay1 (iblk m c 0 t) (iblk m c 1 t) i = addend m c t.val i := by
  have hN : t.val < 8 := lt_of_lt_of_eq t.isLt N_0
  obtain ⟨r, l, rfl⟩ : ∃ (r : Fin 1024) (l : Fin 512), i = ix2 r l := ⟨i 0, i 1, eq_ix2 i⟩
  rw [pay1_apply]
  refine Finset.sum_congr rfl fun k _ => ?_
  have hl : 512 * (t.val / 4) + l.val < 1024 := by omega
  rw [blk0_apply, blk1_apply _ _ _ _ _ hl]
  have hk : 2048 * (t.val % 4) + k.val < 8192 := by omega
  show _ = term m c r.val (512 * (t.val / 4) + l.val) (2048 * (t.val % 4) + k.val)
  unfold term
  rw [dif_pos ⟨hk, r.isLt, hl⟩]

/-- What the accumulator holds after point `n`, before the last of its run: the sum of the run's products so far. -/
theorem acc_apply : ∀ (n : ℕ) (h : n < cfg0.N) (_ : n % 4 < 3) (i : S1024x512.Idx),
    (outsAt0 m c n h).2 i = ∑ s ∈ Finset.range (n % 4 + 1), addend m c (4 * (n / 4) + s) i := by
  refine Cert.Sums.sum_runs (by decide) (fun n h => (outsAt0 m c n h).2) (addend m c) ?_ ?_
  · intro n h i h0
    rw [outsAt0_A m c ⟨n, h⟩ h0 (by dsimp only; omega) (by dsimp only; omega)]
    dsimp only
    rw [sout_A, addend_eq]
  · intro n h i h0 h7
    rw [outsAt0_B m c ⟨n + 1, h⟩ h0 (by dsimp only; omega) (by dsimp only; omega)]
    dsimp only
    rw [sout_B]
    show ((outsAt0 m c n _).2 i : EReal) + (k0_pay1 (F := Ideal) _ _ i : EReal) = _
    rw [addend_eq]

/-- The result, entry by entry: column `r` of the first argument times column `L` of the second. -/
theorem result_apply (r : Fin 1024) (L : Fin 1024) :
    (G2 m c (ix2 r L) : EReal) = ∑ K : Fin 8192, (A0 m c (ix2 K r) : EReal) * A1 m c (ix2 K L) := by
  have hr : run2Of (ix2 r L) = L.val / 512 := by
    show 2 * (r.val / 1024 - 0) + 1 * (L.val / 512 - 0) = L.val / 512
    omega
  have hp : pt2Of (ix2 r L) = 4 * (L.val / 512) + 3 := by rw [pt2Of, hr]
  have hN : 4 * (L.val / 512) + 3 < cfg0.N := lt_of_lt_of_eq (show _ < 8 by omega) N_0.symm
  unfold G2
  rw [dif_pos (by rw [hp]; exact hN), fold0_congr m c _ _ _ (by rw [Nat.zero_add]; exact hN) hp, ← outsAt0_sweep,
    outsAt0_C m c ⟨_, hN⟩ (by dsimp only; omega) (by dsimp only; omega) (by dsimp only; omega)]
  case hn => exact hN
  dsimp only
  rw [out_C]
  have hl : loc2Of (ix2 r L) = ix2 r (⟨L.val % 512, by omega⟩ : Fin 512) := by
    funext b
    apply Fin.ext
    match b with
    | ⟨0, _⟩ => show r.val % 1024 = r.val; omega
    | ⟨1, _⟩ => rfl
  rw [hl]
  show ((outsAt0 m c (4 * (L.val / 512) + 2) _).2 (ix2 r ⟨L.val % 512, by omega⟩) : EReal) +
    (k0_pay1 (F := Ideal) _ _ (ix2 r ⟨L.val % 512, by omega⟩) : EReal) = _
  rw [addend_eq, acc_apply m c _ _ (by omega), show (4 * (L.val / 512) + 2) % 4 = 2 by omega, show (4 * (L.val / 512) + 2) / 4 = L.val / 512 by omega,
    ← Finset.sum_range_succ (fun s => addend m c (4 * (L.val / 512) + s) _) 3]
  have e : ∀ s ∈ Finset.range 4, addend m c (4 * (L.val / 512) + s) (ix2 r ⟨L.val % 512, by omega⟩)
      = ∑ k : Fin 2048, term m c r.val L.val (2048 * s + k.val) := by
    intro s hs
    have hs := Finset.mem_range.mp hs
    refine Finset.sum_congr rfl fun k _ => ?_
    show term m c r.val (512 * ((4 * (L.val / 512) + s) / 4) + L.val % 512) (2048 * ((4 * (L.val / 512) + s) % 4) + k.val) = _
    rw [show 512 * ((4 * (L.val / 512) + s) / 4) + L.val % 512 = L.val by omega, show (4 * (L.val / 512) + s) % 4 = s by omega]
  rw [Finset.sum_congr rfl e, Cert.Sums.sum_blocks 4 2048 8192 rfl (term m c r.val L.val)]
  refine Finset.sum_congr rfl fun K _ => ?_
  unfold term
  rw [dif_pos ⟨K.isLt, r.isLt, L.isLt⟩]

end Real

end Cert.GwOutIdeal.Grad

namespace Cert.Proof.GwOut

open Idealize.ShloMosaic Idealize.ShloMosaic.TcCoe Idealize.SL.Sem

open Cert.GwOutRIdeal Cert.GwOutRIdeal.Gen in
/-- The reference's product, entry by entry. -/
theorem ref_apply (x0 : Vec Ideal S8192x1024 .bf16) (x1 : Vec Ideal S8192x1024 .f32) (r : Fin 1024) (L : Fin 1024) :
    (transpose S1024x1024 [1, 0] (Host.dotGeneral (F := Ideal) (φ₁ := .f32) dot_S8192x1024_S8192x1024_S1024x1024_0_0_1_1_n_n none x1 (extf (F := Ideal) .f32 x0 bitsLt_bf16_f32)) transposes_S1024x1024_S1024x1024_1_0 (ix2 r L) : EReal)
      = ∑ K : Fin 8192, (x0 (ix2 K r) : EReal) * x1 (ix2 K L) := by
  pointwise
  refine Finset.sum_congr rfl fun K _ => ?_
  rw [mul_comm (x1 _ : EReal)]

/-- The kernel and the reference leave the same gradient. -/
theorem algebraic : Cert.algebraic_GwOutIdeal_GwOutRIdeal := by
  intro m g m' g' _ hm
  refine ⟨fun c => Cert.GwOutIdeal.Value.G2 m c, Cert.GwOutIdeal.Value.run m g, ?_⟩
  refine (θ_run Cert.GwOutRIdeal.defs _ _).mono (fun r h c => ⟨(h c).1.trans ?_, (h c).2⟩) (Cert.GwOutRIdeal.Value.run m' g')
  rw [(hm c).1, (hm c).2]
  funext i
  obtain ⟨r, L, rfl⟩ : ∃ (r L : Fin 1024), i = ix2 r L := ⟨i 0, i 1, eq_ix2 i⟩
  exact (ref_apply _ _ r L).trans (Cert.GwOutIdeal.Grad.result_apply m c r L).symm

end Cert.Proof.GwOut

end
-- ==== Proof.GwInValue.lean ====
/-
  The gradient of the output projection's weights: what the kernel's accumulator and result hold, the reference's
  product, and their equality.
-/
module

public import proofs.«01_k».proof.Defs
public import proofs.«01_k».proof.Proof.Gen.GwInIdeal.Value
public import proofs.«01_k».proof.Proof.Gen.GwInRIdeal.Run
public import proofs.«01_k».proof.Proof.Sums
public import Idealize.ShloMosaic.Lib.Pointwise
public import Idealize.ShloMosaic.Lib.Pipeline.Value

@[expose] public section

noncomputable section

namespace Cert.GwInIdeal.Grad

open Cert.GwInIdeal Cert.GwInIdeal.Gen Cert.GwInIdeal.Value
open Idealize.ShloMosaic Idealize.ShloMosaic.TcCoe Idealize.SL.Sem

theorem hz : (![0, 0] : Fin 2 → Nat) = fun _ => 0 := funext fun a => by fin_cases a <;> rfl

variable {F : FTy → Type} [FloatOps F]

/-- The first point of a run leaves the point's product in the accumulator. -/
theorem sout_A (c : Dev nD) (i : grid0.Coords) (a3 : Memref sig .tc .vmem S1024x1280 .bf16) (h3 : a3.IsWhole)
    (a4 : Memref sig .tc .vmem S1024x1024 .bf16) (h4 : a4.IsWhole) (a5 : Memref sig .tc .vmem S1280x1024 .bf16) (h5 : a5.IsWhole)
    (a6 : Memref sig .tc .vmem S1280x1024 .f32) (h6 : a6.IsWhole) (hc0 : cond0_0 i) (hc1 : ¬cond0_1 i) (hc2 : ¬cond0_2 i)
    (x0 : Vec F S1024x1280 .bf16) (x1 : Vec F S1024x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  unfold k0_pay2
  simp only [View.readAt_eq_ld, h3.read_unread, h4.read_unread, View.ld_unit_zero (S := S1024x1280) hz, View.ld_unit_zero (S := S1024x1024) hz, View.ld_unit_zero (S := S1280x1024) hz, shapeCast_self]

/-- A later point adds its product to the accumulator. -/
theorem sout_B (c : Dev nD) (i : grid0.Coords) (a3 : Memref sig .tc .vmem S1024x1280 .bf16) (h3 : a3.IsWhole)
    (a4 : Memref sig .tc .vmem S1024x1024 .bf16) (h4 : a4.IsWhole) (a5 : Memref sig .tc .vmem S1280x1024 .bf16) (h5 : a5.IsWhole)
    (a6 : Memref sig .tc .vmem S1280x1024 .f32) (h6 : a6.IsWhole) (hc0 : ¬cond0_0 i) (hc1 : cond0_1 i) (hc2 : ¬cond0_2 i)
    (x0 : Vec F S1024x1280 .bf16) (x1 : Vec F S1024x1024 .bf16) (xs : Vec F S1280x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  unfold k0_pay3
  simp only [View.readAt_eq_ld, h3.read_unread, h4.read_unread, h6.read_unread, View.ld_unit_zero (S := S1024x1280) hz, View.ld_unit_zero (S := S1024x1024) hz, View.ld_unit_zero (S := S1280x1024) hz, shapeCast_self]

/-- The last point of a run leaves the whole sum, cast, in its result block. -/
theorem out_C (c : Dev nD) (i : grid0.Coords) (a3 : Memref sig .tc .vmem S1024x1280 .bf16) (h3 : a3.IsWhole)
    (a4 : Memref sig .tc .vmem S1024x1024 .bf16) (h4 : a4.IsWhole) (a5 : Memref sig .tc .vmem S1280x1024 .bf16) (h5 : a5.IsWhole)
    (a6 : Memref sig .tc .vmem S1280x1024 .f32) (h6 : a6.IsWhole) (hc0 : ¬cond0_0 i) (hc1 : cond0_1 i) (hc2 : cond0_2 i)
    (x0 : Vec F S1024x1280 .bf16) (x1 : Vec F S1024x1024 .bf16) (xs : Vec F S1280x1024 .f32) :
    out0_C_2 c i a3 h3 a4 h4 a5 h5 a6 h6 hc0 hc1 hc2 x0 x1 xs = truncf .bf16 (addf xs (k0_pay1 x0 x1)) bitsLt_bf16_f32 := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_eq_canon', View.canon_unit_zero hz]
  unfold k0_pay4 k0_pay3
  simp only [View.readAt_eq_ld, h3.read_unread, h4.read_unread, h6.read_unread, View.ld_unit_zero (S := S1024x1280) hz, View.ld_unit_zero (S := S1024x1024) hz, View.ld_unit_zero (S := S1280x1024) hz, shapeCast_self]
  funext y
  refine congrArg (truncf .bf16 (addf xs (k0_pay1 x0 x1)) bitsLt_bf16_f32) ?_
  funext b
  apply Fin.ext
  match b with
  | ⟨0, _⟩ => show 0 + 1 * (y 0).val = (y 0).val; omega
  | ⟨1, _⟩ => show 0 + 1 * (y 1).val = (y 1).val; omega

section Real

variable (m : (ℓ : Loc nD τ sig) → Buf (Elt Ideal) ℓ) (c : Dev nD)

/-- The two arguments' entries: the cotangent of the projections and the normalised rows. -/
abbrev A0 : Vec Ideal S8192x2560 .bf16 := m ((c : Thread nD τ).loc main_arg0)
abbrev A1 : Vec Ideal S8192x1024 .bf16 := m ((c : Thread nD τ).loc main_arg1)

theorem idx0 : ∀ t : Fin cfg0.N, win0_0.index t (0 : Fin 2) = t.val % 8 ∧ win0_0.index t (1 : Fin 2) = t.val / 8 :=
  (by decide +kernel : ∀ t : Fin grid0.N, _)
theorem idx1 : ∀ t : Fin cfg0.N, win0_1.index t (0 : Fin 2) = t.val % 8 ∧ win0_1.index t (1 : Fin 2) = 0 :=
  (by decide +kernel : ∀ t : Fin grid0.N, _)

/-- The block of the first argument at point `t`. -/
theorem blk0_apply (t : Fin cfg0.N) (k : Fin 1024) (r : Fin 1280) (h : 1280 * (t.val / 8) + r.val < 2560) :
    iblk m c 0 t (ix2 k r) = A0 m c (ix2 ⟨1024 * (t.val % 8) + k.val, by omega⟩ ⟨1280 * (t.val / 8) + r.val, h⟩) := by
  unfold iblk
  rw [View.read_apply]
  refine congrArg (A0 m c) ?_
  funext a
  apply Fin.ext
  match a with
  | ⟨0, _⟩ => show win0_0.index t 0 * 1024 + 1 * k.val = _; rw [(idx0 t).1]; show _ = 1024 * (t.val % 8) + k.val; omega
  | ⟨1, _⟩ => show win0_0.index t 1 * 1280 + 1 * r.val = _; rw [(idx0 t).2]; show _ = 1280 * (t.val / 8) + r.val; omega

/-- The block of the second argument at point `t`. -/
theorem blk1_apply (t : Fin cfg0.N) (k : Fin 1024) (l : Fin 1024) :
    iblk m c 1 t (ix2 k l) = A1 m c (ix2 ⟨1024 * (t.val % 8) + k.val, by omega⟩ l) := by
  unfold iblk
  rw [View.read_apply]
  refine congrArg (A1 m c) ?_
  funext a
  apply Fin.ext
  match a with
  | ⟨0, _⟩ => show win0_1.index t 0 * 1024 + 1 * k.val = _; rw [(idx1 t).1]; show _ = 1024 * (t.val % 8) + k.val; omega
  | ⟨1, _⟩ => show win0_1.index t 1 * 1024 + 1 * l.val = _; rw [(idx1 t).2]; show _ = l.val; omega

/-- A point's product, entry by entry. -/
theorem pay1_apply (x0 : Vec Ideal S1024x1280 .bf16) (x1 : Vec Ideal S1024x1024 .bf16) (r : Fin 1280) (l : Fin 1024) :
    (k0_pay1 x0 x1 (ix2 r l) : EReal) = ∑ k : Fin 1024, (x0 (ix2 k r) : EReal) * x1 (ix2 k l) := by
  pointwise [k0_pay1]

/-- One product of the whole sum: row `K` of the two arguments, columns `R` and `l`. -/
def term (R l : ℕ) (K : ℕ) : EReal :=
  if h : K < 8192 ∧ R < 2560 ∧ l < 1024 then
    (A0 m c (ix2 ⟨K, h.1⟩ ⟨R, h.2.1⟩) : EReal) * A1 m c (ix2 ⟨K, h.1⟩ ⟨l, h.2.2⟩) else 0

/-- The point `n`'s product, at an entry. -/
def addend (n : ℕ) (i : S1280x1024.Idx) : EReal :=
  ∑ k : Fin 1024, term m c (1280 * (n / 8) + (i 0).val) (i 1).val (1024 * (n % 8) + k.val)

theorem addend_eq (t : Fin cfg0.N) (i : S1280x1024.Idx) : k0_pay1 (iblk m c 0 t) (iblk m c 1 t) i = addend m c t.val i := by
  have hN : t.val < 16 := lt_of_lt_of_eq t.isLt N_0
  obtain ⟨r, l, rfl⟩ : ∃ (r : Fin 1280) (l : Fin 1024), i = ix2 r l := ⟨i 0, i 1, eq_ix2 i⟩
  rw [pay1_apply]
  refine Finset.sum_congr rfl fun k _ => ?_
  have hr : 1280 * (t.val / 8) + r.val < 2560 := by omega
  rw [blk0_apply _ _ _ _ _ hr, blk1_apply]
  have hk : 1024 * (t.val % 8) + k.val < 8192 := by omega
  show _ = term m c (1280 * (t.val / 8) + r.val) l.val (1024 * (t.val % 8) + k.val)
  unfold term
  rw [dif_pos ⟨hk, hr, l.isLt⟩]

/-- What the accumulator holds after point `n`, before the last of its run: the sum of the run's products so far. -/
theorem acc_apply : ∀ (n : ℕ) (h : n < cfg0.N) (_ : n % 8 < 7) (i : S1280x1024.Idx),
    (outsAt0 m c n h).2 i = ∑ s ∈ Finset.range (n % 8 + 1), addend m c (8 * (n / 8) + s) i := by
  refine Cert.Sums.sum_runs (by decide) (fun n h => (outsAt0 m c n h).2) (addend m c) ?_ ?_
  · intro n h i h0
    rw [outsAt0_A m c ⟨n, h⟩ h0 (by dsimp only; omega) (by dsimp only; omega)]
    dsimp only
    rw [sout_A, addend_eq]
  · intro n h i h0 h7
    rw [outsAt0_B m c ⟨n + 1, h⟩ h0 (by dsimp only; omega) (by dsimp only; omega)]
    dsimp only
    rw [sout_B]
    show ((outsAt0 m c n _).2 i : EReal) + (k0_pay1 (F := Ideal) _ _ i : EReal) = _
    rw [addend_eq]

/-- The result, entry by entry: column `R` of the first argument times column `l` of the second. -/
theorem result_apply (R : Fin 2560) (l : Fin 1024) :
    (G2 m c (ix2 R l) : EReal) = ∑ K : Fin 8192, (A0 m c (ix2 K R) : EReal) * A1 m c (ix2 K l) := by
  have hr : run2Of (ix2 R l) = R.val / 1280 := by
    show 1 * (R.val / 1280 - 0) + 1 * (l.val / 1024 - 0) = R.val / 1280
    omega
  have hp : pt2Of (ix2 R l) = 8 * (R.val / 1280) + 7 := by rw [pt2Of, hr]
  have hN : 8 * (R.val / 1280) + 7 < cfg0.N := lt_of_lt_of_eq (show _ < 16 by omega) N_0.symm
  unfold G2
  rw [dif_pos (by rw [hp]; exact hN), fold0_congr m c _ _ _ (by rw [Nat.zero_add]; exact hN) hp, ← outsAt0_sweep,
    outsAt0_C m c ⟨_, hN⟩ (by dsimp only; omega) (by dsimp only; omega) (by dsimp only; omega)]
  case hn => exact hN
  dsimp only
  rw [out_C]
  have hl : loc2Of (ix2 R l) = ix2 (⟨R.val % 1280, by omega⟩ : Fin 1280) l := by
    funext b
    apply Fin.ext
    match b with
    | ⟨0, _⟩ => rfl
    | ⟨1, _⟩ => show l.val % 1024 = l.val; omega
  rw [hl]
  show ((outsAt0 m c (8 * (R.val / 1280) + 6) _).2 (ix2 ⟨R.val % 1280, by omega⟩ l) : EReal) +
    (k0_pay1 (F := Ideal) _ _ (ix2 ⟨R.val % 1280, by omega⟩ l) : EReal) = _
  rw [addend_eq, acc_apply m c _ _ (by omega), show (8 * (R.val / 1280) + 6) % 8 = 6 by omega, show (8 * (R.val / 1280) + 6) / 8 = R.val / 1280 by omega,
    ← Finset.sum_range_succ (fun s => addend m c (8 * (R.val / 1280) + s) _) 7]
  have e : ∀ s ∈ Finset.range 8, addend m c (8 * (R.val / 1280) + s) (ix2 ⟨R.val % 1280, by omega⟩ l)
      = ∑ k : Fin 1024, term m c R.val l.val (1024 * s + k.val) := by
    intro s hs
    have hs := Finset.mem_range.mp hs
    refine Finset.sum_congr rfl fun k _ => ?_
    show term m c (1280 * ((8 * (R.val / 1280) + s) / 8) + R.val % 1280) l.val (1024 * ((8 * (R.val / 1280) + s) % 8) + k.val) = _
    rw [show 1280 * ((8 * (R.val / 1280) + s) / 8) + R.val % 1280 = R.val by omega, show (8 * (R.val / 1280) + s) % 8 = s by omega]
  rw [Finset.sum_congr rfl e, Cert.Sums.sum_blocks 8 1024 8192 rfl (term m c R.val l.val)]
  refine Finset.sum_congr rfl fun K _ => ?_
  unfold term
  rw [dif_pos ⟨K.isLt, R.isLt, l.isLt⟩]

end Real

end Cert.GwInIdeal.Grad

namespace Cert.Proof.GwIn

open Idealize.ShloMosaic Idealize.ShloMosaic.TcCoe Idealize.SL.Sem

open Cert.GwInRIdeal Cert.GwInRIdeal.Gen in
/-- The reference's product, entry by entry. -/
theorem ref_apply (x0 : Vec Ideal S8192x2560 .bf16) (x1 : Vec Ideal S8192x1024 .bf16) (R : Fin 2560) (l : Fin 1024) :
    (truncf .bf16 (transpose S2560x1024 [1, 0] (transpose S1024x2560 [1, 0] (Host.dotGeneral dot_S8192x2560_S8192x1024_S2560x1024_0_0_1_1_n_n none (extf (F := Ideal) .f32 x0 bitsLt_bf16_f32) (extf (F := Ideal) .f32 x1 bitsLt_bf16_f32)) transposes_S2560x1024_S1024x2560_1_0) transposes_S1024x2560_S2560x1024_1_0) bitsLt_bf16_f32 (ix2 R l) : EReal)
      = ∑ K : Fin 8192, (x0 (ix2 K R) : EReal) * x1 (ix2 K l) := by
  pointwise

/-- The kernel and the reference leave the same gradient. -/
theorem algebraic : Cert.algebraic_GwInIdeal_GwInRIdeal := by
  intro m g m' g' _ hm
  refine ⟨fun c => Cert.GwInIdeal.Value.G2 m c, Cert.GwInIdeal.Value.run m g, ?_⟩
  refine (θ_run Cert.GwInRIdeal.defs _ _).mono (fun r h c => ⟨(h c).1.trans ?_, (h c).2⟩) (Cert.GwInRIdeal.Value.run m' g')
  rw [(hm c).1, (hm c).2]
  funext i
  obtain ⟨R, l, rfl⟩ : ∃ (R : Fin 2560) (l : Fin 1024), i = ix2 R l := ⟨i 0, i 1, eq_ix2 i⟩
  exact (ref_apply _ _ R l).trans (Cert.GwInIdeal.Grad.result_apply m c R l).symm

end Cert.Proof.GwIn

end
-- ==== Proof.BwdMixBody.lean ====
/-
  The output projection backward: what one grid point leaves in its four result blocks, as the payloads of its stores.
-/
module

public import proofs.«01_k».proof.Proof.Gen.BwdMixIdeal.Value
public import proofs.«01_k».proof.Proof.Blocks

@[expose] public section

noncomputable section

namespace Cert.BwdMixIdeal.Mix

open Cert.BwdMixIdeal Cert.BwdMixIdeal.Gen Cert.BwdMixIdeal.Value
open Idealize.ShloMosaic Idealize.ShloMosaic.TcCoe Idealize.SL.Sem

variable {F : FTy → Type} [FloatOps F]

/-- The weights' rows of the two branches. -/
abbrev u0 (x : Vec F S1024x1024 .bf16) : Vec F S512x1024 .bf16 :=
  View.ld x (Rect.unit (s := S1024x1024) ![0, 0] S512x1024.size inb_S1024x1024_S512x1024_0_0)
abbrev u1 (x : Vec F S1024x1024 .bf16) : Vec F S512x1024 .bf16 :=
  View.ld x (Rect.unit (s := S1024x1024) ![512, 0] S512x1024.size inb_S1024x1024_S512x1024_512_0)

variable (c : Dev nD) (i : grid0.Coords)
  (a1 : Memref sig .tc .vmem S1024x1024 .f32) (h1 : a1.IsWhole)
  (a2 : Memref sig .tc .vmem S1024x1024 .bf16) (h2 : a2.IsWhole)
  (a3 : Memref sig .tc .vmem S1024x512 .f32) (h3 : a3.IsWhole)
  (a4 : Memref sig .tc .vmem S1024x512 .f32) (h4 : a4.IsWhole)
  (a5 : Memref sig .tc .vmem S1x512 .f32) (h5 : a5.IsWhole)
  (a6 : Memref sig .tc .vmem S1x512 .f32) (h6 : a6.IsWhole)
  (a7 : Memref sig .tc .vmem S1024x512 .f32) (h7 : a7.IsWhole)
  (a8 : Memref sig .tc .vmem S1024x512 .bf16) (h8 : a8.IsWhole)
  (a9 : Memref sig .tc .vmem S1x512 .f32) (h9 : a9.IsWhole)
  (a10 : Memref sig .tc .vmem S1x512 .f32) (h10 : a10.IsWhole)
  (x0 : Vec F S1024x1024 .f32) (x1 : Vec F S1024x1024 .bf16) (x2 : Vec F S1024x512 .f32) (x3 : Vec F S1024x512 .f32)
  (x4 : Vec F S1x512 .f32) (x5 : Vec F S1x512 .f32) (xo8 : Vec F S1x512 .f32) (xo9 : Vec F S1x512 .f32)

/-- At the first point: the gradient at the first branch. -/
theorem dx0_A (hc0 : cond0_0 i) :
    out0_A_6 c i a1 h1 a2 h2 a3 h3 a4 h4 a5 h5 a6 h6 a7 h7 a8 h8 a9 h9 a10 h10 hc0 x0 x1 x2 x3 x4 x5 = k0_pay10 (k0_pay5 x2) (k0_pay8 x0 x4 (u0 x1)) (k0_pay9 x0 x4 (u0 x1) x2) := by
  unfold out0_A_6
  rw [View.read_writes_eq_canon _ _ _ (cover0_A_6 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At the first point: the gradient at the second branch. -/
theorem dx1_A (hc0 : cond0_0 i) :
    out0_A_7 c i a1 h1 a2 h2 a3 h3 a4 h4 a5 h5 a6 h6 a7 h7 a8 h8 a9 h9 a10 h10 hc0 x0 x1 x2 x3 x4 x5 = k0_pay15 (k0_pay3 x0) x5 (u1 x1) x3 := by
  unfold out0_A_7
  rw [View.read_writes_eq_canon _ _ _ (cover0_A_7 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At the first point: the first gain's gradient. -/
theorem dg0_A (hc0 : cond0_0 i) :
    out0_A_8 c i a1 h1 a2 h2 a3 h3 a4 h4 a5 h5 a6 h6 a7 h7 a8 h8 a9 h9 a10 h10 hc0 x0 x1 x2 x3 x4 x5 = k0_pay7 x0 (u0 x1) x2 k0_pay1 := by
  unfold out0_A_8
  rw [View.read_writes_eq_canon _ _ _ (cover0_A_8 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At the first point: the second gain's gradient. -/
theorem dg1_A (hc0 : cond0_0 i) :
    out0_A_9 c i a1 h1 a2 h2 a3 h3 a4 h4 a5 h5 a6 h6 a7 h7 a8 h8 a9 h9 a10 h10 hc0 x0 x1 x2 x3 x4 x5 = k0_pay14 (k0_pay3 x0) (u1 x1) x3 k0_pay2 := by
  unfold out0_A_9
  rw [View.read_writes_eq_canon _ _ _ (cover0_A_9 c i a1 h1 a2 h2 a3 h3 a4 h4 a5 h5 a6 h6 a7 h7 a8 h8 a9 h9 a10 h10 hc0 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At a later point: the gradient at the first branch. -/
theorem dx0_B (hc0 : ¬cond0_0 i) :
    out0_B_6 c i a1 h1 a2 h2 a3 h3 a4 h4 a5 h5 a6 h6 a7 h7 a8 h8 a9 h9 a10 h10 hc0 x0 x1 x2 x3 x4 x5 xo8 xo9 = k0_pay10 (k0_pay5 x2) (k0_pay8 x0 x4 (u0 x1)) (k0_pay9 x0 x4 (u0 x1) x2) := by
  unfold out0_B_6
  rw [View.read_writes_eq_canon _ _ _ (cover0_B_6 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At a later point: the gradient at the second branch. -/
theorem dx1_B (hc0 : ¬cond0_0 i) :
    out0_B_7 c i a1 h1 a2 h2 a3 h3 a4 h4 a5 h5 a6 h6 a7 h7 a8 h8 a9 h9 a10 h10 hc0 x0 x1 x2 x3 x4 x5 xo8 xo9 = k0_pay15 (k0_pay3 x0) x5 (u1 x1) x3 := by
  unfold out0_B_7
  rw [View.read_writes_eq_canon _ _ _ (cover0_B_7 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At a later point: the first gain's gradient. -/
theorem dg0_B (hc0 : ¬cond0_0 i) :
    out0_B_8 c i a1 h1 a2 h2 a3 h3 a4 h4 a5 h5 a6 h6 a7 h7 a8 h8 a9 h9 a10 h10 hc0 x0 x1 x2 x3 x4 x5 xo8 xo9 = k0_pay7 x0 (u0 x1) x2 xo8 := by
  unfold out0_B_8
  rw [View.read_writes_eq_canon _ _ _ (cover0_B_8 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

/-- At a later point: the second gain's gradient. -/
theorem dg1_B (hc0 : ¬cond0_0 i) :
    out0_B_9 c i a1 h1 a2 h2 a3 h3 a4 h4 a5 h5 a6 h6 a7 h7 a8 h8 a9 h9 a10 h10 hc0 x0 x1 x2 x3 x4 x5 xo8 xo9 = k0_pay14 (k0_pay3 x0) (u1 x1) x3 xo9 := by
  unfold out0_B_9
  rw [View.read_writes_eq_canon _ _ _ (cover0_B_9 c i a1 h1 a2 h2 a3 h3 a4 h4 a5 h5 a6 h6 a7 h7 a8 h8 a9 h9 a10 h10 hc0 x0 x1 x2 x3 x4 x5 xo8 xo9)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, shapeCast_self]

end Cert.BwdMixIdeal.Mix

end
-- ==== Proof.Rms.lean ====
/-
  The row normalisation that the step's products are applied to: the reciprocal root mean square of a row.
-/
module

public import Idealize.ShloMosaic.Lib.Pointwise
public import Idealize.ShloMosaic.Lib.IdealHost

@[expose] public section

noncomputable section

namespace Cert.Rms

open Idealize.ShloMosaic

/-- The reciprocal of the root of the mean square of a row, `1e-6` added to the mean; `w` is the row's width as a float word. -/
def rstd (w : ℕ) {n : ℕ} (x : Fin n → EReal) : EReal :=
  Ideal.rsqrt (Ideal.div (∑ k, x k * x k) (Ideal.ofBits .f32 (BitVec.ofNat 32 w)) + Ideal.ofBits .f32 897988541#32)

/-- A row normalised and scaled by the gains. -/
def row (w : ℕ) {n : ℕ} (x g : Fin n → EReal) (k : Fin n) : EReal := x k * rstd w x * g k

/-! ## The constants -/

theorem word_1024 : Ideal.ofBits .f32 1149239296#32 = ((1024 : ℝ) : EReal) := by
  simp [Ideal.ofBits, Ideal.ieee, ← EReal.coe_mul, ← EReal.coe_neg]; norm_num
theorem word_512 : Ideal.ofBits .f32 1140850688#32 = ((512 : ℝ) : EReal) := by
  simp [Ideal.ofBits, Ideal.ieee, ← EReal.coe_mul, ← EReal.coe_neg]; norm_num
theorem word_neg_half : Ideal.ofBits .f32 3204448256#32 = ((-(1 / 2) : ℝ) : EReal) := by
  simp [Ideal.ofBits, Ideal.ieee, ← EReal.coe_mul, ← EReal.coe_neg]; norm_num
theorem word_eps : ∃ e : ℝ, 0 < e ∧ Ideal.ofBits .f32 897988541#32 = (e : EReal) := by
  refine ⟨8796093 * (1 / 8796093022208), by norm_num, ?_⟩
  simp [Ideal.ofBits, Ideal.ieee, ← EReal.coe_mul]
  norm_num
theorem word_half : Ideal.ofBits .f32 1056964608#32 = ((1 / 2 : ℝ) : EReal) := by
  simp [Ideal.ofBits, Ideal.ieee, ← EReal.coe_mul, ← EReal.coe_neg]; norm_num
theorem word_two : Ideal.ofBits .f32 1073741824#32 = ((2 : ℝ) : EReal) := by
  simp [Ideal.ofBits, Ideal.ieee, ← EReal.coe_mul, ← EReal.coe_neg]; norm_num
theorem word_inv_1024 : Ideal.ofBits .f32 981467136#32 = ((1 / 1024 : ℝ) : EReal) := by
  simp [Ideal.ofBits, Ideal.ieee, ← EReal.coe_mul, ← EReal.coe_neg]; norm_num

/-! ## The derivative of the normalisation -/

/-- A nonnegative real factor moves out of a sum of extended reals. -/
theorem mul_sum_real {ι : Type} (s : Finset ι) (f : ι → EReal) {a : ℝ} (ha : 0 ≤ a) :
    (a : EReal) * ∑ j ∈ s, f j = ∑ j ∈ s, (a : EReal) * f j := by
  classical
  induction s using Finset.induction_on with
  | empty => simp
  | insert i s hi ih =>
    rw [Finset.sum_insert hi, Finset.sum_insert hi,
      EReal.left_distrib_of_nonneg_of_ne_top (EReal.coe_nonneg.mpr ha) (EReal.coe_ne_top a), ih]

theorem sq_nonneg' (y : EReal) : 0 ≤ y * y := by
  exact EReal.mul_nonneg_iff.mpr ((le_total 0 y).imp (fun h => ⟨h, h⟩) fun h => ⟨h, h⟩)

/-- A row with an infinite entry has an infinite sum of squares. -/
theorem sum_sq_top {n : ℕ} (x : Fin n → EReal) (k : Fin n) (hk : x k = ⊤ ∨ x k = ⊥) : ∑ j, x j * x j = ⊤ := by
  refine top_le_iff.mp (le_trans ?_ (Finset.single_le_sum (fun j _ => sq_nonneg' (x j)) (Finset.mem_univ k)))
  rcases hk with h | h <;> rw [h] <;> rfl

/-- The derivative of a normalised row, written with the normalised row, is the derivative of the formula
    `x · (mean x² + e)^(-1/2)` term by term. It holds on all extended reals. -/
theorem back {n : ℕ} {N e : ℝ} (hN : 0 < N) (he : 0 < e) (x d : Fin n → EReal) (k : Fin n) (r V : EReal)
    (hV : V = Ideal.div (∑ j, x j * x j) (N : EReal) + (e : EReal)) (hr : r = Ideal.rsqrt V) :
    r * (d k - x k * r * Ideal.div (∑ j, d j * (x j * r)) (N : EReal))
      = d k * r + (x k * Ideal.div ((∑ j, x j * d j) * (((-(1 / 2) : ℝ) : EReal) * Ideal.div r V)) (N : EReal)
        + Ideal.div ((∑ j, x j * d j) * (((-(1 / 2) : ℝ) : EReal) * Ideal.div r V)) (N : EReal) * x k) := by
  by_cases hx : ∃ j, x j = ⊤ ∨ x j = ⊥
  · obtain ⟨j, hj⟩ := hx
    have hV' : V = ⊤ := by
      rw [hV, sum_sq_top x j hj, Ideal.div_coe hN.ne', EReal.top_mul_coe_of_pos (by positivity)]; rfl
    have hr' : r = 0 := by rw [hr, hV']; rfl
    have hz : Ideal.div (0 : EReal) (N : EReal) = 0 := by rw [Ideal.div_coe hN.ne', zero_mul]
    have hz' : Ideal.div (0 : EReal) ⊤ = 0 := by rw [Ideal.div, if_neg (by simp), zero_mul]
    simp only [hr', hV', hz', mul_zero, zero_mul, hz, add_zero]
  · have hx' : ∀ j, ∃ a : ℝ, x j = (a : EReal) := fun j => by
      have h := not_exists.mp hx j
      exact ⟨(x j).toReal, (EReal.coe_toReal (fun h' => h (.inl h')) (fun h' => h (.inr h'))).symm⟩
    choose ξ hξ using hx'
    obtain rfl : x = fun j => (ξ j : EReal) := funext hξ
    have hv : V = (((∑ j, ξ j * ξ j) * (1 / N) + e : ℝ) : EReal) := by
      rw [hV, Ideal.div_coe hN.ne', EReal.coe_add, EReal.coe_mul]
      congr 2
      simp only [← EReal.coe_mul]
      exact (map_sum (⟨⟨(↑), EReal.coe_zero⟩, EReal.coe_add⟩ : ℝ →+ EReal) _ _).symm
    set v : ℝ := (∑ j, ξ j * ξ j) * (1 / N) + e with hvd
    have hv0 : 0 < v := by
      have : 0 ≤ ∑ j, ξ j * ξ j := Finset.sum_nonneg fun j _ => mul_self_nonneg _
      have : 0 ≤ (∑ j, ξ j * ξ j) * (1 / N) := mul_nonneg this (by positivity)
      linarith
    set ρ : ℝ := (Real.sqrt v)⁻¹ with hρ
    have hρ0 : 0 < ρ := inv_pos.mpr (Real.sqrt_pos.mpr hv0)
    have hρ2 : 1 / v = ρ * ρ := by
      rw [hρ, ← mul_inv, Real.mul_self_sqrt hv0.le, one_div]
    have hr' : r = (ρ : EReal) := by
      rw [hr, hv, Ideal.rsqrt_coe, if_neg hv0.not_gt, if_neg hv0.ne']
    subst hr'
    rw [hv]
    set S : EReal := ∑ j, (ξ j : EReal) * d j with hS
    have e1 : ∑ j, d j * ((ξ j : EReal) * (ρ : EReal)) = (ρ : EReal) * S := by
      rw [hS, mul_sum_real _ _ hρ0.le]
      exact Finset.sum_congr rfl fun j _ => by rw [mul_comm (d j), mul_comm (ξ j : EReal), mul_assoc]
    rw [e1, Ideal.div_coe hN.ne', Ideal.div_coe hv0.ne', Ideal.div_coe hN.ne', hρ2, sub_eq_add_neg,
      EReal.left_distrib_of_nonneg_of_ne_top (EReal.coe_nonneg.mpr hρ0.le) (EReal.coe_ne_top ρ), mul_comm (ρ : EReal) (d k)]
    congr 1
    have two : ∀ y : EReal, y + y = ((2 : ℝ) : EReal) * y := fun y => by
      rw [show ((2 : ℝ) : EReal) = 1 + 1 by norm_num; rfl, EReal.right_distrib_of_nonneg zero_le_one zero_le_one, one_mul]
    have e2 : (ρ : EReal) * -((ξ k : EReal) * ρ * ((ρ : EReal) * S * ((1 / N : ℝ) : EReal)))
        = S * ((-(ρ * ρ * ρ * ξ k * (1 / N)) : ℝ) : EReal) := by
      push_cast
      rw [mul_neg, mul_neg]
      congr 1
      ac_rfl
    have e3 : S * (((-(1 / 2) : ℝ) : EReal) * ((ρ : EReal) * ((ρ * ρ : ℝ) : EReal))) * ((1 / N : ℝ) : EReal)
        = S * ((-(1 / 2) * (ρ * (ρ * ρ)) * (1 / N) : ℝ) : EReal) := by
      rw [mul_assoc, ← EReal.coe_mul, ← EReal.coe_mul, ← EReal.coe_mul]
    rw [e2, e3, mul_comm _ (ξ k : EReal), two, mul_left_comm _ S, mul_left_comm _ S,
      ← EReal.coe_mul, ← EReal.coe_mul]
    congr 2
    ring

/-- The derivative of a normalised row against `d`, as the kernels write it. -/
def grad (w : ℕ) {n : ℕ} (x d : Fin n → EReal) (k : Fin n) : EReal :=
  rstd w x * (d k - x k * rstd w x * Ideal.div (∑ j, d j * (x j * rstd w x)) (Ideal.ofBits .f32 (BitVec.ofNat 32 w)))

/-- It is the derivative of the formula, for a row of 1024 or of 512 entries. -/
theorem grad_eq (w : ℕ) (hw : w = 1149239296 ∨ w = 1140850688) {n : ℕ} (x d : Fin n → EReal) (k : Fin n) (B : EReal)
    (hB : B = Ideal.div ((∑ j, x j * d j) * (Ideal.ofBits .f32 3204448256#32 * Ideal.div (rstd w x)
      (Ideal.div (∑ k, x k * x k) (Ideal.ofBits .f32 (BitVec.ofNat 32 w)) + Ideal.ofBits .f32 897988541#32)))
        (Ideal.ofBits .f32 (BitVec.ofNat 32 w))) :
    grad w x d k = d k * rstd w x + (x k * B + B * x k) := by
  obtain ⟨e, he, hE⟩ := word_eps
  have hN : ∃ N : ℝ, 0 < N ∧ Ideal.ofBits .f32 (BitVec.ofNat 32 w) = (N : EReal) := by
    rcases hw with rfl | rfl
    · exact ⟨1024, by norm_num, word_1024⟩
    · exact ⟨512, by norm_num, word_512⟩
  obtain ⟨N, hN0, hN⟩ := hN
  subst hB
  unfold grad
  rw [hN, hE, word_neg_half]
  exact back hN0 he x d k (rstd w x) _ rfl (by unfold rstd; rw [hN, hE])

end Cert.Rms

end
-- ==== Proof.BwdMixState.lean ====
/-
  The output projection backward: the kernel's four result arrays, entry by entry.
-/
module

public import proofs.«01_k».proof.Proof.BwdMixBody
public import proofs.«01_k».proof.Proof.Rms
public import proofs.«01_k».proof.Proof.Sums
public import Idealize.ShloMosaic.Lib.Pointwise
public import Idealize.ShloMosaic.Lib.Claim

@[expose] public section

noncomputable section

namespace Cert.BwdMixIdeal.Mix

open Cert.BwdMixIdeal Cert.BwdMixIdeal.Gen Cert.BwdMixIdeal.Value
open Idealize.ShloMosaic Idealize.ShloMosaic.TcCoe Idealize.SL.Sem

/-! ## The payloads, entry by entry

`k0_pay4` and `k0_pay11` are the product with a branch's rows of the weights, for the first branch and for the second. -/

theorem d0_apply (x0 : Vec Ideal S1024x1024 .f32) (u : Vec Ideal S512x1024 .bf16) (r : Fin 1024) (l : Fin 512) :
    (k0_pay4 x0 u (ix2 r l) : EReal) = ∑ k : Fin 1024, x0 (ix2 r k) * u (ix2 l k) := by
  pointwise [k0_pay4, k0_pay3]

theorem d1_apply (x0 : Vec Ideal S1024x1024 .f32) (u : Vec Ideal S512x1024 .bf16) (r : Fin 1024) (l : Fin 512) :
    (k0_pay11 (k0_pay3 x0) u (ix2 r l) : EReal) = ∑ k : Fin 1024, x0 (ix2 r k) * u (ix2 l k) := by
  pointwise [k0_pay11, k0_pay3]

theorem dx0_apply (x0 : Vec Ideal S1024x1024 .f32) (u : Vec Ideal S512x1024 .bf16) (x : Vec Ideal S1024x512 .f32) (g : Vec Ideal S1x512 .f32) (r : Fin 1024) (l : Fin 512) :
    (k0_pay10 (k0_pay5 x) (k0_pay8 x0 g u) (k0_pay9 x0 g u x) (ix2 r l) : EReal)
      = Cert.Rms.grad 1140850688 (fun k => x (ix2 r k)) (fun k => k0_pay4 x0 u (ix2 r k) * g (ix2 0 k)) l := by
  pointwise [k0_pay10, k0_pay9, k0_pay8, k0_pay6, k0_pay5]
  rfl

theorem dx1_apply (x0 : Vec Ideal S1024x1024 .f32) (u : Vec Ideal S512x1024 .bf16) (x : Vec Ideal S1024x512 .f32) (g : Vec Ideal S1x512 .f32) (r : Fin 1024) (l : Fin 512) :
    (k0_pay15 (k0_pay3 x0) g u x (ix2 r l) : EReal)
      = Cert.Rms.grad 1140850688 (fun k => x (ix2 r k)) (fun k => k0_pay11 (k0_pay3 x0) u (ix2 r k) * g (ix2 0 k)) l := by
  pointwise [k0_pay15, k0_pay13, k0_pay12]
  rfl

theorem dg0_apply (x0 : Vec Ideal S1024x1024 .f32) (u : Vec Ideal S512x1024 .bf16) (x : Vec Ideal S1024x512 .f32) (xo : Vec Ideal S1x512 .f32) (l : Fin 512) :
    (k0_pay7 x0 u x xo (ix2 0 l) : EReal)
      = xo (ix2 0 l) + ∑ r : Fin 1024, k0_pay4 x0 u (ix2 r l) * (x (ix2 r l) * Cert.Rms.rstd 1140850688 fun k => x (ix2 r k)) := by
  pointwise [k0_pay7, k0_pay6, k0_pay5]
  rfl

theorem dg1_apply (x0 : Vec Ideal S1024x1024 .f32) (u : Vec Ideal S512x1024 .bf16) (x : Vec Ideal S1024x512 .f32) (xo : Vec Ideal S1x512 .f32) (l : Fin 512) :
    (k0_pay14 (k0_pay3 x0) u x xo (ix2 0 l) : EReal)
      = xo (ix2 0 l) + ∑ r : Fin 1024, k0_pay11 (k0_pay3 x0) u (ix2 r l) * (x (ix2 r l) * Cert.Rms.rstd 1140850688 fun k => x (ix2 r k)) := by
  pointwise [k0_pay14, k0_pay13, k0_pay12]
  rfl

theorem zero0_apply (l : Fin 512) : (k0_pay1 (F := Ideal) (ix2 0 l) : EReal) = 0 := by
  pointwise [k0_pay1]

theorem zero1_apply (l : Fin 512) : (k0_pay2 (F := Ideal) (ix2 0 l) : EReal) = 0 := by
  pointwise [k0_pay2]

/-! ## The blocks of the arguments -/

variable (m : (ℓ : Loc nD τ sig) → Buf (Elt Ideal) ℓ) (c : Dev nD)

abbrev A0 : Vec Ideal S8192x1024 .f32 := m ((c : Thread nD τ).loc main_arg0)
abbrev A1 : Vec Ideal S1024x1024 .f32 := m ((c : Thread nD τ).loc main_arg1)
abbrev A2 : Vec Ideal S8192x512 .f32 := m ((c : Thread nD τ).loc main_arg2)
abbrev A3 : Vec Ideal S8192x512 .f32 := m ((c : Thread nD τ).loc main_arg3)
abbrev A4 : Vec Ideal S1x512 .f32 := m ((c : Thread nD τ).loc main_arg4)
abbrev A5 : Vec Ideal S1x512 .f32 := m ((c : Thread nD τ).loc main_arg5)

/-- The row of the arrays that row `r` of point `t`'s blocks is. -/
def rowOf (t : Fin cfg0.N) (r : Fin 1024) : Fin 8192 := ⟨1024 * t.val + r.val, by have := lt_of_lt_of_eq t.isLt N_0; omega⟩

theorem V_w (l k : Fin 1024) : V m c main_v0 (ix2 l k) = A1 m c (ix2 l k) := by
  entry_read
  pointwise

/-- The row windows move by one block of rows a point; the others stay. -/
theorem idx_rows : ∀ t : Fin cfg0.N, (win0_0.index t (0 : Fin 2) = t.val ∧ win0_0.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)
theorem idx_all : ∀ t : Fin cfg0.N, (win0_1.index t (0 : Fin 2) = 0 ∧ win0_1.index t (1 : Fin 2) = 0) ∧ (win0_4.index t (0 : Fin 2) = 0 ∧ win0_4.index t (1 : Fin 2) = 0) ∧ (win0_5.index t (0 : Fin 2) = 0 ∧ win0_5.index t (1 : Fin 2) = 0) ∧ (win0_8.index t (0 : Fin 2) = 0 ∧ win0_8.index t (1 : Fin 2) = 0) ∧ (win0_9.index t (0 : Fin 2) = 0 ∧ win0_9.index t (1 : Fin 2) = 0) :=
  (by decide +kernel : ∀ t : Fin grid0.N, _)

theorem blk0_apply (t : Fin cfg0.N) (r : Fin 1024) (k : Fin 1024) : iblk m c 0 t (ix2 r k) = A0 m c (ix2 (rowOf t r) k) := by
  unfold iblk
  rw [View.read_apply]
  refine (congrArg (V m c main_arg0) (Cert.Blocks.ext2 ?_ ?_)).trans (congrFun (V_main_arg0 m c) _)
  · show win0_0.index t 0 * 1024 + 1 * r.val = 1024 * t.val + r.val; rw [(idx_rows t).1.1]; omega
  · show win0_0.index t 1 * 1024 + 1 * k.val = k.val; rw [(idx_rows t).1.2]; omega

theorem blk2_apply (t : Fin cfg0.N) (r : Fin 1024) (k : Fin 512) : iblk m c 2 t (ix2 r k) = A2 m c (ix2 (rowOf t r) k) := by
  unfold iblk
  rw [View.read_apply]
  refine (congrArg (V m c main_arg2) (Cert.Blocks.ext2 ?_ ?_)).trans (congrFun (V_main_arg2 m c) _)
  · show win0_2.index t 0 * 1024 + 1 * r.val = 1024 * t.val + r.val; rw [(idx_rows t).2.1.1]; omega
  · show win0_2.index t 1 * 512 + 1 * k.val = k.val; rw [(idx_rows t).2.1.2]; omega

theorem blk3_apply (t : Fin cfg0.N) (r : Fin 1024) (k : Fin 512) : iblk m c 3 t (ix2 r k) = A3 m c (ix2 (rowOf t r) k) := by
  unfold iblk
  rw [View.read_apply]
  refine (congrArg (V m c main_arg3) (Cert.Blocks.ext2 ?_ ?_)).trans (congrFun (V_main_arg3 m c) _)
  · show win0_3.index t 0 * 1024 + 1 * r.val = 1024 * t.val + r.val; rw [(idx_rows t).2.2.1.1]; omega
  · show win0_3.index t 1 * 512 + 1 * k.val = k.val; rw [(idx_rows t).2.2.1.2]; omega

theorem blk1_apply (t : Fin cfg0.N) (l k : Fin 1024) : iblk m c 1 t (ix2 l k) = A1 m c (ix2 l k) := by
  unfold iblk
  rw [View.read_apply]
  refine (congrArg (V m c main_v0) (Cert.Blocks.ext2 ?_ ?_)).trans (V_w m c l k)
  · show win0_1.index t 0 * 1024 + 1 * l.val = l.val; rw [(idx_all t).1.1]; omega
  · show win0_1.index t 1 * 1024 + 1 * k.val = k.val; rw [(idx_all t).1.2]; omega

theorem blk4_apply (t : Fin cfg0.N) (k : Fin 512) : iblk m c 4 t (ix2 0 k) = A4 m c (ix2 0 k) := by
  unfold iblk
  rw [View.read_apply]
  refine (congrArg (V m c main_arg4) (Cert.Blocks.ext2 ?_ ?_)).trans (congrFun (V_main_arg4 m c) _)
  · show win0_4.index t 0 * 1 + 1 * 0 = 0; rw [(idx_all t).2.1.1]
  · show win0_4.index t 1 * 512 + 1 * k.val = k.val; rw [(idx_all t).2.1.2]; omega

theorem blk5_apply (t : Fin cfg0.N) (k : Fin 512) : iblk m c 5 t (ix2 0 k) = A5 m c (ix2 0 k) := by
  unfold iblk
  rw [View.read_apply]
  refine (congrArg (V m c main_arg5) (Cert.Blocks.ext2 ?_ ?_)).trans (congrFun (V_main_arg5 m c) _)
  · show win0_5.index t 0 * 1 + 1 * 0 = 0; rw [(idx_all t).2.2.1.1]
  · show win0_5.index t 1 * 512 + 1 * k.val = k.val; rw [(idx_all t).2.2.1.2]; omega

/-! ## What a point leaves -/

/-- The gradient at the mixed rows: the product with the weights. -/
def dmE (R : Fin 8192) (l : Fin 1024) : EReal := ∑ k : Fin 1024, A0 m c (ix2 R k) * A1 m c (ix2 l k)

/-- Of a branch whose columns begin at `o`: the gradient at its rows, and a row's term of its gain's gradient. -/
def dxE (o : ℕ) (ho : o + 512 ≤ 1024) (x : Vec Ideal S8192x512 .f32) (g : Vec Ideal S1x512 .f32) (R : Fin 8192) (l : Fin 512) : EReal :=
  Cert.Rms.grad 1140850688 (fun k => x (ix2 R k)) (fun k => dmE m c R ⟨o + k.val, by omega⟩ * g (ix2 0 k)) l
def dgE (o : ℕ) (ho : o + 512 ≤ 1024) (x : Vec Ideal S8192x512 .f32) (l : Fin 512) (R : Fin 8192) : EReal :=
  dmE m c R ⟨o + l.val, by omega⟩ * (x (ix2 R l) * Cert.Rms.rstd 1140850688 fun k => x (ix2 R k))
def dgN (o : ℕ) (ho : o + 512 ≤ 1024) (x : Vec Ideal S8192x512 .f32) (l : Fin 512) (R : ℕ) : EReal :=
  if h : R < 8192 then dgE m c o ho x l ⟨R, h⟩ else 0

theorem u_apply (o : ℕ) (inb) (ho : o + 512 ≤ 1024) (t : Fin cfg0.N) (l : Fin 512) (k : Fin 1024) :
    View.ld (iblk m c 1 t : Vec Ideal S1024x1024 .bf16) (Rect.unit (s := S1024x1024) ![o, 0] S512x1024.size inb) (ix2 l k)
      = A1 m c (ix2 (⟨o + l.val, by omega⟩ : Fin 1024) k) := by
  refine Eq.trans (congrArg (iblk m c 1 t) ?_) (blk1_apply m c t ⟨o + l.val, by omega⟩ k)
  refine Cert.Blocks.ext2 ?_ ?_
  · show o + 1 * l.val = o + l.val; omega
  · show 0 + 1 * k.val = k.val; omega

theorem d0_eq (t : Fin cfg0.N) (r : Fin 1024) (l : Fin 512) :
    (k0_pay4 (iblk m c 0 t) (u0 (iblk m c 1 t)) (ix2 r l) : EReal) = dmE m c (rowOf t r) ⟨0 + l.val, by omega⟩ :=
  (d0_apply _ _ r l).trans (Finset.sum_congr rfl fun k _ =>
    congrArg₂ (fun a b : EReal => a * b) (blk0_apply m c t r k) (u_apply m c 0 _ (by omega) t l k))

theorem d1_eq (t : Fin cfg0.N) (r : Fin 1024) (l : Fin 512) :
    (k0_pay11 (k0_pay3 (iblk m c 0 t)) (u1 (iblk m c 1 t)) (ix2 r l) : EReal) = dmE m c (rowOf t r) ⟨512 + l.val, by omega⟩ :=
  (d1_apply _ _ r l).trans (Finset.sum_congr rfl fun k _ =>
    congrArg₂ (fun a b : EReal => a * b) (blk0_apply m c t r k) (u_apply m c 512 _ (by omega) t l k))

/-- A row of a point's block of a branch. -/
abbrev b2 (t : Fin cfg0.N) (r : Fin 1024) (k : Fin 512) : EReal := iblk m c 2 t (ix2 r k)
abbrev b3 (t : Fin cfg0.N) (r : Fin 1024) (k : Fin 512) : EReal := iblk m c 3 t (ix2 r k)

theorem b2_eq (t : Fin cfg0.N) (r : Fin 1024) : b2 m c t r = fun k => (A2 m c (ix2 (rowOf t r) k) : EReal) := funext fun k => blk2_apply m c t r k
theorem b3_eq (t : Fin cfg0.N) (r : Fin 1024) : b3 m c t r = fun k => (A3 m c (ix2 (rowOf t r) k) : EReal) := funext fun k => blk3_apply m c t r k

theorem after (t : Fin cfg0.N) :
    (outsAt0 m c t.val t.isLt).1 = k0_pay10 (k0_pay5 (iblk m c 2 t)) (k0_pay8 (iblk m c 0 t) (iblk m c 4 t) (u0 (iblk m c 1 t))) (k0_pay9 (iblk m c 0 t) (iblk m c 4 t) (u0 (iblk m c 1 t)) (iblk m c 2 t))
    ∧ (outsAt0 m c t.val t.isLt).2.1 = k0_pay15 (k0_pay3 (iblk m c 0 t)) (iblk m c 5 t) (u1 (iblk m c 1 t)) (iblk m c 3 t) := by
  by_cases h : t.val % 8 = 0
  · rw [outsAt0_A m c t h]
    dsimp only
    rw [dx0_A, dx1_A]
    exact ⟨rfl, rfl⟩
  · rw [outsAt0_B m c t h]
    dsimp only
    rw [dx0_B, dx1_B]
    exact ⟨rfl, rfl⟩

theorem dx0_point (t : Fin cfg0.N) (r : Fin 1024) (l : Fin 512) :
    ((outsAt0 m c t.val t.isLt).1 (ix2 r l) : EReal) = dxE m c 0 (by omega) (A2 m c) (A4 m c) (rowOf t r) l := by
  rw [(after m c t).1, dx0_apply]
  exact congrArg₂ (fun x d => Cert.Rms.grad 1140850688 x d l) (b2_eq m c t r)
    (funext fun k => congrArg₂ (fun a b : EReal => a * b) (d0_eq m c t r k) (blk4_apply m c t k))

theorem dx1_point (t : Fin cfg0.N) (r : Fin 1024) (l : Fin 512) :
    ((outsAt0 m c t.val t.isLt).2.1 (ix2 r l) : EReal) = dxE m c 512 (by omega) (A3 m c) (A5 m c) (rowOf t r) l := by
  rw [(after m c t).2, dx1_apply]
  exact congrArg₂ (fun x d => Cert.Rms.grad 1140850688 x d l) (b3_eq m c t r)
    (funext fun k => congrArg₂ (fun a b : EReal => a * b) (d1_eq m c t r k) (blk5_apply m c t k))

/-- What a point adds to the gains' gradients. -/
theorem dg0_step (t : Fin cfg0.N) (l : Fin 512) :
    (∑ r : Fin 1024, (k0_pay4 (iblk m c 0 t) (u0 (iblk m c 1 t)) (ix2 r l) : EReal) * (b2 m c t r l * Cert.Rms.rstd 1140850688 (b2 m c t r)))
      = ∑ r : Fin 1024, dgN m c 0 (by omega) (A2 m c) l (1024 * t.val + r.val) := by
  refine Finset.sum_congr rfl fun r _ => ?_
  have hr : 1024 * t.val + r.val < 8192 := (rowOf t r).isLt
  unfold dgN dgE
  rw [dif_pos hr, b2_eq]
  exact congrArg (fun z : EReal => z * _) (d0_eq m c t r l)

theorem dg1_step (t : Fin cfg0.N) (l : Fin 512) :
    (∑ r : Fin 1024, (k0_pay11 (k0_pay3 (iblk m c 0 t)) (u1 (iblk m c 1 t)) (ix2 r l) : EReal) * (b3 m c t r l * Cert.Rms.rstd 1140850688 (b3 m c t r)))
      = ∑ r : Fin 1024, dgN m c 512 (by omega) (A3 m c) l (1024 * t.val + r.val) := by
  refine Finset.sum_congr rfl fun r _ => ?_
  have hr : 1024 * t.val + r.val < 8192 := (rowOf t r).isLt
  unfold dgN dgE
  rw [dif_pos hr, b3_eq]
  exact congrArg (fun z : EReal => z * _) (d1_eq m c t r l)

theorem dg_point : ∀ (n : ℕ) (h : n < cfg0.N) (l : Fin 512),
    ((outsAt0 m c n h).2.2.1 (ix2 0 l) : EReal) = ∑ I ∈ Finset.range (n + 1), ∑ r : Fin 1024, dgN m c 0 (by omega) (A2 m c) l (1024 * I + r.val)
    ∧ ((outsAt0 m c n h).2.2.2 (ix2 0 l) : EReal) = ∑ I ∈ Finset.range (n + 1), ∑ r : Fin 1024, dgN m c 512 (by omega) (A3 m c) l (1024 * I + r.val) := by
  intro n
  induction n with
  | zero =>
    intro h l
    rw [outsAt0_A m c ⟨0, h⟩ rfl]
    dsimp only
    rw [dg0_A, dg1_A, dg0_apply, dg1_apply, zero0_apply, zero1_apply]
    refine ⟨?_, ?_⟩
    · rw [zero_add, Finset.sum_range_one]
      exact dg0_step m c ⟨0, h⟩ l
    · rw [zero_add, Finset.sum_range_one]
      exact dg1_step m c ⟨0, h⟩ l
  | succ n ih =>
    intro h l
    have hN := lt_of_lt_of_eq h N_0
    rw [outsAt0_B m c ⟨n + 1, h⟩ (by dsimp only; omega)]
    dsimp only
    rw [dg0_B, dg1_B, dg0_apply, dg1_apply]
    exact ⟨(congrArg₂ (fun a b : EReal => a + b) (ih (Nat.lt_of_succ_lt h) l).1 (dg0_step m c ⟨n + 1, h⟩ l)).trans (Finset.sum_range_succ _ _).symm,
      (congrArg₂ (fun a b : EReal => a + b) (ih (Nat.lt_of_succ_lt h) l).2 (dg1_step m c ⟨n + 1, h⟩ l)).trans (Finset.sum_range_succ _ _).symm⟩

/-! ## The result arrays -/

def dx0G : Vec Ideal S8192x512 .f32 := fun i => dxE m c 0 (by omega) (A2 m c) (A4 m c) (i 0) (i 1)
def dx1G : Vec Ideal S8192x512 .bf16 := fun i => dxE m c 512 (by omega) (A3 m c) (A5 m c) (i 0) (i 1)
def dg0G : Vec Ideal S1x512 .f32 := fun i => ∑ R : Fin 8192, dgE m c 0 (by omega) (A2 m c) (i 1) R
def dg1G : Vec Ideal S1x512 .f32 := fun i => ∑ R : Fin 8192, dgE m c 512 (by omega) (A3 m c) (i 1) R

theorem emb6 (t : Fin cfg0.N) (r : Fin 1024) (l : Fin 512) : ((cfg0.win 6).blk t).view.emb (ix2 r l) = (ix2 (rowOf t r) l : S8192x512.Idx) := by
  refine Cert.Blocks.ext2 ?_ ?_
  · show win0_6.index t 0 * 1024 + 1 * r.val = 1024 * t.val + r.val; rw [(idx_rows t).2.2.2.1.1]; omega
  · show win0_6.index t 1 * 512 + 1 * l.val = l.val; rw [(idx_rows t).2.2.2.1.2]; omega

theorem final_dx0 : (dats m 0 c).arrAt 6 cfg0.N = dx0G m c := by
  refine (dats m 0 c).arrAt_eq_of_cover 6 _ (fun t _ => ?_) fun i => ?_
  · rw [flushed6]
    funext y
    obtain ⟨r, l, rfl⟩ : ∃ (r : Fin 1024) (l : Fin 512), y = ix2 r l := ⟨y 0, y 1, eq_ix2 y⟩
    rw [View.read_apply]
    exact (dx0_point m c t r l).trans (congrArg (dx0G m c) (emb6 t r l)).symm
  · obtain ⟨R, l, rfl⟩ : ∃ (R : Fin 8192) (l : Fin 512), i = ix2 R l := ⟨i 0, i 1, eq_ix2 (n0 := 8192) (n1 := 512) i⟩
    have hN : R.val / 1024 < cfg0.N := lt_of_lt_of_eq (show _ < 8 by omega) N_0.symm
    have h := ((cfg0.win 6).blk ⟨R.val / 1024, hN⟩).view.emb_mem_set (ix2 (⟨R.val % 1024, by omega⟩ : Fin 1024) l)
    rw [emb6, show rowOf ⟨R.val / 1024, hN⟩ ⟨R.val % 1024, by omega⟩ = R from Fin.ext (by show 1024 * (R.val / 1024) + R.val % 1024 = R.val; omega)] at h
    exact ⟨_, (by decide +kernel : ∀ t : Fin grid0.N, (cfg0.win 6).flush t = true) _, h⟩

theorem emb7 (t : Fin cfg0.N) (r : Fin 1024) (l : Fin 512) : ((cfg0.win 7).blk t).view.emb (ix2 r l) = (ix2 (rowOf t r) l : S8192x512.Idx) := by
  refine Cert.Blocks.ext2 ?_ ?_
  · show win0_7.index t 0 * 1024 + 1 * r.val = 1024 * t.val + r.val; rw [(idx_rows t).2.2.2.2.1]; omega
  · show win0_7.index t 1 * 512 + 1 * l.val = l.val; rw [(idx_rows t).2.2.2.2.2]; omega

theorem final_dx1 : (dats m 0 c).arrAt 7 cfg0.N = dx1G m c := by
  refine (dats m 0 c).arrAt_eq_of_cover 7 _ (fun t _ => ?_) fun i => ?_
  · rw [flushed7]
    funext y
    obtain ⟨r, l, rfl⟩ : ∃ (r : Fin 1024) (l : Fin 512), y = ix2 r l := ⟨y 0, y 1, eq_ix2 y⟩
    rw [View.read_apply]
    exact (dx1_point m c t r l).trans (congrArg (dx1G m c) (emb7 t r l)).symm
  · obtain ⟨R, l, rfl⟩ : ∃ (R : Fin 8192) (l : Fin 512), i = ix2 R l := ⟨i 0, i 1, eq_ix2 (n0 := 8192) (n1 := 512) i⟩
    have hN : R.val / 1024 < cfg0.N := lt_of_lt_of_eq (show _ < 8 by omega) N_0.symm
    have h := ((cfg0.win 7).blk ⟨R.val / 1024, hN⟩).view.emb_mem_set (ix2 (⟨R.val % 1024, by omega⟩ : Fin 1024) l)
    rw [emb7, show rowOf ⟨R.val / 1024, hN⟩ ⟨R.val % 1024, by omega⟩ = R from Fin.ext (by show 1024 * (R.val / 1024) + R.val % 1024 = R.val; omega)] at h
    exact ⟨_, (by decide +kernel : ∀ t : Fin grid0.N, (cfg0.win 7).flush t = true) _, h⟩

theorem emb8 (t : Fin cfg0.N) (l : Fin 512) : ((cfg0.win 8).blk t).view.emb (ix2 0 l) = (ix2 0 l : S1x512.Idx) := by
  refine Cert.Blocks.ext2 ?_ ?_
  · show win0_8.index t 0 * 1 + 1 * 0 = 0; rw [(idx_all t).2.2.2.1.1]
  · show win0_8.index t 1 * 512 + 1 * l.val = l.val; rw [(idx_all t).2.2.2.1.2]; omega

theorem flush8 : ∀ t : Fin cfg0.N, (cfg0.win 8).flush t = true ↔ t.val = 7 :=
  (by decide +kernel : ∀ t : Fin grid0.N, _)

set_option maxRecDepth 65536 in
theorem final_dg0 : (dats m 0 c).arrAt 8 cfg0.N = dg0G m c := by
  refine (dats m 0 c).arrAt_eq_of_cover 8 _ (fun t hf => ?_) fun i => ?_
  · rw [flushed8]
    funext y
    obtain ⟨r, l, rfl⟩ : ∃ (r : Fin 1) (l : Fin 512), y = ix2 r l := ⟨y 0, y 1, eq_ix2 y⟩
    rw [View.read_apply, Subsingleton.elim r 0]
    have e : ((outsAt0 m c t.val t.isLt).2.2.1 (ix2 0 l) : EReal) = dg0G m c (ix2 0 l) := by
      refine (dg_point m c t.val t.isLt l).1.trans ?_
      rw [(flush8 t).1 hf]
      exact (Cert.Sums.sum_blocks 8 1024 8192 rfl (dgN m c 0 (by omega) (A2 m c) l)).trans (Finset.sum_congr rfl fun R _ => dif_pos R.isLt)
    exact e.trans (congrArg (dg0G m c) (emb8 t l)).symm
  · obtain ⟨R, l, rfl⟩ : ∃ (R : Fin 1) (l : Fin 512), i = ix2 R l := ⟨i 0, i 1, eq_ix2 (n0 := 1) (n1 := 512) i⟩
    rw [Subsingleton.elim R 0]
    have hN : 7 < cfg0.N := lt_of_lt_of_eq (show 7 < 8 by decide) N_0.symm
    have h := ((cfg0.win 8).blk ⟨7, hN⟩).view.emb_mem_set (ix2 0 l)
    rw [emb8] at h
    exact ⟨⟨7, hN⟩, (flush8 ⟨7, hN⟩).2 rfl, h⟩

theorem emb9 (t : Fin cfg0.N) (l : Fin 512) : ((cfg0.win 9).blk t).view.emb (ix2 0 l) = (ix2 0 l : S1x512.Idx) := by
  refine Cert.Blocks.ext2 ?_ ?_
  · show win0_9.index t 0 * 1 + 1 * 0 = 0; rw [(idx_all t).2.2.2.2.1]
  · show win0_9.index t 1 * 512 + 1 * l.val = l.val; rw [(idx_all t).2.2.2.2.2]; omega

theorem flush9 : ∀ t : Fin cfg0.N, (cfg0.win 9).flush t = true ↔ t.val = 7 :=
  (by decide +kernel : ∀ t : Fin grid0.N, _)

set_option maxRecDepth 65536 in
theorem final_dg1 : (dats m 0 c).arrAt 9 cfg0.N = dg1G m c := by
  refine (dats m 0 c).arrAt_eq_of_cover 9 _ (fun t hf => ?_) fun i => ?_
  · rw [flushed9]
    funext y
    obtain ⟨r, l, rfl⟩ : ∃ (r : Fin 1) (l : Fin 512), y = ix2 r l := ⟨y 0, y 1, eq_ix2 y⟩
    rw [View.read_apply, Subsingleton.elim r 0]
    have e : ((outsAt0 m c t.val t.isLt).2.2.2 (ix2 0 l) : EReal) = dg1G m c (ix2 0 l) := by
      refine (dg_point m c t.val t.isLt l).2.trans ?_
      rw [(flush9 t).1 hf]
      exact (Cert.Sums.sum_blocks 8 1024 8192 rfl (dgN m c 512 (by omega) (A3 m c) l)).trans (Finset.sum_congr rfl fun R _ => dif_pos R.isLt)
    exact e.trans (congrArg (dg1G m c) (emb9 t l)).symm
  · obtain ⟨R, l, rfl⟩ : ∃ (R : Fin 1) (l : Fin 512), i = ix2 R l := ⟨i 0, i 1, eq_ix2 (n0 := 1) (n1 := 512) i⟩
    rw [Subsingleton.elim R 0]
    have hN : 7 < cfg0.N := lt_of_lt_of_eq (show 7 < 8 by decide) N_0.symm
    have h := ((cfg0.win 9).blk ⟨7, hN⟩).view.emb_mem_set (ix2 0 l)
    rw [emb9] at h
    exact ⟨⟨7, hN⟩, (flush9 ⟨7, hN⟩).2 rfl, h⟩

end Cert.BwdMixIdeal.Mix

end
-- ==== Proof.BwdMixValue.lean ====
/-
  The output projection backward: the kernel's results are the reference's.
-/
module

public import proofs.«01_k».proof.Defs
public import proofs.«01_k».proof.Proof.BwdMixState
public import proofs.«01_k».proof.Proof.Gen.BwdMixRIdeal.Run
import Idealize.ShloMosaic.Lib.Pointwise
import Idealize.ShloMosaic.Lib.Claim

public section

set_option maxRecDepth 1048576

namespace Cert.BwdMixRIdeal.Value

open Cert.BwdMixRIdeal Cert.BwdMixRIdeal.Gen Idealize.ShloMosaic Idealize.ShloMosaic.TcCoe Idealize.SL.Sem Idealize.ShloMosaic.StableHlo

/-! ## The reference's arrays

Each is the reference's operations, with the arrays they start from as arguments. -/

abbrev Rows := FVec Ideal S8192x512 .f32
abbrev Gain := FVec Ideal S1x512 .f32

/-- The mean square with the small constant, one number per row, and its inverse root. -/
noncomputable def msT (x : Rows) : FVec Ideal S8192x1 .f32 :=
  addf (Host.divf (broadcastInDim S8192x1 ![0] bcast_S8192_S8192x1_0 (Host.reduceAdd (mulf x x) (constant S_ .f32 0x00000000#32) reducesTo_S8192x512_S8192_d1 h_S_))
    (broadcastInDim S8192x1 ![] bcast_S_S8192x1 (constant S_ .f32 0x44000000#32))) (broadcastInDim S8192x1 ![] bcast_S_S8192x1 (constant S_ .f32 0x358637BD#32))
noncomputable def rstdT (x : Rows) : FVec Ideal S8192x1 .f32 := Host.rsqrt (msT x)

/-- The gradient at the mixed rows, and the two branches' columns of it. -/
noncomputable def dmT (a : FVec Ideal S8192x1024 .f32) (w : FVec Ideal S1024x1024 .f32) : FVec Ideal S8192x1024 .f32 :=
  Host.dotGeneral dot_S8192x1024_S1024x1024_S8192x1024_1_1_0_0_n_n none a w
noncomputable def lowT (d : FVec Ideal S8192x1024 .f32) : Rows := extractStridedSlice S8192x512 ![0, 0] d slices_S8192x1024_S8192x512_0_0
noncomputable def highT (d : FVec Ideal S8192x1024 .f32) : Rows := extractStridedSlice S8192x512 ![0, 512] d slices_S8192x1024_S8192x512_0_512

/-- The gradients in a branch's gain and in its rows. -/
noncomputable def dgT (x : Rows) (dn : Rows) : Gain :=
  shapeCast _ (Host.reduceAdd (mulf (mulf x (broadcastInDim S8192x512 ![0, 1] bcast_S8192x1_S8192x512_0_1 (rstdT x))) dn)
    (constant S_ .f32 0x00000000#32) reducesTo_S8192x512_S512_d0 h_S_) shapeCasts_S512_S1x512
noncomputable def dT (dn : Rows) (g : Gain) : Rows := mulf dn (broadcastInDim S8192x512 ![0, 1] bcast_S1x512_S8192x512_0_1 g)
noncomputable def bT (x d : Rows) : Rows :=
  broadcastInDim S8192x512 ![0] bcast_S8192_S8192x512_0 (Host.reduceAdd (Host.divf (mulf (shapeCast _ (Host.reduceAdd (mulf x d)
    (constant S_ .f32 0x00000000#32) reducesTo_S8192x512_S8192_d1 h_S_) shapeCasts_S8192_S8192x1)
      (mulf (broadcastInDim S8192x1 ![] bcast_S_S8192x1 (constant S_ .f32 0xBF000000#32)) (Host.divf (rstdT x) (msT x))))
        (broadcastInDim S8192x1 ![] bcast_S_S8192x1 (constant S_ .f32 0x44000000#32))) (constant S_ .f32 0x00000000#32) reducesTo_S8192x1_S8192_d1 h_S_)
noncomputable def dxT (x d : Rows) : Rows :=
  addf (addf (mulf d (broadcastInDim S8192x512 ![0, 1] bcast_S8192x1_S8192x512_0_1 (rstdT x))) (mulf x (bT x d))) (mulf (bT x d) x)

/-! ## Their entries -/

theorem dg_entry (x dn : Rows) (l : Fin 512) :
    (dgT x dn (ix2 0 l) : EReal) = ∑ R : Fin 8192, dn (ix2 R l) * (x (ix2 R l) * Cert.Rms.rstd 1140850688 fun k => x (ix2 R k)) := by
  pointwise [dgT, rstdT, msT]
  exact Finset.sum_congr rfl fun R _ => mul_comm _ _

theorem dx_entry (x dn : Rows) (g : Gain) (R : Fin 8192) (l : Fin 512) :
    (dxT x (dT dn g) (ix2 R l) : EReal) = Cert.Rms.grad 1140850688 (fun k => x (ix2 R k)) (fun k => dn (ix2 R k) * g (ix2 0 k)) l := by
  pointwise [dxT, dT, bT, rstdT, msT]
  rw [Cert.Rms.grad_eq 1140850688 (Or.inr rfl) _ _ _ _ rfl, ← add_assoc]
  simp only [Fin.sum_univ_one]
  rfl

theorem low_entry (a : FVec Ideal S8192x1024 .f32) (w : FVec Ideal S1024x1024 .f32) (R : Fin 8192) (l : Fin 512) :
    (lowT (dmT a w) (ix2 R l) : EReal) = ∑ k : Fin 1024, a (ix2 R k) * w (ix2 (⟨0 + l.val, by omega⟩ : Fin 1024) k) := by
  pointwise [lowT, dmT]

theorem high_entry (a : FVec Ideal S8192x1024 .f32) (w : FVec Ideal S1024x1024 .f32) (R : Fin 8192) (l : Fin 512) :
    (highT (dmT a w) (ix2 R l) : EReal) = ∑ k : Fin 1024, a (ix2 R k) * w (ix2 (⟨512 + l.val, by omega⟩ : Fin 1024) k) := by
  pointwise [highT, dmT]

end Cert.BwdMixRIdeal.Value

namespace Cert.Proof.BwdMix

open Idealize.ShloMosaic Idealize.ShloMosaic.TcCoe Idealize.SL.Sem Cert.BwdMixIdeal.Mix Cert.BwdMixRIdeal.Value

variable (m : (ℓ : Loc Cert.BwdMixIdeal.nD Cert.BwdMixIdeal.τ Cert.BwdMixIdeal.sig) → Buf (Elt Ideal) ℓ) (c : Dev Cert.BwdMixIdeal.nD)

/-- The reference's two branches' columns, of the kernel's arguments. -/
noncomputable abbrev lowA : Rows := lowT (dmT (A0 m c) (A1 m c))
noncomputable abbrev highA : Rows := highT (dmT (A0 m c) (A1 m c))

theorem low_row (R : Fin 8192) (l : Fin 512) : (lowA m c (ix2 R l) : EReal) = dmE m c R ⟨0 + l.val, by omega⟩ := low_entry _ _ R l
theorem high_row (R : Fin 8192) (l : Fin 512) : (highA m c (ix2 R l) : EReal) = dmE m c R ⟨512 + l.val, by omega⟩ := high_entry _ _ R l

theorem dx0_eq : dxT (A2 m c) (dT (lowA m c) (A4 m c)) = dx0G m c := by
  funext i
  obtain ⟨R, l, rfl⟩ : ∃ (R : Fin 8192) (l : Fin 512), i = ix2 R l := ⟨i 0, i 1, eq_ix2 (n0 := 8192) (n1 := 512) i⟩
  refine (dx_entry (A2 m c) (lowA m c) (A4 m c) R l).trans ?_
  simp only [low_row]
  rfl

theorem dx1_eq : truncf .bf16 (dxT (A3 m c) (dT (highA m c) (A5 m c))) Cert.BwdMixRIdeal.Gen.bitsLt_bf16_f32 = dx1G m c := by
  funext i
  obtain ⟨R, l, rfl⟩ : ∃ (R : Fin 8192) (l : Fin 512), i = ix2 R l := ⟨i 0, i 1, eq_ix2 (n0 := 8192) (n1 := 512) i⟩
  refine (dx_entry (A3 m c) (highA m c) (A5 m c) R l).trans ?_
  simp only [high_row]
  rfl

theorem dg0_eq : dgT (A2 m c) (lowA m c) = dg0G m c := by
  funext i
  obtain ⟨r, l, rfl⟩ : ∃ (r : Fin 1) (l : Fin 512), i = ix2 r l := ⟨i 0, i 1, eq_ix2 (n0 := 1) (n1 := 512) i⟩
  rw [Subsingleton.elim r 0]
  refine (dg_entry (A2 m c) (lowA m c) l).trans ?_
  simp only [low_row]
  rfl

theorem dg1_eq : dgT (A3 m c) (highA m c) = dg1G m c := by
  funext i
  obtain ⟨r, l, rfl⟩ : ∃ (r : Fin 1) (l : Fin 512), i = ix2 r l := ⟨i 0, i 1, eq_ix2 (n0 := 1) (n1 := 512) i⟩
  rw [Subsingleton.elim r 0]
  refine (dg_entry (A3 m c) (highA m c) l).trans ?_
  simp only [high_row]
  rfl

/-- The kernel and the reference leave the same four gradients. -/
theorem algebraic : Cert.algebraic_BwdMixIdeal_BwdMixRIdeal := by
  intro m g m' g' _ hm
  refine ⟨fun c => dx0G m c, fun c => dx1G m c, fun c => dg0G m c, fun c => dg1G m c,
    (θ_run Cert.BwdMixIdeal.defs _ _).mono (fun r h c => ⟨(h c).1.trans (final_dx0 m c), (h c).2.1.trans (final_dx1 m c),
      (h c).2.2.1.trans (final_dg0 m c), (h c).2.2.2.1.trans (final_dg1 m c), (h c).2.2.2.2⟩) (Cert.BwdMixIdeal.Value.run_blocks m g), ?_⟩
  refine (θ_run Cert.BwdMixRIdeal.defs _ _).mono (fun r h c => ⟨(h c).1.trans ?_, (h c).2.1.trans ?_, (h c).2.2.1.trans ?_,
    (h c).2.2.2.1.trans ?_, (h c).2.2.2.2⟩) (Cert.BwdMixRIdeal.Value.run m' g')
  · unfold res_main_v72
    rw [(hm c).1, (hm c).2.1, (hm c).2.2.1, (hm c).2.2.2.2.1]
    exact dx0_eq m c
  · unfold res_main_v73
    rw [(hm c).1, (hm c).2.1, (hm c).2.2.2.1, (hm c).2.2.2.2.2]
    exact dx1_eq m c
  · rw [(hm c).1, (hm c).2.1, (hm c).2.2.1]
    exact dg0_eq m c
  · rw [(hm c).1, (hm c).2.1, (hm c).2.2.2.1]
    exact dg1_eq m c

end Cert.Proof.BwdMix

end
-- ==== Proof.BwdInBody.lean ====
/-
  The input projection backward: what one grid point leaves in its four result blocks, as the payloads of its stores.
-/
module

public import proofs.«01_k».proof.Proof.Gen.BwdInIdeal.Value
public import proofs.«01_k».proof.Proof.Blocks

@[expose] public section

noncomputable section

namespace Cert.BwdInIdeal.Proj

open Cert.BwdInIdeal Cert.BwdInIdeal.Gen Cert.BwdInIdeal.Value
open Idealize.ShloMosaic Idealize.ShloMosaic.TcCoe Idealize.SL.Sem

variable {F : FTy → Type} [FloatOps F]

/-- The five row blocks of the transposed weights, one for each piece of the gradient. -/
abbrev w0 (x : Vec F S2560x1024 .bf16) : Vec F S512x1024 .bf16 :=
  View.ld x (Rect.unit (s := S2560x1024) ![0, 0] S512x1024.size inb_S2560x1024_S512x1024_0_0)
abbrev w1 (x : Vec F S2560x1024 .bf16) : Vec F S512x1024 .bf16 :=
  View.ld x (Rect.unit (s := S2560x1024) ![512, 0] S512x1024.size inb_S2560x1024_S512x1024_512_0)
abbrev w2 (x : Vec F S2560x1024 .bf16) : Vec F S512x1024 .bf16 :=
  View.ld x (Rect.unit (s := S2560x1024) ![1024, 0] S512x1024.size inb_S2560x1024_S512x1024_1024_0)
abbrev w3 (x : Vec F S2560x1024 .bf16) : Vec F S512x1024 .bf16 :=
  View.ld x (Rect.unit (s := S2560x1024) ![1536, 0] S512x1024.size inb_S2560x1024_S512x1024_1536_0)
abbrev w4 (x : Vec F S2560x1024 .bf16) : Vec F S512x1024 .bf16 :=
  View.ld x (Rect.unit (s := S2560x1024) ![2048, 0] S512x1024.size inb_S2560x1024_S512x1024_2048_0)

/-- The gradient at the normalised rows: the sum of the five products. -/
abbrev dxnBlock (x0 x1 x2 x3 x4 : Vec F S512x512 .bf16) (x5 : Vec F S2560x1024 .bf16) : Vec F S512x1024 .f32 :=
  k0_pay4 (k0_pay3 x0 (w0 x5) x1 (w1 x5) x2 (w2 x5)) x3 (w3 x5) x4 (w4 x5)

/-- The five pieces, stored side by side. -/
def pieces (x0 x1 x2 x3 x4 : Vec F S512x512 .bf16) : Vec F S512x2560 .bf16 :=
  View.canon [⟨Rect.unit (s := S512x2560) ![0, 2048] S512x512.size inb_S512x2560_S512x512_0_2048, x4⟩,
    ⟨Rect.unit (s := S512x2560) ![0, 1536] S512x512.size inb_S512x2560_S512x512_0_1536, x3⟩,
    ⟨Rect.unit (s := S512x2560) ![0, 1024] S512x512.size inb_S512x2560_S512x512_0_1024, x2⟩,
    ⟨Rect.unit (s := S512x2560) ![0, 512] S512x512.size inb_S512x2560_S512x512_0_512, x1⟩,
    ⟨Rect.unit (s := S512x2560) ![0, 0] S512x512.size inb_S512x2560_S512x512_0_0, x0⟩]

variable (c : Dev nD) (i : grid0.Coords)
  (a1 : Memref sig .tc .vmem S512x512 .bf16) (h1 : a1.IsWhole)
  (a2 : Memref sig .tc .vmem S512x512 .bf16) (h2 : a2.IsWhole)
  (a3 : Memref sig .tc .vmem S512x512 .bf16) (h3 : a3.IsWhole)
  (a4 : Memref sig .tc .vmem S512x512 .bf16) (h4 : a4.IsWhole)
  (a5 : Memref sig .tc .vmem S512x512 .bf16) (h5 : a5.IsWhole)
  (a6 : Memref sig .tc .vmem S2560x1024 .bf16) (h6 : a6.IsWhole)
  (a7 : Memref sig .tc .vmem S512x1024 .f32) (h7 : a7.IsWhole)
  (a8 : Memref sig .tc .vmem S1x1024 .f32) (h8 : a8.IsWhole)
  (a9 : Memref sig .tc .vmem S512x1024 .f32) (h9 : a9.IsWhole)
  (a10 : Memref sig .tc .vmem S512x1024 .f32) (h10 : a10.IsWhole)
  (a11 : Memref sig .tc .vmem S512x2560 .bf16) (h11 : a11.IsWhole)
  (a12 : Memref sig .tc .vmem S512x1024 .bf16) (h12 : a12.IsWhole)
  (a13 : Memref sig .tc .vmem S1x1024 .f32) (h13 : a13.IsWhole)
  (x0 : Vec F S512x512 .bf16) (x1 : Vec F S512x512 .bf16) (x2 : Vec F S512x512 .bf16) (x3 : Vec F S512x512 .bf16) (x4 : Vec F S512x512 .bf16)
  (x5 : Vec F S2560x1024 .bf16) (x6 : Vec F S512x1024 .f32) (x7 : Vec F S1x1024 .f32) (x8 : Vec F S512x1024 .f32) (xo12 : Vec F S1x1024 .f32)

/-- At the first point: the gradient at the block's rows. -/
theorem dx_A (hc0 : cond0_0 i) :
    out0_A_9 c i a1 h1 a2 h2 a3 h3 a4 h4 a5 h5 a6 h6 a7 h7 a8 h8 a9 h9 a10 h10 a11 h11 a12 h12 a13 h13 hc0 x0 x1 x2 x3 x4 x5 x6 x7 x8 = k0_pay1 (dxnBlock x0 x1 x2 x3 x4 x5) x7 (k0_pay5 x6) (k0_pay6 x6) x8 := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

/-- At the first point: the five pieces side by side. -/
theorem dproj_A (hc0 : cond0_0 i) :
    out0_A_10 c i a1 h1 a2 h2 a3 h3 a4 h4 a5 h5 a6 h6 a7 h7 a8 h8 a9 h9 a10 h10 a11 h11 a12 h12 a13 h13 hc0 x0 x1 x2 x3 x4 x5 x6 x7 x8 = pieces x0 x1 x2 x3 x4 := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]
  rfl

/-- At the first point: the normalised rows. -/
theorem xn_A (hc0 : cond0_0 i) :
    out0_A_11 c i a1 h1 a2 h2 a3 h3 a4 h4 a5 h5 a6 h6 a7 h7 a8 h8 a9 h9 a10 h10 a11 h11 a12 h12 a13 h13 hc0 x0 x1 x2 x3 x4 x5 x6 x7 x8 = k0_pay7 x7 x6 := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

/-- At the first point: the gain's gradient. -/
theorem dg_A (hc0 : cond0_0 i) :
    out0_A_12 c i a1 h1 a2 h2 a3 h3 a4 h4 a5 h5 a6 h6 a7 h7 a8 h8 a9 h9 a10 h10 a11 h11 a12 h12 a13 h13 hc0 x0 x1 x2 x3 x4 x5 x6 x7 x8 = k0_pay8 (k0_pay3 x0 (w0 x5) x1 (w1 x5) x2 (w2 x5)) x3 (w3 x5) x4 (w4 x5) x6 k0_pay2 := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 x0 x1 x2 x3 x4 x5 x6 x7 x8)]
  unfold kernelRun0_A
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

/-- At a later point: the gradient at the block's rows. -/
theorem dx_B (hc0 : ¬cond0_0 i) :
    out0_B_9 c i a1 h1 a2 h2 a3 h3 a4 h4 a5 h5 a6 h6 a7 h7 a8 h8 a9 h9 a10 h10 a11 h11 a12 h12 a13 h13 hc0 x0 x1 x2 x3 x4 x5 x6 x7 x8 xo12 = k0_pay1 (dxnBlock x0 x1 x2 x3 x4 x5) x7 (k0_pay5 x6) (k0_pay6 x6) x8 := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 x0 x1 x2 x3 x4 x5 x6 x7 x8 xo12)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

/-- At a later point: the five pieces side by side. -/
theorem dproj_B (hc0 : ¬cond0_0 i) :
    out0_B_10 c i a1 h1 a2 h2 a3 h3 a4 h4 a5 h5 a6 h6 a7 h7 a8 h8 a9 h9 a10 h10 a11 h11 a12 h12 a13 h13 hc0 x0 x1 x2 x3 x4 x5 x6 x7 x8 xo12 = pieces x0 x1 x2 x3 x4 := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 x0 x1 x2 x3 x4 x5 x6 x7 x8 xo12)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]
  rfl

/-- At a later point: the normalised rows. -/
theorem xn_B (hc0 : ¬cond0_0 i) :
    out0_B_11 c i a1 h1 a2 h2 a3 h3 a4 h4 a5 h5 a6 h6 a7 h7 a8 h8 a9 h9 a10 h10 a11 h11 a12 h12 a13 h13 hc0 x0 x1 x2 x3 x4 x5 x6 x7 x8 xo12 = k0_pay7 x7 x6 := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 x0 x1 x2 x3 x4 x5 x6 x7 x8 xo12)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

/-- At a later point: the gain's gradient. -/
theorem dg_B (hc0 : ¬cond0_0 i) :
    out0_B_12 c i a1 h1 a2 h2 a3 h3 a4 h4 a5 h5 a6 h6 a7 h7 a8 h8 a9 h9 a10 h10 a11 h11 a12 h12 a13 h13 hc0 x0 x1 x2 x3 x4 x5 x6 x7 x8 xo12 = k0_pay8 (k0_pay3 x0 (w0 x5) x1 (w1 x5) x2 (w2 x5)) x3 (w3 x5) x4 (w4 x5) x6 xo12 := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 x0 x1 x2 x3 x4 x5 x6 x7 x8 xo12)]
  unfold kernelRun0_B
  dsimp only
  sl_unfold_words
  simp only [View.readAt_eq_ld, View.readCov_eq_canon', Cert.Blocks.canon_whole, Cert.Blocks.idx_whole, Cert.Blocks.ld_whole, h1.read_unread, h2.read_unread, h3.read_unread, h4.read_unread, h5.read_unread, h6.read_unread, h7.read_unread, h8.read_unread, h9.read_unread, h10.read_unread, h11.read_unread, h12.read_unread, h13.read_unread, shapeCast_self]

end Cert.BwdInIdeal.Proj

end
-- ==== Proof.BwdInState.lean ====
/-
  The input projection backward: the kernel's four result arrays, entry by entry.
-/
module

public import proofs.«01_k».proof.Proof.BwdInBody
public import proofs.«01_k».proof.Proof.Rms
public import proofs.«01_k».proof.Proof.Sums
public import Idealize.ShloMosaic.Lib.Pointwise
public import Idealize.ShloMosaic.Lib.Claim

@[expose] public section

noncomputable section

namespace Cert.BwdInIdeal.Proj

open Cert.BwdInIdeal Cert.BwdInIdeal.Gen Cert.BwdInIdeal.Value
open Idealize.ShloMosaic Idealize.ShloMosaic.TcCoe Idealize.SL.Sem

/-! ## The payloads, entry by entry -/

theorem dxn_apply (x0 x1 x2 x3 x4 : Vec Ideal S512x512 .bf16) (x5 : Vec Ideal S2560x1024 .bf16) (r : Fin 512) (l : Fin 1024) :
    (dxnBlock x0 x1 x2 x3 x4 x5 (ix2 r l) : EReal)
      = (∑ k : Fin 512, x0 (ix2 r k) * w0 x5 (ix2 k l)) + (∑ k : Fin 512, x1 (ix2 r k) * w1 x5 (ix2 k l)) + (∑ k : Fin 512, x2 (ix2 r k) * w2 x5 (ix2 k l))
        + (∑ k : Fin 512, x3 (ix2 r k) * w3 x5 (ix2 k l)) + ∑ k : Fin 512, x4 (ix2 r k) * w4 x5 (ix2 k l) := by
  pointwise [k0_pay4, k0_pay3]

theorem dx_apply (D : FVec Ideal S512x1024 .f32) (x7 : Vec Ideal S1x1024 .f32) (x6 x8 : Vec Ideal S512x1024 .f32) (r : Fin 512) (l : Fin 1024) :
    (k0_pay1 D x7 (k0_pay5 x6) (k0_pay6 x6) x8 (ix2 r l) : EReal)
      = x8 (ix2 r l) + Cert.Rms.grad 1149239296 (fun k => x6 (ix2 r k)) (fun k => D (ix2 r k) * x7 (ix2 0 k)) l := by
  pointwise [k0_pay1, k0_pay5, k0_pay6]
  rfl

theorem xn_apply (x7 : Vec Ideal S1x1024 .f32) (x6 : Vec Ideal S512x1024 .f32) (r : Fin 512) (l : Fin 1024) :
    (k0_pay7 x7 x6 (ix2 r l) : EReal) = Cert.Rms.row 1149239296 (fun k => x6 (ix2 r k)) (fun k => x7 (ix2 0 k)) l := by
  pointwise [k0_pay7, k0_pay5, k0_pay6]
  rfl

theorem dg_apply (x0 x1 x2 x3 x4 : Vec Ideal S512x512 .bf16) (x5 : Vec Ideal S2560x1024 .bf16) (x6 : Vec Ideal S512x1024 .f32) (xo : Vec Ideal S1x1024 .f32) (l : Fin 1024) :
    (k0_pay8 (k0_pay3 x0 (w0 x5) x1 (w1 x5) x2 (w2 x5)) x3 (w3 x5) x4 (w4 x5) x6 xo (ix2 0 l) : EReal)
      = xo (ix2 0 l) + ∑ r : Fin 512, dxnBlock x0 x1 x2 x3 x4 x5 (ix2 r l) * (x6 (ix2 r l) * Cert.Rms.rstd 1149239296 fun k => x6 (ix2 r k)) := by
  pointwise [k0_pay8, k0_pay5, k0_pay6]
  rfl

theorem zero_apply (l : Fin 1024) : (k0_pay2 (F := Ideal) (ix2 0 l) : EReal) = 0 := by
  pointwise [k0_pay2]

theorem pieces_apply (w : Fin 5 → Vec Ideal S512x512 .bf16) (q : Fin 5) (r k : Fin 512) :
    pieces (w 0) (w 1) (w 2) (w 3) (w 4) (ix2 r (⟨512 * q.val + k.val, by omega⟩ : Fin 2560)) = w q (ix2 r k) :=
  Cert.Blocks.canon_five w _ _ _ _ _ q r k

/-! ## The blocks of the arguments -/

variable (m : (ℓ : Loc nD τ sig) → Buf (Elt Ideal) ℓ) (c : Dev nD)

abbrev A0 : Vec Ideal S8192x512 .bf16 := m ((c : Thread nD τ).loc main_arg0)
abbrev A1 : Vec Ideal S8192x512 .bf16 := m ((c : Thread nD τ).loc main_arg1)
abbrev A2 : Vec Ideal S8192x512 .bf16 := m ((c : Thread nD τ).loc main_arg2)
abbrev A3 : Vec Ideal S8192x512 .bf16 := m ((c : Thread nD τ).loc main_arg3)
abbrev A4 : Vec Ideal S8192x512 .bf16 := m ((c : Thread nD τ).loc main_arg4)
abbrev A5 : Vec Ideal S1024x2560 .f32 := m ((c : Thread nD τ).loc main_arg5)
abbrev A6 : Vec Ideal S8192x1024 .f32 := m ((c : Thread nD τ).loc main_arg6)
abbrev A7 : Vec Ideal S1x1024 .f32 := m ((c : Thread nD τ).loc main_arg7)
abbrev A8 : Vec Ideal S8192x1024 .f32 := m ((c : Thread nD τ).loc main_arg8)

/-- The row of the arrays that row `r` of point `t`'s blocks is. -/
def rowOf (t : Fin cfg0.N) (r : Fin 512) : Fin 8192 := ⟨512 * t.val + r.val, by have := lt_of_lt_of_eq t.isLt N_0; omega⟩

/-- The weights as the kernel finds them: transposed. -/
theorem V_w (l : Fin 2560) (k : Fin 1024) : V m c main_v1 (ix2 l k) = A5 m c (ix2 k l) := by
  entry_read
  pointwise

/-- The row windows move by one block of rows a point; the others stay. -/
theorem idx_rows : ∀ t : Fin cfg0.N, (win0_0.index t (0 : Fin 2) = t.val ∧ win0_0.index t (1 : Fin 2) = 0) ∧ (win0_1.index t (0 : Fin 2) = t.val ∧ win0_1.index t (1 : Fin 2) = 0) ∧ (win0_2.index t (0 : Fin 2) = t.val ∧ win0_2.index t (1 : Fin 2) = 0) ∧ (win0_3.index t (0 : Fin 2) = t.val ∧ win0_3.index t (1 : Fin 2) = 0) ∧ (win0_4.index t (0 : Fin 2) = t.val ∧ win0_4.index t (1 : Fin 2) = 0) ∧ (win0_6.index t (0 : Fin 2) = t.val ∧ win0_6.index t (1 : Fin 2) = 0) ∧ (win0_8.index t (0 : Fin 2) = t.val ∧ win0_8.index t (1 : Fin 2) = 0) ∧ (win0_9.index t (0 : Fin 2) = t.val ∧ win0_9.index t (1 : Fin 2) = 0) ∧ (win0_10.index t (0 : Fin 2) = t.val ∧ win0_10.index t (1 : Fin 2) = 0) ∧ (win0_11.index t (0 : Fin 2) = t.val ∧ win0_11.index t (1 : Fin 2) = 0) :=
  (by decide +kernel : ∀ t : Fin grid0.N, _)
theorem idx_all : ∀ t : Fin cfg0.N, (win0_5.index t (0 : Fin 2) = 0 ∧ win0_5.index t (1 : Fin 2) = 0) ∧ (win0_7.index t (0 : Fin 2) = 0 ∧ win0_7.index t (1 : Fin 2) = 0) ∧ (win0_12.index t (0 : Fin 2) = 0 ∧ win0_12.index t (1 : Fin 2) = 0) :=
  (by decide +kernel : ∀ t : Fin grid0.N, _)

theorem blk0_apply (t : Fin cfg0.N) (r : Fin 512) (k : Fin 512) : iblk m c 0 t (ix2 r k) = A0 m c (ix2 (rowOf t r) k) := by
  unfold iblk
  rw [View.read_apply]
  refine (congrArg (V m c main_arg0) (Cert.Blocks.ext2 ?_ ?_)).trans (congrFun (V_main_arg0 m c) _)
  · show win0_0.index t 0 * 512 + 1 * r.val = 512 * t.val + r.val; rw [(idx_rows t).1.1]; omega
  · show win0_0.index t 1 * 512 + 1 * k.val = k.val; rw [(idx_rows t).1.2]; omega

theorem blk1_apply (t : Fin cfg0.N) (r : Fin 512) (k : Fin 512) : iblk m c 1 t (ix2 r k) = A1 m c (ix2 (rowOf t r) k) := by
  unfold iblk
  rw [View.read_apply]
  refine (congrArg (V m c main_arg1) (Cert.Blocks.ext2 ?_ ?_)).trans (congrFun (V_main_arg1 m c) _)
  · show win0_1.index t 0 * 512 + 1 * r.val = 512 * t.val + r.val; rw [(idx_rows t).2.1.1]; omega
  · show win0_1.index t 1 * 512 + 1 * k.val = k.val; rw [(idx_rows t).2.1.2]; omega

theorem blk2_apply (t : Fin cfg0.N) (r : Fin 512) (k : Fin 512) : iblk m c 2 t (ix2 r k) = A2 m c (ix2 (rowOf t r) k) := by
  unfold iblk
  rw [View.read_apply]
  refine (congrArg (V m c main_arg2) (Cert.Blocks.ext2 ?_ ?_)).trans (congrFun (V_main_arg2 m c) _)
  · show win0_2.index t 0 * 512 + 1 * r.val = 512 * t.val + r.val; rw [(idx_rows t).2.2.1.1]; omega
  · show win0_2.index t 1 * 512 + 1 * k.val = k.val; rw [(idx_rows t).2.2.1.2]; omega

theorem blk3_apply (t : Fin cfg0.N) (r : Fin 512) (k : Fin 512) : iblk m c 3 t (ix2 r k) = A3 m c (ix2 (rowOf t r) k) := by
  unfold iblk
  rw [View.read_apply]
  refine (congrArg (V m c main_arg3) (Cert.Blocks.ext2 ?_ ?_)).trans (congrFun (V_main_arg3 m c) _)
  · show win0_3.index t 0 * 512 + 1 * r.val = 512 * t.val + r.val; rw [(idx_rows t).2.2.2.1.1]; omega
  · show win0_3.index t 1 * 512 + 1 * k.val = k.val; rw [(idx_rows t).2.2.2.1.2]; omega

theorem blk4_apply (t : Fin cfg0.N) (r : Fin 512) (k : Fin 512) : iblk m c 4 t (ix2 r k) = A4 m c (ix2 (rowOf t r) k) := by
  unfold iblk
  rw [View.read_apply]
  refine (congrArg (V m c main_arg4) (Cert.Blocks.ext2 ?_ ?_)).trans (congrFun (V_main_arg4 m c) _)
  · show win0_4.index t 0 * 512 + 1 * r.val = 512 * t.val + r.val; rw [(idx_rows t).2.2.2.2.1.1]; omega
  · show win0_4.index t 1 * 512 + 1 * k.val = k.val; rw [(idx_rows t).2.2.2.2.1.2]; omega

theorem blk6_apply (t : Fin cfg0.N) (r : Fin 512) (k : Fin 1024) : iblk m c 6 t (ix2 r k) = A6 m c (ix2 (rowOf t r) k) := by
  unfold iblk
  rw [View.read_apply]
  refine (congrArg (V m c main_arg6) (Cert.Blocks.ext2 ?_ ?_)).trans (congrFun (V_main_arg6 m c) _)
  · show win0_6.index t 0 * 512 + 1 * r.val = 512 * t.val + r.val; rw [(idx_rows t).2.2.2.2.2.1.1]; omega
  · show win0_6.index t 1 * 1024 + 1 * k.val = k.val; rw [(idx_rows t).2.2.2.2.2.1.2]; omega

theorem blk8_apply (t : Fin cfg0.N) (r : Fin 512) (k : Fin 1024) : iblk m c 8 t (ix2 r k) = A8 m c (ix2 (rowOf t r) k) := by
  unfold iblk
  rw [View.read_apply]
  refine (congrArg (V m c main_arg8) (Cert.Blocks.ext2 ?_ ?_)).trans (congrFun (V_main_arg8 m c) _)
  · show win0_8.index t 0 * 512 + 1 * r.val = 512 * t.val + r.val; rw [(idx_rows t).2.2.2.2.2.2.1.1]; omega
  · show win0_8.index t 1 * 1024 + 1 * k.val = k.val; rw [(idx_rows t).2.2.2.2.2.2.1.2]; omega

theorem blk5_apply (t : Fin cfg0.N) (l : Fin 2560) (k : Fin 1024) : iblk m c 5 t (ix2 l k) = A5 m c (ix2 k l) := by
  unfold iblk
  rw [View.read_apply]
  refine (congrArg (V m c main_v1) (Cert.Blocks.ext2 ?_ ?_)).trans (V_w m c l k)
  · show win0_5.index t 0 * 2560 + 1 * l.val = l.val; rw [(idx_all t).1.1]; omega
  · show win0_5.index t 1 * 1024 + 1 * k.val = k.val; rw [(idx_all t).1.2]; omega

theorem blk7_apply (t : Fin cfg0.N) (k : Fin 1024) : iblk m c 7 t (ix2 0 k) = A7 m c (ix2 0 k) := by
  unfold iblk
  rw [View.read_apply]
  refine (congrArg (V m c main_arg7) (Cert.Blocks.ext2 ?_ ?_)).trans (congrFun (V_main_arg7 m c) _)
  · show win0_7.index t 0 * 1 + 1 * 0 = 0; rw [(idx_all t).2.1.1]
  · show win0_7.index t 1 * 1024 + 1 * k.val = k.val; rw [(idx_all t).2.1.2]; omega

/-! ## The gradient at the normalised rows -/

/-- The five pieces of the projection's gradient, side by side, and its product with the weights. -/
abbrev piece : Fin 5 → Vec Ideal S8192x512 .bf16 := ![A0 m c, A1 m c, A2 m c, A3 m c, A4 m c]
def dprojE (R : Fin 8192) (j : Fin 2560) : EReal := piece m c ⟨j.val / 512, by omega⟩ (ix2 R (⟨j.val % 512, by omega⟩ : Fin 512))
def dxnE (R : Fin 8192) (l : Fin 1024) : EReal := ∑ j : Fin 2560, dprojE m c R j * A5 m c (ix2 l j)

theorem w_apply (o : ℕ) (inb) (ho : o + 512 ≤ 2560) (t : Fin cfg0.N) (k : Fin 512) (l : Fin 1024) :
    View.ld (iblk m c 5 t : Vec Ideal S2560x1024 .bf16) (Rect.unit (s := S2560x1024) ![o, 0] S512x1024.size inb) (ix2 k l)
      = A5 m c (ix2 l (⟨o + k.val, by omega⟩ : Fin 2560)) := by
  refine Eq.trans (congrArg (iblk m c 5 t) ?_) (blk5_apply m c t ⟨o + k.val, by omega⟩ l)
  refine Cert.Blocks.ext2 ?_ ?_
  · show o + 1 * k.val = o + k.val; omega
  · show 0 + 1 * l.val = l.val; omega

theorem dxn_eq (t : Fin cfg0.N) (r : Fin 512) (l : Fin 1024) :
    (dxnBlock (iblk m c 0 t) (iblk m c 1 t) (iblk m c 2 t) (iblk m c 3 t) (iblk m c 4 t) (iblk m c 5 t) (ix2 r l) : EReal) = dxnE m c (rowOf t r) l := by
  have h := Cert.Sums.sum_blocks 5 512 2560 rfl (fun j => if h : j < 2560 then dprojE m c (rowOf t r) ⟨j, h⟩ * A5 m c (ix2 l ⟨j, h⟩) else 0)
  have e : ∀ (q : Fin 5) (k : Fin 512), (if h : 512 * q.val + k.val < 2560 then dprojE m c (rowOf t r) ⟨512 * q.val + k.val, h⟩ * A5 m c (ix2 l ⟨512 * q.val + k.val, h⟩) else 0)
      = (piece m c q (ix2 (rowOf t r) k) : EReal) * A5 m c (ix2 l (⟨512 * q.val + k.val, by omega⟩ : Fin 2560)) := by
    intro q k
    rw [dif_pos (by omega)]
    unfold dprojE
    have e1 : (⟨(512 * q.val + k.val) / 512, by omega⟩ : Fin 5) = q := Fin.ext (by dsimp only; omega)
    have e2 : (⟨(512 * q.val + k.val) % 512, by omega⟩ : Fin 512) = k := Fin.ext (by dsimp only; omega)
    dsimp only
    rw [e1, e2]
  have h' : dxnE m c (rowOf t r) l = _ := (Finset.sum_congr rfl fun j _ => by rw [dif_pos j.isLt]).trans h.symm
  rw [dxn_apply, h']
  simp only [Finset.sum_range_succ, Finset.sum_range_zero, zero_add]
  refine congrArg₂ (· + ·) (congrArg₂ (· + ·) (congrArg₂ (· + ·) (congrArg₂ (· + ·) ?_ ?_) ?_) ?_) ?_
  · exact Finset.sum_congr rfl fun k _ => (congrArg₂ (fun a b : EReal => a * b) (blk0_apply m c t r k) (w_apply m c 0 _ (by omega) t k l)).trans (e 0 k).symm
  · exact Finset.sum_congr rfl fun k _ => (congrArg₂ (fun a b : EReal => a * b) (blk1_apply m c t r k) (w_apply m c 512 _ (by omega) t k l)).trans (e 1 k).symm
  · exact Finset.sum_congr rfl fun k _ => (congrArg₂ (fun a b : EReal => a * b) (blk2_apply m c t r k) (w_apply m c 1024 _ (by omega) t k l)).trans (e 2 k).symm
  · exact Finset.sum_congr rfl fun k _ => (congrArg₂ (fun a b : EReal => a * b) (blk3_apply m c t r k) (w_apply m c 1536 _ (by omega) t k l)).trans (e 3 k).symm
  · exact Finset.sum_congr rfl fun k _ => (congrArg₂ (fun a b : EReal => a * b) (blk4_apply m c t r k) (w_apply m c 2048 _ (by omega) t k l)).trans (e 4 k).symm

/-! ## What a point leaves -/

/-- The rows a point works on, and the gradient's terms. -/
abbrev x6 (R : Fin 8192) (k : Fin 1024) : EReal := A6 m c (ix2 R k)
abbrev g7 (k : Fin 1024) : EReal := A7 m c (ix2 0 k)
def dxE (R : Fin 8192) (l : Fin 1024) : EReal := A8 m c (ix2 R l) + Cert.Rms.grad 1149239296 (x6 m c R) (fun k => dxnE m c R k * g7 m c k) l
def xnE (R : Fin 8192) (l : Fin 1024) : EReal := Cert.Rms.row 1149239296 (x6 m c R) (g7 m c) l
def dgE (l : Fin 1024) (R : Fin 8192) : EReal := dxnE m c R l * (x6 m c R l * Cert.Rms.rstd 1149239296 (x6 m c R))
def dgN (l : Fin 1024) (R : ℕ) : EReal := if h : R < 8192 then dgE m c l ⟨R, h⟩ else 0

/-- A row of a point's block of rows. -/
abbrev b6 (t : Fin cfg0.N) (r : Fin 512) (k : Fin 1024) : EReal := iblk m c 6 t (ix2 r k)

theorem rows_eq (t : Fin cfg0.N) (r : Fin 512) :
    (fun k => (iblk m c 6 t (ix2 r k) : EReal)) = x6 m c (rowOf t r) ∧ (fun k => (iblk m c 7 t (ix2 0 k) : EReal)) = g7 m c :=
  ⟨funext fun k => blk6_apply m c t r k, funext fun k => blk7_apply m c t k⟩

theorem after (t : Fin cfg0.N) :
    (outsAt0 m c t.val t.isLt).1 = k0_pay1 (dxnBlock (iblk m c 0 t) (iblk m c 1 t) (iblk m c 2 t) (iblk m c 3 t) (iblk m c 4 t) (iblk m c 5 t)) (iblk m c 7 t) (k0_pay5 (iblk m c 6 t)) (k0_pay6 (iblk m c 6 t)) (iblk m c 8 t)
    ∧ (outsAt0 m c t.val t.isLt).2.1 = pieces (iblk m c 0 t) (iblk m c 1 t) (iblk m c 2 t) (iblk m c 3 t) (iblk m c 4 t)
    ∧ (outsAt0 m c t.val t.isLt).2.2.1 = k0_pay7 (iblk m c 7 t) (iblk m c 6 t) := by
  by_cases h : t.val % 16 = 0
  · rw [outsAt0_A m c t h]
    dsimp only
    rw [dx_A, dproj_A, xn_A]
    exact ⟨rfl, rfl, rfl⟩
  · rw [outsAt0_B m c t h]
    dsimp only
    rw [dx_B, dproj_B, xn_B]
    exact ⟨rfl, rfl, rfl⟩

theorem dx_point (t : Fin cfg0.N) (r : Fin 512) (l : Fin 1024) : ((outsAt0 m c t.val t.isLt).1 (ix2 r l) : EReal) = dxE m c (rowOf t r) l := by
  rw [(after m c t).1, dx_apply, (rows_eq m c t r).1]
  unfold dxE
  refine congrArg₂ (· + ·) (blk8_apply m c t r l) (congrArg (fun d => Cert.Rms.grad 1149239296 (x6 m c (rowOf t r)) d l) (funext fun k => ?_))
  exact congrArg₂ (fun a b : EReal => a * b) (dxn_eq m c t r k) (blk7_apply m c t k)

theorem xn_point (t : Fin cfg0.N) (r : Fin 512) (l : Fin 1024) : ((outsAt0 m c t.val t.isLt).2.2.1 (ix2 r l) : EReal) = xnE m c (rowOf t r) l := by
  rw [(after m c t).2.2, xn_apply, (rows_eq m c t r).1, (rows_eq m c t r).2]
  rfl

theorem dproj_point (t : Fin cfg0.N) (r : Fin 512) (j : Fin 2560) : ((outsAt0 m c t.val t.isLt).2.1 (ix2 r j) : EReal) = dprojE m c (rowOf t r) j := by
  rw [(after m c t).2.1]
  have e : j = (⟨512 * (⟨j.val / 512, by omega⟩ : Fin 5).val + (⟨j.val % 512, by omega⟩ : Fin 512).val, by dsimp only; omega⟩ : Fin 2560) := Fin.ext (by dsimp only; omega)
  conv_lhs => rw [e]
  refine (pieces_apply ![iblk m c 0 t, iblk m c 1 t, iblk m c 2 t, iblk m c 3 t, iblk m c 4 t] _ r _).trans ?_
  unfold dprojE
  generalize (⟨j.val / 512, by omega⟩ : Fin 5) = q
  match q with
  | 0 => exact blk0_apply m c t r _
  | 1 => exact blk1_apply m c t r _
  | 2 => exact blk2_apply m c t r _
  | 3 => exact blk3_apply m c t r _
  | 4 => exact blk4_apply m c t r _

/-- What a point adds to the gain's gradient. -/
theorem dg_step (t : Fin cfg0.N) (l : Fin 1024) :
    (∑ r : Fin 512, (dxnBlock (iblk m c 0 t) (iblk m c 1 t) (iblk m c 2 t) (iblk m c 3 t) (iblk m c 4 t) (iblk m c 5 t) (ix2 r l) : EReal)
        * (b6 m c t r l * Cert.Rms.rstd 1149239296 (b6 m c t r)))
      = ∑ r : Fin 512, dgN m c l (512 * t.val + r.val) := by
  refine Finset.sum_congr rfl fun r _ => ?_
  have hr : 512 * t.val + r.val < 8192 := (rowOf t r).isLt
  unfold dgN dgE
  rw [dif_pos hr, show b6 m c t r = x6 m c (rowOf t r) from (rows_eq m c t r).1]
  exact congrArg (fun z : EReal => z * _) (dxn_eq m c t r l)

theorem dg_point : ∀ (n : ℕ) (h : n < cfg0.N) (l : Fin 1024),
    ((outsAt0 m c n h).2.2.2 (ix2 0 l) : EReal) = ∑ I ∈ Finset.range (n + 1), ∑ r : Fin 512, dgN m c l (512 * I + r.val) := by
  intro n
  induction n with
  | zero =>
    intro h l
    rw [outsAt0_A m c ⟨0, h⟩ rfl]
    dsimp only
    rw [dg_A, dg_apply, zero_apply, zero_add, Finset.sum_range_one]
    exact dg_step m c ⟨0, h⟩ l
  | succ n ih =>
    intro h l
    have hN := lt_of_lt_of_eq h N_0
    rw [outsAt0_B m c ⟨n + 1, h⟩ (by dsimp only; omega)]
    dsimp only
    rw [dg_B, dg_apply, Finset.sum_range_succ]
    exact congrArg₂ (· + ·) (ih (Nat.lt_of_succ_lt h) l) (dg_step m c ⟨n + 1, h⟩ l)

/-! ## The result arrays -/

def dxG : Vec Ideal S8192x1024 .f32 := fun i => dxE m c (i 0) (i 1)
def dprojG : Vec Ideal S8192x2560 .bf16 := fun i => dprojE m c (i 0) (i 1)
def xnG : Vec Ideal S8192x1024 .bf16 := fun i => xnE m c (i 0) (i 1)
def dgG : Vec Ideal S1x1024 .f32 := fun i => ∑ R : Fin 8192, dgE m c (i 1) R

theorem emb9 (t : Fin cfg0.N) (r : Fin 512) (l : Fin 1024) : ((cfg0.win 9).blk t).view.emb (ix2 r l) = (ix2 (rowOf t r) l : S8192x1024.Idx) := by
  refine Cert.Blocks.ext2 ?_ ?_
  · show win0_9.index t 0 * 512 + 1 * r.val = 512 * t.val + r.val; rw [(idx_rows t).2.2.2.2.2.2.2.1.1]; omega
  · show win0_9.index t 1 * 1024 + 1 * l.val = l.val; rw [(idx_rows t).2.2.2.2.2.2.2.1.2]; omega

theorem final_dx : (dats m 0 c).arrAt 9 cfg0.N = dxG m c := by
  refine (dats m 0 c).arrAt_eq_of_cover 9 _ (fun t _ => ?_) fun i => ?_
  · rw [flushed9]
    funext y
    obtain ⟨r, l, rfl⟩ : ∃ (r : Fin 512) (l : Fin 1024), y = ix2 r l := ⟨y 0, y 1, eq_ix2 y⟩
    rw [View.read_apply]
    exact (dx_point m c t r l).trans (congrArg (dxG m c) (emb9 t r l)).symm
  · obtain ⟨R, l, rfl⟩ : ∃ (R : Fin 8192) (l : Fin 1024), i = ix2 R l := ⟨i 0, i 1, eq_ix2 (n0 := 8192) (n1 := 1024) i⟩
    have hN : R.val / 512 < cfg0.N := lt_of_lt_of_eq (show _ < 16 by omega) N_0.symm
    have h := ((cfg0.win 9).blk ⟨R.val / 512, hN⟩).view.emb_mem_set (ix2 (⟨R.val % 512, by omega⟩ : Fin 512) l)
    rw [emb9, show rowOf ⟨R.val / 512, hN⟩ ⟨R.val % 512, by omega⟩ = R from Fin.ext (by show 512 * (R.val / 512) + R.val % 512 = R.val; omega)] at h
    exact ⟨_, (by decide +kernel : ∀ t : Fin grid0.N, (cfg0.win 9).flush t = true) _, h⟩

theorem emb10 (t : Fin cfg0.N) (r : Fin 512) (l : Fin 2560) : ((cfg0.win 10).blk t).view.emb (ix2 r l) = (ix2 (rowOf t r) l : S8192x2560.Idx) := by
  refine Cert.Blocks.ext2 ?_ ?_
  · show win0_10.index t 0 * 512 + 1 * r.val = 512 * t.val + r.val; rw [(idx_rows t).2.2.2.2.2.2.2.2.1.1]; omega
  · show win0_10.index t 1 * 2560 + 1 * l.val = l.val; rw [(idx_rows t).2.2.2.2.2.2.2.2.1.2]; omega

theorem final_dproj : (dats m 0 c).arrAt 10 cfg0.N = dprojG m c := by
  refine (dats m 0 c).arrAt_eq_of_cover 10 _ (fun t _ => ?_) fun i => ?_
  · rw [flushed10]
    funext y
    obtain ⟨r, l, rfl⟩ : ∃ (r : Fin 512) (l : Fin 2560), y = ix2 r l := ⟨y 0, y 1, eq_ix2 y⟩
    rw [View.read_apply]
    exact (dproj_point m c t r l).trans (congrArg (dprojG m c) (emb10 t r l)).symm
  · obtain ⟨R, l, rfl⟩ : ∃ (R : Fin 8192) (l : Fin 2560), i = ix2 R l := ⟨i 0, i 1, eq_ix2 (n0 := 8192) (n1 := 2560) i⟩
    have hN : R.val / 512 < cfg0.N := lt_of_lt_of_eq (show _ < 16 by omega) N_0.symm
    have h := ((cfg0.win 10).blk ⟨R.val / 512, hN⟩).view.emb_mem_set (ix2 (⟨R.val % 512, by omega⟩ : Fin 512) l)
    rw [emb10, show rowOf ⟨R.val / 512, hN⟩ ⟨R.val % 512, by omega⟩ = R from Fin.ext (by show 512 * (R.val / 512) + R.val % 512 = R.val; omega)] at h
    exact ⟨_, (by decide +kernel : ∀ t : Fin grid0.N, (cfg0.win 10).flush t = true) _, h⟩

theorem emb11 (t : Fin cfg0.N) (r : Fin 512) (l : Fin 1024) : ((cfg0.win 11).blk t).view.emb (ix2 r l) = (ix2 (rowOf t r) l : S8192x1024.Idx) := by
  refine Cert.Blocks.ext2 ?_ ?_
  · show win0_11.index t 0 * 512 + 1 * r.val = 512 * t.val + r.val; rw [(idx_rows t).2.2.2.2.2.2.2.2.2.1]; omega
  · show win0_11.index t 1 * 1024 + 1 * l.val = l.val; rw [(idx_rows t).2.2.2.2.2.2.2.2.2.2]; omega

theorem final_xn : (dats m 0 c).arrAt 11 cfg0.N = xnG m c := by
  refine (dats m 0 c).arrAt_eq_of_cover 11 _ (fun t _ => ?_) fun i => ?_
  · rw [flushed11]
    funext y
    obtain ⟨r, l, rfl⟩ : ∃ (r : Fin 512) (l : Fin 1024), y = ix2 r l := ⟨y 0, y 1, eq_ix2 y⟩
    rw [View.read_apply]
    exact (xn_point m c t r l).trans (congrArg (xnG m c) (emb11 t r l)).symm
  · obtain ⟨R, l, rfl⟩ : ∃ (R : Fin 8192) (l : Fin 1024), i = ix2 R l := ⟨i 0, i 1, eq_ix2 (n0 := 8192) (n1 := 1024) i⟩
    have hN : R.val / 512 < cfg0.N := lt_of_lt_of_eq (show _ < 16 by omega) N_0.symm
    have h := ((cfg0.win 11).blk ⟨R.val / 512, hN⟩).view.emb_mem_set (ix2 (⟨R.val % 512, by omega⟩ : Fin 512) l)
    rw [emb11, show rowOf ⟨R.val / 512, hN⟩ ⟨R.val % 512, by omega⟩ = R from Fin.ext (by show 512 * (R.val / 512) + R.val % 512 = R.val; omega)] at h
    exact ⟨_, (by decide +kernel : ∀ t : Fin grid0.N, (cfg0.win 11).flush t = true) _, h⟩

theorem emb12 (t : Fin cfg0.N) (l : Fin 1024) : ((cfg0.win 12).blk t).view.emb (ix2 0 l) = (ix2 0 l : S1x1024.Idx) := by
  refine Cert.Blocks.ext2 ?_ ?_
  · show win0_12.index t 0 * 1 + 1 * 0 = 0; rw [(idx_all t).2.2.1]
  · show win0_12.index t 1 * 1024 + 1 * l.val = l.val; rw [(idx_all t).2.2.2]; omega

theorem flush12 : ∀ t : Fin cfg0.N, (cfg0.win 12).flush t = true ↔ t.val = 15 :=
  (by decide +kernel : ∀ t : Fin grid0.N, _)

set_option maxRecDepth 65536 in
theorem final_dg : (dats m 0 c).arrAt 12 cfg0.N = dgG m c := by
  refine (dats m 0 c).arrAt_eq_of_cover 12 _ (fun t hf => ?_) fun i => ?_
  · rw [flushed12]
    funext y
    obtain ⟨r, l, rfl⟩ : ∃ (r : Fin 1) (l : Fin 1024), y = ix2 r l := ⟨y 0, y 1, eq_ix2 y⟩
    rw [View.read_apply, Subsingleton.elim r 0]
    have e : ((outsAt0 m c t.val t.isLt).2.2.2 (ix2 0 l) : EReal) = dgG m c (ix2 0 l) := by
      refine (dg_point m c t.val t.isLt l).trans ?_
      rw [(flush12 t).1 hf]
      exact (Cert.Sums.sum_blocks 16 512 8192 rfl (dgN m c l)).trans (Finset.sum_congr rfl fun R _ => dif_pos R.isLt)
    exact e.trans (congrArg (dgG m c) (emb12 t l)).symm
  · obtain ⟨R, l, rfl⟩ : ∃ (R : Fin 1) (l : Fin 1024), i = ix2 R l := ⟨i 0, i 1, eq_ix2 (n0 := 1) (n1 := 1024) i⟩
    rw [Subsingleton.elim R 0]
    have hN : 15 < cfg0.N := lt_of_lt_of_eq (show 15 < 16 by decide) N_0.symm
    have h := ((cfg0.win 12).blk ⟨15, hN⟩).view.emb_mem_set (ix2 0 l)
    rw [emb12] at h
    exact ⟨⟨15, hN⟩, (flush12 ⟨15, hN⟩).2 rfl, h⟩

end Cert.BwdInIdeal.Proj

end
-- ==== Proof.BwdInValue.lean ====
/-
  The input projection backward: the kernel's results are the reference's.
-/
module

public import proofs.«01_k».proof.Defs
public import proofs.«01_k».proof.Proof.BwdInState
public import proofs.«01_k».proof.Proof.Gen.BwdInRIdeal.Run
import Idealize.ShloMosaic.Lib.Pointwise
import Idealize.ShloMosaic.Lib.Claim

public section

set_option maxRecDepth 1048576

namespace Cert.BwdInRIdeal.Value

open Cert.BwdInRIdeal Cert.BwdInRIdeal.Gen Idealize.ShloMosaic Idealize.ShloMosaic.TcCoe Idealize.SL.Sem Idealize.ShloMosaic.StableHlo

/-! ## The reference's arrays

Each is the reference's operations, with the arrays they start from as arguments. -/

abbrev Rows := FVec Ideal S8192x1024 .f32
abbrev Gain := FVec Ideal S1x1024 .f32
abbrev Piece := FVec Ideal S8192x512 .bf16
abbrev All := FVec Ideal S8192x2560 .bf16

/-- The mean square with the small constant, one number per row, and its inverse root. -/
noncomputable def msT (x : Rows) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
noncomputable def rstdT (x : Rows) : FVec Ideal S8192x1 .f32 := Host.rsqrt (msT x)
noncomputable def rowT (x : Rows) (g : Gain) : Rows :=
  mulf (mulf x (broadcastInDim S8192x1024 ![0, 1] bcast_S8192x1_S8192x1024_0_1 (rstdT x))) (broadcastInDim S8192x1024 ![0, 1] bcast_S1x1024_S8192x1024_0_1 g)

/-- The five pieces side by side, and the gradient at the normalised rows. -/
noncomputable def catT (a0 a1 a2 a3 a4 : Piece) : All :=
  concatenate S8192x2560 1 [⟨S8192x512, a0⟩, ⟨S8192x512, a1⟩, ⟨S8192x512, a2⟩, ⟨S8192x512, a3⟩, ⟨S8192x512, a4⟩] concatenates_S8192x512_S8192x512_S8192x512_S8192x512_S8192x512_S8192x2560_d1
noncomputable def dxnT (p : All) (w : FVec Ideal S1024x2560 .f32) : Rows :=
  Host.dotGeneral dot_S8192x2560_S1024x2560_S8192x1024_1_1_0_0_n_n none (extf .f32 p bitsLt_bf16_f32) w

/-- The gradients in the gain and in the rows. -/
noncomputable def dgT (x : Rows) (dxn : Rows) : Gain :=
  shapeCast _ (Host.reduceAdd (mulf (mulf x (broadcastInDim S8192x1024 ![0, 1] bcast_S8192x1_S8192x1024_0_1 (rstdT x))) dxn)
    (constant S_ .f32 0x00000000#32) reducesTo_S8192x1024_S1024_d0 h_S_) shapeCasts_S1024_S1x1024
noncomputable def dT (dxn : Rows) (g : Gain) : Rows := mulf dxn (broadcastInDim S8192x1024 ![0, 1] bcast_S1x1024_S8192x1024_0_1 g)
noncomputable def bT (x d : Rows) : Rows :=
  broadcastInDim S8192x1024 ![0] bcast_S8192_S8192x1024_0 (Host.reduceAdd (Host.divf (mulf (shapeCast _ (Host.reduceAdd (mulf x d)
    (constant S_ .f32 0x00000000#32) reducesTo_S8192x1024_S8192_d1 h_S_) shapeCasts_S8192_S8192x1)
      (mulf (broadcastInDim S8192x1 ![] bcast_S_S8192x1 (constant S_ .f32 0xBF000000#32)) (Host.divf (rstdT x) (msT x))))
        (broadcastInDim S8192x1 ![] bcast_S_S8192x1 (constant S_ .f32 0x44800000#32))) (constant S_ .f32 0x00000000#32) reducesTo_S8192x1_S8192_d1 h_S_)
noncomputable def dxT (x d a8 : Rows) : Rows :=
  addf (addf (addf a8 (mulf d (broadcastInDim S8192x1024 ![0, 1] bcast_S8192x1_S8192x1024_0_1 (rstdT x)))) (mulf x (bT x d))) (mulf (bT x d) x)

/-! ## Their entries -/

theorem xn_entry (x : Rows) (g : Gain) (R : Fin 8192) (l : Fin 1024) :
    (rowT x g (ix2 R l) : EReal) = Cert.Rms.row 1149239296 (fun k => x (ix2 R k)) (fun k => g (ix2 0 k)) l := by
  pointwise [rowT, rstdT, msT]
  rfl

theorem dg_entry (x dxn : Rows) (l : Fin 1024) :
    (dgT x dxn (ix2 0 l) : EReal) = ∑ R : Fin 8192, dxn (ix2 R l) * (x (ix2 R l) * Cert.Rms.rstd 1149239296 fun k => x (ix2 R k)) := by
  pointwise [dgT, rstdT, msT]
  exact Finset.sum_congr rfl fun R _ => mul_comm _ _

theorem dx_entry (x dxn : Rows) (g : Gain) (a8 : Rows) (R : Fin 8192) (l : Fin 1024) :
    (dxT x (dT dxn g) a8 (ix2 R l) : EReal)
      = a8 (ix2 R l) + Cert.Rms.grad 1149239296 (fun k => x (ix2 R k)) (fun k => dxn (ix2 R k) * g (ix2 0 k)) l := by
  pointwise [dxT, dT, bT, rstdT, msT]
  rw [Cert.Rms.grad_eq 1149239296 (Or.inl rfl) _ _ _ _ rfl, ← add_assoc, ← add_assoc]
  simp only [Fin.sum_univ_one]
  rfl

theorem dxn_entry (p : All) (w : FVec Ideal S1024x2560 .f32) (R : Fin 8192) (l : Fin 1024) :
    (dxnT p w (ix2 R l) : EReal) = ∑ j : Fin 2560, p (ix2 R j) * w (ix2 l j) := by
  pointwise [dxnT]

end Cert.BwdInRIdeal.Value

namespace Cert.Proof.BwdIn

open Idealize.ShloMosaic Idealize.ShloMosaic.TcCoe Idealize.SL.Sem Cert.BwdInIdeal.Proj Cert.BwdInRIdeal.Value

variable (m : (ℓ : Loc Cert.BwdInIdeal.nD Cert.BwdInIdeal.τ Cert.BwdInIdeal.sig) → Buf (Elt Ideal) ℓ) (c : Dev Cert.BwdInIdeal.nD)

/-- The reference's arrays, of the kernel's arguments. -/
noncomputable abbrev catA : All := catT (A0 m c) (A1 m c) (A2 m c) (A3 m c) (A4 m c)
noncomputable abbrev dxnA : Rows := dxnT (catA m c) (A5 m c)

theorem cat_row (R : Fin 8192) (j : Fin 2560) : (catA m c (ix2 R j) : EReal) = dprojE m c R j := by
  have e : j = (⟨512 * (⟨j.val / 512, by omega⟩ : Fin 5).val + (⟨j.val % 512, by omega⟩ : Fin 512).val, by dsimp only; omega⟩ : Fin 2560) := Fin.ext (by dsimp only; omega)
  conv_lhs => rw [e]
  exact Cert.Blocks.cat_five (piece m c) _ _ R _

theorem dxn_row (R : Fin 8192) (l : Fin 1024) : (dxnA m c (ix2 R l) : EReal) = dxnE m c R l :=
  (dxn_entry _ _ R l).trans (Finset.sum_congr rfl fun j _ => congrArg (fun z : EReal => z * _) (cat_row m c R j))

theorem dx_eq : dxT (A6 m c) (dT (dxnA m c) (A7 m c)) (A8 m c) = dxG m c := by
  funext i
  obtain ⟨R, l, rfl⟩ : ∃ (R : Fin 8192) (l : Fin 1024), i = ix2 R l := ⟨i 0, i 1, eq_ix2 (n0 := 8192) (n1 := 1024) i⟩
  refine (dx_entry (A6 m c) (dxnA m c) (A7 m c) (A8 m c) R l).trans ?_
  simp only [dxn_row]
  rfl

theorem dproj_eq : catA m c = dprojG m c := by
  funext i
  obtain ⟨R, j, rfl⟩ : ∃ (R : Fin 8192) (j : Fin 2560), i = ix2 R j := ⟨i 0, i 1, eq_ix2 (n0 := 8192) (n1 := 2560) i⟩
  exact cat_row m c R j

theorem xn_eq : truncf .bf16 (rowT (A6 m c) (A7 m c)) Cert.BwdInRIdeal.Gen.bitsLt_bf16_f32 = xnG m c := by
  funext i
  obtain ⟨R, l, rfl⟩ : ∃ (R : Fin 8192) (l : Fin 1024), i = ix2 R l := ⟨i 0, i 1, eq_ix2 (n0 := 8192) (n1 := 1024) i⟩
  exact xn_entry (A6 m c) (A7 m c) R l

theorem dg_eq : dgT (A6 m c) (dxnA m c) = dgG m c := by
  funext i
  obtain ⟨r, l, rfl⟩ : ∃ (r : Fin 1) (l : Fin 1024), i = ix2 r l := ⟨i 0, i 1, eq_ix2 (n0 := 1) (n1 := 1024) i⟩
  rw [Subsingleton.elim r 0]
  refine (dg_entry (A6 m c) (dxnA m c) l).trans ?_
  simp only [dxn_row]
  rfl

/-- The kernel and the reference leave the same four gradients and normalised rows. -/
theorem algebraic : Cert.algebraic_BwdInIdeal_BwdInRIdeal := by
  intro m g m' g' _ hm
  refine ⟨fun c => dxG m c, fun c => dprojG m c, fun c => xnG m c, fun c => dgG m c,
    (θ_run Cert.BwdInIdeal.defs _ _).mono (fun r h c => ⟨(h c).1.trans (final_dx m c), (h c).2.1.trans (final_dproj m c),
      (h c).2.2.1.trans (final_xn m c), (h c).2.2.2.1.trans (final_dg m c), (h c).2.2.2.2⟩) (Cert.BwdInIdeal.Value.run_blocks m g), ?_⟩
  refine (θ_run Cert.BwdInRIdeal.defs _ _).mono (fun r h c => ⟨(h c).1.trans ?_, (h c).2.1.trans ?_, (h c).2.2.1.trans ?_,
    (h c).2.2.2.1.trans ?_, (h c).2.2.2.2⟩) (Cert.BwdInRIdeal.Value.run m' g')
  · unfold res_main_v38
    rw [(hm c).1, (hm c).2.1, (hm c).2.2.1, (hm c).2.2.2.1, (hm c).2.2.2.2.1, (hm c).2.2.2.2.2.1, (hm c).2.2.2.2.2.2.1, (hm c).2.2.2.2.2.2.2.1, (hm c).2.2.2.2.2.2.2.2]
    exact dx_eq m c
  · rw [(hm c).1, (hm c).2.1, (hm c).2.2.1, (hm c).2.2.2.1, (hm c).2.2.2.2.1]
    exact dproj_eq m c
  · rw [(hm c).2.2.2.2.2.2.1, (hm c).2.2.2.2.2.2.2.1]
    exact xn_eq m c
  · rw [(hm c).1, (hm c).2.1, (hm c).2.2.1, (hm c).2.2.2.1, (hm c).2.2.2.2.1, (hm c).2.2.2.2.2.1, (hm c).2.2.2.2.2.2.1]
    exact dg_eq m c

end Cert.Proof.BwdIn

end
-- ==== Proof.FwdInValue.lean ====
/-
  The input projection: each row of the input is normalised and multiplied by the weights; the first 1024 columns of
  the product go to one result, the other 1536 to the other.
-/
module

public import proofs.«01_k».proof.Defs
public import proofs.«01_k».proof.Proof.Gen.FwdInIdeal.Value
public import proofs.«01_k».proof.Proof.Gen.FwdInRIdeal.Run
public import proofs.«01_k».proof.Proof.Rms
public import Idealize.ShloMosaic.Lib.Pointwise
public import Idealize.ShloMosaic.Lib.Claim

@[expose] public section

noncomputable section

namespace Cert.FwdInIdeal.Proj

open Cert.FwdInIdeal Cert.FwdInIdeal.Gen Cert.FwdInIdeal.Value
open Idealize.ShloMosaic Idealize.ShloMosaic.TcCoe Idealize.SL.Sem

theorem hz : (![0, 0] : Fin 2 → Nat) = fun _ => 0 := funext fun a => by fin_cases a <;> rfl

/-- The projection's entry in row `r` and column `l` of all 2560. -/
def proj (x : Vec Ideal S8192x1024 .f32) (g : Vec Ideal S1x1024 .f32) (w : Vec Ideal S1024x2560 .f32) (r : Fin 8192) (l : Fin 2560) : EReal :=
  ∑ k : Fin 1024, Cert.Rms.row 1149239296 (fun k => x (ix2 r k)) (fun k => g (ix2 0 k)) k * w (ix2 k l)

/-- The two results. -/
def lru (x : Vec Ideal S8192x1024 .f32) (g : Vec Ideal S1x1024 .f32) (w : Vec Ideal S1024x2560 .f32) : Vec Ideal S8192x1024 .f32 :=
  fun i => proj x g w (i 0) ⟨(i 1).val, lt_trans (i 1).isLt (by decide)⟩
def qkv (x : Vec Ideal S8192x1024 .f32) (g : Vec Ideal S1x1024 .f32) (w : Vec Ideal S1024x2560 .f32) : Vec Ideal S8192x1536 .bf16 :=
  fun i => proj x g w (i 0) ⟨1024 + (i 1).val, by have h : (i 1).val < 1536 := (i 1).isLt; omega⟩

theorem pay_lru (x0 : Vec Ideal S1024x1024 .f32) (x1 : Vec Ideal S1x1024 .f32) (x2 : Vec Ideal S1024x1024 .bf16) (r : Fin 1024) (l : Fin 1024) :
    (k0_pay2 x0 x1 x2 (ix2 r l) : EReal)
      = ∑ k : Fin 1024, Cert.Rms.row 1149239296 (fun k => x0 (ix2 r k)) (fun k => x1 (ix2 0 k)) k * x2 (ix2 l k) := by
  pointwise [k0_pay2, k0_pay1]
  rfl

theorem pay_qkv (x0 : Vec Ideal S1024x1024 .f32) (x1 : Vec Ideal S1x1024 .f32) (x2 : Vec Ideal S1536x1024 .bf16) (r : Fin 1024) (l : Fin 1536) :
    (k0_pay3 x0 x1 x2 (ix2 r l) : EReal)
      = ∑ k : Fin 1024, Cert.Rms.row 1149239296 (fun k => x0 (ix2 r k)) (fun k => x1 (ix2 0 k)) k * x2 (ix2 l k) := by
  pointwise [k0_pay3, k0_pay1]
  rfl

variable (m : (ℓ : Loc nD τ sig) → Buf (Elt Ideal) ℓ) (c : Dev nD)

/-- The three arguments' entries. -/
abbrev A0 : Vec Ideal S8192x1024 .f32 := m ((c : Thread nD τ).loc main_arg0)
abbrev A1 : Vec Ideal S1x1024 .f32 := m ((c : Thread nD τ).loc main_arg1)
abbrev A2 : Vec Ideal S1024x2560 .f32 := m ((c : Thread nD τ).loc main_arg2)

/-- The weights as the kernel finds them: transposed. -/
theorem V_w (l : Fin 2560) (k : Fin 1024) : V m c main_v1 (ix2 l k) = A2 m c (ix2 k l) := by
  entry_read
  pointwise

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)

theorem flush3 : ∀ t : Fin cfg0.N, (cfg0.win 3).flush t = true :=
  (by decide +kernel : ∀ t : Fin grid0.N, _)
theorem flush4 : ∀ t : Fin cfg0.N, (cfg0.win 4).flush t = true :=
  (by decide +kernel : ∀ t : Fin grid0.N, _)

/-- The blocks of the three inputs at point `t`: 1024 rows, all gains, all weights. -/
theorem blk0_apply (t : Fin cfg0.N) (r : Fin 1024) (k : Fin 1024) :
    iblk m c 0 t (ix2 r k) = A0 m c (ix2 ⟨1024 * t.val + r.val, by have := lt_of_lt_of_eq t.isLt N_0; omega⟩ k) := by
  unfold iblk
  rw [View.read_apply]
  refine (congrArg (V m c main_arg0) ?_).trans (congrFun (V_main_arg0 m c) _)
  funext a
  apply Fin.ext
  match a with
  | ⟨0, _⟩ => show win0_0.index t 0 * 1024 + 1 * r.val = _; rw [(idx0 t).1]; show _ = 1024 * t.val + r.val; omega
  | ⟨1, _⟩ => show win0_0.index t 1 * 1024 + 1 * k.val = _; rw [(idx0 t).2]; show _ = k.val; omega

theorem blk1_apply (t : Fin cfg0.N) (k : Fin 1024) : iblk m c 1 t (ix2 0 k) = A1 m c (ix2 0 k) := by
  unfold iblk
  rw [View.read_apply]
  refine (congrArg (V m c main_arg1) ?_).trans (congrFun (V_main_arg1 m c) _)
  funext a
  apply Fin.ext
  match a with
  | ⟨0, _⟩ => show win0_1.index t 0 * 1 + 1 * 0 = _; rw [(idx1 t).1]; rfl
  | ⟨1, _⟩ => show win0_1.index t 1 * 1024 + 1 * k.val = _; rw [(idx1 t).2]; show _ = k.val; omega

theorem blk2_apply (t : Fin cfg0.N) (l : Fin 2560) (k : Fin 1024) : iblk m c 2 t (ix2 l k) = A2 m c (ix2 k l) := by
  unfold iblk
  rw [View.read_apply]
  refine (congrArg (V m c main_v1) ?_).trans (V_w m c l k)
  funext a
  apply Fin.ext
  match a with
  | ⟨0, _⟩ => show win0_2.index t 0 * 2560 + 1 * l.val = _; rw [(idx2 t).1]; show _ = l.val; omega
  | ⟨1, _⟩ => show win0_2.index t 1 * 1024 + 1 * k.val = _; rw [(idx2 t).2]; show _ = k.val; omega

/-- Where the entries of a point's two result blocks lie. -/
theorem emb3 (t : Fin cfg0.N) (r : Fin 1024) (l : Fin 1024) :
    ((cfg0.win 3).blk t).view.emb (ix2 r l) = (ix2 ⟨1024 * t.val + r.val, by have := lt_of_lt_of_eq t.isLt N_0; omega⟩ l : S8192x1024.Idx) := by
  funext a
  apply Fin.ext
  match a with
  | ⟨0, _⟩ => show win0_3.index t 0 * 1024 + 1 * r.val = _; rw [(idx3 t).1]; show _ = 1024 * t.val + r.val; omega
  | ⟨1, _⟩ => show win0_3.index t 1 * 1024 + 1 * l.val = _; rw [(idx3 t).2]; show _ = l.val; omega

theorem emb4 (t : Fin cfg0.N) (r : Fin 1024) (l : Fin 1536) :
    ((cfg0.win 4).blk t).view.emb (ix2 r l) = (ix2 ⟨1024 * t.val + r.val, by have := lt_of_lt_of_eq t.isLt N_0; omega⟩ l : S8192x1536.Idx) := by
  funext a
  apply Fin.ext
  match a with
  | ⟨0, _⟩ => show win0_4.index t 0 * 1024 + 1 * r.val = _; rw [(idx4 t).1]; show _ = 1024 * t.val + r.val; omega
  | ⟨1, _⟩ => show win0_4.index t 1 * 1536 + 1 * l.val = _; rw [(idx4 t).2]; show _ = l.val; omega

/-- A point's first result block is its 1024 rows of the first result. -/
theorem flushed_lru (t : Fin cfg0.N) (hf : (cfg0.win 3).flush t = true) :
    (dats m 0 c).flushed 3 t = ((cfg0.win 3).blk t).view.read (Elt Ideal) (lru (A0 m c) (A1 m c) (A2 m c)) := by
  have hN := lt_of_lt_of_eq t.isLt N_0
  rw [flushed3]
  funext y
  obtain ⟨r, l, rfl⟩ : ∃ (r : Fin 1024) (l : Fin 1024), y = ix2 r l := ⟨y 0, y 1, eq_ix2 y⟩
  rw [View.read_apply]
  refine Eq.trans ?_ (congrArg (lru (A0 m c) (A1 m c) (A2 m c)) (emb3 t r l)).symm
  show out0_3 (iblk m c 0 t) (iblk m c 1 t) (iblk m c 2 t) (ix2 r l) = proj _ _ _ ⟨1024 * t.val + r.val, _⟩ ⟨l.val, _⟩
  unfold out0_3 r0_0 r0_1
  rw [View.canon_unit_zero hz, View.ld_unit_zero (S := S1024x1024) hz, View.ld_unit_zero (S := S1x1024) hz, pay_lru]
  unfold proj
  refine Finset.sum_congr rfl fun k _ => ?_
  congr 1
  · simp only [blk0_apply, blk1_apply]
  · refine Eq.trans ?_ (blk2_apply m c t ⟨l.val, by omega⟩ k)
    refine congrArg (iblk m c 2 t) ?_
    funext a
    apply Fin.ext
    match a with
    | ⟨0, _⟩ => show 0 + 1 * l.val = l.val; omega
    | ⟨1, _⟩ => show 0 + 1 * k.val = k.val; omega

theorem flushed_qkv (t : Fin cfg0.N) (hf : (cfg0.win 4).flush t = true) :
    (dats m 0 c).flushed 4 t = ((cfg0.win 4).blk t).view.read (Elt Ideal) (qkv (A0 m c) (A1 m c) (A2 m c)) := by
  have hN := lt_of_lt_of_eq t.isLt N_0
  rw [flushed4]
  funext y
  obtain ⟨r, l, rfl⟩ : ∃ (r : Fin 1024) (l : Fin 1536), y = ix2 r l := ⟨y 0, y 1, eq_ix2 y⟩
  rw [View.read_apply]
  refine Eq.trans ?_ (congrArg (qkv (A0 m c) (A1 m c) (A2 m c)) (emb4 t r l)).symm
  show out0_4 (iblk m c 0 t) (iblk m c 1 t) (iblk m c 2 t) (ix2 r l) = proj _ _ _ ⟨1024 * t.val + r.val, _⟩ ⟨1024 + l.val, _⟩
  unfold out0_4 r0_0 r0_1 r0_4
  rw [View.canon_unit_zero hz, View.ld_unit_zero (S := S1024x1024) hz, View.ld_unit_zero (S := S1x1024) hz, pay_qkv]
  unfold proj
  refine Finset.sum_congr rfl fun k _ => ?_
  congr 1
  · simp only [blk0_apply, blk1_apply]
  · refine Eq.trans ?_ (blk2_apply m c t ⟨1024 + l.val, by omega⟩ k)
    refine congrArg (iblk m c 2 t) ?_
    funext a
    apply Fin.ext
    match a with
    | ⟨0, _⟩ => show 1024 + 1 * l.val = 1024 + l.val; omega
    | ⟨1, _⟩ => show 0 + 1 * k.val = k.val; omega

/-- The whole results: every row is in one point's blocks. -/
theorem final_lru : (dats m 0 c).arrAt 3 cfg0.N = lru (A0 m c) (A1 m c) (A2 m c) := by
  refine (dats m 0 c).arrAt_eq_of_cover 3 _ (flushed_lru m c) fun i => ?_
  obtain ⟨R, l, rfl⟩ : ∃ (R : Fin 8192) (l : Fin 1024), i = ix2 R l := ⟨i 0, i 1, eq_ix2 (n0 := 8192) (n1 := 1024) i⟩
  have hN : R.val / 1024 < cfg0.N := lt_of_lt_of_eq (show _ < 8 by omega) N_0.symm
  have h := ((cfg0.win 3).blk ⟨R.val / 1024, hN⟩).view.emb_mem_set (ix2 (⟨R.val % 1024, by omega⟩ : Fin 1024) l)
  rw [emb3] at h
  have e : (⟨1024 * (R.val / 1024) + R.val % 1024, by omega⟩ : Fin 8192) = R := Fin.ext (by dsimp only; omega)
  rw [e] at h
  exact ⟨_, flush3 _, h⟩

theorem final_qkv : (dats m 0 c).arrAt 4 cfg0.N = qkv (A0 m c) (A1 m c) (A2 m c) := by
  refine (dats m 0 c).arrAt_eq_of_cover 4 _ (flushed_qkv m c) fun i => ?_
  obtain ⟨R, l, rfl⟩ : ∃ (R : Fin 8192) (l : Fin 1536), i = ix2 R l := ⟨i 0, i 1, eq_ix2 (n0 := 8192) (n1 := 1536) i⟩
  have hN : R.val / 1024 < cfg0.N := lt_of_lt_of_eq (show _ < 8 by omega) N_0.symm
  have h := ((cfg0.win 4).blk ⟨R.val / 1024, hN⟩).view.emb_mem_set (ix2 (⟨R.val % 1024, by omega⟩ : Fin 1024) l)
  rw [emb4] at h
  have e : (⟨1024 * (R.val / 1024) + R.val % 1024, by omega⟩ : Fin 8192) = R := Fin.ext (by dsimp only; omega)
  rw [e] at h
  exact ⟨_, flush4 _, h⟩

end Cert.FwdInIdeal.Proj

namespace Cert.Proof.FwdIn

open Idealize.ShloMosaic Idealize.ShloMosaic.TcCoe Idealize.SL.Sem

/-- The kernel and the reference leave the same two projections. -/
theorem algebraic : Cert.algebraic_FwdInIdeal_FwdInRIdeal := by
  intro m g m' g' _ hm
  refine ⟨fun c => Cert.FwdInIdeal.Proj.lru (Cert.FwdInIdeal.Proj.A0 m c) (Cert.FwdInIdeal.Proj.A1 m c) (Cert.FwdInIdeal.Proj.A2 m c),
    fun c => Cert.FwdInIdeal.Proj.qkv (Cert.FwdInIdeal.Proj.A0 m c) (Cert.FwdInIdeal.Proj.A1 m c) (Cert.FwdInIdeal.Proj.A2 m c),
    (θ_run Cert.FwdInIdeal.defs _ _).mono (fun r h c => ⟨(h c).1.trans (Cert.FwdInIdeal.Proj.final_lru m c),
      (h c).2.1.trans (Cert.FwdInIdeal.Proj.final_qkv m c), (h c).2.2⟩) (Cert.FwdInIdeal.Value.run_blocks m g), ?_⟩
  refine (θ_run Cert.FwdInRIdeal.defs _ _).mono (fun r h c => ⟨(h c).1.trans ?_, (h c).2.1.trans ?_, (h c).2.2⟩) (Cert.FwdInRIdeal.Value.run m' g')
  · rw [(hm c).1, (hm c).2.1, (hm c).2.2]
    funext i
    obtain ⟨r, l, rfl⟩ : ∃ (r : Fin 8192) (l : Fin 1024), i = ix2 r l := ⟨i 0, i 1, eq_ix2 i⟩
    pointwise
    rfl
  · rw [(hm c).1, (hm c).2.1, (hm c).2.2]
    funext i
    obtain ⟨r, l, rfl⟩ : ∃ (r : Fin 8192) (l : Fin 1536), i = ix2 r l := ⟨i 0, i 1, eq_ix2 i⟩
    pointwise
    rfl

end Cert.Proof.FwdIn

end
-- ==== Proof.FwdMixValue.lean ====
/-
  The output projection: the rows of the two branches are normalised, put side by side, multiplied by the weights and
  added to the residual stream.
-/
module

public import proofs.«01_k».proof.Defs
public import proofs.«01_k».proof.Proof.Gen.FwdMixIdeal.Value
public import proofs.«01_k».proof.Proof.Gen.FwdMixRIdeal.Run
public import proofs.«01_k».proof.Proof.Rms
public import proofs.«01_k».proof.Proof.Blocks
public import Idealize.ShloMosaic.Lib.Pointwise
public import Idealize.ShloMosaic.Lib.Claim

@[expose] public section

noncomputable section

namespace Cert.FwdMixIdeal.Mix

open Cert.FwdMixIdeal Cert.FwdMixIdeal.Gen Cert.FwdMixIdeal.Value
open Idealize.ShloMosaic Idealize.ShloMosaic.TcCoe Idealize.SL.Sem

/-! ## The payloads, entry by entry -/

theorem n0_apply (x : Vec Ideal S1024x512 .f32) (g : Vec Ideal S1x512 .f32) (r : Fin 1024) (l : Fin 512) :
    (k0_pay2 x g (ix2 r l) : EReal) = Cert.Rms.row 1140850688 (fun k => x (ix2 r k)) (fun k => g (ix2 0 k)) l := by
  pointwise [k0_pay2]
  rfl

theorem n1_apply (x : Vec Ideal S1024x512 .f32) (g : Vec Ideal S1x512 .f32) (r : Fin 1024) (l : Fin 512) :
    (k0_pay3 x g (ix2 r l) : EReal) = Cert.Rms.row 1140850688 (fun k => x (ix2 r k)) (fun k => g (ix2 0 k)) l := by
  pointwise [k0_pay3]
  rfl

theorem sum_apply (n0 n1 : FVec Ideal S1024x512 .bf16) (x5 : Vec Ideal S1024x1024 .f32) (u0 u1 : Vec Ideal S512x1024 .bf16) (r l : Fin 1024) :
    (k0_pay1 n0 n1 x5 (k0_pay4 u0) u1 (ix2 r l) : EReal)
      = x5 (ix2 r l) + (∑ k : Fin 512, n0 (ix2 r k) * u0 (ix2 k l)) + ∑ k : Fin 512, n1 (ix2 r k) * u1 (ix2 k l) := by
  pointwise [k0_pay1, k0_pay4]

/-! ## The blocks of the arguments -/

variable (m : (ℓ : Loc nD τ sig) → Buf (Elt Ideal) ℓ) (c : Dev nD)

abbrev A0 : Vec Ideal S8192x512 .f32 := m ((c : Thread nD τ).loc main_arg0)
abbrev A1 : Vec Ideal S8192x512 .f32 := m ((c : Thread nD τ).loc main_arg1)
abbrev A2 : Vec Ideal S1x512 .f32 := m ((c : Thread nD τ).loc main_arg2)
abbrev A3 : Vec Ideal S1x512 .f32 := m ((c : Thread nD τ).loc main_arg3)
abbrev A4 : Vec Ideal S1024x1024 .f32 := m ((c : Thread nD τ).loc main_arg4)
abbrev A5 : Vec Ideal S8192x1024 .f32 := m ((c : Thread nD τ).loc main_arg5)

/-- The row of the arrays that row `r` of point `t`'s blocks is. -/
def rowOf (t : Fin cfg0.N) (r : Fin 1024) : Fin 8192 := ⟨1024 * t.val + r.val, by have := lt_of_lt_of_eq t.isLt N_0; omega⟩

theorem V_w (l k : Fin 1024) : V m c main_v0 (ix2 l k) = A4 m c (ix2 l k) := by
  entry_read
  pointwise

/-- The row windows move by one block of rows a point; the others stay. -/
theorem idx_rows : ∀ t : Fin cfg0.N, (win0_0.index t (0 : Fin 2) = t.val ∧ win0_0.index t (1 : Fin 2) = 0) ∧ (win0_1.index t (0 : Fin 2) = t.val ∧ win0_1.index t (1 : Fin 2) = 0) ∧ (win0_5.index t (0 : Fin 2) = t.val ∧ win0_5.index t (1 : Fin 2) = 0) ∧ (win0_6.index t (0 : Fin 2) = t.val ∧ win0_6.index t (1 : Fin 2) = 0) ∧ (win0_7.index t (0 : Fin 2) = t.val ∧ win0_7.index t (1 : Fin 2) = 0) :=
  (by decide +kernel : ∀ t : Fin grid0.N, _)
theorem idx_all : ∀ t : Fin cfg0.N, (win0_2.index t (0 : Fin 2) = 0 ∧ win0_2.index t (1 : Fin 2) = 0) ∧ (win0_3.index t (0 : Fin 2) = 0 ∧ win0_3.index t (1 : Fin 2) = 0) ∧ (win0_4.index t (0 : Fin 2) = 0 ∧ win0_4.index t (1 : Fin 2) = 0) :=
  (by decide +kernel : ∀ t : Fin grid0.N, _)

theorem blk0_apply (t : Fin cfg0.N) (r : Fin 1024) (k : Fin 512) : iblk m c 0 t (ix2 r k) = A0 m c (ix2 (rowOf t r) k) := by
  unfold iblk
  rw [View.read_apply]
  refine (congrArg (V m c main_arg0) (Cert.Blocks.ext2 ?_ ?_)).trans (congrFun (V_main_arg0 m c) _)
  · show win0_0.index t 0 * 1024 + 1 * r.val = 1024 * t.val + r.val; rw [(idx_rows t).1.1]; omega
  · show win0_0.index t 1 * 512 + 1 * k.val = k.val; rw [(idx_rows t).1.2]; omega

theorem blk1_apply (t : Fin cfg0.N) (r : Fin 1024) (k : Fin 512) : iblk m c 1 t (ix2 r k) = A1 m c (ix2 (rowOf t r) k) := by
  unfold iblk
  rw [View.read_apply]
  refine (congrArg (V m c main_arg1) (Cert.Blocks.ext2 ?_ ?_)).trans (congrFun (V_main_arg1 m c) _)
  · show win0_1.index t 0 * 1024 + 1 * r.val = 1024 * t.val + r.val; rw [(idx_rows t).2.1.1]; omega
  · show win0_1.index t 1 * 512 + 1 * k.val = k.val; rw [(idx_rows t).2.1.2]; omega

theorem blk5_apply (t : Fin cfg0.N) (r : Fin 1024) (k : Fin 1024) : iblk m c 5 t (ix2 r k) = A5 m c (ix2 (rowOf t r) k) := by
  unfold iblk
  rw [View.read_apply]
  refine (congrArg (V m c main_arg5) (Cert.Blocks.ext2 ?_ ?_)).trans (congrFun (V_main_arg5 m c) _)
  · show win0_5.index t 0 * 1024 + 1 * r.val = 1024 * t.val + r.val; rw [(idx_rows t).2.2.1.1]; omega
  · show win0_5.index t 1 * 1024 + 1 * k.val = k.val; rw [(idx_rows t).2.2.1.2]; omega

theorem blk2_apply (t : Fin cfg0.N) (k : Fin 512) : iblk m c 2 t (ix2 0 k) = A2 m c (ix2 0 k) := by
  unfold iblk
  rw [View.read_apply]
  refine (congrArg (V m c main_arg2) (Cert.Blocks.ext2 ?_ ?_)).trans (congrFun (V_main_arg2 m c) _)
  · show win0_2.index t 0 * 1 + 1 * 0 = 0; rw [(idx_all t).1.1]
  · show win0_2.index t 1 * 512 + 1 * k.val = k.val; rw [(idx_all t).1.2]; omega

theorem blk3_apply (t : Fin cfg0.N) (k : Fin 512) : iblk m c 3 t (ix2 0 k) = A3 m c (ix2 0 k) := by
  unfold iblk
  rw [View.read_apply]
  refine (congrArg (V m c main_arg3) (Cert.Blocks.ext2 ?_ ?_)).trans (congrFun (V_main_arg3 m c) _)
  · show win0_3.index t 0 * 1 + 1 * 0 = 0; rw [(idx_all t).2.1.1]
  · show win0_3.index t 1 * 512 + 1 * k.val = k.val; rw [(idx_all t).2.1.2]; omega

theorem blk4_apply (t : Fin cfg0.N) (l k : Fin 1024) : iblk m c 4 t (ix2 l k) = A4 m c (ix2 l k) := by
  unfold iblk
  rw [View.read_apply]
  refine (congrArg (V m c main_v0) (Cert.Blocks.ext2 ?_ ?_)).trans (V_w m c l k)
  · show win0_4.index t 0 * 1024 + 1 * l.val = l.val; rw [(idx_all t).2.2.1]; omega
  · show win0_4.index t 1 * 1024 + 1 * k.val = k.val; rw [(idx_all t).2.2.2]; omega

theorem u_apply (o : ℕ) (inb) (ho : o + 512 ≤ 1024) (t : Fin cfg0.N) (k : Fin 512) (l : Fin 1024) :
    View.ld (iblk m c 4 t : Vec Ideal S1024x1024 .bf16) (Rect.unit (s := S1024x1024) ![o, 0] S512x1024.size inb) (ix2 k l)
      = A4 m c (ix2 (⟨o + k.val, by omega⟩ : Fin 1024) l) := by
  refine Eq.trans (congrArg (iblk m c 4 t) ?_) (blk4_apply m c t ⟨o + k.val, by omega⟩ l)
  refine Cert.Blocks.ext2 ?_ ?_
  · show o + 1 * k.val = o + k.val; omega
  · show 0 + 1 * l.val = l.val; omega

/-! ## What a point leaves -/

/-- The normalised rows of the two branches, and both side by side. -/
def n0E (R : Fin 8192) (k : Fin 512) : EReal := Cert.Rms.row 1140850688 (fun k => A0 m c (ix2 R k)) (fun k => A2 m c (ix2 0 k)) k
def n1E (R : Fin 8192) (k : Fin 512) : EReal := Cert.Rms.row 1140850688 (fun k => A1 m c (ix2 R k)) (fun k => A3 m c (ix2 0 k)) k
def mixE (R : Fin 8192) (l : Fin 1024) : EReal := if h : l.val < 512 then n0E m c R ⟨l.val, h⟩ else n1E m c R ⟨l.val - 512, by omega⟩
def hE (R : Fin 8192) (l : Fin 1024) : EReal := A5 m c (ix2 R l) + ∑ k : Fin 1024, mixE m c R k * A4 m c (ix2 k l)

/-- One term of the product's sum, for any natural number. -/
def termN (R : Fin 8192) (l : Fin 1024) (j : ℕ) : EReal := if h : j < 1024 then mixE m c R ⟨j, h⟩ * A4 m c (ix2 ⟨j, h⟩ l) else 0

theorem n0_eq (t : Fin cfg0.N) (r : Fin 1024) (k : Fin 512) : (k0_pay2 (iblk m c 0 t) (iblk m c 2 t) (ix2 r k) : EReal) = n0E m c (rowOf t r) k :=
  (n0_apply _ _ r k).trans (congrArg₂ (fun x g => Cert.Rms.row 1140850688 x g k) (funext fun k => blk0_apply m c t r k) (funext fun k => blk2_apply m c t k))

theorem n1_eq (t : Fin cfg0.N) (r : Fin 1024) (k : Fin 512) : (k0_pay3 (iblk m c 1 t) (iblk m c 3 t) (ix2 r k) : EReal) = n1E m c (rowOf t r) k :=
  (n1_apply _ _ r k).trans (congrArg₂ (fun x g => Cert.Rms.row 1140850688 x g k) (funext fun k => blk1_apply m c t r k) (funext fun k => blk3_apply m c t k))

theorem h_point (t : Fin cfg0.N) (r l : Fin 1024) :
    (out0_6 (iblk m c 0 t) (iblk m c 1 t) (iblk m c 2 t) (iblk m c 3 t) (iblk m c 4 t) (iblk m c 5 t) (ix2 r l) : EReal) = hE m c (rowOf t r) l := by
  unfold out0_6 r0_0 r0_1 r0_4
  rw [View.canon_unit_zero Cert.Blocks.hz, View.ld_unit_zero (S := S1024x512) Cert.Blocks.hz, View.ld_unit_zero (S := S1x512) Cert.Blocks.hz, View.ld_unit_zero (S := S1024x512) Cert.Blocks.hz, View.ld_unit_zero (S := S1x512) Cert.Blocks.hz, View.ld_unit_zero (S := S1024x1024) Cert.Blocks.hz, sum_apply]
  unfold hE
  have e : (∑ k : Fin 1024, mixE m c (rowOf t r) k * A4 m c (ix2 k l) : EReal) = ∑ k : Fin 1024, termN m c (rowOf t r) l k.val :=
    Finset.sum_congr rfl fun k _ => by unfold termN; rw [dif_pos k.isLt]
  have e' := e.trans (Cert.Blocks.sum_halves (b := 512) (b' := 512) rfl (termN m c (rowOf t r) l))
  refine Eq.trans ?_ (congrArg (fun z : EReal => A5 m c (ix2 (rowOf t r) l) + z) e'.symm)
  refine Eq.trans ?_ (add_assoc (G := EReal) _ _ _)
  refine congrArg₂ (fun a b : EReal => a + b) (congrArg₂ (fun a b : EReal => a + b) (blk5_apply m c t r l) ?_) ?_
  · refine Finset.sum_congr rfl fun k _ => ?_
    unfold termN
    rw [dif_pos (by omega)]
    unfold mixE
    rw [dif_pos k.isLt]
    refine congrArg₂ (fun a b : EReal => a * b) (n0_eq m c t r k) ((u_apply m c 0 _ (by omega) t k l).trans ?_)
    exact congrArg (fun j => A4 m c (ix2 j l)) (Fin.ext (Nat.zero_add _))
  · refine Finset.sum_congr rfl fun k _ => ?_
    unfold termN
    rw [dif_pos (by omega)]
    unfold mixE
    rw [dif_neg (by show ¬ (512 + k.val < 512); omega)]
    refine congrArg₂ (fun a b : EReal => a * b) ((n1_eq m c t r k).trans ?_) (u_apply m c 512 _ (by omega) t k l)
    exact congrArg (n1E m c (rowOf t r)) (Fin.ext (Nat.add_sub_cancel_left 512 k.val).symm)

theorem mix_point (t : Fin cfg0.N) (r l : Fin 1024) :
    (out0_7 (iblk m c 0 t) (iblk m c 1 t) (iblk m c 2 t) (iblk m c 3 t) (iblk m c 4 t) (iblk m c 5 t) (ix2 r l) : EReal) = mixE m c (rowOf t r) l := by
  unfold out0_7 r0_0 r0_1
  rw [View.ld_unit_zero (S := S1024x512) Cert.Blocks.hz, View.ld_unit_zero (S := S1x512) Cert.Blocks.hz, View.ld_unit_zero (S := S1024x512) Cert.Blocks.hz, View.ld_unit_zero (S := S1x512) Cert.Blocks.hz]
  refine (Cert.Blocks.canon_halves (b := 512) (b' := 512) rfl _ _ _ _ _ _).trans ?_
  unfold mixE
  split
  · exact n0_eq m c t r _
  · exact n1_eq m c t r _

/-! ## The result arrays -/

def hG : Vec Ideal S8192x1024 .f32 := fun i => hE m c (i 0) (i 1)
def mixG : Vec Ideal S8192x1024 .bf16 := fun i => mixE m c (i 0) (i 1)

theorem emb6 (t : Fin cfg0.N) (r l : Fin 1024) : ((cfg0.win 6).blk t).view.emb (ix2 r l) = (ix2 (rowOf t r) l : S8192x1024.Idx) := by
  refine Cert.Blocks.ext2 ?_ ?_
  · show win0_6.index t 0 * 1024 + 1 * r.val = 1024 * t.val + r.val; rw [(idx_rows t).2.2.2.1.1]; omega
  · show win0_6.index t 1 * 1024 + 1 * l.val = l.val; rw [(idx_rows t).2.2.2.1.2]; omega

theorem final_h : (dats m 0 c).arrAt 6 cfg0.N = hG m c := by
  refine (dats m 0 c).arrAt_eq_of_cover 6 _ (fun t _ => ?_) fun i => ?_
  · rw [flushed6]
    funext y
    obtain ⟨r, l, rfl⟩ : ∃ (r : Fin 1024) (l : Fin 1024), y = ix2 r l := ⟨y 0, y 1, eq_ix2 y⟩
    rw [View.read_apply]
    exact (h_point m c t r l).trans (congrArg (hG m c) (emb6 t r l)).symm
  · obtain ⟨R, l, rfl⟩ : ∃ (R : Fin 8192) (l : Fin 1024), i = ix2 R l := ⟨i 0, i 1, eq_ix2 (n0 := 8192) (n1 := 1024) i⟩
    have hN : R.val / 1024 < cfg0.N := lt_of_lt_of_eq (show _ < 8 by omega) N_0.symm
    have h := ((cfg0.win 6).blk ⟨R.val / 1024, hN⟩).view.emb_mem_set (ix2 (⟨R.val % 1024, by omega⟩ : Fin 1024) l)
    rw [emb6, show rowOf ⟨R.val / 1024, hN⟩ ⟨R.val % 1024, by omega⟩ = R from Fin.ext (by show 1024 * (R.val / 1024) + R.val % 1024 = R.val; omega)] at h
    exact ⟨_, (by decide +kernel : ∀ t : Fin grid0.N, (cfg0.win 6).flush t = true) _, h⟩

theorem emb7 (t : Fin cfg0.N) (r l : Fin 1024) : ((cfg0.win 7).blk t).view.emb (ix2 r l) = (ix2 (rowOf t r) l : S8192x1024.Idx) := by
  refine Cert.Blocks.ext2 ?_ ?_
  · show win0_7.index t 0 * 1024 + 1 * r.val = 1024 * t.val + r.val; rw [(idx_rows t).2.2.2.2.1]; omega
  · show win0_7.index t 1 * 1024 + 1 * l.val = l.val; rw [(idx_rows t).2.2.2.2.2]; omega

theorem final_mix : (dats m 0 c).arrAt 7 cfg0.N = mixG m c := by
  refine (dats m 0 c).arrAt_eq_of_cover 7 _ (fun t _ => ?_) fun i => ?_
  · rw [flushed7]
    funext y
    obtain ⟨r, l, rfl⟩ : ∃ (r : Fin 1024) (l : Fin 1024), y = ix2 r l := ⟨y 0, y 1, eq_ix2 y⟩
    rw [View.read_apply]
    exact (mix_point m c t r l).trans (congrArg (mixG m c) (emb7 t r l)).symm
  · obtain ⟨R, l, rfl⟩ : ∃ (R : Fin 8192) (l : Fin 1024), i = ix2 R l := ⟨i 0, i 1, eq_ix2 (n0 := 8192) (n1 := 1024) i⟩
    have hN : R.val / 1024 < cfg0.N := lt_of_lt_of_eq (show _ < 8 by omega) N_0.symm
    have h := ((cfg0.win 7).blk ⟨R.val / 1024, hN⟩).view.emb_mem_set (ix2 (⟨R.val % 1024, by omega⟩ : Fin 1024) l)
    rw [emb7, show rowOf ⟨R.val / 1024, hN⟩ ⟨R.val % 1024, by omega⟩ = R from Fin.ext (by show 1024 * (R.val / 1024) + R.val % 1024 = R.val; omega)] at h
    exact ⟨_, (by decide +kernel : ∀ t : Fin grid0.N, (cfg0.win 7).flush t = true) _, h⟩

end Cert.FwdMixIdeal.Mix

namespace Cert.FwdMixRIdeal.Value

open Cert.FwdMixRIdeal Cert.FwdMixRIdeal.Gen Idealize.ShloMosaic Idealize.ShloMosaic.TcCoe Idealize.SL.Sem Idealize.ShloMosaic.StableHlo

/-! ## The reference's arrays

Each is the reference's operations, with the arrays they start from as arguments. -/

abbrev Rows := FVec Ideal S8192x512 .f32
abbrev Gain := FVec Ideal S1x512 .f32

/-- A branch's normalised rows, both branches side by side, and the residual sum. -/
noncomputable def rowT (x : Rows) (g : Gain) : Rows :=
  mulf (mulf x (broadcastInDim S8192x512 ![0, 1] bcast_S8192x1_S8192x512_0_1 (Host.rsqrt (addf (Host.divf (broadcastInDim S8192x1 ![0] bcast_S8192_S8192x1_0 (Host.reduceAdd (mulf x x) (constant S_ .f32 0x00000000#32) reducesTo_S8192x512_S8192_d1 h_S_))
    (broadcastInDim S8192x1 ![] bcast_S_S8192x1 (constant S_ .f32 0x44000000#32))) (broadcastInDim S8192x1 ![] bcast_S_S8192x1 (constant S_ .f32 0x358637BD#32)))))) (broadcastInDim S8192x512 ![0, 1] bcast_S1x512_S8192x512_0_1 g)
noncomputable def catT (x y : Rows) : FVec Ideal S8192x1024 .f32 :=
  concatenate S8192x1024 1 [⟨S8192x512, x⟩, ⟨S8192x512, y⟩] concatenates_S8192x512_S8192x512_S8192x1024_d1
noncomputable def hT (a : FVec Ideal S8192x1024 .f32) (n : FVec Ideal S8192x1024 .f32) (w : FVec Ideal S1024x1024 .f32) : FVec Ideal S8192x1024 .f32 :=
  addf a (Host.dotGeneral dot_S8192x1024_S1024x1024_S8192x1024_1_0_0_1_n_n none n w)

theorem row_entry (x : Rows) (g : Gain) (R : Fin 8192) (l : Fin 512) :
    (rowT x g (ix2 R l) : EReal) = Cert.Rms.row 1140850688 (fun k => x (ix2 R k)) (fun k => g (ix2 0 k)) l := by
  pointwise [rowT]
  rfl

theorem h_entry (a n : FVec Ideal S8192x1024 .f32) (w : FVec Ideal S1024x1024 .f32) (R : Fin 8192) (l : Fin 1024) :
    (hT a n w (ix2 R l) : EReal) = a (ix2 R l) + ∑ k : Fin 1024, n (ix2 R k) * w (ix2 k l) := by
  pointwise [hT]

end Cert.FwdMixRIdeal.Value

namespace Cert.Proof.FwdMix

open Idealize.ShloMosaic Idealize.ShloMosaic.TcCoe Idealize.SL.Sem Cert.FwdMixIdeal.Mix Cert.FwdMixRIdeal.Value

variable (m : (ℓ : Loc Cert.FwdMixIdeal.nD Cert.FwdMixIdeal.τ Cert.FwdMixIdeal.sig) → Buf (Elt Ideal) ℓ) (c : Dev Cert.FwdMixIdeal.nD)

/-- The reference's normalised rows side by side, of the kernel's arguments. -/
abbrev catA : FVec Ideal Cert.FwdMixRIdeal.S8192x1024 .f32 := catT (rowT (A0 m c) (A2 m c)) (rowT (A1 m c) (A3 m c))

theorem cat_row (R : Fin 8192) (l : Fin 1024) : (catA m c (ix2 R l) : EReal) = mixE m c R l := by
  refine (Cert.Blocks.cat_halves (b := 512) (b' := 512) rfl _ _ _ R l).trans ?_
  unfold mixE
  split
  · exact row_entry _ _ R _
  · exact row_entry _ _ R _

theorem h_eq : hT (A5 m c) (catA m c) (A4 m c) = hG m c := by
  funext i
  obtain ⟨R, l, rfl⟩ : ∃ (R : Fin 8192) (l : Fin 1024), i = ix2 R l := ⟨i 0, i 1, eq_ix2 (n0 := 8192) (n1 := 1024) i⟩
  refine (h_entry (A5 m c) (catA m c) (A4 m c) R l).trans ?_
  simp only [cat_row]
  rfl

theorem mix_eq : truncf .bf16 (catA m c) Cert.FwdMixRIdeal.Gen.bitsLt_bf16_f32 = mixG m c := by
  funext i
  obtain ⟨R, l, rfl⟩ : ∃ (R : Fin 8192) (l : Fin 1024), i = ix2 R l := ⟨i 0, i 1, eq_ix2 (n0 := 8192) (n1 := 1024) i⟩
  exact cat_row m c R l

/-- The kernel and the reference leave the same residual stream and the same normalised rows. -/
theorem algebraic : Cert.algebraic_FwdMixIdeal_FwdMixRIdeal := by
  intro m g m' g' _ hm
  refine ⟨fun c => hG m c, fun c => mixG m c,
    (θ_run Cert.FwdMixIdeal.defs _ _).mono (fun r h c => ⟨(h c).1.trans (final_h m c), (h c).2.1.trans (final_mix m c), (h c).2.2⟩)
      (Cert.FwdMixIdeal.Value.run_blocks m g), ?_⟩
  refine (θ_run Cert.FwdMixRIdeal.defs _ _).mono (fun r h c => ⟨(h c).1.trans ?_, (h c).2.1.trans ?_, (h c).2.2⟩) (Cert.FwdMixRIdeal.Value.run m' g')
  · rw [(hm c).1, (hm c).2.1, (hm c).2.2.1, (hm c).2.2.2.1, (hm c).2.2.2.2.1, (hm c).2.2.2.2.2]
    exact h_eq m c
  · rw [(hm c).1, (hm c).2.1, (hm c).2.2.1, (hm c).2.2.2.1]
    exact mix_eq m c

end Cert.Proof.FwdMix

end
-- ==== Proof.BwdMlpState.lean ====
/-
  The MLP backward: the kernel's five result arrays, entry by entry.
-/
module

public import proofs.«01_k».proof.Proof.BwdMlpFrame
public import proofs.«01_k».proof.Proof.Rms
public import proofs.«01_k».proof.Proof.Sums
public import Idealize.ShloMosaic.Lib.Pointwise
public import Idealize.ShloMosaic.Lib.Claim
public import Idealize.ShloMosaic.Lib.StableHlo.ReadAt

@[expose] public section

noncomputable section

namespace Cert.BwdMlpIdeal.Mlp

open Cert.BwdMlpIdeal Cert.BwdMlpIdeal.Gen
open Idealize.ShloMosaic Idealize.ShloMosaic.TcCoe Idealize.SL.Sem

/-! ## The payloads, entry by entry -/

/-- Twice the activation times the cotangent's product with the second weights: each of the four pieces is this. -/
def dEntry (u : Vec Ideal S512x512 .bf16) (b w : Vec Ideal S512x1024 .bf16) (r l : Fin 512) : EReal :=
  Ideal.ofBits .f32 1073741824#32 * u (ix2 r l) * ∑ k : Fin 1024, b (ix2 r k) * w (ix2 l k)

theorem piece0_apply (u : Vec Ideal S512x512 .bf16) (b w : Vec Ideal S512x1024 .bf16) (r l : Fin 512) :
    (k0_pay11 u b w (ix2 r l) : EReal) = dEntry u b w r l := by
  pointwise [k0_pay11]
  rfl
theorem piece1_apply (u : Vec Ideal S512x512 .bf16) (b w : Vec Ideal S512x1024 .bf16) (r l : Fin 512) :
    (k0_pay13 u b w (ix2 r l) : EReal) = dEntry u b w r l := by
  pointwise [k0_pay13]
  rfl
theorem piece2_apply (u : Vec Ideal S512x512 .bf16) (b w : Vec Ideal S512x1024 .bf16) (r l : Fin 512) :
    (k0_pay14 u b w (ix2 r l) : EReal) = dEntry u b w r l := by
  pointwise [k0_pay14]
  rfl
theorem piece3_apply (u : Vec Ideal S512x512 .bf16) (b w : Vec Ideal S512x1024 .bf16) (r l : Fin 512) :
    (k0_pay1 (F := Ideal) (k0_pay16 u) (k0_pay17 b) (k0_pay18 w) (constant S512x512 .f32 0x00000000#32) (ix2 r l) : EReal) = dEntry u b w r l := by
  pointwise [k0_pay1, k0_pay16, k0_pay17, k0_pay18]
  rfl

/-- The four products with the first weights' column blocks. -/
def wEntry (d : Fin 512 → EReal) (w : Vec Ideal S1x1024x512 .bf16) (l : Fin 1024) : EReal := ∑ j : Fin 512, d j * w (ix3 0 l j)

theorem sum_apply (u0 u2 : Vec Ideal S512x512 .bf16) (b v0 v2 : Vec Ideal S512x1024 .bf16) (p1 : FVec Ideal S512x512 .bf16) (w0 w1 w2 : Vec Ideal S1x1024x512 .bf16) (r : Fin 512) (l : Fin 1024) :
    (k0_pay15 (k0_pay12 u0 b v0 w0) p1 w1 u2 b v2 w2 (ix2 r l) : EReal)
      = wEntry (dEntry u0 b v0 r) w0 l + wEntry (fun j => p1 (ix2 r j)) w1 l + wEntry (dEntry u2 b v2 r) w2 l := by
  pointwise [k0_pay15, k0_pay12, k0_pay11, k0_pay14]
  rfl

theorem acc_apply (s : FVec Ideal S512x1024 .f32) (u : Vec Ideal S512x512 .bf16) (b v : Vec Ideal S512x1024 .bf16) (w : Vec Ideal S1x1024x512 .bf16) (a : Vec Ideal S512x1024 .f32) (r : Fin 512) (l : Fin 1024) :
    (k0_pay2 (F := Ideal) s (k0_pay16 u) (k0_pay17 b) (k0_pay18 v) (constant S512x512 .f32 0x00000000#32) w a (ix2 r l) : EReal)
      = a (ix2 r l) + (s (ix2 r l) + wEntry (dEntry u b v r) w l) := by
  pointwise [k0_pay2, k0_pay1, k0_pay16, k0_pay17, k0_pay18]
  rfl

theorem rows_apply (g : Vec Ideal S1x1024 .f32) (x a d : Vec Ideal S512x1024 .f32) (r : Fin 512) (l : Fin 1024) :
    (k0_pay7 g x a d (ix2 r l) : EReal)
      = d (ix2 r l) + Cert.Rms.grad 1149239296 (fun k => x (ix2 r k)) (fun k => a (ix2 r k) * g (ix2 0 k)) l := by
  pointwise [k0_pay7, k0_pay5, k0_pay4]
  rfl

theorem norm_apply (x : Vec Ideal S512x1024 .f32) (g : Vec Ideal S1x1024 .f32) (r : Fin 512) (l : Fin 1024) :
    (k0_pay8 x g (ix2 r l) : EReal) = Cert.Rms.row 1149239296 (fun k => x (ix2 r k)) (fun k => g (ix2 0 k)) l := by
  pointwise [k0_pay8]
  rfl

theorem cast_apply (x : Vec Ideal S512x1024 .f32) (r : Fin 512) (l : Fin 1024) : (k0_pay9 x (ix2 r l) : EReal) = x (ix2 r l) := by
  pointwise [k0_pay9]

theorem gain_apply (x a : Vec Ideal S512x1024 .f32) (g : Vec Ideal S1x1024 .f32) (l : Fin 1024) :
    (k0_pay6 x a g (ix2 0 l) : EReal) = g (ix2 0 l) + ∑ r : Fin 512, a (ix2 r l) * (x (ix2 r l) * Cert.Rms.rstd 1149239296 fun k => x (ix2 r k)) := by
  pointwise [k0_pay6, k0_pay5, k0_pay4]
  rfl

theorem zero_row_apply (l : Fin 1024) : (k0_pay3 (F := Ideal) (ix2 0 l) : EReal) = 0 := by
  pointwise [k0_pay3]

theorem zero_block_apply (r : Fin 512) (l : Fin 1024) : (k0_pay10 (F := Ideal) (ix2 r l) : EReal) = 0 := by
  pointwise [k0_pay10]

/-! ## The blocks of the arguments -/

variable (m : (ℓ : Loc nD τ sig) → Buf (Elt Ideal) ℓ) (c : Dev nD)

abbrev A0 : Vec Ideal S8192x1024 .f32 := m ((c : Thread nD τ).loc main_arg0)
abbrev A1 : Vec Ideal S8192x1024 .f32 := m ((c : Thread nD τ).loc main_arg1)
abbrev A2 : Vec Ideal S1x1024 .f32 := m ((c : Thread nD τ).loc main_arg2)
abbrev A3 : Vec Ideal S1024x4096 .f32 := m ((c : Thread nD τ).loc main_arg3)
abbrev A4 : Vec Ideal S4096x1024 .f32 := m ((c : Thread nD τ).loc main_arg4)

/-- The row of the arrays that row `r` of point `t`'s blocks is, and the column of the hidden layer that column `j` is. -/
def rowOf (t : Fin cfg0.N) (r : Fin 512) : Fin 8192 := ⟨512 * (t.val / 2) + r.val, by have := lt_of_lt_of_eq t.isLt points; omega⟩
def colOf (t : Fin cfg0.N) (j : Fin 2048) : Fin 4096 := ⟨2048 * (t.val % 2) + j.val, by omega⟩

theorem rowOf_ev (t : Fin cfg0.N) (r : Fin 512) : rowOf (ev t) r = rowOf t r :=
  Fin.ext (by show 512 * ((t.val - t.val % 2) / 2) + r.val = 512 * (t.val / 2) + r.val; omega)

/-- The rows of the saved input, the gain, and the activation the call saves for itself. -/
abbrev x1 (R : Fin 8192) (k : Fin 1024) : EReal := A1 m c (ix2 R k)
abbrev g2 (k : Fin 1024) : EReal := A2 m c (ix2 0 k)
def upE (R : Fin 8192) (J : Fin 4096) : EReal := max (∑ k : Fin 1024, Cert.Rms.row 1149239296 (x1 m c R) (g2 m c) k * A3 m c (ix2 k J)) 0

theorem V_up (R : Fin 8192) (J : Fin 4096) : (V m c main_v16 (ix2 R J) : EReal) = upE m c R J := by
  simp only [V, hostOps0, hostOps0_1, hostOps0_2, List.flatten_cons, List.flatten_nil, List.append_nil, List.cons_append, List.nil_append]
  after_reads_at
  rfl

theorem V_wu (q : Fin 8) (k : Fin 1024) (l : Fin 512) :
    V m c main_v18 (ix3 q k l) = A3 m c (ix2 k ⟨512 * q.val + l.val, by omega⟩) := by
  simp only [V, hostOps0, hostOps0_1, hostOps0_2, List.flatten_cons, List.flatten_nil, List.append_nil, List.cons_append, List.nil_append]
  after_reads_at
  exact congrArg (fun j => A3 m c (ix2 k j)) (Fin.ext (by dsimp only; omega))

theorem V_wd (k : Fin 4096) (l : Fin 1024) : V m c main_v1 (ix2 k l) = A4 m c (ix2 k l) := by
  simp only [V, hostOps0, hostOps0_1, hostOps0_2, List.flatten_cons, List.flatten_nil, List.append_nil, List.cons_append, List.nil_append]
  after_reads_at

/-- The block indices at a point: the row windows move once a pair, the weights and the activation's columns once a point. -/
theorem idx_rows : ∀ t : Fin cfg0.N, (win0_0.index t (0 : Fin 2) = t.val / 2 ∧ win0_0.index t (1 : Fin 2) = 0) ∧ (win0_2.index t (0 : Fin 2) = t.val / 2 ∧ win0_2.index t (1 : Fin 2) = 0) ∧ (win0_7.index t (0 : Fin 2) = t.val / 2 ∧ win0_7.index t (1 : Fin 2) = 0) ∧ (win0_8.index t (0 : Fin 2) = t.val / 2 ∧ win0_8.index t (1 : Fin 2) = 0) ∧ (win0_9.index t (0 : Fin 2) = t.val / 2 ∧ win0_9.index t (1 : Fin 2) = 0) :=
  (by decide +kernel : ∀ t : Fin grid0.N, _)
theorem idx_cols : ∀ t : Fin cfg0.N, (win0_1.index t (0 : Fin 2) = t.val / 2 ∧ win0_1.index t (1 : Fin 2) = t.val % 2) ∧ (win0_6.index t (0 : Fin 2) = t.val / 2 ∧ win0_6.index t (1 : Fin 2) = t.val % 2) ∧ (win0_5.index t (0 : Fin 2) = t.val % 2 ∧ win0_5.index t (1 : Fin 2) = 0) ∧ (win0_4.index t (0 : Fin 3) = t.val % 2 ∧ win0_4.index t (1 : Fin 3) = 0 ∧ win0_4.index t (2 : Fin 3) = 0) :=
  (by decide +kernel : ∀ t : Fin grid0.N, _)
theorem idx_all : ∀ t : Fin cfg0.N, (win0_3.index t (0 : Fin 2) = 0 ∧ win0_3.index t (1 : Fin 2) = 0) ∧ (win0_10.index t (0 : Fin 2) = 0 ∧ win0_10.index t (1 : Fin 2) = 0) :=
  (by decide +kernel : ∀ t : Fin grid0.N, _)

theorem blk0_apply (t : Fin cfg0.N) (r : Fin 512) (k : Fin 1024) : iblk m c 0 t (ix2 r k) = A0 m c (ix2 (rowOf t r) k) := by
  unfold iblk
  rw [View.read_apply]
  refine (congrArg (V m c main_arg0) (Cert.Blocks.ext2 ?_ ?_)).trans (congrFun (V_main_arg0 m c) _)
  · show win0_0.index t 0 * 512 + 1 * r.val = 512 * (t.val / 2) + r.val; rw [(idx_rows t).1.1]; omega
  · show win0_0.index t 1 * 1024 + 1 * k.val = k.val; rw [(idx_rows t).1.2]; omega

theorem blk2_apply (t : Fin cfg0.N) (r : Fin 512) (k : Fin 1024) : iblk m c 2 t (ix2 r k) = A1 m c (ix2 (rowOf t r) k) := by
  unfold iblk
  rw [View.read_apply]
  refine (congrArg (V m c main_arg1) (Cert.Blocks.ext2 ?_ ?_)).trans (congrFun (V_main_arg1 m c) _)
  · show win0_2.index t 0 * 512 + 1 * r.val = 512 * (t.val / 2) + r.val; rw [(idx_rows t).2.1.1]; omega
  · show win0_2.index t 1 * 1024 + 1 * k.val = k.val; rw [(idx_rows t).2.1.2]; omega

theorem blk3_apply (t : Fin cfg0.N) (k : Fin 1024) : iblk m c 3 t (ix2 0 k) = A2 m c (ix2 0 k) := by
  unfold iblk
  rw [View.read_apply]
  refine (congrArg (V m c main_arg2) (Cert.Blocks.ext2 ?_ ?_)).trans (congrFun (V_main_arg2 m c) _)
  · show win0_3.index t 0 * 1 + 1 * 0 = 0; rw [(idx_all t).1.1]
  · show win0_3.index t 1 * 1024 + 1 * k.val = k.val; rw [(idx_all t).1.2]; omega

theorem blk1_apply (t : Fin cfg0.N) (r : Fin 512) (j : Fin 2048) : (iblk m c 1 t (ix2 r j) : EReal) = upE m c (rowOf t r) (colOf t j) := by
  unfold iblk
  rw [View.read_apply]
  refine (congrArg (V m c main_v16) (Cert.Blocks.ext2 ?_ ?_)).trans (V_up m c (rowOf t r) (colOf t j))
  · show win0_1.index t 0 * 512 + 1 * r.val = 512 * (t.val / 2) + r.val; rw [(idx_cols t).1.1]; omega
  · show win0_1.index t 1 * 2048 + 1 * j.val = 2048 * (t.val % 2) + j.val; rw [(idx_cols t).1.2]; omega

theorem blk5_apply (t : Fin cfg0.N) (j : Fin 2048) (k : Fin 1024) : iblk m c 5 t (ix2 j k) = A4 m c (ix2 (colOf t j) k) := by
  unfold iblk
  rw [View.read_apply]
  refine (congrArg (V m c main_v1) (Cert.Blocks.ext2 ?_ ?_)).trans (V_wd m c (colOf t j) k)
  · show win0_5.index t 0 * 2048 + 1 * j.val = 2048 * (t.val % 2) + j.val; rw [(idx_cols t).2.2.1.1]; omega
  · show win0_5.index t 1 * 1024 + 1 * k.val = k.val; rw [(idx_cols t).2.2.1.2]; omega

theorem ext3 {a b d : ℕ} {i : (⟨3, ![a, b, d]⟩ : Shape).Idx} {x : Fin a} {y : Fin b} {z : Fin d}
    (h0 : (i 0).val = x.val) (h1 : (i 1).val = y.val) (h2 : (i 2).val = z.val) : i = ix3 x y z := by
  funext k
  apply Fin.ext
  match k with
  | ⟨0, _⟩ => exact h0
  | ⟨1, _⟩ => exact h1
  | ⟨2, _⟩ => exact h2

theorem blk4_apply (t : Fin cfg0.N) (q : Fin 4) (l : Fin 1024) (j : Fin 512) :
    iblk m c 4 t (ix3 q l j) = A3 m c (ix2 l (colOf t ⟨512 * q.val + j.val, by omega⟩)) := by
  unfold iblk
  rw [View.read_apply]
  refine (congrArg (V m c main_v18) (ext3 (x := (⟨4 * (t.val % 2) + q.val, by omega⟩ : Fin 8)) (y := l) (z := j) ?_ ?_ ?_)).trans
    ((V_wu m c _ l j).trans (congrArg (fun J => A3 m c (ix2 l J)) (Fin.ext ?_)))
  · show win0_4.index t 0 * 4 + 1 * q.val = 4 * (t.val % 2) + q.val; rw [(idx_cols t).2.2.2.1]; omega
  · show win0_4.index t 1 * 1024 + 1 * l.val = l.val; rw [(idx_cols t).2.2.2.2.1]; omega
  · show win0_4.index t 2 * 512 + 1 * j.val = j.val; rw [(idx_cols t).2.2.2.2.2]; omega
  · show 512 * (4 * (t.val % 2) + q.val) + j.val = 2048 * (t.val % 2) + (512 * q.val + j.val); omega

theorem castAt_apply (t : Fin cfg0.N) (r : Fin 512) (k : Fin 1024) : (castAt m c t (ix2 r k) : EReal) = A0 m c (ix2 (rowOf t r) k) := by
  unfold castAt
  rw [cast_apply, ← rowOf_ev]
  exact blk0_apply m c (ev t) r k

/-! ## The gradient at the hidden layer -/

def dupE (R : Fin 8192) (J : Fin 4096) : EReal :=
  Ideal.ofBits .f32 1073741824#32 * upE m c R J * ∑ k : Fin 1024, A0 m c (ix2 R k) * A4 m c (ix2 J k)

/-- The column piece at `o` of what a point computes. -/
theorem piece_eq (t : Fin cfg0.N) (o : ℕ) (ho : o + 512 ≤ 2048) (inb) (inb') (r l : Fin 512) :
    dEntry (upAt (iblk m c 1 t) o inb) (castAt m c t) (downAt (iblk m c 5 t) o inb') r l
      = dupE m c (rowOf t r) (colOf t ⟨o + l.val, by omega⟩) := by
  unfold dEntry dupE
  refine congrArg₂ (fun a b : EReal => a * b) (congrArg (fun a : EReal => _ * a) ?_) (Finset.sum_congr rfl fun k _ =>
    congrArg₂ (fun a b : EReal => a * b) (castAt_apply m c t r k) ?_)
  · refine Eq.trans (congrArg (iblk m c 1 t) ?_) (blk1_apply m c t r ⟨o + l.val, by omega⟩)
    refine Cert.Blocks.ext2 ?_ ?_
    · show 0 + 1 * r.val = r.val; omega
    · show o + 1 * l.val = o + l.val; omega
  · refine Eq.trans (congrArg (iblk m c 5 t) ?_) (blk5_apply m c t ⟨o + l.val, by omega⟩ k)
    refine Cert.Blocks.ext2 ?_ ?_
    · show o + 1 * l.val = o + l.val; omega
    · show 0 + 1 * k.val = k.val; omega

/-- The gradient on a point's block. -/
def dupB (t : Fin cfg0.N) : Vec Ideal S512x2048 .bf16 := fun y => dupE m c (rowOf t (y 0)) (colOf t (y 1))

/-- So a stored piece holds, at each of its places in the block, the gradient there. -/
theorem piece_at (t : Fin cfg0.N) (o : ℕ) (ho : o + 512 ≤ 2048) (inb) (inb') (p : FVec Ideal S512x512 .bf16)
    (hp : ∀ r l, (p (ix2 r l) : EReal) = dEntry (upAt (iblk m c 1 t) o inb) (castAt m c t) (downAt (iblk m c 5 t) o inb') r l) (x : S512x512.Idx) :
    p x = dupB m c t ((Rect.unit (s := S512x2048) ![0, o] S512x512.size inb).emb x) := by
  obtain ⟨r, l, rfl⟩ : ∃ r l : Fin 512, x = ix2 r l := ⟨x 0, x 1, eq_ix2 x⟩
  refine ((hp r l).trans (piece_eq m c t o ho inb inb' r l)).trans ?_
  have e : (Rect.unit (s := S512x2048) ![0, o] S512x512.size inb).emb (ix2 r l) = (ix2 r (⟨o + l.val, by omega⟩ : Fin 2048) : S512x2048.Idx) := by
    refine Cert.Blocks.ext2 ?_ ?_
    · show 0 + 1 * r.val = r.val; omega
    · show o + 1 * l.val = o + l.val; omega
  rw [e]
  rfl

theorem dup_point (t : Fin cfg0.N) (r : Fin 512) (j : Fin 2048) : (dupAt m c t (ix2 r j) : EReal) = dupE m c (rowOf t r) (colOf t j) := by
  unfold dupAt dupV
  refine View.canon_apply_of_pieces (dupB m c t) _ ?_ _ (cover_dup _ _ _ _ _)
  intro p hp
  rcases List.mem_cons.1 hp with rfl | hp
  · exact piece_at m c t 1536 (by omega) _ inb_S2048x1024_S512x1024_1536_0 _ fun r l => piece3_apply _ _ _ r l
  rcases List.mem_cons.1 hp with rfl | hp
  · exact piece_at m c t 1024 (by omega) _ inb_S2048x1024_S512x1024_1024_0 _ fun r l => piece2_apply _ _ _ r l
  rcases List.mem_cons.1 hp with rfl | hp
  · exact piece_at m c t 512 (by omega) _ inb_S2048x1024_S512x1024_512_0 _ fun r l => piece1_apply _ _ _ r l
  rcases List.mem_cons.1 hp with rfl | hp
  · exact piece_at m c t 0 (by omega) _ inb_S2048x1024_S512x1024_0_0 _ fun r l => piece0_apply _ _ _ r l
  · cases hp

/-! ## The gradient at the normalised rows -/

def dhnE (R : Fin 8192) (l : Fin 1024) : EReal := ∑ J : Fin 4096, dupE m c R J * A3 m c (ix2 l J)
/-- Its terms, and the sum of the terms of one column block. -/
def dhnN (R : Fin 8192) (l : Fin 1024) (J : ℕ) : EReal := if h : J < 4096 then dupE m c R ⟨J, h⟩ * A3 m c (ix2 l ⟨J, h⟩) else 0
def dhnB (R : Fin 8192) (l : Fin 1024) (q : ℕ) : EReal := ∑ j : Fin 512, dhnN m c R l (512 * q + j.val)

theorem dhn_blocks (R : Fin 8192) (l : Fin 1024) : ∑ q ∈ Finset.range 8, dhnB m c R l q = dhnE m c R l :=
  (Cert.Sums.sum_blocks 8 512 4096 rfl (dhnN m c R l)).trans (Finset.sum_congr rfl fun J _ => dif_pos J.isLt)

/-- One column block of what a point adds. -/
theorem block_eq (t : Fin cfg0.N) (q : Fin 4) (inb) (d : Fin 512 → EReal) (r : Fin 512) (l : Fin 1024)
    (hd : ∀ j, d j = dupE m c (rowOf t r) (colOf t ⟨512 * q.val + j.val, by omega⟩)) :
    wEntry d (wAt (iblk m c 4 t) q.val inb) l = dhnB m c (rowOf t r) l (4 * (t.val % 2) + q.val) := by
  unfold wEntry dhnB
  refine Finset.sum_congr rfl fun j _ => ?_
  unfold dhnN
  rw [dif_pos (by omega)]
  refine congrArg₂ (fun a b : EReal => a * b) ((hd j).trans (congrArg (dupE m c (rowOf t r)) (Fin.ext ?_)))
    (Eq.trans (congrArg (iblk m c 4 t) (ext3 (x := q) (y := l) (z := j) ?_ ?_ ?_)) ((blk4_apply m c t q l j).trans (congrArg (fun J => A3 m c (ix2 l J)) (Fin.ext ?_))))
  · show 2048 * (t.val % 2) + (512 * q.val + j.val) = 512 * (4 * (t.val % 2) + q.val) + j.val; omega
  · show q.val + 1 * 0 = q.val; omega
  · show 0 + 1 * l.val = l.val; omega
  · show 0 + 1 * j.val = j.val; omega
  · show 2048 * (t.val % 2) + (512 * q.val + j.val) = 512 * (4 * (t.val % 2) + q.val) + j.val; omega

theorem acc_eq (t : Fin cfg0.N) (a : Vec Ideal S512x1024 .f32) (r : Fin 512) (l : Fin 1024) :
    (accV (castAt m c t) (iblk m c 1 t) (iblk m c 4 t) (iblk m c 5 t) a (ix2 r l) : EReal)
      = a (ix2 r l) + (dhnB m c (rowOf t r) l (4 * (t.val % 2) + 0) + dhnB m c (rowOf t r) l (4 * (t.val % 2) + 1)
          + dhnB m c (rowOf t r) l (4 * (t.val % 2) + 2) + dhnB m c (rowOf t r) l (4 * (t.val % 2) + 3)) := by
  unfold accV
  rw [acc_apply, sum_apply]
  refine congrArg (fun z : EReal => a (ix2 r l) + z) (congrArg₂ (fun a b : EReal => a + b) (congrArg₂ (fun a b : EReal => a + b) (congrArg₂ (fun a b : EReal => a + b) ?_ ?_) ?_) ?_)
  · exact block_eq m c t 0 _ _ r l fun j => piece_eq m c t 0 (by omega) _ _ r j
  · exact block_eq m c t 1 _ _ r l fun j => (piece1_apply _ _ _ r j).trans (piece_eq m c t 512 (by omega) _ _ r j)
  · exact block_eq m c t 2 _ _ r l fun j => piece_eq m c t 1024 (by omega) _ _ r j
  · exact block_eq m c t 3 _ _ r l fun j => piece_eq m c t 1536 (by omega) _ _ r j

/-- After the pair's second point the accumulator holds the gradient. -/
theorem acc_point (t : Fin cfg0.N) (h : t.val % 2 = 1) (r : Fin 512) (l : Fin 1024) : (accAt m c t (ix2 r l) : EReal) = dhnE m c (rowOf t r) l := by
  unfold accAt
  rw [if_neg (by omega), acc_eq, h]
  unfold accFirst
  rw [acc_eq, rowOf_ev, zero_block_apply, show (ev t).val % 2 = 0 by show (t.val - t.val % 2) % 2 = 0; omega, ← dhn_blocks]
  simp only [Finset.sum_range_succ, Finset.sum_range_zero, zero_add, Nat.mul_zero, Nat.mul_one, Nat.reduceAdd, add_assoc]

/-! ## What a point leaves -/

theorem rows_eq (t : Fin cfg0.N) (r : Fin 512) :
    (fun k => (iblk m c 2 t (ix2 r k) : EReal)) = x1 m c (rowOf t r) ∧ (fun k => (iblk m c 3 t (ix2 0 k) : EReal)) = g2 m c :=
  ⟨funext fun k => blk2_apply m c t r k, funext fun k => blk3_apply m c t k⟩

def dhE (R : Fin 8192) (l : Fin 1024) : EReal := A0 m c (ix2 R l) + Cert.Rms.grad 1149239296 (x1 m c R) (fun k => dhnE m c R k * g2 m c k) l
def hnE (R : Fin 8192) (l : Fin 1024) : EReal := Cert.Rms.row 1149239296 (x1 m c R) (g2 m c) l
def dgE (l : Fin 1024) (R : Fin 8192) : EReal := dhnE m c R l * (x1 m c R l * Cert.Rms.rstd 1149239296 (x1 m c R))
def dgN (l : Fin 1024) (R : ℕ) : EReal := if h : R < 8192 then dgE m c l ⟨R, h⟩ else 0

theorem rows_point (t : Fin cfg0.N) (h : t.val % 2 = 1) (r : Fin 512) (l : Fin 1024) : (rowsAt m c t (ix2 r l) : EReal) = dhE m c (rowOf t r) l := by
  unfold rowsAt dhE
  rw [rows_apply, (rows_eq m c t r).1]
  refine congrArg₂ (fun a b : EReal => a + b) (blk0_apply m c t r l) (congrArg (fun d => Cert.Rms.grad 1149239296 (x1 m c (rowOf t r)) d l) (funext fun k => ?_))
  exact congrArg₂ (fun a b : EReal => a * b) (acc_point m c t h r k) (blk3_apply m c t k)

theorem norm_point (t : Fin cfg0.N) (r : Fin 512) (l : Fin 1024) : (normAt m c t (ix2 r l) : EReal) = hnE m c (rowOf t r) l := by
  unfold normAt hnE
  rw [norm_apply, (rows_eq m c (ev t) r).1, (rows_eq m c (ev t) r).2, rowOf_ev]

/-- What a pair adds to the gain's gradient. -/
theorem gain_step (t : Fin cfg0.N) (h : t.val % 2 = 1) (g : Vec Ideal S1x1024 .f32) (l : Fin 1024) :
    (k0_pay6 (iblk m c 2 t) (accAt m c t) g (ix2 0 l) : EReal) = g (ix2 0 l) + ∑ r : Fin 512, dgN m c l (512 * (t.val / 2) + r.val) := by
  rw [gain_apply]
  refine congrArg (fun z : EReal => g (ix2 0 l) + z) (Finset.sum_congr rfl fun r _ => ?_)
  have hr : 512 * (t.val / 2) + r.val < 8192 := (rowOf t r).isLt
  unfold dgN dgE
  rw [dif_pos hr, (rows_eq m c t r).1]
  exact congrArg₂ (fun a b : EReal => a * b) (acc_point m c t h r l) (congrArg (fun z : EReal => z * _) (blk2_apply m c t r l))

theorem gain_point : ∀ (n : ℕ) (h : n < cfg0.N) (l : Fin 1024),
    (gainAt m c n h (ix2 0 l) : EReal) = ∑ I ∈ Finset.range ((n + 1) / 2), ∑ r : Fin 512, dgN m c l (512 * I + r.val) := by
  intro n
  induction n with
  | zero =>
    intro h l
    exact zero_row_apply l
  | succ n ih =>
    intro h l
    by_cases h2 : (n + 1) % 2 = 0
    · rw [gainAt_first m c ⟨n + 1, h⟩ h2 (by dsimp only; omega) (Nat.lt_of_succ_lt h), show (n + 1 + 1) / 2 = (n + 1) / 2 by omega]
      exact ih (Nat.lt_of_succ_lt h) l
    · rw [gainAt_last m c ⟨n + 1, h⟩ (by dsimp only; omega) (Nat.lt_of_succ_lt h), gain_step m c ⟨n + 1, h⟩ (by dsimp only; omega),
        show (n + 1 + 1) / 2 = (n + 1) / 2 + 1 by omega, Finset.sum_range_succ]
      exact congrArg (fun z : EReal => z + _) (ih (Nat.lt_of_succ_lt h) l)

/-! ## The result arrays -/

def dupG : Vec Ideal S8192x4096 .bf16 := fun i => dupE m c (i 0) (i 1)
def dhG : Vec Ideal S8192x1024 .f32 := fun i => dhE m c (i 0) (i 1)
def hnG : Vec Ideal S8192x1024 .bf16 := fun i => hnE m c (i 0) (i 1)
def ctG : Vec Ideal S8192x1024 .bf16 := fun i => A0 m c i
def dgG : Vec Ideal S1x1024 .f32 := fun i => ∑ R : Fin 8192, dgE m c (i 1) R

/-- The second point of a row's pair, which writes the row back; it is one of the grid, and the row is one of its block. -/
theorem last_lt (R : Fin 8192) : 2 * (R.val / 512) + 1 < cfg0.N := lt_of_lt_of_eq (show _ < 32 by omega) points.symm
theorem last_odd (R : Fin 8192) : (2 * (R.val / 512) + 1) % 2 = 1 := by omega
theorem last_row (R : Fin 8192) : rowOf ⟨2 * (R.val / 512) + 1, last_lt R⟩ ⟨R.val % 512, by omega⟩ = R :=
  Fin.ext (by show 512 * ((2 * (R.val / 512) + 1) / 2) + R.val % 512 = R.val; omega)

theorem emb6 (t : Fin cfg0.N) (r : Fin 512) (j : Fin 2048) : ((cfg0.win 6).blk t).view.emb (ix2 r j) = (ix2 (rowOf t r) (colOf t j) : S8192x4096.Idx) := by
  refine Cert.Blocks.ext2 ?_ ?_
  · show win0_6.index t 0 * 512 + 1 * r.val = 512 * (t.val / 2) + r.val; rw [(idx_cols t).2.1.1]; omega
  · show win0_6.index t 1 * 2048 + 1 * j.val = 2048 * (t.val % 2) + j.val; rw [(idx_cols t).2.1.2]; omega

theorem final_dup : (dats m 0 c).arrAt 6 cfg0.N = dupG m c := by
  refine (dats m 0 c).arrAt_eq_of_cover 6 _ (fun t _ => ?_) fun i => ?_
  · show (cfg0.win 6).cut (grid0.coords t) ((dats m 0 c).after 6 t) = _
    rw [after_6]
    funext y
    obtain ⟨r, j, rfl⟩ : ∃ (r : Fin 512) (j : Fin 2048), y = ix2 r j := ⟨y 0, y 1, eq_ix2 y⟩
    rw [View.read_apply]
    exact (dup_point m c t r j).trans (congrArg (dupG m c) (emb6 t r j)).symm
  · obtain ⟨R, J, rfl⟩ : ∃ (R : Fin 8192) (J : Fin 4096), i = ix2 R J := ⟨i 0, i 1, eq_ix2 (n0 := 8192) (n1 := 4096) i⟩
    have hN : 2 * (R.val / 512) + J.val / 2048 < cfg0.N := lt_of_lt_of_eq (show _ < 32 by omega) points.symm
    have h := ((cfg0.win 6).blk ⟨_, hN⟩).view.emb_mem_set (ix2 (⟨R.val % 512, by omega⟩ : Fin 512) (⟨J.val % 2048, by omega⟩ : Fin 2048))
    rw [emb6, show rowOf ⟨_, hN⟩ ⟨R.val % 512, by omega⟩ = R from Fin.ext (by show 512 * ((2 * (R.val / 512) + J.val / 2048) / 2) + R.val % 512 = R.val; omega),
      show colOf ⟨_, hN⟩ ⟨J.val % 2048, by omega⟩ = J from Fin.ext (by show 2048 * ((2 * (R.val / 512) + J.val / 2048) % 2) + J.val % 2048 = J.val; omega)] at h
    exact ⟨_, flush0_6 _, h⟩

theorem emb7 (t : Fin cfg0.N) (r : Fin 512) (l : Fin 1024) : ((cfg0.win 7).blk t).view.emb (ix2 r l) = (ix2 (rowOf t r) l : S8192x1024.Idx) := by
  refine Cert.Blocks.ext2 ?_ ?_
  · show win0_7.index t 0 * 512 + 1 * r.val = 512 * (t.val / 2) + r.val; rw [(idx_rows t).2.2.1.1]; omega
  · show win0_7.index t 1 * 1024 + 1 * l.val = l.val; rw [(idx_rows t).2.2.1.2]; omega

theorem final_dh : (dats m 0 c).arrAt 7 cfg0.N = dhG m c := by
  refine (dats m 0 c).arrAt_eq_of_cover 7 _ (fun t hf => ?_) fun i => ?_
  · show (cfg0.win 7).cut (grid0.coords t) ((dats m 0 c).after 7 t) = _
    rw [after_7]
    funext y
    obtain ⟨r, l, rfl⟩ : ∃ (r : Fin 512) (l : Fin 1024), y = ix2 r l := ⟨y 0, y 1, eq_ix2 y⟩
    rw [View.read_apply]
    exact (rows_point m c t ((flush0_7 t).1 hf) r l).trans (congrArg (dhG m c) (emb7 t r l)).symm
  · obtain ⟨R, l, rfl⟩ : ∃ (R : Fin 8192) (l : Fin 1024), i = ix2 R l := ⟨i 0, i 1, eq_ix2 (n0 := 8192) (n1 := 1024) i⟩
    have h := ((cfg0.win 7).blk ⟨_, last_lt R⟩).view.emb_mem_set (ix2 (⟨R.val % 512, by omega⟩ : Fin 512) l)
    rw [emb7, last_row] at h
    exact ⟨_, (flush0_7 ⟨_, last_lt R⟩).2 (last_odd R), h⟩

theorem emb8 (t : Fin cfg0.N) (r : Fin 512) (l : Fin 1024) : ((cfg0.win 8).blk t).view.emb (ix2 r l) = (ix2 (rowOf t r) l : S8192x1024.Idx) := by
  refine Cert.Blocks.ext2 ?_ ?_
  · show win0_8.index t 0 * 512 + 1 * r.val = 512 * (t.val / 2) + r.val; rw [(idx_rows t).2.2.2.1.1]; omega
  · show win0_8.index t 1 * 1024 + 1 * l.val = l.val; rw [(idx_rows t).2.2.2.1.2]; omega

theorem final_hn : (dats m 0 c).arrAt 8 cfg0.N = hnG m c := by
  refine (dats m 0 c).arrAt_eq_of_cover 8 _ (fun t _ => ?_) fun i => ?_
  · show (cfg0.win 8).cut (grid0.coords t) ((dats m 0 c).after 8 t) = _
    rw [after_8]
    funext y
    obtain ⟨r, l, rfl⟩ : ∃ (r : Fin 512) (l : Fin 1024), y = ix2 r l := ⟨y 0, y 1, eq_ix2 y⟩
    rw [View.read_apply]
    exact (norm_point m c t r l).trans (congrArg (hnG m c) (emb8 t r l)).symm
  · obtain ⟨R, l, rfl⟩ : ∃ (R : Fin 8192) (l : Fin 1024), i = ix2 R l := ⟨i 0, i 1, eq_ix2 (n0 := 8192) (n1 := 1024) i⟩
    have h := ((cfg0.win 8).blk ⟨_, last_lt R⟩).view.emb_mem_set (ix2 (⟨R.val % 512, by omega⟩ : Fin 512) l)
    rw [emb8, last_row] at h
    exact ⟨_, (flush0_8 ⟨_, last_lt R⟩).2 (last_odd R), h⟩

theorem emb9 (t : Fin cfg0.N) (r : Fin 512) (l : Fin 1024) : ((cfg0.win 9).blk t).view.emb (ix2 r l) = (ix2 (rowOf t r) l : S8192x1024.Idx) := by
  refine Cert.Blocks.ext2 ?_ ?_
  · show win0_9.index t 0 * 512 + 1 * r.val = 512 * (t.val / 2) + r.val; rw [(idx_rows t).2.2.2.2.1]; omega
  · show win0_9.index t 1 * 1024 + 1 * l.val = l.val; rw [(idx_rows t).2.2.2.2.2]; omega

theorem final_ct : (dats m 0 c).arrAt 9 cfg0.N = ctG m c := by
  refine (dats m 0 c).arrAt_eq_of_cover 9 _ (fun t _ => ?_) fun i => ?_
  · show (cfg0.win 9).cut (grid0.coords t) ((dats m 0 c).after 9 t) = _
    rw [after_9]
    funext y
    obtain ⟨r, l, rfl⟩ : ∃ (r : Fin 512) (l : Fin 1024), y = ix2 r l := ⟨y 0, y 1, eq_ix2 y⟩
    rw [View.read_apply]
    exact (castAt_apply m c t r l).trans (congrArg (ctG m c) (emb9 t r l)).symm
  · obtain ⟨R, l, rfl⟩ : ∃ (R : Fin 8192) (l : Fin 1024), i = ix2 R l := ⟨i 0, i 1, eq_ix2 (n0 := 8192) (n1 := 1024) i⟩
    have h := ((cfg0.win 9).blk ⟨_, last_lt R⟩).view.emb_mem_set (ix2 (⟨R.val % 512, by omega⟩ : Fin 512) l)
    rw [emb9, last_row] at h
    exact ⟨_, (flush0_9 ⟨_, last_lt R⟩).2 (last_odd R), h⟩

theorem emb10 (t : Fin cfg0.N) (l : Fin 1024) : ((cfg0.win 10).blk t).view.emb (ix2 0 l) = (ix2 0 l : S1x1024.Idx) := by
  refine Cert.Blocks.ext2 ?_ ?_
  · show win0_10.index t 0 * 1 + 1 * 0 = 0; rw [(idx_all t).2.1]
  · show win0_10.index t 1 * 1024 + 1 * l.val = l.val; rw [(idx_all t).2.2]; omega

set_option maxRecDepth 65536 in
theorem final_dg : (dats m 0 c).arrAt 10 cfg0.N = dgG m c := by
  refine (dats m 0 c).arrAt_eq_of_cover 10 _ (fun t hf => ?_) fun i => ?_
  · show (cfg0.win 10).cut (grid0.coords t) ((dats m 0 c).after 10 t) = _
    rw [after_10]
    funext y
    obtain ⟨r, l, rfl⟩ : ∃ (r : Fin 1) (l : Fin 1024), y = ix2 r l := ⟨y 0, y 1, eq_ix2 y⟩
    rw [View.read_apply, Subsingleton.elim r 0]
    have e : (gainAt m c t.val t.isLt (ix2 0 l) : EReal) = dgG m c (ix2 0 l) := by
      refine (gain_point m c t.val t.isLt l).trans ?_
      have h31 := (flush0_10 t).1 hf
      have hN := lt_of_lt_of_eq t.isLt points
      rw [show (t.val + 1) / 2 = 16 by omega]
      exact (Cert.Sums.sum_blocks 16 512 8192 rfl (dgN m c l)).trans (Finset.sum_congr rfl fun R _ => dif_pos R.isLt)
    exact e.trans (congrArg (dgG m c) (emb10 t l)).symm
  · obtain ⟨R, l, rfl⟩ : ∃ (R : Fin 1) (l : Fin 1024), i = ix2 R l := ⟨i 0, i 1, eq_ix2 (n0 := 1) (n1 := 1024) i⟩
    rw [Subsingleton.elim R 0]
    have hN : 31 < cfg0.N := lt_of_lt_of_eq (show 31 < 32 by decide) points.symm
    have h := ((cfg0.win 10).blk ⟨31, hN⟩).view.emb_mem_set (ix2 0 l)
    rw [emb10] at h
    exact ⟨⟨31, hN⟩, (flush0_10 ⟨31, hN⟩).2 rfl, h⟩

end Cert.BwdMlpIdeal.Mlp

end
-- ==== Proof.BwdMlpValue.lean ====
/-
  The MLP backward: the kernel's results are the reference's.
-/
module

public import proofs.«01_k».proof.Defs
public import proofs.«01_k».proof.Proof.BwdMlpState
public import proofs.«01_k».proof.Proof.Gen.BwdMlpRIdeal.Run
import Idealize.ShloMosaic.Lib.Pointwise
import Idealize.ShloMosaic.Lib.Claim

public section

set_option maxRecDepth 1048576

namespace Cert.BwdMlpRIdeal.Value

open Cert.BwdMlpRIdeal Cert.BwdMlpRIdeal.Gen Idealize.ShloMosaic Idealize.ShloMosaic.TcCoe Idealize.SL.Sem Idealize.ShloMosaic.StableHlo

/-! ## The reference's arrays

Each is the reference's operations, with the arrays they start from as arguments. -/

abbrev Rows := FVec Ideal S8192x1024 .f32
abbrev Gain := FVec Ideal S1x1024 .f32
abbrev Hid := FVec Ideal S8192x4096 .f32

/-- The mean square with the small constant, one number per row, its inverse root, and the normalised rows. -/
noncomputable def msT (x : Rows) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
noncomputable def rstdT (x : Rows) : FVec Ideal S8192x1 .f32 := Host.rsqrt (msT x)
noncomputable def rowT (x : Rows) (g : Gain) : Rows :=
  mulf (mulf x (broadcastInDim S8192x1024 ![0, 1] bcast_S8192x1_S8192x1024_0_1 (rstdT x))) (broadcastInDim S8192x1024 ![0, 1] bcast_S1x1024_S8192x1024_0_1 g)

/-- The hidden layer, its cotangent, and the gradient before the activation: where the layer is positive, the square's derivative. -/
noncomputable def uT (n : Rows) (wu : FVec Ideal S1024x4096 .f32) : Hid := Host.dotGeneral dot_S8192x1024_S1024x4096_S8192x4096_1_0_0_1_n_n none n wu
noncomputable def ctT (d : Rows) (wd : FVec Ideal S4096x1024 .f32) : Hid := Host.dotGeneral dot_S8192x1024_S4096x1024_S8192x4096_1_1_0_0_n_n none d wd
noncomputable def zT : Hid := broadcastInDim S8192x4096 ![] bcast_S_S8192x4096 (constant S_ .f32 0x00000000#32)
noncomputable def duT (u ct : Hid) : Hid := select (cmpf .ogt u zT) (addf (mulf (maximumf u zT) ct) (mulf ct (maximumf u zT))) zT

/-- The gradients at the normalised rows, in the gain and in the rows. -/
noncomputable def dhnT (du : Hid) (wu : FVec Ideal S1024x4096 .f32) : Rows := Host.dotGeneral dot_S8192x4096_S1024x4096_S8192x1024_1_1_0_0_n_n none du wu
noncomputable def dgT (x dhn : Rows) : Gain :=
  shapeCast _ (Host.reduceAdd (mulf (mulf x (broadcastInDim S8192x1024 ![0, 1] bcast_S8192x1_S8192x1024_0_1 (rstdT x))) dhn)
    (constant S_ .f32 0x00000000#32) reducesTo_S8192x1024_S1024_d0 h_S_) shapeCasts_S1024_S1x1024
noncomputable def dT (dhn : Rows) (g : Gain) : Rows := mulf dhn (broadcastInDim S8192x1024 ![0, 1] bcast_S1x1024_S8192x1024_0_1 g)
noncomputable def bT (x d : Rows) : Rows :=
  broadcastInDim S8192x1024 ![0] bcast_S8192_S8192x1024_0 (Host.reduceAdd (Host.divf (mulf (shapeCast _ (Host.reduceAdd (mulf x d)
    (constant S_ .f32 0x00000000#32) reducesTo_S8192x1024_S8192_d1 h_S_) shapeCasts_S8192_S8192x1)
      (mulf (broadcastInDim S8192x1 ![] bcast_S_S8192x1 (constant S_ .f32 0xBF000000#32)) (Host.divf (rstdT x) (msT x))))
        (broadcastInDim S8192x1 ![] bcast_S_S8192x1 (constant S_ .f32 0x44800000#32))) (constant S_ .f32 0x00000000#32) reducesTo_S8192x1_S8192_d1 h_S_)
noncomputable def dhT (x d a0 : Rows) : Rows :=
  addf (addf (addf a0 (mulf d (broadcastInDim S8192x1024 ![0, 1] bcast_S8192x1_S8192x1024_0_1 (rstdT x)))) (mulf x (bT x d))) (mulf (bT x d) x)

/-! ## Their entries -/

/-- The cotangent passes through a reshape to its own shape. -/
theorem cast_same (d : Rows) : shapeCast _ d shapeCasts_S8192x1024_S8192x1024 = d := by
  funext i
  obtain ⟨R, l, rfl⟩ : ∃ (R : Fin 8192) (l : Fin 1024), i = ix2 R l := ⟨i 0, i 1, eq_ix2 (n0 := 8192) (n1 := 1024) i⟩
  pointwise

theorem row_entry (x : Rows) (g : Gain) (R : Fin 8192) (l : Fin 1024) :
    (rowT x g (ix2 R l) : EReal) = Cert.Rms.row 1149239296 (fun k => x (ix2 R k)) (fun k => g (ix2 0 k)) l := by
  pointwise [rowT, rstdT, msT]
  rfl

theorem u_entry (n : Rows) (wu : FVec Ideal S1024x4096 .f32) (R : Fin 8192) (J : Fin 4096) :
    (uT n wu (ix2 R J) : EReal) = ∑ k : Fin 1024, n (ix2 R k) * wu (ix2 k J) := by
  pointwise [uT]

theorem ct_entry (d : Rows) (wd : FVec Ideal S4096x1024 .f32) (R : Fin 8192) (J : Fin 4096) :
    (ctT d wd (ix2 R J) : EReal) = ∑ k : Fin 1024, d (ix2 R k) * wd (ix2 J k) := by
  pointwise [ctT]

/-- The square's derivative where the layer is positive, and nothing elsewhere, is twice the activation times the cotangent. -/
theorem du_entry (u ct : Hid) (R : Fin 8192) (J : Fin 4096) :
    (duT u ct (ix2 R J) : EReal) = Ideal.ofBits .f32 1073741824#32 * max (u (ix2 R J) : EReal) 0 * ct (ix2 R J) := by
  pointwise [duT, zT]
  generalize (u (ix2 R J) : EReal) = a
  generalize (ct (ix2 R J) : EReal) = b
  have two : ∀ y : EReal, y + y = ((2 : ℝ) : EReal) * y := fun y => by
    rw [show ((2 : ℝ) : EReal) = 1 + 1 by norm_num; rfl, EReal.right_distrib_of_nonneg zero_le_one zero_le_one, one_mul]
  rw [Cert.Rms.word_two]
  split
  · rw [mul_comm b, two, mul_assoc]
  · rename_i h
    rw [max_eq_right (not_lt.mp h), mul_zero, zero_mul]

theorem dhn_entry (du : Hid) (wu : FVec Ideal S1024x4096 .f32) (R : Fin 8192) (l : Fin 1024) :
    (dhnT du wu (ix2 R l) : EReal) = ∑ J : Fin 4096, du (ix2 R J) * wu (ix2 l J) := by
  pointwise [dhnT]

theorem dg_entry (x dhn : Rows) (l : Fin 1024) :
    (dgT x dhn (ix2 0 l) : EReal) = ∑ R : Fin 8192, dhn (ix2 R l) * (x (ix2 R l) * Cert.Rms.rstd 1149239296 fun k => x (ix2 R k)) := by
  pointwise [dgT, rstdT, msT]
  exact Finset.sum_congr rfl fun R _ => mul_comm _ _

theorem dh_entry (x dhn : Rows) (g : Gain) (a0 : Rows) (R : Fin 8192) (l : Fin 1024) :
    (dhT x (dT dhn g) a0 (ix2 R l) : EReal)
      = a0 (ix2 R l) + Cert.Rms.grad 1149239296 (fun k => x (ix2 R k)) (fun k => dhn (ix2 R k) * g (ix2 0 k)) l := by
  pointwise [dhT, dT, bT, rstdT, msT]
  rw [Cert.Rms.grad_eq 1149239296 (Or.inl rfl) _ _ _ _ rfl, ← add_assoc, ← add_assoc]
  simp only [Fin.sum_univ_one]
  rfl

end Cert.BwdMlpRIdeal.Value

namespace Cert.Proof.BwdMlp

open Idealize.ShloMosaic Idealize.ShloMosaic.TcCoe Idealize.SL.Sem Cert.BwdMlpIdeal.Mlp Cert.BwdMlpRIdeal.Value

variable (m : (ℓ : Loc Cert.BwdMlpIdeal.nD Cert.BwdMlpIdeal.τ Cert.BwdMlpIdeal.sig) → Buf (Elt Ideal) ℓ) (c : Dev Cert.BwdMlpIdeal.nD)

/-- The reference's arrays, of the kernel's arguments. -/
noncomputable abbrev duA : Hid := duT (uT (rowT (A1 m c) (A2 m c)) (A3 m c)) (ctT (A0 m c) (A4 m c))
noncomputable abbrev dhnA : Rows := dhnT (duA m c) (A3 m c)

theorem du_row (R : Fin 8192) (J : Fin 4096) : (duA m c (ix2 R J) : EReal) = dupE m c R J := by
  refine (du_entry _ _ R J).trans ?_
  rw [u_entry, ct_entry]
  simp only [row_entry]
  rfl

theorem dhn_row (R : Fin 8192) (l : Fin 1024) : (dhnA m c (ix2 R l) : EReal) = dhnE m c R l :=
  (dhn_entry _ _ R l).trans (Finset.sum_congr rfl fun J _ => congrArg (fun z : EReal => z * _) (du_row m c R J))

theorem du_eq : truncf .bf16 (duA m c) Cert.BwdMlpRIdeal.Gen.bitsLt_bf16_f32 = dupG m c := by
  funext i
  obtain ⟨R, J, rfl⟩ : ∃ (R : Fin 8192) (J : Fin 4096), i = ix2 R J := ⟨i 0, i 1, eq_ix2 (n0 := 8192) (n1 := 4096) i⟩
  exact du_row m c R J

theorem dh_eq : dhT (A1 m c) (dT (dhnA m c) (A2 m c)) (A0 m c) = dhG m c := by
  funext i
  obtain ⟨R, l, rfl⟩ : ∃ (R : Fin 8192) (l : Fin 1024), i = ix2 R l := ⟨i 0, i 1, eq_ix2 (n0 := 8192) (n1 := 1024) i⟩
  refine (dh_entry (A1 m c) (dhnA m c) (A2 m c) (A0 m c) R l).trans ?_
  simp only [dhn_row]
  rfl

theorem hn_eq : truncf .bf16 (rowT (A1 m c) (A2 m c)) Cert.BwdMlpRIdeal.Gen.bitsLt_bf16_f32 = hnG m c := by
  funext i
  obtain ⟨R, l, rfl⟩ : ∃ (R : Fin 8192) (l : Fin 1024), i = ix2 R l := ⟨i 0, i 1, eq_ix2 (n0 := 8192) (n1 := 1024) i⟩
  exact row_entry (A1 m c) (A2 m c) R l

theorem dg_eq : dgT (A1 m c) (dhnA m c) = dgG m c := by
  funext i
  obtain ⟨r, l, rfl⟩ : ∃ (r : Fin 1) (l : Fin 1024), i = ix2 r l := ⟨i 0, i 1, eq_ix2 (n0 := 1) (n1 := 1024) i⟩
  rw [Subsingleton.elim r 0]
  refine (dg_entry (A1 m c) (dhnA m c) l).trans ?_
  simp only [dhn_row]
  rfl

/-- The kernel and the reference leave the same gradients, normalised rows and cotangent. -/
theorem algebraic : Cert.algebraic_BwdMlpIdeal_BwdMlpRIdeal := by
  intro m g m' g' _ hm
  refine ⟨fun c => dupG m c, fun c => dhG m c, fun c => hnG m c, fun c => ctG m c, fun c => dgG m c,
    (θ_run Cert.BwdMlpIdeal.defs _ _).mono (fun r h c => ⟨((h.1 c).1 6).trans (final_dup m c), ((h.1 c).1 7).trans (final_dh m c),
      ((h.1 c).1 8).trans (final_hn m c), ((h.1 c).1 9).trans (final_ct m c), ((h.1 c).1 10).trans (final_dg m c), h.2.1 c⟩)
      (θ_run_and (run_main m g) (frame m g)), ?_⟩
  refine (θ_run Cert.BwdMlpRIdeal.defs _ _).mono (fun r h c => ⟨(h c).1.trans ?_, (h c).2.1.trans ?_, (h c).2.2.1.trans ?_,
    (h c).2.2.2.1.trans ?_, (h c).2.2.2.2.1.trans ?_, (h c).2.2.2.2.2⟩) (Cert.BwdMlpRIdeal.Value.run m' g')
  · rw [(hm c).1, (hm c).2.1, (hm c).2.2.1, (hm c).2.2.2.1, (hm c).2.2.2.2]
    exact du_eq m c
  · unfold res_main_v75
    rw [(hm c).1, (hm c).2.1, (hm c).2.2.1, (hm c).2.2.2.1, (hm c).2.2.2.2, cast_same]
    exact dh_eq m c
  · rw [(hm c).2.1, (hm c).2.2.1]
    exact hn_eq m c
  · rw [(hm c).1]
    rfl
  · rw [(hm c).1, (hm c).2.1, (hm c).2.2.1, (hm c).2.2.2.1, (hm c).2.2.2.2, cast_same]
    exact dg_eq m c

end Cert.Proof.BwdMlp

end
-- ==== Proof.FwdMlpBody.lean ====
/-
  The MLP of the forward pass: what one grid point leaves in its result blocks and in the two carried buffers, case by
  case, as the payloads of its stores.
-/
module

public import proofs.«01_k».proof.Proof.Gen.FwdMlpIdeal.Value
public import proofs.«01_k».proof.Proof.Blocks

@[expose] public section

noncomputable section

namespace Cert.FwdMlpIdeal.Mlp

open Cert.FwdMlpIdeal Cert.FwdMlpIdeal.Gen Cert.FwdMlpIdeal.Value
open Idealize.ShloMosaic Idealize.ShloMosaic.TcCoe Idealize.SL.Sem

variable {F : FTy → Type} [FloatOps F]

/-- The two chunks of a point's block of up weights, and the two halves of its block of down weights. -/
abbrev wu0 (x : Vec F S2x1024x512 .bf16) : Vec F S1x1024x512 .bf16 :=
  View.ld x (Rect.unit (s := S2x1024x512) ![0, 0, 0] S1x1024x512.size inb_S2x1024x512_S1x1024x512_0_0_0)
abbrev wu1 (x : Vec F S2x1024x512 .bf16) : Vec F S1x1024x512 .bf16 :=
  View.ld x (Rect.unit (s := S2x1024x512) ![1, 0, 0] S1x1024x512.size inb_S2x1024x512_S1x1024x512_1_0_0)
abbrev wd0 (x : Vec F S1024x1024 .bf16) : Vec F S512x1024 .bf16 :=
  View.ld x (Rect.unit (s := S1024x1024) ![0, 0] S512x1024.size inb_S1024x1024_S512x1024_0_0)
abbrev wd1 (x : Vec F S1024x1024 .bf16) : Vec F S512x1024 .bf16 :=
  View.ld x (Rect.unit (s := S1024x1024) ![512, 0] S512x1024.size inb_S1024x1024_S512x1024_512_0)

/-- The block of activations of a point, stored in two halves. -/
def upBlock (hn : Vec F S1024x1024 .bf16) (x2 : Vec F S2x1024x512 .bf16) : Vec F S1024x1024 .bf16 :=
  View.canon [⟨Rect.unit (s := S1024x1024) ![0, 512] S1024x512.size inb_S1024x1024_S1024x512_0_512, k0_pay19 hn (wu1 x2)⟩,
    ⟨Rect.unit (s := S1024x1024) ![0, 0] S1024x512.size inb_S1024x1024_S1024x512_0_0, k0_pay16 hn (wu0 x2)⟩]

/-- The accumulator after a point. -/
def accBlock (hn : Vec F S1024x1024 .bf16) (x2 : Vec F S2x1024x512 .bf16) (x3 : Vec F S1024x1024 .bf16) (acc : Vec F S1024x1024 .f32) :
    Vec F S1024x1024 .f32 :=
  k0_pay1 (k0_pay17 hn (wu0 x2) (wd0 x3)) (k0_pay20 hn (wu1 x2) (wd1 x3)) acc

variable (c : Dev nD) (i : grid0.Coords)
  (a2 : Memref sig .tc .vmem S1024x1024 .f32) (h2 : a2.IsWhole)
  (a3 : Memref sig .tc .vmem S1x1024 .f32) (h3 : a3.IsWhole)
  (a4 : Memref sig .tc .vmem S2x1024x512 .bf16) (h4 : a4.IsWhole)
  (a5 : Memref sig .tc .vmem S1024x1024 .bf16) (h5 : a5.IsWhole)
  (a6 : Memref sig .tc .vmem S1x1024 .f32) (h6 : a6.IsWhole)
  (a7 : Memref sig .tc .vmem S1024x1024 .f32) (h7 : a7.IsWhole)
  (a8 : Memref sig .tc .vmem S1024x1024 .bf16) (h8 : a8.IsWhole)
  (a9 : Memref sig .tc .vmem S1024x1024 .f32) (h9 : a9.IsWhole)
  (a10 : Memref sig .tc .vmem S1x1024 .f32) (h10 : a10.IsWhole)
  (a11 : Memref sig .tc .vmem S1x128 .f32) (h11 : a11.IsWhole)
  (a12 : Memref sig .tc .vmem S1024x1024 .bf16) (h12 : a12.IsWhole)
  (a13 : Memref sig .tc .vmem S1024x1024 .f32) (h13 : a13.IsWhole)
  (x0 : Vec F S1024x1024 .f32) (x1 : Vec F S1x1024 .f32) (x2 : Vec F S2x1024x512 .bf16) (x3 : Vec F S1024x1024 .bf16)
  (x4 : Vec F S1x1024 .f32) (x5 : Vec F S1024x1024 .f32) (xo8 : Vec F S1x1024 .f32) (xo9 : Vec F S1x128 .f32)
  (xs0 : Vec F S1024x1024 .bf16) (xs1 : Vec F S1024x1024 .f32)

/-- At the first point of all: the block of activations. -/
theorem up_A (hc0 : cond0_0 i) (hc1 : cond0_1 i) (hc2 : ¬cond0_2 i) :
    out0_A_6 c i a2 h2 a3 h3 a4 h4 a5 h5 a6 h6 a7 h7 a8 h8 a9 h9 a10 h10 a11 h11 a12 h12 a13 h13 hc0 hc1 hc2 x0 x1 x2 x3 x4 x5 = upBlock (k0_pay13 x0 x1) x2 := by
  unfold out0_A_6
  rw [View.read_writes_eq_canon _ _ _ (cover0_A_6 c i a2 h2 a3 h3 a4 h4 a5 h5 a6 h6 a7 h7 a8 h8 a9 h9 a10 h10 a11 h11 a12 h12 a13 h13 hc0 hc1 hc2 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the first point of all: the normalised rows, kept for the row block's other points. -/
theorem hn_A (hc0 : cond0_0 i) (hc1 : cond0_1 i) (hc2 : ¬cond0_2 i) :
    sout0_A_0 c i a2 h2 a3 h3 a4 h4 a5 h5 a6 h6 a7 h7 a8 h8 a9 h9 a10 h10 a11 h11 a12 h12 a13 h13 hc0 hc1 hc2 x0 x1 x2 x3 x4 x5 = k0_pay13 x0 x1 := by
  unfold sout0_A_0
  rw [View.read_writes_eq_canon _ _ _ (scover0_A_0 c i a2 h2 a3 h3 a4 h4 a5 h5 a6 h6 a7 h7 a8 h8 a9 h9 a10 h10 a11 h11 a12 h12 a13 h13 hc0 hc1 hc2 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]

/-- At the first point of all: the accumulator. -/
theorem acc_A (hc0 : cond0_0 i) (hc1 : cond0_1 i) (hc2 : ¬cond0_2 i) :
    sout0_A_1 c i a2 h2 a3 h3 a4 h4 a5 h5 a6 h6 a7 h7 a8 h8 a9 h9 a10 h10 a11 h11 a12 h12 a13 h13 hc0 hc1 hc2 x0 x1 x2 x3 x4 x5 = accBlock (k0_pay13 x0 x1) x2 x3 (k0_pay14 x0) := by
  unfold sout0_A_1
  rw [View.read_writes_eq_canon _ _ _ (scover0_A_1 c i a2 h2 a3 h3 a4 h4 a5 h5 a6 h6 a7 h7 a8 h8 a9 h9 a10 h10 a11 h11 a12 h12 a13 h13 hc0 hc1 hc2 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the first point of a later row block: the block of activations. -/
theorem up_D (hc0 : cond0_0 i) (hc1 : ¬cond0_1 i) (hc2 : ¬cond0_2 i) :
    out0_D_6 c i a2 h2 a3 h3 a4 h4 a5 h5 a6 h6 a7 h7 a8 h8 a9 h9 a10 h10 a11 h11 a12 h12 a13 h13 hc0 hc1 hc2 x0 x1 x2 x3 x4 x5 = upBlock (k0_pay13 x0 x1) x2 := by
  unfold out0_D_6
  rw [View.read_writes_eq_canon _ _ _ (cover0_D_6 c i a2 h2 a3 h3 a4 h4 a5 h5 a6 h6 a7 h7 a8 h8 a9 h9 a10 h10 a11 h11 a12 h12 a13 h13 hc0 hc1 hc2 x0 x1 x2 x3 x4 x5)]
  unfold kernelRun0_D
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the first point of a later row block: the normalised rows, kept for the row block's other points. -/
theorem hn_D (hc0 : cond0_0 i) (hc1 : ¬cond0_1 i) (hc2 : ¬cond0_2 i) :
    sout0_D_0 c i a2 h2 a3 h3 a4 h4 a5 h5 a6 h6 a7 h7 a8 h8 a9 h9 a10 h10 a11 h11 a12 h12 a13 h13 hc0 hc1 hc2 x0 x1 x2 x3 x4 x5 = k0_pay13 x0 x1 := by
  unfold sout0_D_0
  rw [View.read_writes_eq_canon _ _ _ (scover0_D_0 c i a2 h2 a3 h3 a4 h4 a5 h5 a6 h6 a7 h7 a8 h8 a9 h9 a10 h10 a11 h11 a12 h12 a13 h13 hc0 hc1 hc2 x0 x1 x2 x3 x4 x5)]
  unfold kernelRun0_D
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]

/-- At the first point of a later row block: the accumulator. -/
theorem acc_D (hc0 : cond0_0 i) (hc1 : ¬cond0_1 i) (hc2 : ¬cond0_2 i) :
    sout0_D_1 c i a2 h2 a3 h3 a4 h4 a5 h5 a6 h6 a7 h7 a8 h8 a9 h9 a10 h10 a11 h11 a12 h12 a13 h13 hc0 hc1 hc2 x0 x1 x2 x3 x4 x5 = accBlock (k0_pay13 x0 x1) x2 x3 (k0_pay14 x0) := by
  unfold sout0_D_1
  rw [View.read_writes_eq_canon _ _ _ (scover0_D_1 c i a2 h2 a3 h3 a4 h4 a5 h5 a6 h6 a7 h7 a8 h8 a9 h9 a10 h10 a11 h11 a12 h12 a13 h13 hc0 hc1 hc2 x0 x1 x2 x3 x4 x5)]
  unfold kernelRun0_D
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At a point inside a row block: the block of activations. -/
theorem up_B (hc0 : ¬cond0_0 i) (hc1 : ¬cond0_1 i) (hc2 : ¬cond0_2 i) :
    out0_B_6 c i a2 h2 a3 h3 a4 h4 a5 h5 a6 h6 a7 h7 a8 h8 a9 h9 a10 h10 a11 h11 a12 h12 a13 h13 hc0 hc1 hc2 x0 x1 x2 x3 x4 x5 xs0 xs1 = upBlock xs0 x2 := by
  unfold out0_B_6
  rw [View.read_writes_eq_canon _ _ _ (cover0_B_6 c i a2 h2 a3 h3 a4 h4 a5 h5 a6 h6 a7 h7 a8 h8 a9 h9 a10 h10 a11 h11 a12 h12 a13 h13 hc0 hc1 hc2 x0 x1 x2 x3 x4 x5 xs0 xs1)]
  unfold kernelRun0_B
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At a point inside a row block: the accumulator. -/
theorem acc_B (hc0 : ¬cond0_0 i) (hc1 : ¬cond0_1 i) (hc2 : ¬cond0_2 i) :
    sout0_B_1 c i a2 h2 a3 h3 a4 h4 a5 h5 a6 h6 a7 h7 a8 h8 a9 h9 a10 h10 a11 h11 a12 h12 a13 h13 hc0 hc1 hc2 x0 x1 x2 x3 x4 x5 xs0 xs1 = accBlock xs0 x2 x3 xs1 := by
  unfold sout0_B_1
  rw [View.read_writes_eq_canon _ _ _ (scover0_B_1 c i a2 h2 a3 h3 a4 h4 a5 h5 a6 h6 a7 h7 a8 h8 a9 h9 a10 h10 a11 h11 a12 h12 a13 h13 hc0 hc1 hc2 x0 x1 x2 x3 x4 x5 xs0 xs1)]
  unfold kernelRun0_B
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the last point of a row block: the block of activations. -/
theorem up_C (hc0 : ¬cond0_0 i) (hc1 : ¬cond0_1 i) (hc2 : cond0_2 i) :
    out0_C_6 c i a2 h2 a3 h3 a4 h4 a5 h5 a6 h6 a7 h7 a8 h8 a9 h9 a10 h10 a11 h11 a12 h12 a13 h13 hc0 hc1 hc2 x0 x1 x2 x3 x4 x5 xo8 xo9 xs0 xs1 = upBlock xs0 x2 := by
  unfold out0_C_6
  rw [View.read_writes_eq_canon _ _ _ (cover0_C_6 c i a2 h2 a3 h3 a4 h4 a5 h5 a6 h6 a7 h7 a8 h8 a9 h9 a10 h10 a11 h11 a12 h12 a13 h13 hc0 hc1 hc2 x0 x1 x2 x3 x4 x5 xo8 xo9 xs0 xs1)]
  unfold kernelRun0_C
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the last point of a row block: the accumulator. -/
theorem acc_C (hc0 : ¬cond0_0 i) (hc1 : ¬cond0_1 i) (hc2 : cond0_2 i) :
    sout0_C_1 c i a2 h2 a3 h3 a4 h4 a5 h5 a6 h6 a7 h7 a8 h8 a9 h9 a10 h10 a11 h11 a12 h12 a13 h13 hc0 hc1 hc2 x0 x1 x2 x3 x4 x5 xo8 xo9 xs0 xs1 = accBlock xs0 x2 x3 xs1 := by
  unfold sout0_C_1
  rw [View.read_writes_eq_canon _ _ _ (scover0_C_1 c i a2 h2 a3 h3 a4 h4 a5 h5 a6 h6 a7 h7 a8 h8 a9 h9 a10 h10 a11 h11 a12 h12 a13 h13 hc0 hc1 hc2 x0 x1 x2 x3 x4 x5 xo8 xo9 xs0 xs1)]
  unfold kernelRun0_C
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the last point of a row block: the block of the gradient of the second residual sum. -/
theorem dh2_C (hc0 : ¬cond0_0 i) (hc1 : ¬cond0_1 i) (hc2 : cond0_2 i) :
    out0_C_7 c i a2 h2 a3 h3 a4 h4 a5 h5 a6 h6 a7 h7 a8 h8 a9 h9 a10 h10 a11 h11 a12 h12 a13 h13 hc0 hc1 hc2 x0 x1 x2 x3 x4 x5 xo8 xo9 xs0 xs1 = k0_pay5 x4 (k0_pay6 (accBlock xs0 x2 x3 xs1)) (k0_pay7 (accBlock xs0 x2 x3 xs1)) (k0_pay10 x4 (accBlock xs0 x2 x3 xs1) x5) := by
  unfold out0_C_7
  rw [View.read_writes_eq_canon _ _ _ (cover0_C_7 c i a2 h2 a3 h3 a4 h4 a5 h5 a6 h6 a7 h7 a8 h8 a9 h9 a10 h10 a11 h11 a12 h12 a13 h13 hc0 hc1 hc2 x0 x1 x2 x3 x4 x5 xo8 xo9 xs0 xs1)]
  unfold kernelRun0_C
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the last point of a row block: the gradient of the last gains. -/
theorem dg_C (hc0 : ¬cond0_0 i) (hc1 : ¬cond0_1 i) (hc2 : cond0_2 i) :
    out0_C_8 c i a2 h2 a3 h3 a4 h4 a5 h5 a6 h6 a7 h7 a8 h8 a9 h9 a10 h10 a11 h11 a12 h12 a13 h13 hc0 hc1 hc2 x0 x1 x2 x3 x4 x5 xo8 xo9 xs0 xs1 = k0_pay4 (k0_pay11 xo8) (k0_pay12 x4 (accBlock xs0 x2 x3 xs1) x5) := by
  unfold out0_C_8
  rw [View.read_writes_eq_canon _ _ _ (cover0_C_8 c i a2 h2 a3 h3 a4 h4 a5 h5 a6 h6 a7 h7 a8 h8 a9 h9 a10 h10 a11 h11 a12 h12 a13 h13 hc0 hc1 hc2 x0 x1 x2 x3 x4 x5 xo8 xo9 xs0 xs1)]
  unfold kernelRun0_C
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the last point of a row block: the loss. -/
theorem loss_C (hc0 : ¬cond0_0 i) (hc1 : ¬cond0_1 i) (hc2 : cond0_2 i) :
    out0_C_9 c i a2 h2 a3 h3 a4 h4 a5 h5 a6 h6 a7 h7 a8 h8 a9 h9 a10 h10 a11 h11 a12 h12 a13 h13 hc0 hc1 hc2 x0 x1 x2 x3 x4 x5 xo8 xo9 xs0 xs1 = k0_pay9 x4 (accBlock xs0 x2 x3 xs1) x5 xo9 := by
  unfold out0_C_9
  rw [View.read_writes_eq_canon _ _ _ (cover0_C_9 c i a2 h2 a3 h3 a4 h4 a5 h5 a6 h6 a7 h7 a8 h8 a9 h9 a10 h10 a11 h11 a12 h12 a13 h13 hc0 hc1 hc2 x0 x1 x2 x3 x4 x5 xo8 xo9 xs0 xs1)]
  unfold kernelRun0_C
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]
  rfl

/-- At the first point of all: the gradient of the last gains. -/
theorem dg_A (hc0 : cond0_0 i) (hc1 : cond0_1 i) (hc2 : ¬cond0_2 i) :
    out0_A_8 c i a2 h2 a3 h3 a4 h4 a5 h5 a6 h6 a7 h7 a8 h8 a9 h9 a10 h10 a11 h11 a12 h12 a13 h13 hc0 hc1 hc2 x0 x1 x2 x3 x4 x5 = k0_pay2 := by
  unfold out0_A_8
  rw [View.read_writes_eq_canon _ _ _ (cover0_A_8 c i a2 h2 a3 h3 a4 h4 a5 h5 a6 h6 a7 h7 a8 h8 a9 h9 a10 h10 a11 h11 a12 h12 a13 h13 hc0 hc1 hc2 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]

/-- At the first point of all: the loss. -/
theorem loss_A (hc0 : cond0_0 i) (hc1 : cond0_1 i) (hc2 : ¬cond0_2 i) :
    out0_A_9 c i a2 h2 a3 h3 a4 h4 a5 h5 a6 h6 a7 h7 a8 h8 a9 h9 a10 h10 a11 h11 a12 h12 a13 h13 hc0 hc1 hc2 x0 x1 x2 x3 x4 x5 = k0_pay3 := by
  unfold out0_A_9
  rw [View.read_writes_eq_canon _ _ _ (cover0_A_9 c i a2 h2 a3 h3 a4 h4 a5 h5 a6 h6 a7 h7 a8 h8 a9 h9 a10 h10 a11 h11 a12 h12 a13 h13 hc0 hc1 hc2 x0 x1 x2 x3 x4 x5)]
  unfold kernelRun0_A
  dsimp only
  sl_unfold_words
  simp only [View.readAt_eq_ld, View.readCov_eq_canon', Cert.Blocks.canon_whole, Cert.Blocks.idx_whole, Cert.Blocks.ld_whole, h2.read_unread, h3.read_unread, h4.read_unread, h5.read_unread, h6.read_unread, h7.read_unread, h8.read_unread, h9.read_unread, h10.read_unread, h11.read_unread, h12.read_unread, h13.read_unread, shapeCast_self]

end Cert.FwdMlpIdeal.Mlp

end
-- ==== Proof.FwdMlpState.lean ====
/-
  The MLP of the forward pass and its loss: what the kernel's carried buffers and result arrays hold.
-/
module

public import proofs.«01_k».proof.Defs
public import proofs.«01_k».proof.Proof.FwdMlpBody
public import proofs.«01_k».proof.Proof.Rms
public import proofs.«01_k».proof.Proof.Sums
public import Idealize.ShloMosaic.Lib.Pointwise
public import Idealize.ShloMosaic.Lib.Claim

@[expose] public section

noncomputable section

namespace Cert.FwdMlpIdeal.Mlp

open Cert.FwdMlpIdeal Cert.FwdMlpIdeal.Gen Cert.FwdMlpIdeal.Value
open Idealize.ShloMosaic Idealize.ShloMosaic.TcCoe Idealize.SL.Sem

/-! ## One block, entry by entry -/

theorem hn_apply (x0 : Vec Ideal S1024x1024 .f32) (x1 : Vec Ideal S1x1024 .f32) (r : Fin 1024) (k : Fin 1024) :
    (k0_pay13 x0 x1 (ix2 r k) : EReal) = Cert.Rms.row 1149239296 (fun k => x0 (ix2 r k)) (fun k => x1 (ix2 0 k)) k := by
  pointwise [k0_pay13]
  rfl

/-- An activation: the rectified product of a row with a column of the up weights' chunk `q`. -/
def act (hn : Vec Ideal S1024x1024 .bf16) (x2 : Vec Ideal S2x1024x512 .bf16) (q : Fin 2) (r : Fin 1024) (k : Fin 512) : EReal :=
  max (∑ j : Fin 1024, (hn (ix2 r j) : EReal) * x2 (ix3 q j k)) 0

theorem up0_apply (hn : Vec Ideal S1024x1024 .bf16) (x2 : Vec Ideal S2x1024x512 .bf16) (r : Fin 1024) (k : Fin 512) :
    (k0_pay16 hn (wu0 x2) (ix2 r k) : EReal) = act hn x2 0 r k := by
  pointwise [k0_pay16, k0_pay15, wu0]
  rfl

theorem down0_apply (hn : Vec Ideal S1024x1024 .bf16) (x2 : Vec Ideal S2x1024x512 .bf16) (x3 : Vec Ideal S1024x1024 .bf16) (r l : Fin 1024) :
    (k0_pay17 hn (wu0 x2) (wd0 x3) (ix2 r l) : EReal)
      = ∑ k : Fin 512, act hn x2 0 r k * act hn x2 0 r k * x3 (ix2 ⟨k.val, by omega⟩ l) := by
  pointwise [k0_pay17, k0_pay15, wu0, wd0]
  rfl

theorem up1_apply (hn : Vec Ideal S1024x1024 .bf16) (x2 : Vec Ideal S2x1024x512 .bf16) (r : Fin 1024) (k : Fin 512) :
    (k0_pay19 hn (wu1 x2) (ix2 r k) : EReal) = act hn x2 1 r k := by
  pointwise [k0_pay19, k0_pay18, wu1]
  rfl

theorem down1_apply (hn : Vec Ideal S1024x1024 .bf16) (x2 : Vec Ideal S2x1024x512 .bf16) (x3 : Vec Ideal S1024x1024 .bf16) (r l : Fin 1024) :
    (k0_pay20 hn (wu1 x2) (wd1 x3) (ix2 r l) : EReal)
      = ∑ k : Fin 512, act hn x2 1 r k * act hn x2 1 r k * x3 (ix2 ⟨512 + k.val, by omega⟩ l) := by
  pointwise [k0_pay20, k0_pay18, wu1, wd1]
  rfl

/-- A point adds its two chunks' products to the accumulator. -/
theorem accBlock_apply (hn : Vec Ideal S1024x1024 .bf16) (x2 : Vec Ideal S2x1024x512 .bf16) (x3 : Vec Ideal S1024x1024 .bf16)
    (a : Vec Ideal S1024x1024 .f32) (r l : Fin 1024) :
    (accBlock hn x2 x3 a (ix2 r l) : EReal)
      = a (ix2 r l) + (∑ k : Fin 512, act hn x2 0 r k * act hn x2 0 r k * x3 (ix2 ⟨k.val, by omega⟩ l)
        + ∑ k : Fin 512, act hn x2 1 r k * act hn x2 1 r k * x3 (ix2 ⟨512 + k.val, by omega⟩ l)) := by
  rw [← down0_apply hn x2 x3 r l, ← down1_apply hn x2 x3 r l]
  pointwise [accBlock, k0_pay1]

theorem start_apply (x0 : Vec Ideal S1024x1024 .f32) (r l : Fin 1024) : (k0_pay14 x0 (ix2 r l) : EReal) = x0 (ix2 r l) := by
  pointwise [k0_pay14]

/-- The last layer on one row: the error, its share of the loss, and the gradients. -/
def err (x g t : Fin 1024 → EReal) (k : Fin 1024) : EReal := Cert.Rms.row 1149239296 x g k - t k
def dy (x g t : Fin 1024 → EReal) (k : Fin 1024) : EReal := err x g t k * Ideal.ofBits .f32 981467136#32
def lossRow (x g t : Fin 1024 → EReal) : EReal :=
  Ideal.ofBits .f32 1056964608#32 * (∑ k, err x g t k * err x g t k) * Ideal.ofBits .f32 981467136#32
def dgRow (x g t : Fin 1024 → EReal) (k : Fin 1024) : EReal := dy x g t k * (x k * Cert.Rms.rstd 1149239296 x)
def dxRow (x g t : Fin 1024 → EReal) (k : Fin 1024) : EReal := Cert.Rms.grad 1149239296 x (fun k => dy x g t k * g k) k

theorem loss_apply (x4 : Vec Ideal S1x1024 .f32) (a x5 : Vec Ideal S1024x1024 .f32) (xo : Vec Ideal S1x128 .f32) (k : Fin 128) :
    (k0_pay9 x4 a x5 xo (ix2 0 k) : EReal)
      = xo (ix2 0 k) + ∑ r : Fin 1024, lossRow (fun k => a (ix2 r k)) (fun k => x4 (ix2 0 k)) (fun k => x5 (ix2 r k)) := by
  pointwise [k0_pay9, k0_pay8, k0_pay7, k0_pay6]
  refine congrArg (xo (ix2 0 k) + ·) (Finset.sum_congr rfl fun r _ => ?_)
  exact (Fin.sum_univ_one _).trans rfl

theorem dg_apply (x4 : Vec Ideal S1x1024 .f32) (a x5 : Vec Ideal S1024x1024 .f32) (xo : Vec Ideal S1x1024 .f32) (l : Fin 1024) :
    (k0_pay4 (k0_pay11 xo) (k0_pay12 x4 a x5) (ix2 0 l) : EReal)
      = xo (ix2 0 l) + ∑ r : Fin 1024, dgRow (fun k => a (ix2 r k)) (fun k => x4 (ix2 0 k)) (fun k => x5 (ix2 r k)) l := by
  pointwise [k0_pay4, k0_pay11, k0_pay12, k0_pay10, k0_pay8, k0_pay7, k0_pay6]
  rfl

theorem dx_apply (x4 : Vec Ideal S1x1024 .f32) (a x5 : Vec Ideal S1024x1024 .f32) (r l : Fin 1024) :
    (k0_pay5 x4 (k0_pay6 a) (k0_pay7 a) (k0_pay10 x4 a x5) (ix2 r l) : EReal)
      = dxRow (fun k => a (ix2 r k)) (fun k => x4 (ix2 0 k)) (fun k => x5 (ix2 r k)) l := by
  pointwise [k0_pay5, k0_pay10, k0_pay8, k0_pay7, k0_pay6]
  rfl

/-! ## The arguments, and the blocks of them a point reads -/

variable (m : (ℓ : Loc nD τ sig) → Buf (Elt Ideal) ℓ) (c : Dev nD)

abbrev A0 : Vec Ideal S8192x1024 .f32 := m ((c : Thread nD τ).loc main_arg0)
abbrev A1 : Vec Ideal S1x1024 .f32 := m ((c : Thread nD τ).loc main_arg1)
abbrev A2 : Vec Ideal S1024x4096 .f32 := m ((c : Thread nD τ).loc main_arg2)
abbrev A3 : Vec Ideal S4096x1024 .f32 := m ((c : Thread nD τ).loc main_arg3)
abbrev A4 : Vec Ideal S1x1024 .f32 := m ((c : Thread nD τ).loc main_arg4)
abbrev A5 : Vec Ideal S8192x1024 .f32 := m ((c : Thread nD τ).loc main_arg5)

/-- The weights as the kernel finds them: the up weights in eight chunks of columns. -/
theorem V_wu (q : Fin 8) (k : Fin 1024) (l : Fin 512) :
    V m c main_v2 (ix3 q k l) = A2 m c (ix2 k ⟨512 * q.val + l.val, by omega⟩) := by
  entry_read
  pointwise
  exact congrArg (fun j => A2 m c (ix2 k j)) (Fin.ext (by dsimp only; omega))

theorem V_wd (k : Fin 4096) (l : Fin 1024) : V m c main_v3 (ix2 k l) = A3 m c (ix2 k l) := by
  entry_read
  pointwise

theorem idx0 : ∀ t : Fin cfg0.N, win0_0.index t (0 : Fin 2) = t.val / 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 3) = t.val % 4 ∧ win0_2.index t (1 : Fin 3) = 0 ∧ win0_2.index t (2 : Fin 3) = 0 :=
  (by decide +kernel : ∀ t : Fin grid0.N, _)
theorem idx3 : ∀ t : Fin cfg0.N, win0_3.index t (0 : Fin 2) = t.val % 4 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = t.val / 4 ∧ win0_5.index t (1 : Fin 2) = 0 :=
  (by decide +kernel : ∀ t : Fin grid0.N, _)

/-- The row of the whole arrays that is row `r` of point `n`'s row block. -/
def rowOf (n : ℕ) (h : n < cfg0.N) (r : Fin 1024) : Fin 8192 :=
  ⟨1024 * (n / 4) + r.val, by have := lt_of_lt_of_eq h N_0; omega⟩

theorem blk0_apply (t : Fin cfg0.N) (r : Fin 1024) (k : Fin 1024) : iblk m c 0 t (ix2 r k) = A0 m c (ix2 (rowOf t.val t.isLt r) k) := by
  unfold iblk
  rw [View.read_apply]
  refine (congrArg (V m c main_arg0) ?_).trans (congrFun (V_main_arg0 m c) _)
  funext a
  apply Fin.ext
  match a with
  | ⟨0, _⟩ => show win0_0.index t 0 * 1024 + 1 * r.val = _; rw [(idx0 t).1]; show _ = 1024 * (t.val / 4) + r.val; omega
  | ⟨1, _⟩ => show win0_0.index t 1 * 1024 + 1 * k.val = _; rw [(idx0 t).2]; show _ = k.val; omega

theorem blk1_apply (t : Fin cfg0.N) (k : Fin 1024) : iblk m c 1 t (ix2 0 k) = A1 m c (ix2 0 k) := by
  unfold iblk
  rw [View.read_apply]
  refine (congrArg (V m c main_arg1) ?_).trans (congrFun (V_main_arg1 m c) _)
  funext a
  apply Fin.ext
  match a with
  | ⟨0, _⟩ => show win0_1.index t 0 * 1 + 1 * 0 = _; rw [(idx1 t).1]; rfl
  | ⟨1, _⟩ => show win0_1.index t 1 * 1024 + 1 * k.val = _; rw [(idx1 t).2]; show _ = k.val; omega

theorem blk2_apply (t : Fin cfg0.N) (q : Fin 2) (k : Fin 1024) (l : Fin 512) :
    iblk m c 2 t (ix3 q k l) = A2 m c (ix2 k ⟨1024 * (t.val % 4) + (512 * q.val + l.val), by omega⟩) := by
  unfold iblk
  rw [View.read_apply]
  refine (congrArg (V m c main_v2) (?_ : _ = ix3 (⟨2 * (t.val % 4) + q.val, by omega⟩ : Fin 8) k l)).trans ((V_wu m c _ k l).trans ?_)
  · funext a
    apply Fin.ext
    match a with
    | ⟨0, _⟩ => show win0_2.index t 0 * 2 + 1 * q.val = _; rw [(idx2 t).1]; show _ = 2 * (t.val % 4) + q.val; omega
    | ⟨1, _⟩ => show win0_2.index t 1 * 1024 + 1 * k.val = _; rw [(idx2 t).2.1]; show _ = k.val; omega
    | ⟨2, _⟩ => show win0_2.index t 2 * 512 + 1 * l.val = _; rw [(idx2 t).2.2]; show _ = l.val; omega
  · exact congrArg (fun j => A2 m c (ix2 k j)) (Fin.ext (by dsimp only; omega))

theorem blk3_apply (t : Fin cfg0.N) (k : Fin 1024) (l : Fin 1024) :
    iblk m c 3 t (ix2 k l) = A3 m c (ix2 ⟨1024 * (t.val % 4) + k.val, by omega⟩ l) := by
  unfold iblk
  rw [View.read_apply]
  refine (congrArg (V m c main_v3) ?_).trans (V_wd m c ⟨1024 * (t.val % 4) + k.val, by omega⟩ l)
  funext a
  apply Fin.ext
  match a with
  | ⟨0, _⟩ => show win0_3.index t 0 * 1024 + 1 * k.val = _; rw [(idx3 t).1]; show _ = 1024 * (t.val % 4) + k.val; omega
  | ⟨1, _⟩ => show win0_3.index t 1 * 1024 + 1 * l.val = _; rw [(idx3 t).2]; show _ = l.val; omega

theorem blk4_apply (t : Fin cfg0.N) (k : Fin 1024) : iblk m c 4 t (ix2 0 k) = A4 m c (ix2 0 k) := by
  unfold iblk
  rw [View.read_apply]
  refine (congrArg (V m c main_arg4) ?_).trans (congrFun (V_main_arg4 m c) _)
  funext a
  apply Fin.ext
  match a with
  | ⟨0, _⟩ => show win0_4.index t 0 * 1 + 1 * 0 = _; rw [(idx4 t).1]; rfl
  | ⟨1, _⟩ => show win0_4.index t 1 * 1024 + 1 * k.val = _; rw [(idx4 t).2]; show _ = k.val; omega

theorem blk5_apply (t : Fin cfg0.N) (r : Fin 1024) (k : Fin 1024) : iblk m c 5 t (ix2 r k) = A5 m c (ix2 (rowOf t.val t.isLt r) k) := by
  unfold iblk
  rw [View.read_apply]
  refine (congrArg (V m c main_arg5) ?_).trans (congrFun (V_main_arg5 m c) _)
  funext a
  apply Fin.ext
  match a with
  | ⟨0, _⟩ => show win0_5.index t 0 * 1024 + 1 * r.val = _; rw [(idx5 t).1]; show _ = 1024 * (t.val / 4) + r.val; omega
  | ⟨1, _⟩ => show win0_5.index t 1 * 1024 + 1 * k.val = _; rw [(idx5 t).2]; show _ = k.val; omega

/-! ## The layer on the whole arrays -/

/-- The normalised input, the activation and the second residual sum, entry by entry. -/
def hnE (R : Fin 8192) (k : Fin 1024) : EReal :=
  Cert.Rms.row 1149239296 (fun k => A0 m c (ix2 R k)) (fun k => A1 m c (ix2 0 k)) k
def upE (R : Fin 8192) (f : Fin 4096) : EReal := max (∑ k : Fin 1024, hnE m c R k * A2 m c (ix2 k f)) 0
def h2E (R : Fin 8192) (l : Fin 1024) : EReal :=
  A0 m c (ix2 R l) + ∑ f : Fin 4096, upE m c R f * upE m c R f * A3 m c (ix2 f l)

/-- One product of the sum over the hidden units, for any number. -/
def term (R : Fin 8192) (l : Fin 1024) (f : ℕ) : EReal :=
  if h : f < 4096 then upE m c R ⟨f, h⟩ * upE m c R ⟨f, h⟩ * A3 m c (ix2 ⟨f, h⟩ l) else 0

/-- The part of the sum that point `n` adds. -/
def part (R : Fin 8192) (l : Fin 1024) (j : ℕ) : EReal := ∑ k : Fin 1024, term m c R l (1024 * j + k.val)

/-! ## The carried buffers -/

abbrev hnAt (n : ℕ) (h : n < cfg0.N) : Vec Ideal S1024x1024 .bf16 := (outsAt0 m c n h).2.2.2.2.1
abbrev accAt (n : ℕ) (h : n < cfg0.N) : Vec Ideal S1024x1024 .f32 := (outsAt0 m c n h).2.2.2.2.2

/-- The first point of a row block normalises the rows and starts the accumulator from them. -/
theorem first (t : Fin cfg0.N) (h : t.val % 4 = 0) :
    hnAt m c t.val t.isLt = k0_pay13 (iblk m c 0 t) (iblk m c 1 t)
    ∧ accAt m c t.val t.isLt = accBlock (hnAt m c t.val t.isLt) (iblk m c 2 t) (iblk m c 3 t) (k0_pay14 (iblk m c 0 t))
    ∧ (outsAt0 m c t.val t.isLt).1 = upBlock (hnAt m c t.val t.isLt) (iblk m c 2 t) := by
  unfold hnAt accAt
  by_cases h' : t.val % 32 = 0
  · rw [outsAt0_A m c t h h' (by omega)]
    dsimp only
    rw [hn_A, acc_A, up_A]
    exact ⟨rfl, rfl, rfl⟩
  · rw [outsAt0_D m c t h h' (by omega)]
    dsimp only
    rw [hn_D, acc_D, up_D]
    exact ⟨rfl, rfl, rfl⟩

/-- A later point keeps the normalised rows and adds to the accumulator. -/
theorem later (t : Fin cfg0.N) (h : ¬t.val % 4 = 0) :
    hnAt m c t.val t.isLt = hnAt m c (t.val - 1) (Nat.lt_of_le_of_lt (Nat.sub_le _ _) t.isLt)
    ∧ accAt m c t.val t.isLt = accBlock (hnAt m c t.val t.isLt) (iblk m c 2 t) (iblk m c 3 t)
        (accAt m c (t.val - 1) (Nat.lt_of_le_of_lt (Nat.sub_le _ _) t.isLt))
    ∧ (outsAt0 m c t.val t.isLt).1 = upBlock (hnAt m c t.val t.isLt) (iblk m c 2 t) := by
  unfold hnAt accAt
  by_cases h' : t.val % 4 = 3
  · rw [outsAt0_C m c t h (by omega) h']
    dsimp only
    rw [acc_C, up_C]
    exact ⟨rfl, rfl, rfl⟩
  · rw [outsAt0_B m c t h (by omega) h']
    dsimp only
    rw [acc_B, up_B]
    exact ⟨rfl, rfl, rfl⟩

/-- Every point finds the normalised rows of its row block. -/
theorem hnAt_apply : ∀ (n : ℕ) (h : n < cfg0.N) (r k : Fin 1024), (hnAt m c n h (ix2 r k) : EReal) = hnE m c (rowOf n h r) k := by
  intro n
  induction n with
  | zero =>
    intro h r k
    rw [(first m c ⟨0, h⟩ rfl).1, hn_apply]
    simp only [blk0_apply, blk1_apply]
    rfl
  | succ n ih =>
    intro h r k
    by_cases h4 : (n + 1) % 4 = 0
    · rw [(first m c ⟨n + 1, h⟩ h4).1, hn_apply]
      simp only [blk0_apply, blk1_apply]
      rfl
    · rw [(later m c ⟨n + 1, h⟩ h4).1]
      refine (ih (Nat.lt_of_succ_lt h) r k).trans ?_
      refine congrArg (hnE m c · k) (Fin.ext ?_)
      show 1024 * (n / 4) + r.val = 1024 * ((n + 1) / 4) + r.val
      omega

theorem act_apply (t : Fin cfg0.N) (q : Fin 2) (r : Fin 1024) (k : Fin 512) :
    act (hnAt m c t.val t.isLt) (iblk m c 2 t) q r k
      = upE m c (rowOf t.val t.isLt r) ⟨1024 * (t.val % 4) + (512 * q.val + k.val), by omega⟩ := by
  unfold act upE
  simp only [hnAt_apply, blk2_apply]

/-- A point adds its part of the sum. -/
theorem accBlock_part (t : Fin cfg0.N) (a : Vec Ideal S1024x1024 .f32) (r l : Fin 1024) :
    (accBlock (hnAt m c t.val t.isLt) (iblk m c 2 t) (iblk m c 3 t) a (ix2 r l) : EReal)
      = a (ix2 r l) + part m c (rowOf t.val t.isLt r) l (t.val % 4) := by
  rw [accBlock_apply]
  refine congrArg (a (ix2 r l) + ·) ?_
  unfold part
  rw [Cert.Blocks.sum_halves (b := 512) (b' := 512) rfl fun k => term m c (rowOf t.val t.isLt r) l (1024 * (t.val % 4) + k)]
  congr 1 <;> refine Finset.sum_congr rfl fun k _ => ?_
  · rw [act_apply, blk3_apply]
    unfold term
    rw [dif_pos (by omega)]
    have e : (512 * (0 : Fin 2).val + k.val) = k.val := by show 512 * 0 + k.val = k.val; omega
    simp only [e]
  · rw [act_apply, blk3_apply]
    unfold term
    rw [dif_pos (by omega)]
    have e : (512 * (1 : Fin 2).val + k.val) = 512 + k.val := by show 512 * 1 + k.val = 512 + k.val; omega
    simp only [e]

theorem accAt_apply : ∀ (n : ℕ) (h : n < cfg0.N) (r l : Fin 1024),
    (accAt m c n h (ix2 r l) : EReal)
      = A0 m c (ix2 (rowOf n h r) l) + ∑ s ∈ Finset.range (n % 4 + 1), part m c (rowOf n h r) l s := by
  have h0 : ∀ (n : ℕ) (h : n < cfg0.N) (r l : Fin 1024), n % 4 = 0 → (accAt m c n h (ix2 r l) : EReal)
      = A0 m c (ix2 (rowOf n h r) l) + ∑ s ∈ Finset.range (n % 4 + 1), part m c (rowOf n h r) l s := by
    intro n h r l h4
    rw [(first m c ⟨n, h⟩ h4).2.1]
    refine (accBlock_part m c ⟨n, h⟩ _ r l).trans ?_
    rw [start_apply, blk0_apply]
    dsimp only
    rw [h4, Finset.sum_range_one]
  intro n
  induction n with
  | zero => exact fun h r l => h0 0 h r l rfl
  | succ n ih =>
    intro h r l
    by_cases h4 : (n + 1) % 4 = 0
    · exact h0 _ h r l h4
    · rw [(later m c ⟨n + 1, h⟩ h4).2.1]
      refine (accBlock_part m c ⟨n + 1, h⟩ _ r l).trans ?_
      have e : rowOf n (Nat.lt_of_succ_lt h) r = rowOf (n + 1) h r := Fin.ext (by
        show 1024 * (n / 4) + r.val = 1024 * ((n + 1) / 4) + r.val
        omega)
      have e' : (n + 1) % 4 = n % 4 + 1 := by omega
      show (accAt m c n _ (ix2 r l) : EReal) + _ = _
      rw [ih (Nat.lt_of_succ_lt h) r l, e, add_assoc]
      dsimp only
      rw [e', ← Finset.sum_range_succ]

/-- After the last point of a row block the accumulator is the second residual sum. -/
theorem accAt_last (n : ℕ) (h : n < cfg0.N) (h4 : n % 4 = 3) (r l : Fin 1024) :
    (accAt m c n h (ix2 r l) : EReal) = h2E m c (rowOf n h r) l := by
  rw [accAt_apply, h4]
  unfold h2E part
  rw [Cert.Sums.sum_blocks 4 1024 4096 rfl (term m c (rowOf n h r) l)]
  refine congrArg (A0 m c (ix2 (rowOf n h r) l) + ·) (Finset.sum_congr rfl fun f _ => ?_)
  unfold term
  rw [dif_pos f.isLt]

/-! ## The loss and the gradients -/

/-- The loss and the gain's gradient are set to zero by the first point, -/
theorem zero (h : 0 < cfg0.N) :
    (outsAt0 m c 0 h).2.2.1 = k0_pay2 (F := Ideal) ∧ (outsAt0 m c 0 h).2.2.2.1 = k0_pay3 (F := Ideal) := by
  rw [outsAt0_A m c ⟨0, h⟩ rfl rfl (by dsimp only; omega)]
  dsimp only
  rw [dg_A, loss_A]
  exact ⟨rfl, rfl⟩

/-- kept by a point inside a row block, -/
theorem keep (t : Fin cfg0.N) (h0 : t.val ≠ 0) (h : ¬t.val % 4 = 3) :
    (outsAt0 m c t.val t.isLt).2.2.1 = (outsAt0 m c (t.val - 1) (Nat.lt_of_le_of_lt (Nat.sub_le _ _) t.isLt)).2.2.1
    ∧ (outsAt0 m c t.val t.isLt).2.2.2.1 = (outsAt0 m c (t.val - 1) (Nat.lt_of_le_of_lt (Nat.sub_le _ _) t.isLt)).2.2.2.1 := by
  have hN := lt_of_lt_of_eq t.isLt N_0
  by_cases h' : t.val % 4 = 0
  · rw [outsAt0_D m c t h' (by omega) h]
    exact ⟨rfl, rfl⟩
  · rw [outsAt0_B m c t h' (by omega) h]
    exact ⟨rfl, rfl⟩

/-- and added to by the last point of a row block, which also writes the rows' gradient. -/
theorem last (t : Fin cfg0.N) (h : t.val % 4 = 3) :
    (outsAt0 m c t.val t.isLt).2.2.1 = k0_pay4 (k0_pay11 (outsAt0 m c (t.val - 1) (Nat.lt_of_le_of_lt (Nat.sub_le _ _) t.isLt)).2.2.1)
        (k0_pay12 (iblk m c 4 t) (accAt m c t.val t.isLt) (iblk m c 5 t))
    ∧ (outsAt0 m c t.val t.isLt).2.2.2.1 = k0_pay9 (iblk m c 4 t) (accAt m c t.val t.isLt) (iblk m c 5 t)
        (outsAt0 m c (t.val - 1) (Nat.lt_of_le_of_lt (Nat.sub_le _ _) t.isLt)).2.2.2.1
    ∧ (outsAt0 m c t.val t.isLt).2.1 = k0_pay5 (iblk m c 4 t) (k0_pay6 (accAt m c t.val t.isLt)) (k0_pay7 (accAt m c t.val t.isLt))
        (k0_pay10 (iblk m c 4 t) (accAt m c t.val t.isLt) (iblk m c 5 t)) := by
  unfold accAt
  rw [outsAt0_C m c t (by omega) (by omega) h]
  dsimp only
  rw [dg_C, loss_C, dh2_C, acc_C]
  exact ⟨rfl, rfl, rfl⟩

/-- The rows that the last layer takes. -/
abbrev g4 (k : Fin 1024) : EReal := A4 m c (ix2 0 k)
abbrev t5 (R : Fin 8192) (k : Fin 1024) : EReal := A5 m c (ix2 R k)
def dgN (l : Fin 1024) (R : ℕ) : EReal := if h : R < 8192 then dgRow (h2E m c ⟨R, h⟩) (g4 m c) (t5 m c ⟨R, h⟩) l else 0
def lossN (R : ℕ) : EReal := if h : R < 8192 then lossRow (h2E m c ⟨R, h⟩) (g4 m c) (t5 m c ⟨R, h⟩) else 0

/-- The rows of the last point's blocks. -/
theorem last_rows (t : Fin cfg0.N) (h : t.val % 4 = 3) (r : Fin 1024) :
    (fun k => (accAt m c t.val t.isLt (ix2 r k) : EReal)) = h2E m c (rowOf t.val t.isLt r)
    ∧ (fun k => (iblk m c 4 t (ix2 0 k) : EReal)) = g4 m c
    ∧ (fun k => (iblk m c 5 t (ix2 r k) : EReal)) = t5 m c (rowOf t.val t.isLt r) :=
  ⟨funext fun k => accAt_last m c t.val t.isLt h r k, funext fun k => blk4_apply m c t k, funext fun k => blk5_apply m c t r k⟩

theorem dg_loss : ∀ (n : ℕ) (h : n < cfg0.N),
    (∀ l : Fin 1024, ((outsAt0 m c n h).2.2.1 (ix2 0 l) : EReal) = ∑ I ∈ Finset.range ((n + 1) / 4), ∑ r : Fin 1024, dgN m c l (1024 * I + r.val))
    ∧ (∀ l : Fin 128, ((outsAt0 m c n h).2.2.2.1 (ix2 0 l) : EReal) = ∑ I ∈ Finset.range ((n + 1) / 4), ∑ r : Fin 1024, lossN m c (1024 * I + r.val)) := by
  intro n
  induction n with
  | zero =>
    intro h
    refine ⟨fun l => ?_, fun l => ?_⟩
    · rw [(zero m c h).1]
      pointwise [k0_pay2]
      rfl
    · rw [(zero m c h).2]
      pointwise [k0_pay3]
      rfl
  | succ n ih =>
    intro h
    have hN := lt_of_lt_of_eq h N_0
    obtain ⟨i1, i2⟩ := ih (Nat.lt_of_succ_lt h)
    by_cases h4 : (n + 1) % 4 = 3
    · have e : (n + 1 + 1) / 4 = (n + 1) / 4 + 1 := by omega
      have hr : ∀ r : Fin 1024, 1024 * ((n + 1) / 4) + r.val < 8192 := fun r => by omega
      rw [e]
      refine ⟨fun l => ?_, fun l => ?_⟩
      · rw [(last m c ⟨n + 1, h⟩ h4).1, dg_apply, Finset.sum_range_succ, ← i1 l]
        refine congrArg (_ + ·) (Finset.sum_congr rfl fun r _ => ?_)
        obtain ⟨a1, a2, a3⟩ := last_rows m c ⟨n + 1, h⟩ h4 r
        rw [a1, a2, a3]
        unfold dgN
        rw [dif_pos (hr r)]
        rfl
      · rw [(last m c ⟨n + 1, h⟩ h4).2.1, loss_apply, Finset.sum_range_succ, ← i2 l]
        refine congrArg (_ + ·) (Finset.sum_congr rfl fun r _ => ?_)
        obtain ⟨a1, a2, a3⟩ := last_rows m c ⟨n + 1, h⟩ h4 r
        rw [a1, a2, a3]
        unfold lossN
        rw [dif_pos (hr r)]
        rfl
    · have e : (n + 1 + 1) / 4 = (n + 1) / 4 := by omega
      obtain ⟨k1, k2⟩ := keep m c ⟨n + 1, h⟩ (Nat.succ_ne_zero n) h4
      rw [k1, k2, e]
      exact ⟨i1, i2⟩

/-! ## The result arrays -/

theorem result_up (R : Fin 8192) (f : Fin 4096) : (G6 m c (ix2 R f) : EReal) = upE m c R f := by
  have hp : pt6Of (ix2 R f) = 4 * (R.val / 1024) + f.val / 1024 := by
    show 4 * (R.val / 1024 - 0) + 1 * (f.val / 1024 - 0) = _
    omega
  have hN : 4 * (R.val / 1024) + f.val / 1024 < cfg0.N := lt_of_lt_of_eq (show _ < 32 by omega) N_0.symm
  have hl : loc6Of (ix2 R f) = ix2 (⟨R.val % 1024, by omega⟩ : Fin 1024) (⟨f.val % 1024, by omega⟩ : Fin 1024) := by
    funext b
    match b with
    | ⟨0, _⟩ => rfl
    | ⟨1, _⟩ => rfl
  unfold G6
  rw [dif_pos (by rw [hp]; exact hN), hl, fold0_congr m c _ _ _ (by rw [Nat.zero_add]; exact hN) hp, ← outsAt0_sweep]
  case hn => exact hN
  have hu : (outsAt0 m c (4 * (R.val / 1024) + f.val / 1024) hN).1
      = upBlock (hnAt m c _ hN) (iblk m c 2 ⟨_, hN⟩) := by
    by_cases h : (4 * (R.val / 1024) + f.val / 1024) % 4 = 0
    · exact (first m c ⟨_, hN⟩ h).2.2
    · exact (later m c ⟨_, hN⟩ h).2.2
  rw [hu]
  unfold upBlock
  refine (Cert.Blocks.canon_halves (b := 512) (b' := 512) rfl _ _ _ _ _ _).trans ?_
  have hR : rowOf (4 * (R.val / 1024) + f.val / 1024) hN ⟨R.val % 1024, by omega⟩ = R := Fin.ext (by
    show 1024 * ((4 * (R.val / 1024) + f.val / 1024) / 4) + R.val % 1024 = R.val
    omega)
  dsimp only
  split
  · rw [up0_apply]
    refine (act_apply m c ⟨_, hN⟩ 0 _ _).trans ?_
    rw [hR]
    refine congrArg (upE m c R) (Fin.ext ?_)
    show 1024 * ((4 * (R.val / 1024) + f.val / 1024) % 4) + (512 * 0 + f.val % 1024) = f.val
    omega
  · rw [up1_apply]
    refine (act_apply m c ⟨_, hN⟩ 1 _ _).trans ?_
    rw [hR]
    refine congrArg (upE m c R) (Fin.ext ?_)
    show 1024 * ((4 * (R.val / 1024) + f.val / 1024) % 4) + (512 * 1 + (f.val % 1024 - 512)) = f.val
    omega

theorem result_dx (R : Fin 8192) (l : Fin 1024) :
    (G7 m c (ix2 R l) : EReal) = dxRow (h2E m c R) (g4 m c) (t5 m c R) l := by
  have hp : pt7Of (ix2 R l) = 4 * (R.val / 1024) + 3 := by
    show 4 * (1 * (R.val / 1024 - 0) + 1 * (l.val / 1024 - 0)) + 3 = _
    omega
  have hN : 4 * (R.val / 1024) + 3 < cfg0.N := lt_of_lt_of_eq (show _ < 32 by omega) N_0.symm
  have hl : loc7Of (ix2 R l) = ix2 (⟨R.val % 1024, by omega⟩ : Fin 1024) l := by
    funext b
    apply Fin.ext
    match b with
    | ⟨0, _⟩ => rfl
    | ⟨1, _⟩ => show l.val % 1024 = l.val; omega
  have h4 : (4 * (R.val / 1024) + 3) % 4 = 3 := by omega
  unfold G7
  rw [dif_pos (by rw [hp]; exact hN), hl, fold0_congr m c _ _ _ (by rw [Nat.zero_add]; exact hN) hp, ← outsAt0_sweep]
  case hn => exact hN
  have hR : rowOf (4 * (R.val / 1024) + 3) hN ⟨R.val % 1024, by omega⟩ = R := Fin.ext (by
    show 1024 * ((4 * (R.val / 1024) + 3) / 4) + R.val % 1024 = R.val
    omega)
  rw [(last m c ⟨_, hN⟩ h4).2.2, dx_apply]
  obtain ⟨a1, a2, a3⟩ := last_rows m c ⟨_, hN⟩ h4 ⟨R.val % 1024, by omega⟩
  rw [a1, a2, a3]
  dsimp only
  rw [hR]

theorem result_dg (l : Fin 1024) :
    (G8 m c (ix2 0 l) : EReal) = (∑ R : Fin 8192, dgRow (h2E m c R) (g4 m c) (t5 m c R) l : EReal) := by
  have hN : 31 < cfg0.N := lt_of_lt_of_eq (by decide) N_0.symm
  have hp : pt8Of (ix2 0 l) = 31 := by
    show 32 * (1 * (0 / 1 - 0) + 1 * (l.val / 1024 - 0)) + 31 = 31
    omega
  have hl : loc8Of (ix2 0 l) = ix2 0 l := by
    funext b
    apply Fin.ext
    match b with
    | ⟨0, _⟩ => rfl
    | ⟨1, _⟩ => show l.val % 1024 = l.val; omega
  unfold G8
  rw [dif_pos (by rw [hp]; exact hN), hl, fold0_congr m c _ _ _ (by rw [Nat.zero_add]; exact hN) hp, ← outsAt0_sweep]
  case hn => exact hN
  refine ((dg_loss m c 31 hN).1 l).trans ((Cert.Sums.sum_blocks 8 1024 8192 rfl (dgN m c l)).trans ?_)
  exact Finset.sum_congr rfl fun R _ => dif_pos R.isLt

theorem result_loss (l : Fin 128) :
    (G9 m c (ix2 0 l) : EReal) = (∑ R : Fin 8192, lossRow (h2E m c R) (g4 m c) (t5 m c R) : EReal) := by
  have hN : 31 < cfg0.N := lt_of_lt_of_eq (by decide) N_0.symm
  have hp : pt9Of (ix2 0 l) = 31 := by
    show 32 * (1 * (0 / 1 - 0) + 1 * (l.val / 128 - 0)) + 31 = 31
    omega
  have hl : loc9Of (ix2 0 l) = ix2 0 l := by
    funext b
    apply Fin.ext
    match b with
    | ⟨0, _⟩ => rfl
    | ⟨1, _⟩ => show l.val % 128 = l.val; omega
  unfold G9
  rw [dif_pos (by rw [hp]; exact hN), hl, fold0_congr m c _ _ _ (by rw [Nat.zero_add]; exact hN) hp, ← outsAt0_sweep]
  case hn => exact hN
  refine ((dg_loss m c 31 hN).2 l).trans ((Cert.Sums.sum_blocks 8 1024 8192 rfl (lossN m c)).trans ?_)
  exact Finset.sum_congr rfl fun R _ => dif_pos R.isLt

end Cert.FwdMlpIdeal.Mlp

end
-- ==== Proof.FwdMlpValue.lean ====
/-
The middle of the step forward and the loss: the kernel's results are the reference's.
-/
module

public import proofs.«01_k».proof.Defs
public import proofs.«01_k».proof.Proof.FwdMlpState
public import proofs.«01_k».proof.Proof.Gen.FwdMlpRIdeal.Run
import Idealize.ShloMosaic.Lib.Pointwise
import Idealize.ShloMosaic.Lib.Claim

public section

set_option maxRecDepth 1048576

namespace Cert.FwdMlpRIdeal.Value

open Cert.FwdMlpRIdeal Cert.FwdMlpRIdeal.Gen Idealize.ShloMosaic Idealize.ShloMosaic.TcCoe Idealize.SL.Sem Idealize.ShloMosaic.StableHlo

/-! ## The reference's arrays

Each is the reference's operations, with the arrays they start from as arguments. -/

abbrev Rows := FVec Ideal S8192x1024 .f32
abbrev Gain := FVec Ideal S1x1024 .f32

/-- The mean square with the small constant, one number per row, and its inverse root. -/
noncomputable def msT (x : Rows) : FVec Ideal S8192x1 .f32 :=
  addf (Host.divf (broadcastInDim S8192x1 ![0] bcast_S8192_S8192x1_0 (Host.reduceAdd (mulf x x) (constant S_ .f32 0x00000000#32) reducesTo_S8192x1024_S8192_d1 h_S_))
    (broadcastInDim S8192x1 ![] bcast_S_S8192x1 (constant S_ .f32 0x44800000#32))) (broadcastInDim S8192x1 ![] bcast_S_S8192x1 (constant S_ .f32 0x358637BD#32))
noncomputable def rstdT (x : Rows) : FVec Ideal S8192x1 .f32 := Host.rsqrt (msT x)

/-- The normalised rows, the activation, the residual sum and the error. -/
noncomputable def rowT (x : Rows) (g : Gain) : Rows :=
  mulf (mulf x (broadcastInDim S8192x1024 ![0, 1] bcast_S8192x1_S8192x1024_0_1 (rstdT x))) (broadcastInDim S8192x1024 ![0, 1] bcast_S1x1024_S8192x1024_0_1 g)
noncomputable def upT (a0 : Rows) (a1 : Gain) (a2 : FVec Ideal S1024x4096 .f32) : FVec Ideal S8192x4096 .f32 :=
  maximumf (Host.dotGeneral dot_S8192x1024_S1024x4096_S8192x4096_1_0_0_1_n_n none (rowT a0 a1) a2) (broadcastInDim S8192x4096 ![] bcast_S_S8192x4096 (constant S_ .f32 0x00000000#32))
noncomputable def h2T (a0 : Rows) (a1 : Gain) (a2 : FVec Ideal S1024x4096 .f32) (a3 : FVec Ideal S4096x1024 .f32) : Rows :=
  addf a0 (Host.dotGeneral dot_S8192x4096_S4096x1024_S8192x1024_1_0_0_1_n_n none (mulf (upT a0 a1 a2) (upT a0 a1 a2)) a3)
noncomputable def errT (x : Rows) (g : Gain) (t : Rows) : Rows := subf (rowT x g) t

/-- The loss. -/
noncomputable def lossT (x : Rows) (g : Gain) (t : Rows) : FVec Ideal S1x128 .f32 :=
  broadcastInDim S1x128 ![] bcast_S_S1x128 (mulf (constant S_ .f32 0x3F000000#32) (Host.reduceAdd (Host.divf (Host.reduceAdd (mulf (errT x g t) (errT x g t))
    (constant S_ .f32 0x00000000#32) reducesTo_S8192x1024_S8192_d1 h_S_) (broadcastInDim S8192 ![] bcast_S_S8192 (constant S_ .f32 0x44800000#32)))
      (constant S_ .f32 0x00000000#32) reducesTo_S8192_S_d0 h_S_))

/-- Its derivative in the normalised rows, in their gain and in the rows before it. -/
noncomputable def dyT (x : Rows) (g : Gain) (t : Rows) : Rows :=
  mulf (broadcastInDim S8192x1024 ![0] bcast_S8192_S8192x1024_0 (Host.divf (broadcastInDim S8192 ![] bcast_S_S8192 (mulf (constant S_ .f32 0x3F000000#32) (constant S_ .f32 0x3F800000#32)))
    (broadcastInDim S8192 ![] bcast_S_S8192 (constant S_ .f32 0x44800000#32)))) (mulf (broadcastInDim S8192x1024 ![] bcast_S_S8192x1024 (constant S_ .f32 0x40000000#32)) (errT x g t))
noncomputable def dgT (x : Rows) (g : Gain) (t : Rows) : Gain :=
  shapeCast _ (Host.reduceAdd (mulf (mulf x (broadcastInDim S8192x1024 ![0, 1] bcast_S8192x1_S8192x1024_0_1 (rstdT x))) (dyT x g t))
    (constant S_ .f32 0x00000000#32) reducesTo_S8192x1024_S1024_d0 h_S_) shapeCasts_S1024_S1x1024
noncomputable def dT (x : Rows) (g : Gain) (t : Rows) : Rows := mulf (dyT x g t) (broadcastInDim S8192x1024 ![0, 1] bcast_S1x1024_S8192x1024_0_1 g)
noncomputable def bT (x d : Rows) : Rows :=
  broadcastInDim S8192x1024 ![0] bcast_S8192_S8192x1024_0 (Host.reduceAdd (Host.divf (mulf (shapeCast _ (Host.reduceAdd (mulf x d)
    (constant S_ .f32 0x00000000#32) reducesTo_S8192x1024_S8192_d1 h_S_) shapeCasts_S8192_S8192x1)
      (mulf (broadcastInDim S8192x1 ![] bcast_S_S8192x1 (constant S_ .f32 0xBF000000#32)) (Host.divf (rstdT x) (msT x))))
        (broadcastInDim S8192x1 ![] bcast_S_S8192x1 (constant S_ .f32 0x44800000#32))) (constant S_ .f32 0x00000000#32) reducesTo_S8192x1_S8192_d1 h_S_)
noncomputable def dxT (x d : Rows) : Rows :=
  addf (addf (mulf d (broadcastInDim S8192x1024 ![0, 1] bcast_S8192x1_S8192x1024_0_1 (rstdT x))) (mulf x (bT x d))) (mulf (bT x d) x)

/-! ## Their entries -/

open Cert.FwdMlpIdeal.Mlp

theorem err_entry (x : Rows) (g : Gain) (t : Rows) (R : Fin 8192) (k : Fin 1024) :
    (errT x g t (ix2 R k) : EReal) = err (fun k => x (ix2 R k)) (fun k => g (ix2 0 k)) (fun k => t (ix2 R k)) k := by
  pointwise [errT, rowT, rstdT, msT]
  rfl

theorem dy_entry (x : Rows) (g : Gain) (t : Rows) (R : Fin 8192) (k : Fin 1024) :
    (dyT x g t (ix2 R k) : EReal) = dy (fun k => x (ix2 R k)) (fun k => g (ix2 0 k)) (fun k => t (ix2 R k)) k := by
  unfold dy
  rw [← err_entry]
  pointwise [dyT]
  rw [Cert.Rms.word_half, Cert.Rms.word_two, Cert.Rms.word_1024, Cert.Rms.word_inv_1024,
    Ideal.div_coe (by norm_num : (1024 : ℝ) ≠ 0), ← mul_assoc, ← EReal.coe_mul, ← EReal.coe_mul, mul_comm]
  norm_num

theorem loss_entry (x : Rows) (g : Gain) (t : Rows) (l : Fin 128) :
    (lossT x g t (ix2 0 l) : EReal) = ∑ R : Fin 8192, lossRow (fun k => x (ix2 R k)) (fun k => g (ix2 0 k)) (fun k => t (ix2 R k)) := by
  unfold lossRow
  simp only [← err_entry]
  pointwise [lossT]
  rw [Cert.Rms.word_half, Cert.Rms.word_1024, Cert.Rms.word_inv_1024, Cert.Rms.mul_sum_real _ _ (by norm_num)]
  refine Finset.sum_congr rfl fun R _ => ?_
  rw [Ideal.div_coe (by norm_num : (1024 : ℝ) ≠ 0), mul_assoc]

theorem dg_entry (x : Rows) (g : Gain) (t : Rows) (l : Fin 1024) :
    (dgT x g t (ix2 0 l) : EReal) = ∑ R : Fin 8192, dgRow (fun k => x (ix2 R k)) (fun k => g (ix2 0 k)) (fun k => t (ix2 R k)) l := by
  unfold dgRow
  simp only [← dy_entry]
  pointwise [dgT, rstdT, msT]
  exact Finset.sum_congr rfl fun R _ => mul_comm _ _

theorem dx_entry (x : Rows) (g : Gain) (t : Rows) (R : Fin 8192) (l : Fin 1024) :
    (dxT x (dT x g t) (ix2 R l) : EReal) = dxRow (fun k => x (ix2 R k)) (fun k => g (ix2 0 k)) (fun k => t (ix2 R k)) l := by
  unfold dxRow
  simp only [← dy_entry]
  pointwise [dxT, dT, bT, rstdT, msT]
  rw [Cert.Rms.grad_eq 1149239296 (Or.inl rfl) _ _ _ _ rfl, add_assoc]
  simp only [Fin.sum_univ_one]
  rfl

theorem h2_entry (a0 : Rows) (a1 : Gain) (a2 : FVec Ideal S1024x4096 .f32) (a3 : FVec Ideal S4096x1024 .f32) (R : Fin 8192) (l : Fin 1024) :
    (h2T a0 a1 a2 a3 (ix2 R l) : EReal) = a0 (ix2 R l) + ∑ f : Fin 4096,
      max (∑ k : Fin 1024, Cert.Rms.row 1149239296 (fun k => a0 (ix2 R k)) (fun k => a1 (ix2 0 k)) k * a2 (ix2 k f)) 0
      * max (∑ k : Fin 1024, Cert.Rms.row 1149239296 (fun k => a0 (ix2 R k)) (fun k => a1 (ix2 0 k)) k * a2 (ix2 k f)) 0 * a3 (ix2 f l) := by
  pointwise [h2T, upT, rowT, rstdT, msT]
  rfl

end Cert.FwdMlpRIdeal.Value

namespace Cert.Proof.FwdMlp

open Idealize.ShloMosaic Idealize.ShloMosaic.TcCoe Idealize.SL.Sem Cert.FwdMlpIdeal.Mlp Cert.FwdMlpRIdeal.Value

variable (m : (ℓ : Loc Cert.FwdMlpIdeal.nD Cert.FwdMlpIdeal.τ Cert.FwdMlpIdeal.sig) → Buf (Elt Ideal) ℓ) (c : Dev Cert.FwdMlpIdeal.nD)

/-- The reference's residual sum, of the kernel's arguments. -/
noncomputable abbrev h2A : Rows := h2T (A0 m c) (A1 m c) (A2 m c) (A3 m c)

theorem h2A_row (R : Fin 8192) : (fun k => (h2A m c (ix2 R k) : EReal)) = h2E m c R :=
  funext fun k => h2_entry (A0 m c) (A1 m c) (A2 m c) (A3 m c) R k

theorem up_eq : upT (A0 m c) (A1 m c) (A2 m c) = Cert.FwdMlpIdeal.Value.G6 m c := by
  funext i
  obtain ⟨r, l, rfl⟩ : ∃ (r : Fin 8192) (l : Fin 4096), i = ix2 r l := ⟨i 0, i 1, eq_ix2 (n0 := 8192) (n1 := 4096) i⟩
  refine Eq.trans ?_ (result_up m c r l).symm
  pointwise [upT, rowT, rstdT, msT]
  rfl

theorem dx_eq : dxT (h2A m c) (dT (h2A m c) (A4 m c) (A5 m c)) = Cert.FwdMlpIdeal.Value.G7 m c := by
  funext i
  obtain ⟨r, l, rfl⟩ : ∃ (r : Fin 8192) (l : Fin 1024), i = ix2 r l := ⟨i 0, i 1, eq_ix2 (n0 := 8192) (n1 := 1024) i⟩
  refine (dx_entry (h2A m c) (A4 m c) (A5 m c) r l).trans (Eq.trans ?_ (result_dx m c r l).symm)
  rw [h2A_row]

theorem dg_eq : dgT (h2A m c) (A4 m c) (A5 m c) = Cert.FwdMlpIdeal.Value.G8 m c := by
  funext i
  obtain ⟨r, l, rfl⟩ : ∃ (r : Fin 1) (l : Fin 1024), i = ix2 r l := ⟨i 0, i 1, eq_ix2 (n0 := 1) (n1 := 1024) i⟩
  rw [Subsingleton.elim r 0]
  refine (dg_entry (h2A m c) (A4 m c) (A5 m c) l).trans (Eq.trans ?_ (result_dg m c l).symm)
  exact Finset.sum_congr rfl fun R _ => by rw [h2A_row]

theorem loss_eq : lossT (h2A m c) (A4 m c) (A5 m c) = Cert.FwdMlpIdeal.Value.G9 m c := by
  funext i
  obtain ⟨r, l, rfl⟩ : ∃ (r : Fin 1) (l : Fin 128), i = ix2 r l := ⟨i 0, i 1, eq_ix2 (n0 := 1) (n1 := 128) i⟩
  rw [Subsingleton.elim r 0]
  refine (loss_entry (h2A m c) (A4 m c) (A5 m c) l).trans (Eq.trans ?_ (result_loss m c l).symm)
  exact Finset.sum_congr rfl fun R _ => by rw [h2A_row]

/-- The kernel and the reference leave the same activations, gradients and loss. -/
theorem algebraic : Cert.algebraic_FwdMlpIdeal_FwdMlpRIdeal := by
  intro m g m' g' _ hm
  refine ⟨_, _, _, _, Cert.FwdMlpIdeal.Value.run m g, ?_⟩
  refine (θ_run Cert.FwdMlpRIdeal.defs _ _).mono (fun r h c => ⟨(h c).1.trans ?_, (h c).2.1.trans ?_, (h c).2.2.1.trans ?_,
    (h c).2.2.2.1.trans ?_, (h c).2.2.2.2⟩) (Cert.FwdMlpRIdeal.Value.run m' g')
  · rw [(hm c).1, (hm c).2.1, (hm c).2.2.1]
    exact up_eq m c
  · unfold res_main_v65
    rw [(hm c).1, (hm c).2.1, (hm c).2.2.1, (hm c).2.2.2.1, (hm c).2.2.2.2.1, (hm c).2.2.2.2.2]
    exact dx_eq m c
  · unfold res_main_v49
    rw [(hm c).1, (hm c).2.1, (hm c).2.2.1, (hm c).2.2.2.1, (hm c).2.2.2.2.1, (hm c).2.2.2.2.2]
    exact dg_eq m c
  · unfold res_main_v67
    rw [(hm c).1, (hm c).2.1, (hm c).2.2.1, (hm c).2.2.2.1, (hm c).2.2.2.2.1, (hm c).2.2.2.2.2]
    exact loss_eq m c

end Cert.Proof.FwdMlp

end
-- ==== Proof.AdamInValue.lean ====
/-
  The AdamW step of the input projections' weights: what the kernel leaves in its three results is, entry by entry,
  what the plain formulas leave.
-/
module

public import proofs.«01_k».proof.Defs
public import proofs.«01_k».proof.Proof.Gen.AdamInIdeal.Value
public import proofs.«01_k».proof.Proof.Gen.AdamInRIdeal.Run
public import Idealize.ShloMosaic.Lib.Pointwise

@[expose] public section

noncomputable section

namespace Cert.Proof.AdamIn

open Idealize.ShloMosaic Idealize.ShloMosaic.TcCoe Idealize.SL.Sem

/-- The kernel and the reference leave the same change of the weights and the same two moments. -/
theorem algebraic : Cert.algebraic_AdamInIdeal_AdamInRIdeal := by
  intro m g m' g' _ hm
  refine ⟨_, _, _, Cert.AdamInIdeal.Value.run m g, ?_⟩
  refine (θ_run Cert.AdamInRIdeal.defs _ _).mono (fun r h c => ⟨(h c).1.trans ?_, (h c).2.1.trans ?_, (h c).2.2.1.trans ?_, (h c).2.2.2⟩)
    (Cert.AdamInRIdeal.Value.run m' g')
  · rw [(hm c).1, (hm c).2.1, (hm c).2.2.1, (hm c).2.2.2]
    funext i
    rfl
  · rw [(hm c).1, (hm c).2.2.1]
    funext i
    rfl
  · rw [(hm c).1, (hm c).2.2.2]
    funext i
    rfl

end Cert.Proof.AdamIn

end
-- ==== Proof.SumInValue.lean ====
/-
  The sum of the eight devices' parts of the gradient of the input projections' weights, against the plain sum over
  the first axis.
-/
module

public import proofs.«01_k».proof.Defs
public import proofs.«01_k».proof.Proof.Gen.SumInIdeal.Value
public import proofs.«01_k».proof.Proof.Gen.SumInRIdeal.Run
public import Idealize.ShloMosaic.Lib.Pointwise

@[expose] public section

noncomputable section

namespace Cert.SumInIdeal.Parts

open Cert.SumInIdeal Cert.SumInIdeal.Gen Cert.SumInIdeal.Value
open Idealize.ShloMosaic Idealize.ShloMosaic.TcCoe Idealize.SL.Sem

/-- The kernel's result, entry by entry: the sum over the parts. -/
theorem result_apply (x : Vec Ideal S8x320x1024 .bf16) (r : Fin 320) (l : Fin 1024) :
    (G1 x (ix2 r l) : EReal) = ∑ p : Fin 8, (x (ix3 p r l) : EReal) := by
  rw [Fin.sum_univ_eight]
  pointwise [k0_pay1]

end Cert.SumInIdeal.Parts

namespace Cert.Proof.SumIn

open Idealize.ShloMosaic Idealize.ShloMosaic.TcCoe Idealize.SL.Sem

open Cert.SumInRIdeal Cert.SumInRIdeal.Gen in
/-- The reference's sum, entry by entry. -/
theorem ref_apply (x : Vec Ideal S8x320x1024 .bf16) (r : Fin 320) (l : Fin 1024) :
    (Host.reduceAdd (extf (F := Ideal) .f32 x bitsLt_bf16_f32) (constant S_ .f32 0x00000000#32) reducesTo_S8x320x1024_S320x1024_d0 h_S_ (ix2 r l) : EReal)
      = ∑ p : Fin 8, (x (ix3 p r l) : EReal) := by
  pointwise

/-- The kernel and the reference leave the same sum. -/
theorem algebraic : Cert.algebraic_SumInIdeal_SumInRIdeal := by
  intro m g m' g' _ hm
  refine ⟨_, Cert.SumInIdeal.Value.run m g, ?_⟩
  refine (θ_run Cert.SumInRIdeal.defs _ _).mono (fun r h c => ⟨(h c).1.trans ?_, (h c).2⟩) (Cert.SumInRIdeal.Value.run m' g')
  rw [hm c]
  funext i
  obtain ⟨r, l, rfl⟩ : ∃ (r : Fin 320) (l : Fin 1024), i = ix2 r l := ⟨i 0, i 1, eq_ix2 i⟩
  exact (ref_apply _ r l).trans (Cert.SumInIdeal.Parts.result_apply _ r l).symm

end Cert.Proof.SumIn

end
-- ==== Proof.SumLossValue.lean ====
/-
  The sum of the eight devices' losses, each in all lanes of a row, against the plain sum over
  the first axis.
-/
module

public import proofs.«01_k».proof.Defs
public import proofs.«01_k».proof.Proof.Gen.SumLossIdeal.Value
public import proofs.«01_k».proof.Proof.Gen.SumLossRIdeal.Run
public import Idealize.ShloMosaic.Lib.Pointwise

@[expose] public section

noncomputable section

namespace Cert.SumLossIdeal.Parts

open Cert.SumLossIdeal Cert.SumLossIdeal.Gen Cert.SumLossIdeal.Value
open Idealize.ShloMosaic Idealize.ShloMosaic.TcCoe Idealize.SL.Sem

/-- The kernel's result, entry by entry: the sum over the parts. -/
theorem result_apply (x : Vec Ideal S8x1x128 .f32) (l : Fin 128) :
    (G1 x (ix2 0 l) : EReal) = ∑ p : Fin 8, (x (ix3 p 0 l) : EReal) := by
  rw [Fin.sum_univ_eight]
  pointwise [k0_pay1]

end Cert.SumLossIdeal.Parts

namespace Cert.Proof.SumLoss

open Idealize.ShloMosaic Idealize.ShloMosaic.TcCoe Idealize.SL.Sem

open Cert.SumLossRIdeal Cert.SumLossRIdeal.Gen in
/-- The reference's sum, entry by entry. -/
theorem ref_apply (x : Vec Ideal S8x1x128 .f32) (l : Fin 128) :
    (Host.reduceAdd (F := Ideal) (φ := .f32) x (constant S_ .f32 0x00000000#32) reducesTo_S8x1x128_S1x128_d0 h_S_ (ix2 0 l) : EReal)
      = ∑ p : Fin 8, (x (ix3 p 0 l) : EReal) := by
  pointwise

/-- The kernel and the reference leave the same sum. -/
theorem algebraic : Cert.algebraic_SumLossIdeal_SumLossRIdeal := by
  intro m g m' g' _ hm
  refine ⟨_, Cert.SumLossIdeal.Value.run m g, ?_⟩
  refine (θ_run Cert.SumLossRIdeal.defs _ _).mono (fun r h c => ⟨(h c).1.trans ?_, (h c).2⟩) (Cert.SumLossRIdeal.Value.run m' g')
  rw [hm c]
  funext i
  obtain ⟨r, l, rfl⟩ : ∃ (r : Fin 1) (l : Fin 128), i = ix2 r l := ⟨i 0, i 1, eq_ix2 i⟩
  obtain rfl : r = 0 := Subsingleton.elim _ _
  exact (ref_apply _ l).trans (Cert.SumLossIdeal.Parts.result_apply _ l).symm

end Cert.Proof.SumLoss

end
-- ==== Proof.lean ====
/-
  The certificate: the frames of every stated call, and the equality of each proved call with its reference.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.GwUp
public import proofs.«01_k».proof.Proof.Gen.GwUp.Skeleton
public import proofs.«01_k».proof.Proof.Gen.GwUp.Launch
public import proofs.«01_k».proof.Proof.Gen.GwUp.Points
public import proofs.«01_k».proof.Proof.Gen.GwUp.Frame
public import proofs.«01_k».proof.Proof.Gen.GwUpIdeal
public import proofs.«01_k».proof.Proof.Gen.GwUpIdeal.Skeleton
public import proofs.«01_k».proof.Proof.Gen.GwUpIdeal.Launch
public import proofs.«01_k».proof.Proof.Gen.GwUpIdeal.Points
public import proofs.«01_k».proof.Proof.Gen.GwUpIdeal.Frame
public import proofs.«01_k».proof.Proof.Gen.GwUpIdeal.Value
public import proofs.«01_k».proof.Proof.Gen.GwUpRIdeal
public import proofs.«01_k».proof.Proof.Gen.GwUpRIdeal.Run
public import proofs.«01_k».proof.Proof.Gen.GwDown
public import proofs.«01_k».proof.Proof.Gen.GwDown.Skeleton
public import proofs.«01_k».proof.Proof.Gen.GwDown.Launch
public import proofs.«01_k».proof.Proof.Gen.GwDown.Points
public import proofs.«01_k».proof.Proof.Gen.GwDown.Frame
public import proofs.«01_k».proof.Proof.Gen.GwDownIdeal
public import proofs.«01_k».proof.Proof.Gen.GwDownIdeal.Skeleton
public import proofs.«01_k».proof.Proof.Gen.GwDownIdeal.Launch
public import proofs.«01_k».proof.Proof.Gen.GwDownIdeal.Points
public import proofs.«01_k».proof.Proof.Gen.GwDownIdeal.Frame
public import proofs.«01_k».proof.Proof.Gen.GwDownIdeal.Value
public import proofs.«01_k».proof.Proof.Gen.GwDownRIdeal
public import proofs.«01_k».proof.Proof.Gen.GwDownRIdeal.Run
public import proofs.«01_k».proof.Proof.Gen.GwOut
public import proofs.«01_k».proof.Proof.Gen.GwOut.Skeleton
public import proofs.«01_k».proof.Proof.Gen.GwOut.Launch
public import proofs.«01_k».proof.Proof.Gen.GwOut.Points
public import proofs.«01_k».proof.Proof.Gen.GwOut.Frame
public import proofs.«01_k».proof.Proof.Gen.GwOutIdeal
public import proofs.«01_k».proof.Proof.Gen.GwOutIdeal.Skeleton
public import proofs.«01_k».proof.Proof.Gen.GwOutIdeal.Launch
public import proofs.«01_k».proof.Proof.Gen.GwOutIdeal.Points
public import proofs.«01_k».proof.Proof.Gen.GwOutIdeal.Frame
public import proofs.«01_k».proof.Proof.Gen.GwOutIdeal.Value
public import proofs.«01_k».proof.Proof.Gen.GwOutRIdeal
public import proofs.«01_k».proof.Proof.Gen.GwOutRIdeal.Run
public import proofs.«01_k».proof.Proof.Gen.GwIn
public import proofs.«01_k».proof.Proof.Gen.GwIn.Skeleton
public import proofs.«01_k».proof.Proof.Gen.GwIn.Launch
public import proofs.«01_k».proof.Proof.Gen.GwIn.Points
public import proofs.«01_k».proof.Proof.Gen.GwIn.Frame
public import proofs.«01_k».proof.Proof.Gen.GwInIdeal
public import proofs.«01_k».proof.Proof.Gen.GwInIdeal.Skeleton
public import proofs.«01_k».proof.Proof.Gen.GwInIdeal.Launch
public import proofs.«01_k».proof.Proof.Gen.GwInIdeal.Points
public import proofs.«01_k».proof.Proof.Gen.GwInIdeal.Frame
public import proofs.«01_k».proof.Proof.Gen.GwInIdeal.Value
public import proofs.«01_k».proof.Proof.Gen.GwInRIdeal
public import proofs.«01_k».proof.Proof.Gen.GwInRIdeal.Run
public import proofs.«01_k».proof.Proof.Gen.BwdMix
public import proofs.«01_k».proof.Proof.Gen.BwdMix.Skeleton
public import proofs.«01_k».proof.Proof.Gen.BwdMix.Launch
public import proofs.«01_k».proof.Proof.Gen.BwdMix.Points
public import proofs.«01_k».proof.Proof.Gen.BwdMix.Frame
public import proofs.«01_k».proof.Proof.Gen.BwdMixIdeal
public import proofs.«01_k».proof.Proof.Gen.BwdMixIdeal.Skeleton
public import proofs.«01_k».proof.Proof.Gen.BwdMixIdeal.Launch
public import proofs.«01_k».proof.Proof.Gen.BwdMixIdeal.Points
public import proofs.«01_k».proof.Proof.Gen.BwdMixIdeal.Frame
public import proofs.«01_k».proof.Proof.Gen.BwdMixIdeal.Value
public import proofs.«01_k».proof.Proof.Gen.BwdMixRIdeal
public import proofs.«01_k».proof.Proof.Gen.BwdMixRIdeal.Run
public import proofs.«01_k».proof.Proof.Gen.BwdIn
public import proofs.«01_k».proof.Proof.Gen.BwdIn.Skeleton
public import proofs.«01_k».proof.Proof.Gen.BwdIn.Launch
public import proofs.«01_k».proof.Proof.Gen.BwdIn.Points
public import proofs.«01_k».proof.Proof.Gen.BwdIn.Frame
public import proofs.«01_k».proof.Proof.Gen.BwdInIdeal
public import proofs.«01_k».proof.Proof.Gen.BwdInIdeal.Skeleton
public import proofs.«01_k».proof.Proof.Gen.BwdInIdeal.Launch
public import proofs.«01_k».proof.Proof.Gen.BwdInIdeal.Points
public import proofs.«01_k».proof.Proof.Gen.BwdInIdeal.Frame
public import proofs.«01_k».proof.Proof.Gen.BwdInIdeal.Value
public import proofs.«01_k».proof.Proof.Gen.BwdInRIdeal
public import proofs.«01_k».proof.Proof.Gen.BwdInRIdeal.Run
public import proofs.«01_k».proof.Proof.Gen.FwdIn
public import proofs.«01_k».proof.Proof.Gen.FwdIn.Skeleton
public import proofs.«01_k».proof.Proof.Gen.FwdIn.Launch
public import proofs.«01_k».proof.Proof.Gen.FwdIn.Points
public import proofs.«01_k».proof.Proof.Gen.FwdIn.Frame
public import proofs.«01_k».proof.Proof.Gen.FwdInIdeal
public import proofs.«01_k».proof.Proof.Gen.FwdInIdeal.Skeleton
public import proofs.«01_k».proof.Proof.Gen.FwdInIdeal.Launch
public import proofs.«01_k».proof.Proof.Gen.FwdInIdeal.Points
public import proofs.«01_k».proof.Proof.Gen.FwdInIdeal.Frame
public import proofs.«01_k».proof.Proof.Gen.FwdInIdeal.Value
public import proofs.«01_k».proof.Proof.Gen.FwdInRIdeal
public import proofs.«01_k».proof.Proof.Gen.FwdInRIdeal.Run
public import proofs.«01_k».proof.Proof.Gen.FwdMix
public import proofs.«01_k».proof.Proof.Gen.FwdMix.Skeleton
public import proofs.«01_k».proof.Proof.Gen.FwdMix.Launch
public import proofs.«01_k».proof.Proof.Gen.FwdMix.Points
public import proofs.«01_k».proof.Proof.Gen.FwdMix.Frame
public import proofs.«01_k».proof.Proof.Gen.FwdMixIdeal
public import proofs.«01_k».proof.Proof.Gen.FwdMixIdeal.Skeleton
public import proofs.«01_k».proof.Proof.Gen.FwdMixIdeal.Launch
public import proofs.«01_k».proof.Proof.Gen.FwdMixIdeal.Points
public import proofs.«01_k».proof.Proof.Gen.FwdMixIdeal.Frame
public import proofs.«01_k».proof.Proof.Gen.FwdMixIdeal.Value
public import proofs.«01_k».proof.Proof.Gen.FwdMixRIdeal
public import proofs.«01_k».proof.Proof.Gen.FwdMixRIdeal.Run
public import proofs.«01_k».proof.Proof.Gen.BwdMlp
public import proofs.«01_k».proof.Proof.Gen.BwdMlp.Skeleton
public import proofs.«01_k».proof.Proof.Gen.BwdMlp.Launch
public import proofs.«01_k».proof.Proof.Gen.BwdMlp.Points
public import proofs.«01_k».proof.Proof.Gen.BwdMlp.Frame
public import proofs.«01_k».proof.Proof.Gen.BwdMlpIdeal
public import proofs.«01_k».proof.Proof.Gen.BwdMlpIdeal.Skeleton
public import proofs.«01_k».proof.Proof.Gen.BwdMlpIdeal.Launch
public import proofs.«01_k».proof.Proof.Gen.BwdMlpIdeal.Points
public import proofs.«01_k».proof.Proof.Gen.BwdMlpIdeal.Frame
public import proofs.«01_k».proof.Proof.Gen.BwdMlpRIdeal
public import proofs.«01_k».proof.Proof.Gen.BwdMlpRIdeal.Run
public import proofs.«01_k».proof.Proof.Gen.FwdMlp
public import proofs.«01_k».proof.Proof.Gen.FwdMlp.Skeleton
public import proofs.«01_k».proof.Proof.Gen.FwdMlp.Launch
public import proofs.«01_k».proof.Proof.Gen.FwdMlp.Points
public import proofs.«01_k».proof.Proof.Gen.FwdMlp.Frame
public import proofs.«01_k».proof.Proof.Gen.FwdMlpIdeal
public import proofs.«01_k».proof.Proof.Gen.FwdMlpIdeal.Skeleton
public import proofs.«01_k».proof.Proof.Gen.FwdMlpIdeal.Launch
public import proofs.«01_k».proof.Proof.Gen.FwdMlpIdeal.Points
public import proofs.«01_k».proof.Proof.Gen.FwdMlpIdeal.Frame
public import proofs.«01_k».proof.Proof.Gen.FwdMlpIdeal.Value
public import proofs.«01_k».proof.Proof.Gen.FwdMlpRIdeal
public import proofs.«01_k».proof.Proof.Gen.FwdMlpRIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInRIdeal
public import proofs.«01_k».proof.Proof.Gen.AdamInRIdeal.Run
public import proofs.«01_k».proof.Proof.Gen.SumIn
public import proofs.«01_k».proof.Proof.Gen.SumIn.Skeleton
public import proofs.«01_k».proof.Proof.Gen.SumIn.Launch
public import proofs.«01_k».proof.Proof.Gen.SumIn.Points
public import proofs.«01_k».proof.Proof.Gen.SumIn.Frame
public import proofs.«01_k».proof.Proof.Gen.SumInIdeal
public import proofs.«01_k».proof.Proof.Gen.SumInIdeal.Skeleton
public import proofs.«01_k».proof.Proof.Gen.SumInIdeal.Launch
public import proofs.«01_k».proof.Proof.Gen.SumInIdeal.Points
public import proofs.«01_k».proof.Proof.Gen.SumInIdeal.Frame
public import proofs.«01_k».proof.Proof.Gen.SumInIdeal.Value
public import proofs.«01_k».proof.Proof.Gen.SumInRIdeal
public import proofs.«01_k».proof.Proof.Gen.SumInRIdeal.Run
public import proofs.«01_k».proof.Proof.Gen.SumLoss
public import proofs.«01_k».proof.Proof.Gen.SumLoss.Skeleton
public import proofs.«01_k».proof.Proof.Gen.SumLoss.Launch
public import proofs.«01_k».proof.Proof.Gen.SumLoss.Points
public import proofs.«01_k».proof.Proof.Gen.SumLoss.Frame
public import proofs.«01_k».proof.Proof.Gen.SumLossIdeal
public import proofs.«01_k».proof.Proof.Gen.SumLossIdeal.Skeleton
public import proofs.«01_k».proof.Proof.Gen.SumLossIdeal.Launch
public import proofs.«01_k».proof.Proof.Gen.SumLossIdeal.Points
public import proofs.«01_k».proof.Proof.Gen.SumLossIdeal.Frame
public import proofs.«01_k».proof.Proof.Gen.SumLossIdeal.Value
public import proofs.«01_k».proof.Proof.Gen.SumLossRIdeal
public import proofs.«01_k».proof.Proof.Gen.SumLossRIdeal.Run
public import proofs.«01_k».proof.Proof.AttnFrame
public import proofs.«01_k».proof.Proof.AttnKernel
public import proofs.«01_k».proof.Proof.BwdMlpKernel
public import proofs.«01_k».proof.Proof.GwUpValue
public import proofs.«01_k».proof.Proof.GwDownValue
public import proofs.«01_k».proof.Proof.GwOutValue
public import proofs.«01_k».proof.Proof.GwInValue
public import proofs.«01_k».proof.Proof.BwdMixValue
public import proofs.«01_k».proof.Proof.BwdInValue
public import proofs.«01_k».proof.Proof.FwdInValue
public import proofs.«01_k».proof.Proof.FwdMixValue
public import proofs.«01_k».proof.Proof.BwdMlpValue
public import proofs.«01_k».proof.Proof.FwdMlpValue
public import proofs.«01_k».proof.Proof.AdamInValue
public import proofs.«01_k».proof.Proof.SumInValue
public import proofs.«01_k».proof.Proof.SumLossValue
public import Idealize.ShloMosaic.Adequacy
public import Idealize.ShloMosaic.Init

@[expose] public section

noncomputable section

namespace Cert.Proof

open Idealize.ShloMosaic Idealize.SL.Sem

/-- The attention gradient, read ideally. -/
theorem frame_kernel_ideal : Cert.quiescent_KernelIdeal := fun m ρ _ => Cert.KernelIdeal.Attn.frame m ρ

/-- The plain attention gradient, read ideally. -/
theorem frame_reference_ideal : Cert.quiescent_ReferenceIdeal := fun m ρ _ =>
  (θ_run Cert.ReferenceIdeal.defs _ _).mono (fun r h => ⟨fun c => (h c).2.2.2, sem_eq_zero_of_no_sems (by decide) r.2⟩) (Cert.ReferenceIdeal.Value.run m ρ)

/-- Every claim. -/
theorem claim : Cert.Claim :=
  ⟨Cert.Kernel.Gen.facts,
    Cert.KernelIdeal.Gen.facts,
    Cert.ReferenceIdeal.Gen.facts,
    Cert.GwUp.Gen.facts,
    Cert.GwUpIdeal.Gen.facts,
    Cert.GwUpRIdeal.Gen.facts,
    Cert.GwDown.Gen.facts,
    Cert.GwDownIdeal.Gen.facts,
    Cert.GwDownRIdeal.Gen.facts,
    Cert.GwOut.Gen.facts,
    Cert.GwOutIdeal.Gen.facts,
    Cert.GwOutRIdeal.Gen.facts,
    Cert.GwIn.Gen.facts,
    Cert.GwInIdeal.Gen.facts,
    Cert.GwInRIdeal.Gen.facts,
    Cert.BwdMix.Gen.facts,
    Cert.BwdMixIdeal.Gen.facts,
    Cert.BwdMixRIdeal.Gen.facts,
    Cert.BwdIn.Gen.facts,
    Cert.BwdInIdeal.Gen.facts,
    Cert.BwdInRIdeal.Gen.facts,
    Cert.FwdIn.Gen.facts,
    Cert.FwdInIdeal.Gen.facts,
    Cert.FwdInRIdeal.Gen.facts,
    Cert.FwdMix.Gen.facts,
    Cert.FwdMixIdeal.Gen.facts,
    Cert.FwdMixRIdeal.Gen.facts,
    Cert.BwdMlp.Gen.facts,
    Cert.BwdMlpIdeal.Gen.facts,
    Cert.BwdMlpRIdeal.Gen.facts,
    Cert.FwdMlp.Gen.facts,
    Cert.FwdMlpIdeal.Gen.facts,
    Cert.FwdMlpRIdeal.Gen.facts,
    Cert.AdamIn.Gen.facts,
    Cert.AdamInIdeal.Gen.facts,
    Cert.AdamInRIdeal.Gen.facts,
    Cert.SumIn.Gen.facts,
    Cert.SumInIdeal.Gen.facts,
    Cert.SumInRIdeal.Gen.facts,
    Cert.SumLoss.Gen.facts,
    Cert.SumLossIdeal.Gen.facts,
    Cert.SumLossRIdeal.Gen.facts,
    frame_kernel,
    frame_kernel_ideal,
    frame_reference_ideal,
    fun m ρ _ => Cert.GwUp.Gen.frame m ρ,
    fun m ρ _ => Cert.GwUpIdeal.Gen.frame m ρ,
    fun m ρ _ => (θ_run Cert.GwUpRIdeal.defs _ _).mono (fun r h => ⟨fun c => (h c).2, sem_eq_zero_of_no_sems (by decide) r.2⟩) (Cert.GwUpRIdeal.Value.run m ρ),
    fun m ρ _ => Cert.GwDown.Gen.frame m ρ,
    fun m ρ _ => Cert.GwDownIdeal.Gen.frame m ρ,
    fun m ρ _ => (θ_run Cert.GwDownRIdeal.defs _ _).mono (fun r h => ⟨fun c => (h c).2, sem_eq_zero_of_no_sems (by decide) r.2⟩) (Cert.GwDownRIdeal.Value.run m ρ),
    fun m ρ _ => Cert.GwOut.Gen.frame m ρ,
    fun m ρ _ => Cert.GwOutIdeal.Gen.frame m ρ,
    fun m ρ _ => (θ_run Cert.GwOutRIdeal.defs _ _).mono (fun r h => ⟨fun c => (h c).2, sem_eq_zero_of_no_sems (by decide) r.2⟩) (Cert.GwOutRIdeal.Value.run m ρ),
    fun m ρ _ => Cert.GwIn.Gen.frame m ρ,
    fun m ρ _ => Cert.GwInIdeal.Gen.frame m ρ,
    fun m ρ _ => (θ_run Cert.GwInRIdeal.defs _ _).mono (fun r h => ⟨fun c => (h c).2, sem_eq_zero_of_no_sems (by decide) r.2⟩) (Cert.GwInRIdeal.Value.run m ρ),
    fun m ρ _ => Cert.BwdMix.Gen.frame m ρ,
    fun m ρ _ => Cert.BwdMixIdeal.Gen.frame m ρ,
    fun m ρ _ => (θ_run Cert.BwdMixRIdeal.defs _ _).mono (fun r h => ⟨fun c => (h c).2.2.2.2, sem_eq_zero_of_no_sems (by decide) r.2⟩) (Cert.BwdMixRIdeal.Value.run m ρ),
    fun m ρ _ => Cert.BwdIn.Gen.frame m ρ,
    fun m ρ _ => Cert.BwdInIdeal.Gen.frame m ρ,
    fun m ρ _ => (θ_run Cert.BwdInRIdeal.defs _ _).mono (fun r h => ⟨fun c => (h c).2.2.2.2, sem_eq_zero_of_no_sems (by decide) r.2⟩) (Cert.BwdInRIdeal.Value.run m ρ),
    fun m ρ _ => Cert.FwdIn.Gen.frame m ρ,
    fun m ρ _ => Cert.FwdInIdeal.Gen.frame m ρ,
    fun m ρ _ => (θ_run Cert.FwdInRIdeal.defs _ _).mono (fun r h => ⟨fun c => (h c).2.2, sem_eq_zero_of_no_sems (by decide) r.2⟩) (Cert.FwdInRIdeal.Value.run m ρ),
    fun m ρ _ => Cert.FwdMix.Gen.frame m ρ,
    fun m ρ _ => Cert.FwdMixIdeal.Gen.frame m ρ,
    fun m ρ _ => (θ_run Cert.FwdMixRIdeal.defs _ _).mono (fun r h => ⟨fun c => (h c).2.2, sem_eq_zero_of_no_sems (by decide) r.2⟩) (Cert.FwdMixRIdeal.Value.run m ρ),
    frame_bwd_mlp,
    fun m ρ _ => Cert.BwdMlpIdeal.Mlp.frame m ρ,
    fun m ρ _ => (θ_run Cert.BwdMlpRIdeal.defs _ _).mono (fun r h => ⟨fun c => (h c).2.2.2.2.2, sem_eq_zero_of_no_sems (by decide) r.2⟩) (Cert.BwdMlpRIdeal.Value.run m ρ),
    fun m ρ _ => Cert.FwdMlp.Gen.frame m ρ,
    fun m ρ _ => Cert.FwdMlpIdeal.Gen.frame m ρ,
    fun m ρ _ => (θ_run Cert.FwdMlpRIdeal.defs _ _).mono (fun r h => ⟨fun c => (h c).2.2.2.2, sem_eq_zero_of_no_sems (by decide) r.2⟩) (Cert.FwdMlpRIdeal.Value.run m ρ),
    fun m ρ _ => Cert.AdamIn.Gen.frame m ρ,
    fun m ρ _ => Cert.AdamInIdeal.Gen.frame m ρ,
    fun m ρ _ => (θ_run Cert.AdamInRIdeal.defs _ _).mono (fun r h => ⟨fun c => (h c).2.2.2, sem_eq_zero_of_no_sems (by decide) r.2⟩) (Cert.AdamInRIdeal.Value.run m ρ),
    fun m ρ _ => Cert.SumIn.Gen.frame m ρ,
    fun m ρ _ => Cert.SumInIdeal.Gen.frame m ρ,
    fun m ρ _ => (θ_run Cert.SumInRIdeal.defs _ _).mono (fun r h => ⟨fun c => (h c).2, sem_eq_zero_of_no_sems (by decide) r.2⟩) (Cert.SumInRIdeal.Value.run m ρ),
    fun m ρ _ => Cert.SumLoss.Gen.frame m ρ,
    fun m ρ _ => Cert.SumLossIdeal.Gen.frame m ρ,
    fun m ρ _ => (θ_run Cert.SumLossRIdeal.defs _ _).mono (fun r h => ⟨fun c => (h c).2, sem_eq_zero_of_no_sems (by decide) r.2⟩) (Cert.SumLossRIdeal.Value.run m ρ),
    trivial,
    trivial,
    GwUp.algebraic,
    trivial,
    GwDown.algebraic,
    trivial,
    GwOut.algebraic,
    trivial,
    GwIn.algebraic,
    trivial,
    BwdMix.algebraic,
    trivial,
    BwdIn.algebraic,
    trivial,
    FwdIn.algebraic,
    trivial,
    FwdMix.algebraic,
    trivial,
    BwdMlp.algebraic,
    trivial,
    FwdMlp.algebraic,
    trivial,
    AdamIn.algebraic,
    trivial,
    SumIn.algebraic,
    trivial,
    SumLoss.algebraic⟩

end Cert.Proof

end
